-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sudoku [hPre_sudoku : Cert.Pre_sudoku.Facts] (m : (ℓ : Loc Cert.KernelIdeal.nD Cert.KernelIdeal.τ Cert.KernelIdeal.sig) → Buf (Elt Ideal) ℓ) : Prop :=
  ∀ c : Dev Cert.KernelIdeal.nD,
    (Cert.Pre_sudoku.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sudoku [hPre_sudoku : Cert.Pre_sudoku.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sudoku.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_KernelIdeal_pre_sudoku [hKernelIdeal : Cert.KernelIdeal.Facts] [hPre_sudoku : Cert.Pre_sudoku.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sudoku m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def quiescent_ReferenceIdeal_pre_sudoku [hReferenceIdeal : Cert.ReferenceIdeal.Facts] [hPre_sudoku : Cert.Pre_sudoku.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sudoku m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28))
      ∧ r.2.sem = fun _ => 0)

def preserves_Kernel_KernelIdeal : Prop :=
  True

def algebraic_KernelIdeal_ReferenceIdeal_pre_sudoku [hKernelIdeal : Cert.KernelIdeal.Facts] [hReferenceIdeal : Cert.ReferenceIdeal.Facts] [hPre_sudoku : Cert.Pre_sudoku.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sudoku m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)) →
    ∃ (v0 : (c : Dev Cert.KernelIdeal.nD) → Buf (Elt Ideal) ((c.tc : Thread Cert.KernelIdeal.nD Cert.KernelIdeal.τ).loc Cert.KernelIdeal.main_v120)) (v1 : (c : Dev Cert.KernelIdeal.nD) → Buf (Elt Ideal) ((c.tc : Thread Cert.KernelIdeal.nD Cert.KernelIdeal.τ).loc Cert.KernelIdeal.main_v127)) (v2 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_v127) = v1 c
          ∧ r.2.mem ((c.tc : Thread Cert.KernelIdeal.nD Cert.KernelIdeal.τ).loc Cert.KernelIdeal.main_v115) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v629) = v0 c
          ∧ r.2.mem ((c.tc : Thread Cert.ReferenceIdeal.nD Cert.ReferenceIdeal.τ).loc Cert.ReferenceIdeal.main_v646) = v1 c
          ∧ r.2.mem ((c.tc : Thread Cert.ReferenceIdeal.nD Cert.ReferenceIdeal.τ).loc Cert.ReferenceIdeal.main_v622) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28))

def Claim : Prop :=
  ∃ (hKernel : Cert.Kernel.Facts) (hKernelIdeal : Cert.KernelIdeal.Facts) (hReferenceIdeal : Cert.ReferenceIdeal.Facts) (hPre_sudoku : Cert.Pre_sudoku.Facts),
    quiescent_Kernel (hKernel := hKernel)
    ∧ quiescent_KernelIdeal (hKernelIdeal := hKernelIdeal)
    ∧ quiescent_KernelIdeal_pre_sudoku (hKernelIdeal := hKernelIdeal) (hPre_sudoku := hPre_sudoku)
    ∧ quiescent_ReferenceIdeal (hReferenceIdeal := hReferenceIdeal)
    ∧ quiescent_ReferenceIdeal_pre_sudoku (hReferenceIdeal := hReferenceIdeal) (hPre_sudoku := hPre_sudoku)
    ∧ preserves_Kernel_KernelIdeal
    ∧ algebraic_KernelIdeal_ReferenceIdeal_pre_sudoku (hKernelIdeal := hKernelIdeal) (hReferenceIdeal := hReferenceIdeal) (hPre_sudoku := hPre_sudoku)
-- ==== Pre_sudoku.lean ====
abbrev S100035 : Shape := ⟨1, ![100035]⟩
abbrev S2000700 : Shape := ⟨1, ![2000700]⟩
abbrev S10x16 : Shape := ⟨2, ![10, 16]⟩
abbrev S9x16 : Shape := ⟨2, ![9, 16]⟩
abbrev S48x32 : Shape := ⟨2, ![48, 32]⟩
abbrev S32 : Shape := ⟨1, ![32]⟩
abbrev S32x32 : Shape := ⟨2, ![32, 32]⟩
abbrev S128x64 : Shape := ⟨2, ![128, 64]⟩
abbrev S128x32 : Shape := ⟨2, ![128, 32]⟩
abbrev S64x32 : Shape := ⟨2, ![64, 32]⟩
abbrev S32x10 : Shape := ⟨2, ![32, 10]⟩
abbrev S10 : Shape := ⟨1, ![10]⟩
abbrev S1620 : Shape := ⟨1, ![1620]⟩
abbrev S_ : Shape := ⟨0, ![]⟩
abbrev S1235x1620 : Shape := ⟨2, ![1235, 1620]⟩
abbrev S1x1620 : Shape := ⟨2, ![1, 1620]⟩

class Facts : Prop where
  bcast_S_S100035 : S_.BroadcastsInDim S100035 (![] : Fin 0 → Fin S100035.rank)
  bcast_S_S1235x1620 : S_.BroadcastsInDim S1235x1620 (![] : Fin 0 → Fin S1235x1620.rank)
  bcast_S1620_S1x1620_1 : S1620.BroadcastsInDim S1x1620 (![1] : Fin 1 → Fin S1x1620.rank)
  bcast_S1x1620_S1235x1620_0_1 : S1x1620.BroadcastsInDim S1235x1620 (![0, 1] : Fin 2 → Fin S1235x1620.rank)
  shapeCasts_S1235x1620_S2000700 : S1235x1620.ShapeCasts S2000700
  bcast_S_S32x10 : S_.BroadcastsInDim S32x10 (![] : Fin 0 → Fin S32x10.rank)
  reducesTo_S32x10_S_d0_1 : S32x10.ReducesTo [0, 1] S_
  h_S_ : 0 < S_.numel
  bcast_S_S10 : S_.BroadcastsInDim S10 (![] : Fin 0 → Fin S10.rank)
  reducesTo_S10_S_d0 : S10.ReducesTo [0] S_
  reducesTo_S100035_S_d0 : S100035.ReducesTo [0] S_
  reducesTo_S2000700_S_d0 : S2000700.ReducesTo [0] S_

variable [Facts]

noncomputable abbrev lit0t0_0 (i : Nat) : BitVec 32 := match i % 128 with
  | 0 => 0#32
  | 1 => 0#32
  | 2 => 0#32
  | 3 => 0#32
  | 4 => 0#32
  | 5 => 0#32
  | 6 => 0#32
  | 7 => 0#32
  | 8 => 0#32
  | 9 => 0#32
  | 10 => 0#32
  | 11 => 0#32
  | 12 => 0#32
  | 13 => 0#32
  | 14 => 0#32
  | 15 => 0#32
  | 16 => 0#32
  | 17 => 0#32
  | 18 => 0#32
  | 19 => 0#32
  | 20 => 1#32
  | 21 => 1#32
  | 22 => 1#32
  | 23 => 1#32
  | 24 => 1#32
  | 25 => 1#32
  | 26 => 1#32
  | 27 => 1#32
  | 28 => 1#32
  | 29 => 1#32
  | 30 => 1#32
  | 31 => 1#32
  | 32 => 1#32
  | 33 => 1#32
  | 34 => 1#32
  | 35 => 1#32
  | 36 => 1#32
  | 37 => 1#32
  | 38 => 1#32
  | 39 => 1#32
  | 40 => 2#32
  | 41 => 2#32
  | 42 => 2#32
  | 43 => 2#32
  | 44 => 2#32
  | 45 => 2#32
  | 46 => 2#32
  | 47 => 2#32
  | 48 => 2#32
  | 49 => 2#32
  | 50 => 2#32
  | 51 => 2#32
  | 52 => 2#32
  | 53 => 2#32
  | 54 => 2#32
  | 55 => 2#32
  | 56 => 2#32
  | 57 => 2#32
  | 58 => 2#32
  | 59 => 2#32
  | 60 => 3#32
  | 61 => 3#32
  | 62 => 3#32
  | 63 => 3#32
  | 64 => 3#32
  | 65 => 3#32
  | 66 => 3#32
  | 67 => 3#32
  | 68 => 3#32
  | 69 => 3#32
  | 70 => 3#32
  | 71 => 3#32
  | 72 => 3#32
  | 73 => 3#32
  | 74 => 3#32
  | 75 => 3#32
  | 76 => 3#32
  | 77 => 3#32
  | 78 => 3#32
  | 79 => 3#32
  | 80 => 4#32
  | 81 => 4#32
  | 82 => 4#32
  | 83 => 4#32
  | 84 => 4#32
  | 85 => 4#32
  | 86 => 4#32
  | 87 => 4#32
  | 88 => 4#32
  | 89 => 4#32
  | 90 => 4#32
  | 91 => 4#32
  | 92 => 4#32
  | 93 => 4#32
  | 94 => 4#32
  | 95 => 4#32
  | 96 => 4#32
  | 97 => 4#32
  | 98 => 4#32
  | 99 => 4#32
  | 100 => 5#32
  | 101 => 5#32
  | 102 => 5#32
  | 103 => 5#32
  | 104 => 5#32
  | 105 => 5#32
  | 106 => 5#32
  | 107 => 5#32
  | 108 => 5#32
  | 109 => 5#32
  | 110 => 5#32
  | 111 => 5#32
  | 112 => 5#32
  | 113 => 5#32
  | 114 => 5#32
  | 115 => 5#32
  | 116 => 5#32
  | 117 => 5#32
  | 118 => 5#32
  | 119 => 5#32
  | 120 => 6#32
  | 121 => 6#32
  | 122 => 6#32
  | 123 => 6#32
  | 124 => 6#32
  | 125 => 6#32
  | 126 => 6#32
  | 127 => 6#32
  | _ => 0#32

noncomputable abbrev lit0t0_1 (i : Nat) : BitVec 32 := match i % 128 with
  | 0 => 6#32
  | 1 => 6#32
  | 2 => 6#32
  | 3 => 6#32
  | 4 => 6#32
  | 5 => 6#32
  | 6 => 6#32
  | 7 => 6#32
  | 8 => 6#32
  | 9 => 6#32
  | 10 => 6#32
  | 11 => 6#32
  | 12 => 7#32
  | 13 => 7#32
  | 14 => 7#32
  | 15 => 7#32
  | 16 => 7#32
  | 17 => 7#32
  | 18 => 7#32
  | 19 => 7#32
  | 20 => 7#32
  | 21 => 7#32
  | 22 => 7#32
  | 23 => 7#32
  | 24 => 7#32
  | 25 => 7#32
  | 26 => 7#32
  | 27 => 7#32
  | 28 => 7#32
  | 29 => 7#32
  | 30 => 7#32
  | 31 => 7#32
  | 32 => 8#32
  | 33 => 8#32
  | 34 => 8#32
  | 35 => 8#32
  | 36 => 8#32
  | 37 => 8#32
  | 38 => 8#32
  | 39 => 8#32
  | 40 => 8#32
  | 41 => 8#32
  | 42 => 8#32
  | 43 => 8#32
  | 44 => 8#32
  | 45 => 8#32
  | 46 => 8#32
  | 47 => 8#32
  | 48 => 8#32
  | 49 => 8#32
  | 50 => 8#32
  | 51 => 8#32
  | 52 => 9#32
  | 53 => 9#32
  | 54 => 9#32
  | 55 => 9#32
  | 56 => 9#32
  | 57 => 9#32
  | 58 => 9#32
  | 59 => 9#32
  | 60 => 9#32
  | 61 => 9#32
  | 62 => 9#32
  | 63 => 9#32
  | 64 => 9#32
  | 65 => 9#32
  | 66 => 9#32
  | 67 => 9#32
  | 68 => 9#32
  | 69 => 9#32
  | 70 => 9#32
  | 71 => 9#32
  | 72 => 10#32
  | 73 => 10#32
  | 74 => 10#32
  | 75 => 10#32
  | 76 => 10#32
  | 77 => 10#32
  | 78 => 10#32
  | 79 => 10#32
  | 80 => 10#32
  | 81 => 10#32
  | 82 => 10#32
  | 83 => 10#32
  | 84 => 10#32
  | 85 => 10#32
  | 86 => 10#32
  | 87 => 10#32
  | 88 => 10#32
  | 89 => 10#32
  | 90 => 10#32
  | 91 => 10#32
  | 92 => 11#32
  | 93 => 11#32
  | 94 => 11#32
  | 95 => 11#32
  | 96 => 11#32
  | 97 => 11#32
  | 98 => 11#32
  | 99 => 11#32
  | 100 => 11#32
  | 101 => 11#32
  | 102 => 11#32
  | 103 => 11#32
  | 104 => 11#32
  | 105 => 11#32
  | 106 => 11#32
  | 107 => 11#32
  | 108 => 11#32
  | 109 => 11#32
  | 110 => 11#32
  | 111 => 11#32
  | 112 => 12#32
  | 113 => 12#32
  | 114 => 12#32
  | 115 => 12#32
  | 116 => 12#32
  | 117 => 12#32
  | 118 => 12#32
  | 119 => 12#32
  | 120 => 12#32
  | 121 => 12#32
  | 122 => 12#32
  | 123 => 12#32
  | 124 => 12#32
  | 125 => 12#32
  | 126 => 12#32
  | 127 => 12#32
  | _ => 0#32

noncomputable abbrev lit0t0_2 (i : Nat) : BitVec 32 := match i % 128 with
  | 0 => 12#32
  | 1 => 12#32
  | 2 => 12#32
  | 3 => 12#32
  | 4 => 13#32
  | 5 => 13#32
  | 6 => 13#32
  | 7 => 13#32
  | 8 => 13#32
  | 9 => 13#32
  | 10 => 13#32
  | 11 => 13#32
  | 12 => 13#32
  | 13 => 13#32
  | 14 => 13#32
  | 15 => 13#32
  | 16 => 13#32
  | 17 => 13#32
  | 18 => 13#32
  | 19 => 13#32
  | 20 => 13#32
  | 21 => 13#32
  | 22 => 13#32
  | 23 => 13#32
  | 24 => 14#32
  | 25 => 14#32
  | 26 => 14#32
  | 27 => 14#32
  | 28 => 14#32
  | 29 => 14#32
  | 30 => 14#32
  | 31 => 14#32
  | 32 => 14#32
  | 33 => 14#32
  | 34 => 14#32
  | 35 => 14#32
  | 36 => 14#32
  | 37 => 14#32
  | 38 => 14#32
  | 39 => 14#32
  | 40 => 14#32
  | 41 => 14#32
  | 42 => 14#32
  | 43 => 14#32
  | 44 => 15#32
  | 45 => 15#32
  | 46 => 15#32
  | 47 => 15#32
  | 48 => 15#32
  | 49 => 15#32
  | 50 => 15#32
  | 51 => 15#32
  | 52 => 15#32
  | 53 => 15#32
  | 54 => 15#32
  | 55 => 15#32
  | 56 => 15#32
  | 57 => 15#32
  | 58 => 15#32
  | 59 => 15#32
  | 60 => 15#32
  | 61 => 15#32
  | 62 => 15#32
  | 63 => 15#32
  | 64 => 16#32
  | 65 => 16#32
  | 66 => 16#32
  | 67 => 16#32
  | 68 => 16#32
  | 69 => 16#32
  | 70 => 16#32
  | 71 => 16#32
  | 72 => 16#32
  | 73 => 16#32
  | 74 => 16#32
  | 75 => 16#32
  | 76 => 16#32
  | 77 => 16#32
  | 78 => 16#32
  | 79 => 16#32
  | 80 => 16#32
  | 81 => 16#32
  | 82 => 16#32
  | 83 => 16#32
  | 84 => 17#32
  | 85 => 17#32
  | 86 => 17#32
  | 87 => 17#32
  | 88 => 17#32
  | 89 => 17#32
  | 90 => 17#32
  | 91 => 17#32
  | 92 => 17#32
  | 93 => 17#32
  | 94 => 17#32
  | 95 => 17#32
  | 96 => 17#32
  | 97 => 17#32
  | 98 => 17#32
  | 99 => 17#32
  | 100 => 17#32
  | 101 => 17#32
  | 102 => 17#32
  | 103 => 17#32
  | 104 => 18#32
  | 105 => 18#32
  | 106 => 18#32
  | 107 => 18#32
  | 108 => 18#32
  | 109 => 18#32
  | 110 => 18#32
  | 111 => 18#32
  | 112 => 18#32
  | 113 => 18#32
  | 114 => 18#32
  | 115 => 18#32
  | 116 => 18#32
  | 117 => 18#32
  | 118 => 18#32
  | 119 => 18#32
  | 120 => 18#32
  | 121 => 18#32
  | 122 => 18#32
  | 123 => 18#32
  | 124 => 19#32
  | 125 => 19#32
  | 126 => 19#32
  | 127 => 19#32
  | _ => 0#32

noncomputable abbrev lit0t0_3 (i : Nat) : BitVec 32 := match i % 128 with
  | 0 => 19#32
  | 1 => 19#32
  | 2 => 19#32
  | 3 => 19#32
  | 4 => 19#32
  | 5 => 19#32
  | 6 => 19#32
  | 7 => 19#32
  | 8 => 19#32
  | 9 => 19#32
  | 10 => 19#32
  | 11 => 19#32
  | 12 => 19#32
  | 13 => 19#32
  | 14 => 19#32
  | 15 => 19#32
  | 16 => 20#32
  | 17 => 20#32
  | 18 => 20#32
  | 19 => 20#32
  | 20 => 20#32
  | 21 => 20#32
  | 22 => 20#32
  | 23 => 20#32
  | 24 => 20#32
  | 25 => 20#32
  | 26 => 20#32
  | 27 => 20#32
  | 28 => 20#32
  | 29 => 20#32
  | 30 => 20#32
  | 31 => 20#32
  | 32 => 20#32
  | 33 => 20#32
  | 34 => 20#32
  | 35 => 20#32
  | 36 => 21#32
  | 37 => 21#32
  | 38 => 21#32
  | 39 => 21#32
  | 40 => 21#32
  | 41 => 21#32
  | 42 => 21#32
  | 43 => 21#32
  | 44 => 21#32
  | 45 => 21#32
  | 46 => 21#32
  | 47 => 21#32
  | 48 => 21#32
  | 49 => 21#32
  | 50 => 21#32
  | 51 => 21#32
  | 52 => 21#32
  | 53 => 21#32
  | 54 => 21#32
  | 55 => 21#32
  | 56 => 22#32
  | 57 => 22#32
  | 58 => 22#32
  | 59 => 22#32
  | 60 => 22#32
  | 61 => 22#32
  | 62 => 22#32
  | 63 => 22#32
  | 64 => 22#32
  | 65 => 22#32
  | 66 => 22#32
  | 67 => 22#32
  | 68 => 22#32
  | 69 => 22#32
  | 70 => 22#32
  | 71 => 22#32
  | 72 => 22#32
  | 73 => 22#32
  | 74 => 22#32
  | 75 => 22#32
  | 76 => 23#32
  | 77 => 23#32
  | 78 => 23#32
  | 79 => 23#32
  | 80 => 23#32
  | 81 => 23#32
  | 82 => 23#32
  | 83 => 23#32
  | 84 => 23#32
  | 85 => 23#32
  | 86 => 23#32
  | 87 => 23#32
  | 88 => 23#32
  | 89 => 23#32
  | 90 => 23#32
  | 91 => 23#32
  | 92 => 23#32
  | 93 => 23#32
  | 94 => 23#32
  | 95 => 23#32
  | 96 => 24#32
  | 97 => 24#32
  | 98 => 24#32
  | 99 => 24#32
  | 100 => 24#32
  | 101 => 24#32
  | 102 => 24#32
  | 103 => 24#32
  | 104 => 24#32
  | 105 => 24#32
  | 106 => 24#32
  | 107 => 24#32
  | 108 => 24#32
  | 109 => 24#32
  | 110 => 24#32
  | 111 => 24#32
  | 112 => 24#32
  | 113 => 24#32
  | 114 => 24#32
  | 115 => 24#32
  | 116 => 25#32
  | 117 => 25#32
  | 118 => 25#32
  | 119 => 25#32
  | 120 => 25#32
  | 121 => 25#32
  | 122 => 25#32
  | 123 => 25#32
  | 124 => 25#32
  | 125 => 25#32
  | 126 => 25#32
  | 127 => 25#32
  | _ => 0#32

noncomputable abbrev lit0t0_4 (i : Nat) : BitVec 32 := match i % 128 with
  | 0 => 25#32
  | 1 => 25#32
  | 2 => 25#32
  | 3 => 25#32
  | 4 => 25#32
  | 5 => 25#32
  | 6 => 25#32
  | 7 => 25#32
  | 8 => 26#32
  | 9 => 26#32
  | 10 => 26#32
  | 11 => 26#32
  | 12 => 26#32
  | 13 => 26#32
  | 14 => 26#32
  | 15 => 26#32
  | 16 => 26#32
  | 17 => 26#32
  | 18 => 26#32
  | 19 => 26#32
  | 20 => 26#32
  | 21 => 26#32
  | 22 => 26#32
  | 23 => 26#32
  | 24 => 26#32
  | 25 => 26#32
  | 26 => 26#32
  | 27 => 26#32
  | 28 => 27#32
  | 29 => 27#32
  | 30 => 27#32
  | 31 => 27#32
  | 32 => 27#32
  | 33 => 27#32
  | 34 => 27#32
  | 35 => 27#32
  | 36 => 27#32
  | 37 => 27#32
  | 38 => 27#32
  | 39 => 27#32
  | 40 => 27#32
  | 41 => 27#32
  | 42 => 27#32
  | 43 => 27#32
  | 44 => 27#32
  | 45 => 27#32
  | 46 => 27#32
  | 47 => 27#32
  | 48 => 28#32
  | 49 => 28#32
  | 50 => 28#32
  | 51 => 28#32
  | 52 => 28#32
  | 53 => 28#32
  | 54 => 28#32
  | 55 => 28#32
  | 56 => 28#32
  | 57 => 28#32
  | 58 => 28#32
  | 59 => 28#32
  | 60 => 28#32
  | 61 => 28#32
  | 62 => 28#32
  | 63 => 28#32
  | 64 => 28#32
  | 65 => 28#32
  | 66 => 28#32
  | 67 => 28#32
  | 68 => 29#32
  | 69 => 29#32
  | 70 => 29#32
  | 71 => 29#32
  | 72 => 29#32
  | 73 => 29#32
  | 74 => 29#32
  | 75 => 29#32
  | 76 => 29#32
  | 77 => 29#32
  | 78 => 29#32
  | 79 => 29#32
  | 80 => 29#32
  | 81 => 29#32
  | 82 => 29#32
  | 83 => 29#32
  | 84 => 29#32
  | 85 => 29#32
  | 86 => 29#32
  | 87 => 29#32
  | 88 => 30#32
  | 89 => 30#32
  | 90 => 30#32
  | 91 => 30#32
  | 92 => 30#32
  | 93 => 30#32
  | 94 => 30#32
  | 95 => 30#32
  | 96 => 30#32
  | 97 => 30#32
  | 98 => 30#32
  | 99 => 30#32
  | 100 => 30#32
  | 101 => 30#32
  | 102 => 30#32
  | 103 => 30#32
  | 104 => 30#32
  | 105 => 30#32
  | 106 => 30#32
  | 107 => 30#32
  | 108 => 31#32
  | 109 => 31#32
  | 110 => 31#32
  | 111 => 31#32
  | 112 => 31#32
  | 113 => 31#32
  | 114 => 31#32
  | 115 => 31#32
  | 116 => 31#32
  | 117 => 31#32
  | 118 => 31#32
  | 119 => 31#32
  | 120 => 31#32
  | 121 => 31#32
  | 122 => 31#32
  | 123 => 31#32
  | 124 => 31#32
  | 125 => 31#32
  | 126 => 31#32
  | 127 => 31#32
  | _ => 0#32

noncomputable abbrev lit0t0_5 (i : Nat) : BitVec 32 := match i % 128 with
  | 0 => 32#32
  | 1 => 32#32
  | 2 => 32#32
  | 3 => 32#32
  | 4 => 32#32
  | 5 => 32#32
  | 6 => 32#32
  | 7 => 32#32
  | 8 => 32#32
  | 9 => 32#32
  | 10 => 32#32
  | 11 => 32#32
  | 12 => 32#32
  | 13 => 32#32
  | 14 => 32#32
  | 15 => 32#32
  | 16 => 32#32
  | 17 => 32#32
  | 18 => 32#32
  | 19 => 32#32
  | 20 => 33#32
  | 21 => 33#32
  | 22 => 33#32
  | 23 => 33#32
  | 24 => 33#32
  | 25 => 33#32
  | 26 => 33#32
  | 27 => 33#32
  | 28 => 33#32
  | 29 => 33#32
  | 30 => 33#32
  | 31 => 33#32
  | 32 => 33#32
  | 33 => 33#32
  | 34 => 33#32
  | 35 => 33#32
  | 36 => 33#32
  | 37 => 33#32
  | 38 => 33#32
  | 39 => 33#32
  | 40 => 34#32
  | 41 => 34#32
  | 42 => 34#32
  | 43 => 34#32
  | 44 => 34#32
  | 45 => 34#32
  | 46 => 34#32
  | 47 => 34#32
  | 48 => 34#32
  | 49 => 34#32
  | 50 => 34#32
  | 51 => 34#32
  | 52 => 34#32
  | 53 => 34#32
  | 54 => 34#32
  | 55 => 34#32
  | 56 => 34#32
  | 57 => 34#32
  | 58 => 34#32
  | 59 => 34#32
  | 60 => 35#32
  | 61 => 35#32
  | 62 => 35#32
  | 63 => 35#32
  | 64 => 35#32
  | 65 => 35#32
  | 66 => 35#32
  | 67 => 35#32
  | 68 => 35#32
  | 69 => 35#32
  | 70 => 35#32
  | 71 => 35#32
  | 72 => 35#32
  | 73 => 35#32
  | 74 => 35#32
  | 75 => 35#32
  | 76 => 35#32
  | 77 => 35#32
  | 78 => 35#32
  | 79 => 35#32
  | 80 => 36#32
  | 81 => 36#32
  | 82 => 36#32
  | 83 => 36#32
  | 84 => 36#32
  | 85 => 36#32
  | 86 => 36#32
  | 87 => 36#32
  | 88 => 36#32
  | 89 => 36#32
  | 90 => 36#32
  | 91 => 36#32
  | 92 => 36#32
  | 93 => 36#32
  | 94 => 36#32
  | 95 => 36#32
  | 96 => 36#32
  | 97 => 36#32
  | 98 => 36#32
  | 99 => 36#32
  | 100 => 37#32
  | 101 => 37#32
  | 102 => 37#32
  | 103 => 37#32
  | 104 => 37#32
  | 105 => 37#32
  | 106 => 37#32
  | 107 => 37#32
  | 108 => 37#32
  | 109 => 37#32
  | 110 => 37#32
  | 111 => 37#32
  | 112 => 37#32
  | 113 => 37#32
  | 114 => 37#32
  | 115 => 37#32
  | 116 => 37#32
  | 117 => 37#32
  | 118 => 37#32
  | 119 => 37#32
  | 120 => 38#32
  | 121 => 38#32
  | 122 => 38#32
  | 123 => 38#32
  | 124 => 38#32
  | 125 => 38#32
  | 126 => 38#32
  | 127 => 38#32
  | _ => 0#32

noncomputable abbrev lit0t0_6 (i : Nat) : BitVec 32 := match i % 128 with
  | 0 => 38#32
  | 1 => 38#32
  | 2 => 38#32
  | 3 => 38#32
  | 4 => 38#32
  | 5 => 38#32
  | 6 => 38#32
  | 7 => 38#32
  | 8 => 38#32
  | 9 => 38#32
  | 10 => 38#32
  | 11 => 38#32
  | 12 => 39#32
  | 13 => 39#32
  | 14 => 39#32
  | 15 => 39#32
  | 16 => 39#32
  | 17 => 39#32
  | 18 => 39#32
  | 19 => 39#32
  | 20 => 39#32
  | 21 => 39#32
  | 22 => 39#32
  | 23 => 39#32
  | 24 => 39#32
  | 25 => 39#32
  | 26 => 39#32
  | 27 => 39#32
  | 28 => 39#32
  | 29 => 39#32
  | 30 => 39#32
  | 31 => 39#32
  | 32 => 40#32
  | 33 => 40#32
  | 34 => 40#32
  | 35 => 40#32
  | 36 => 40#32
  | 37 => 40#32
  | 38 => 40#32
  | 39 => 40#32
  | 40 => 40#32
  | 41 => 40#32
  | 42 => 40#32
  | 43 => 40#32
  | 44 => 40#32
  | 45 => 40#32
  | 46 => 40#32
  | 47 => 40#32
  | 48 => 40#32
  | 49 => 40#32
  | 50 => 40#32
  | 51 => 40#32
  | 52 => 41#32
  | 53 => 41#32
  | 54 => 41#32
  | 55 => 41#32
  | 56 => 41#32
  | 57 => 41#32
  | 58 => 41#32
  | 59 => 41#32
  | 60 => 41#32
  | 61 => 41#32
  | 62 => 41#32
  | 63 => 41#32
  | 64 => 41#32
  | 65 => 41#32
  | 66 => 41#32
  | 67 => 41#32
  | 68 => 41#32
  | 69 => 41#32
  | 70 => 41#32
  | 71 => 41#32
  | 72 => 42#32
  | 73 => 42#32
  | 74 => 42#32
  | 75 => 42#32
  | 76 => 42#32
  | 77 => 42#32
  | 78 => 42#32
  | 79 => 42#32
  | 80 => 42#32
  | 81 => 42#32
  | 82 => 42#32
  | 83 => 42#32
  | 84 => 42#32
  | 85 => 42#32
  | 86 => 42#32
  | 87 => 42#32
  | 88 => 42#32
  | 89 => 42#32
  | 90 => 42#32
  | 91 => 42#32
  | 92 => 43#32
  | 93 => 43#32
  | 94 => 43#32
  | 95 => 43#32
  | 96 => 43#32
  | 97 => 43#32
  | 98 => 43#32
  | 99 => 43#32
  | 100 => 43#32
  | 101 => 43#32
  | 102 => 43#32
  | 103 => 43#32
  | 104 => 43#32
  | 105 => 43#32
  | 106 => 43#32
  | 107 => 43#32
  | 108 => 43#32
  | 109 => 43#32
  | 110 => 43#32
  | 111 => 43#32
  | 112 => 44#32
  | 113 => 44#32
  | 114 => 44#32
  | 115 => 44#32
  | 116 => 44#32
  | 117 => 44#32
  | 118 => 44#32
  | 119 => 44#32
  | 120 => 44#32
  | 121 => 44#32
  | 122 => 44#32
  | 123 => 44#32
  | 124 => 44#32
  | 125 => 44#32
  | 126 => 44#32
  | 127 => 44#32
  | _ => 0#32

noncomputable abbrev lit0t0_7 (i : Nat) : BitVec 32 := match i % 128 with
  | 0 => 44#32
  | 1 => 44#32
  | 2 => 44#32
  | 3 => 44#32
  | 4 => 45#32
  | 5 => 45#32
  | 6 => 45#32
  | 7 => 45#32
  | 8 => 45#32
  | 9 => 45#32
  | 10 => 45#32
  | 11 => 45#32
  | 12 => 45#32
  | 13 => 45#32
  | 14 => 45#32
  | 15 => 45#32
  | 16 => 45#32
  | 17 => 45#32
  | 18 => 45#32
  | 19 => 45#32
  | 20 => 45#32
  | 21 => 45#32
  | 22 => 45#32
  | 23 => 45#32
  | 24 => 46#32
  | 25 => 46#32
  | 26 => 46#32
  | 27 => 46#32
  | 28 => 46#32
  | 29 => 46#32
  | 30 => 46#32
  | 31 => 46#32
  | 32 => 46#32
  | 33 => 46#32
  | 34 => 46#32
  | 35 => 46#32
  | 36 => 46#32
  | 37 => 46#32
  | 38 => 46#32
  | 39 => 46#32
  | 40 => 46#32
  | 41 => 46#32
  | 42 => 46#32
  | 43 => 46#32
  | 44 => 47#32
  | 45 => 47#32
  | 46 => 47#32
  | 47 => 47#32
  | 48 => 47#32
  | 49 => 47#32
  | 50 => 47#32
  | 51 => 47#32
  | 52 => 47#32
  | 53 => 47#32
  | 54 => 47#32
  | 55 => 47#32
  | 56 => 47#32
  | 57 => 47#32
  | 58 => 47#32
  | 59 => 47#32
  | 60 => 47#32
  | 61 => 47#32
  | 62 => 47#32
  | 63 => 47#32
  | 64 => 48#32
  | 65 => 48#32
  | 66 => 48#32
  | 67 => 48#32
  | 68 => 48#32
  | 69 => 48#32
  | 70 => 48#32
  | 71 => 48#32
  | 72 => 48#32
  | 73 => 48#32
  | 74 => 48#32
  | 75 => 48#32
  | 76 => 48#32
  | 77 => 48#32
  | 78 => 48#32
  | 79 => 48#32
  | 80 => 48#32
  | 81 => 48#32
  | 82 => 48#32
  | 83 => 48#32
  | 84 => 49#32
  | 85 => 49#32
  | 86 => 49#32
  | 87 => 49#32
  | 88 => 49#32
  | 89 => 49#32
  | 90 => 49#32
  | 91 => 49#32
  | 92 => 49#32
  | 93 => 49#32
  | 94 => 49#32
  | 95 => 49#32
  | 96 => 49#32
  | 97 => 49#32
  | 98 => 49#32
  | 99 => 49#32
  | 100 => 49#32
  | 101 => 49#32
  | 102 => 49#32
  | 103 => 49#32
  | 104 => 50#32
  | 105 => 50#32
  | 106 => 50#32
  | 107 => 50#32
  | 108 => 50#32
  | 109 => 50#32
  | 110 => 50#32
  | 111 => 50#32
  | 112 => 50#32
  | 113 => 50#32
  | 114 => 50#32
  | 115 => 50#32
  | 116 => 50#32
  | 117 => 50#32
  | 118 => 50#32
  | 119 => 50#32
  | 120 => 50#32
  | 121 => 50#32
  | 122 => 50#32
  | 123 => 50#32
  | 124 => 51#32
  | 125 => 51#32
  | 126 => 51#32
  | 127 => 51#32
  | _ => 0#32

noncomputable abbrev lit0t0_8 (i : Nat) : BitVec 32 := match i % 128 with
  | 0 => 51#32
  | 1 => 51#32
  | 2 => 51#32
  | 3 => 51#32
  | 4 => 51#32
  | 5 => 51#32
  | 6 => 51#32
  | 7 => 51#32
  | 8 => 51#32
  | 9 => 51#32
  | 10 => 51#32
  | 11 => 51#32
  | 12 => 51#32
  | 13 => 51#32
  | 14 => 51#32
  | 15 => 51#32
  | 16 => 52#32
  | 17 => 52#32
  | 18 => 52#32
  | 19 => 52#32
  | 20 => 52#32
  | 21 => 52#32
  | 22 => 52#32
  | 23 => 52#32
  | 24 => 52#32
  | 25 => 52#32
  | 26 => 52#32
  | 27 => 52#32
  | 28 => 52#32
  | 29 => 52#32
  | 30 => 52#32
  | 31 => 52#32
  | 32 => 52#32
  | 33 => 52#32
  | 34 => 52#32
  | 35 => 52#32
  | 36 => 53#32
  | 37 => 53#32
  | 38 => 53#32
  | 39 => 53#32
  | 40 => 53#32
  | 41 => 53#32
  | 42 => 53#32
  | 43 => 53#32
  | 44 => 53#32
  | 45 => 53#32
  | 46 => 53#32
  | 47 => 53#32
  | 48 => 53#32
  | 49 => 53#32
  | 50 => 53#32
  | 51 => 53#32
  | 52 => 53#32
  | 53 => 53#32
  | 54 => 53#32
  | 55 => 53#32
  | 56 => 54#32
  | 57 => 54#32
  | 58 => 54#32
  | 59 => 54#32
  | 60 => 54#32
  | 61 => 54#32
  | 62 => 54#32
  | 63 => 54#32
  | 64 => 54#32
  | 65 => 54#32
  | 66 => 54#32
  | 67 => 54#32
  | 68 => 54#32
  | 69 => 54#32
  | 70 => 54#32
  | 71 => 54#32
  | 72 => 54#32
  | 73 => 54#32
  | 74 => 54#32
  | 75 => 54#32
  | 76 => 55#32
  | 77 => 55#32
  | 78 => 55#32
  | 79 => 55#32
  | 80 => 55#32
  | 81 => 55#32
  | 82 => 55#32
  | 83 => 55#32
  | 84 => 55#32
  | 85 => 55#32
  | 86 => 55#32
  | 87 => 55#32
  | 88 => 55#32
  | 89 => 55#32
  | 90 => 55#32
  | 91 => 55#32
  | 92 => 55#32
  | 93 => 55#32
  | 94 => 55#32
  | 95 => 55#32
  | 96 => 56#32
  | 97 => 56#32
  | 98 => 56#32
  | 99 => 56#32
  | 100 => 56#32
  | 101 => 56#32
  | 102 => 56#32
  | 103 => 56#32
  | 104 => 56#32
  | 105 => 56#32
  | 106 => 56#32
  | 107 => 56#32
  | 108 => 56#32
  | 109 => 56#32
  | 110 => 56#32
  | 111 => 56#32
  | 112 => 56#32
  | 113 => 56#32
  | 114 => 56#32
  | 115 => 56#32
  | 116 => 57#32
  | 117 => 57#32
  | 118 => 57#32
  | 119 => 57#32
  | 120 => 57#32
  | 121 => 57#32
  | 122 => 57#32
  | 123 => 57#32
  | 124 => 57#32
  | 125 => 57#32
  | 126 => 57#32
  | 127 => 57#32
  | _ => 0#32

noncomputable abbrev lit0t0_9 (i : Nat) : BitVec 32 := match i % 128 with
  | 0 => 57#32
  | 1 => 57#32
  | 2 => 57#32
  | 3 => 57#32
  | 4 => 57#32
  | 5 => 57#32
  | 6 => 57#32
  | 7 => 57#32
  | 8 => 58#32
  | 9 => 58#32
  | 10 => 58#32
  | 11 => 58#32
  | 12 => 58#32
  | 13 => 58#32
  | 14 => 58#32
  | 15 => 58#32
  | 16 => 58#32
  | 17 => 58#32
  | 18 => 58#32
  | 19 => 58#32
  | 20 => 58#32
  | 21 => 58#32
  | 22 => 58#32
  | 23 => 58#32
  | 24 => 58#32
  | 25 => 58#32
  | 26 => 58#32
  | 27 => 58#32
  | 28 => 59#32
  | 29 => 59#32
  | 30 => 59#32
  | 31 => 59#32
  | 32 => 59#32
  | 33 => 59#32
  | 34 => 59#32
  | 35 => 59#32
  | 36 => 59#32
  | 37 => 59#32
  | 38 => 59#32
  | 39 => 59#32
  | 40 => 59#32
  | 41 => 59#32
  | 42 => 59#32
  | 43 => 59#32
  | 44 => 59#32
  | 45 => 59#32
  | 46 => 59#32
  | 47 => 59#32
  | 48 => 60#32
  | 49 => 60#32
  | 50 => 60#32
  | 51 => 60#32
  | 52 => 60#32
  | 53 => 60#32
  | 54 => 60#32
  | 55 => 60#32
  | 56 => 60#32
  | 57 => 60#32
  | 58 => 60#32
  | 59 => 60#32
  | 60 => 60#32
  | 61 => 60#32
  | 62 => 60#32
  | 63 => 60#32
  | 64 => 60#32
  | 65 => 60#32
  | 66 => 60#32
  | 67 => 60#32
  | 68 => 61#32
  | 69 => 61#32
  | 70 => 61#32
  | 71 => 61#32
  | 72 => 61#32
  | 73 => 61#32
  | 74 => 61#32
  | 75 => 61#32
  | 76 => 61#32
  | 77 => 61#32
  | 78 => 61#32
  | 79 => 61#32
  | 80 => 61#32
  | 81 => 61#32
  | 82 => 61#32
  | 83 => 61#32
  | 84 => 61#32
  | 85 => 61#32
  | 86 => 61#32
  | 87 => 61#32
  | 88 => 62#32
  | 89 => 62#32
  | 90 => 62#32
  | 91 => 62#32
  | 92 => 62#32
  | 93 => 62#32
  | 94 => 62#32
  | 95 => 62#32
  | 96 => 62#32
  | 97 => 62#32
  | 98 => 62#32
  | 99 => 62#32
  | 100 => 62#32
  | 101 => 62#32
  | 102 => 62#32
  | 103 => 62#32
  | 104 => 62#32
  | 105 => 62#32
  | 106 => 62#32
  | 107 => 62#32
  | 108 => 63#32
  | 109 => 63#32
  | 110 => 63#32
  | 111 => 63#32
  | 112 => 63#32
  | 113 => 63#32
  | 114 => 63#32
  | 115 => 63#32
  | 116 => 63#32
  | 117 => 63#32
  | 118 => 63#32
  | 119 => 63#32
  | 120 => 63#32
  | 121 => 63#32
  | 122 => 63#32
  | 123 => 63#32
  | 124 => 63#32
  | 125 => 63#32
  | 126 => 63#32
  | 127 => 63#32
  | _ => 0#32

noncomputable abbrev lit0t0_10 (i : Nat) : BitVec 32 := match i % 128 with
  | 0 => 64#32
  | 1 => 64#32
  | 2 => 64#32
  | 3 => 64#32
  | 4 => 64#32
  | 5 => 64#32
  | 6 => 64#32
  | 7 => 64#32
  | 8 => 64#32
  | 9 => 64#32
  | 10 => 64#32
  | 11 => 64#32
  | 12 => 64#32
  | 13 => 64#32
  | 14 => 64#32
  | 15 => 64#32
  | 16 => 64#32
  | 17 => 64#32
  | 18 => 64#32
  | 19 => 64#32
  | 20 => 65#32
  | 21 => 65#32
  | 22 => 65#32
  | 23 => 65#32
  | 24 => 65#32
  | 25 => 65#32
  | 26 => 65#32
  | 27 => 65#32
  | 28 => 65#32
  | 29 => 65#32
  | 30 => 65#32
  | 31 => 65#32
  | 32 => 65#32
  | 33 => 65#32
  | 34 => 65#32
  | 35 => 65#32
  | 36 => 65#32
  | 37 => 65#32
  | 38 => 65#32
  | 39 => 65#32
  | 40 => 66#32
  | 41 => 66#32
  | 42 => 66#32
  | 43 => 66#32
  | 44 => 66#32
  | 45 => 66#32
  | 46 => 66#32
  | 47 => 66#32
  | 48 => 66#32
  | 49 => 66#32
  | 50 => 66#32
  | 51 => 66#32
  | 52 => 66#32
  | 53 => 66#32
  | 54 => 66#32
  | 55 => 66#32
  | 56 => 66#32
  | 57 => 66#32
  | 58 => 66#32
  | 59 => 66#32
  | 60 => 67#32
  | 61 => 67#32
  | 62 => 67#32
  | 63 => 67#32
  | 64 => 67#32
  | 65 => 67#32
  | 66 => 67#32
  | 67 => 67#32
  | 68 => 67#32
  | 69 => 67#32
  | 70 => 67#32
  | 71 => 67#32
  | 72 => 67#32
  | 73 => 67#32
  | 74 => 67#32
  | 75 => 67#32
  | 76 => 67#32
  | 77 => 67#32
  | 78 => 67#32
  | 79 => 67#32
  | 80 => 68#32
  | 81 => 68#32
  | 82 => 68#32
  | 83 => 68#32
  | 84 => 68#32
  | 85 => 68#32
  | 86 => 68#32
  | 87 => 68#32
  | 88 => 68#32
  | 89 => 68#32
  | 90 => 68#32
  | 91 => 68#32
  | 92 => 68#32
  | 93 => 68#32
  | 94 => 68#32
  | 95 => 68#32
  | 96 => 68#32
  | 97 => 68#32
  | 98 => 68#32
  | 99 => 68#32
  | 100 => 69#32
  | 101 => 69#32
  | 102 => 69#32
  | 103 => 69#32
  | 104 => 69#32
  | 105 => 69#32
  | 106 => 69#32
  | 107 => 69#32
  | 108 => 69#32
  | 109 => 69#32
  | 110 => 69#32
  | 111 => 69#32
  | 112 => 69#32
  | 113 => 69#32
  | 114 => 69#32
  | 115 => 69#32
  | 116 => 69#32
  | 117 => 69#32
  | 118 => 69#32
  | 119 => 69#32
  | 120 => 70#32
  | 121 => 70#32
  | 122 => 70#32
  | 123 => 70#32
  | 124 => 70#32
  | 125 => 70#32
  | 126 => 70#32
  | 127 => 70#32
  | _ => 0#32

noncomputable abbrev lit0t0_11 (i : Nat) : BitVec 32 := match i % 128 with
  | 0 => 70#32
  | 1 => 70#32
  | 2 => 70#32
  | 3 => 70#32
  | 4 => 70#32
  | 5 => 70#32
  | 6 => 70#32
  | 7 => 70#32
  | 8 => 70#32
  | 9 => 70#32
  | 10 => 70#32
  | 11 => 70#32
  | 12 => 71#32
  | 13 => 71#32
  | 14 => 71#32
  | 15 => 71#32
  | 16 => 71#32
  | 17 => 71#32
  | 18 => 71#32
  | 19 => 71#32
  | 20 => 71#32
  | 21 => 71#32
  | 22 => 71#32
  | 23 => 71#32
  | 24 => 71#32
  | 25 => 71#32
  | 26 => 71#32
  | 27 => 71#32
  | 28 => 71#32
  | 29 => 71#32
  | 30 => 71#32
  | 31 => 71#32
  | 32 => 72#32
  | 33 => 72#32
  | 34 => 72#32
  | 35 => 72#32
  | 36 => 72#32
  | 37 => 72#32
  | 38 => 72#32
  | 39 => 72#32
  | 40 => 72#32
  | 41 => 72#32
  | 42 => 72#32
  | 43 => 72#32
  | 44 => 72#32
  | 45 => 72#32
  | 46 => 72#32
  | 47 => 72#32
  | 48 => 72#32
  | 49 => 72#32
  | 50 => 72#32
  | 51 => 72#32
  | 52 => 73#32
  | 53 => 73#32
  | 54 => 73#32
  | 55 => 73#32
  | 56 => 73#32
  | 57 => 73#32
  | 58 => 73#32
  | 59 => 73#32
  | 60 => 73#32
  | 61 => 73#32
  | 62 => 73#32
  | 63 => 73#32
  | 64 => 73#32
  | 65 => 73#32
  | 66 => 73#32
  | 67 => 73#32
  | 68 => 73#32
  | 69 => 73#32
  | 70 => 73#32
  | 71 => 73#32
  | 72 => 74#32
  | 73 => 74#32
  | 74 => 74#32
  | 75 => 74#32
  | 76 => 74#32
  | 77 => 74#32
  | 78 => 74#32
  | 79 => 74#32
  | 80 => 74#32
  | 81 => 74#32
  | 82 => 74#32
  | 83 => 74#32
  | 84 => 74#32
  | 85 => 74#32
  | 86 => 74#32
  | 87 => 74#32
  | 88 => 74#32
  | 89 => 74#32
  | 90 => 74#32
  | 91 => 74#32
  | 92 => 75#32
  | 93 => 75#32
  | 94 => 75#32
  | 95 => 75#32
  | 96 => 75#32
  | 97 => 75#32
  | 98 => 75#32
  | 99 => 75#32
  | 100 => 75#32
  | 101 => 75#32
  | 102 => 75#32
  | 103 => 75#32
  | 104 => 75#32
  | 105 => 75#32
  | 106 => 75#32
  | 107 => 75#32
  | 108 => 75#32
  | 109 => 75#32
  | 110 => 75#32
  | 111 => 75#32
  | 112 => 76#32
  | 113 => 76#32
  | 114 => 76#32
  | 115 => 76#32
  | 116 => 76#32
  | 117 => 76#32
  | 118 => 76#32
  | 119 => 76#32
  | 120 => 76#32
  | 121 => 76#32
  | 122 => 76#32
  | 123 => 76#32
  | 124 => 76#32
  | 125 => 76#32
  | 126 => 76#32
  | 127 => 76#32
  | _ => 0#32

noncomputable abbrev lit0t0_12 (i : Nat) : BitVec 32 := match i % 128 with
  | 0 => 76#32
  | 1 => 76#32
  | 2 => 76#32
  | 3 => 76#32
  | 4 => 77#32
  | 5 => 77#32
  | 6 => 77#32
  | 7 => 77#32
  | 8 => 77#32
  | 9 => 77#32
  | 10 => 77#32
  | 11 => 77#32
  | 12 => 77#32
  | 13 => 77#32
  | 14 => 77#32
  | 15 => 77#32
  | 16 => 77#32
  | 17 => 77#32
  | 18 => 77#32
  | 19 => 77#32
  | 20 => 77#32
  | 21 => 77#32
  | 22 => 77#32
  | 23 => 77#32
  | 24 => 78#32
  | 25 => 78#32
  | 26 => 78#32
  | 27 => 78#32
  | 28 => 78#32
  | 29 => 78#32
  | 30 => 78#32
  | 31 => 78#32
  | 32 => 78#32
  | 33 => 78#32
  | 34 => 78#32
  | 35 => 78#32
  | 36 => 78#32
  | 37 => 78#32
  | 38 => 78#32
  | 39 => 78#32
  | 40 => 78#32
  | 41 => 78#32
  | 42 => 78#32
  | 43 => 78#32
  | 44 => 79#32
  | 45 => 79#32
  | 46 => 79#32
  | 47 => 79#32
  | 48 => 79#32
  | 49 => 79#32
  | 50 => 79#32
  | 51 => 79#32
  | 52 => 79#32
  | 53 => 79#32
  | 54 => 79#32
  | 55 => 79#32
  | 56 => 79#32
  | 57 => 79#32
  | 58 => 79#32
  | 59 => 79#32
  | 60 => 79#32
  | 61 => 79#32
  | 62 => 79#32
  | 63 => 79#32
  | 64 => 80#32
  | 65 => 80#32
  | 66 => 80#32
  | 67 => 80#32
  | 68 => 80#32
  | 69 => 80#32
  | 70 => 80#32
  | 71 => 80#32
  | 72 => 80#32
  | 73 => 80#32
  | 74 => 80#32
  | 75 => 80#32
  | 76 => 80#32
  | 77 => 80#32
  | 78 => 80#32
  | 79 => 80#32
  | 80 => 80#32
  | 81 => 80#32
  | 82 => 80#32
  | 83 => 80#32
  | _ => 0#32

noncomputable abbrev lit0t (i : Nat) : BitVec 32 := match i / 128 with
  | 0 => lit0t0_0 i
  | 1 => lit0t0_1 i
  | 2 => lit0t0_2 i
  | 3 => lit0t0_3 i
  | 4 => lit0t0_4 i
  | 5 => lit0t0_5 i
  | 6 => lit0t0_6 i
  | 7 => lit0t0_7 i
  | 8 => lit0t0_8 i
  | 9 => lit0t0_9 i
  | 10 => lit0t0_10 i
  | 11 => lit0t0_11 i
  | 12 => lit0t0_12 i
  | _ => 0#32

noncomputable abbrev lit0 : Fin 1620 → BitVec 32 := fun ⟨i, _⟩ => lit0t i

noncomputable abbrev lit1t0_0 (i : Nat) : BitVec 32 := match i % 128 with
  | 0 => 1#32
  | 1 => 2#32
  | 2 => 3#32
  | 3 => 4#32
  | 4 => 5#32
  | 5 => 6#32
  | 6 => 7#32
  | 7 => 8#32
  | 8 => 9#32
  | 9 => 10#32
  | 10 => 11#32
  | 11 => 18#32
  | 12 => 19#32
  | 13 => 20#32
  | 14 => 27#32
  | 15 => 36#32
  | 16 => 45#32
  | 17 => 54#32
  | 18 => 63#32
  | 19 => 72#32
  | 20 => 0#32
  | 21 => 2#32
  | 22 => 3#32
  | 23 => 4#32
  | 24 => 5#32
  | 25 => 6#32
  | 26 => 7#32
  | 27 => 8#32
  | 28 => 9#32
  | 29 => 10#32
  | 30 => 11#32
  | 31 => 18#32
  | 32 => 19#32
  | 33 => 20#32
  | 34 => 28#32
  | 35 => 37#32
  | 36 => 46#32
  | 37 => 55#32
  | 38 => 64#32
  | 39 => 73#32
  | 40 => 0#32
  | 41 => 1#32
  | 42 => 3#32
  | 43 => 4#32
  | 44 => 5#32
  | 45 => 6#32
  | 46 => 7#32
  | 47 => 8#32
  | 48 => 9#32
  | 49 => 10#32
  | 50 => 11#32
  | 51 => 18#32
  | 52 => 19#32
  | 53 => 20#32
  | 54 => 29#32
  | 55 => 38#32
  | 56 => 47#32
  | 57 => 56#32
  | 58 => 65#32
  | 59 => 74#32
  | 60 => 0#32
  | 61 => 1#32
  | 62 => 2#32
  | 63 => 4#32
  | 64 => 5#32
  | 65 => 6#32
  | 66 => 7#32
  | 67 => 8#32
  | 68 => 12#32
  | 69 => 13#32
  | 70 => 14#32
  | 71 => 21#32
  | 72 => 22#32
  | 73 => 23#32
  | 74 => 30#32
  | 75 => 39#32
  | 76 => 48#32
  | 77 => 57#32
  | 78 => 66#32
  | 79 => 75#32
  | 80 => 0#32
  | 81 => 1#32
  | 82 => 2#32
  | 83 => 3#32
  | 84 => 5#32
  | 85 => 6#32
  | 86 => 7#32
  | 87 => 8#32
  | 88 => 12#32
  | 89 => 13#32
  | 90 => 14#32
  | 91 => 21#32
  | 92 => 22#32
  | 93 => 23#32
  | 94 => 31#32
  | 95 => 40#32
  | 96 => 49#32
  | 97 => 58#32
  | 98 => 67#32
  | 99 => 76#32
  | 100 => 0#32
  | 101 => 1#32
  | 102 => 2#32
  | 103 => 3#32
  | 104 => 4#32
  | 105 => 6#32
  | 106 => 7#32
  | 107 => 8#32
  | 108 => 12#32
  | 109 => 13#32
  | 110 => 14#32
  | 111 => 21#32
  | 112 => 22#32
  | 113 => 23#32
  | 114 => 32#32
  | 115 => 41#32
  | 116 => 50#32
  | 117 => 59#32
  | 118 => 68#32
  | 119 => 77#32
  | 120 => 0#32
  | 121 => 1#32
  | 122 => 2#32
  | 123 => 3#32
  | 124 => 4#32
  | 125 => 5#32
  | 126 => 7#32
  | 127 => 8#32
  | _ => 0#32

noncomputable abbrev lit1t0_1 (i : Nat) : BitVec 32 := match i % 128 with
  | 0 => 15#32
  | 1 => 16#32
  | 2 => 17#32
  | 3 => 24#32
  | 4 => 25#32
  | 5 => 26#32
  | 6 => 33#32
  | 7 => 42#32
  | 8 => 51#32
  | 9 => 60#32
  | 10 => 69#32
  | 11 => 78#32
  | 12 => 0#32
  | 13 => 1#32
  | 14 => 2#32
  | 15 => 3#32
  | 16 => 4#32
  | 17 => 5#32
  | 18 => 6#32
  | 19 => 8#32
  | 20 => 15#32
  | 21 => 16#32
  | 22 => 17#32
  | 23 => 24#32
  | 24 => 25#32
  | 25 => 26#32
  | 26 => 34#32
  | 27 => 43#32
  | 28 => 52#32
  | 29 => 61#32
  | 30 => 70#32
  | 31 => 79#32
  | 32 => 0#32
  | 33 => 1#32
  | 34 => 2#32
  | 35 => 3#32
  | 36 => 4#32
  | 37 => 5#32
  | 38 => 6#32
  | 39 => 7#32
  | 40 => 15#32
  | 41 => 16#32
  | 42 => 17#32
  | 43 => 24#32
  | 44 => 25#32
  | 45 => 26#32
  | 46 => 35#32
  | 47 => 44#32
  | 48 => 53#32
  | 49 => 62#32
  | 50 => 71#32
  | 51 => 80#32
  | 52 => 0#32
  | 53 => 1#32
  | 54 => 2#32
  | 55 => 10#32
  | 56 => 11#32
  | 57 => 12#32
  | 58 => 13#32
  | 59 => 14#32
  | 60 => 15#32
  | 61 => 16#32
  | 62 => 17#32
  | 63 => 18#32
  | 64 => 19#32
  | 65 => 20#32
  | 66 => 27#32
  | 67 => 36#32
  | 68 => 45#32
  | 69 => 54#32
  | 70 => 63#32
  | 71 => 72#32
  | 72 => 0#32
  | 73 => 1#32
  | 74 => 2#32
  | 75 => 9#32
  | 76 => 11#32
  | 77 => 12#32
  | 78 => 13#32
  | 79 => 14#32
  | 80 => 15#32
  | 81 => 16#32
  | 82 => 17#32
  | 83 => 18#32
  | 84 => 19#32
  | 85 => 20#32
  | 86 => 28#32
  | 87 => 37#32
  | 88 => 46#32
  | 89 => 55#32
  | 90 => 64#32
  | 91 => 73#32
  | 92 => 0#32
  | 93 => 1#32
  | 94 => 2#32
  | 95 => 9#32
  | 96 => 10#32
  | 97 => 12#32
  | 98 => 13#32
  | 99 => 14#32
  | 100 => 15#32
  | 101 => 16#32
  | 102 => 17#32
  | 103 => 18#32
  | 104 => 19#32
  | 105 => 20#32
  | 106 => 29#32
  | 107 => 38#32
  | 108 => 47#32
  | 109 => 56#32
  | 110 => 65#32
  | 111 => 74#32
  | 112 => 3#32
  | 113 => 4#32
  | 114 => 5#32
  | 115 => 9#32
  | 116 => 10#32
  | 117 => 11#32
  | 118 => 13#32
  | 119 => 14#32
  | 120 => 15#32
  | 121 => 16#32
  | 122 => 17#32
  | 123 => 21#32
  | 124 => 22#32
  | 125 => 23#32
  | 126 => 30#32
  | 127 => 39#32
  | _ => 0#32

noncomputable abbrev lit1t0_2 (i : Nat) : BitVec 32 := match i % 128 with
  | 0 => 48#32
  | 1 => 57#32
  | 2 => 66#32
  | 3 => 75#32
  | 4 => 3#32
  | 5 => 4#32
  | 6 => 5#32
  | 7 => 9#32
  | 8 => 10#32
  | 9 => 11#32
  | 10 => 12#32
  | 11 => 14#32
  | 12 => 15#32
  | 13 => 16#32
  | 14 => 17#32
  | 15 => 21#32
  | 16 => 22#32
  | 17 => 23#32
  | 18 => 31#32
  | 19 => 40#32
  | 20 => 49#32
  | 21 => 58#32
  | 22 => 67#32
  | 23 => 76#32
  | 24 => 3#32
  | 25 => 4#32
  | 26 => 5#32
  | 27 => 9#32
  | 28 => 10#32
  | 29 => 11#32
  | 30 => 12#32
  | 31 => 13#32
  | 32 => 15#32
  | 33 => 16#32
  | 34 => 17#32
  | 35 => 21#32
  | 36 => 22#32
  | 37 => 23#32
  | 38 => 32#32
  | 39 => 41#32
  | 40 => 50#32
  | 41 => 59#32
  | 42 => 68#32
  | 43 => 77#32
  | 44 => 6#32
  | 45 => 7#32
  | 46 => 8#32
  | 47 => 9#32
  | 48 => 10#32
  | 49 => 11#32
  | 50 => 12#32
  | 51 => 13#32
  | 52 => 14#32
  | 53 => 16#32
  | 54 => 17#32
  | 55 => 24#32
  | 56 => 25#32
  | 57 => 26#32
  | 58 => 33#32
  | 59 => 42#32
  | 60 => 51#32
  | 61 => 60#32
  | 62 => 69#32
  | 63 => 78#32
  | 64 => 6#32
  | 65 => 7#32
  | 66 => 8#32
  | 67 => 9#32
  | 68 => 10#32
  | 69 => 11#32
  | 70 => 12#32
  | 71 => 13#32
  | 72 => 14#32
  | 73 => 15#32
  | 74 => 17#32
  | 75 => 24#32
  | 76 => 25#32
  | 77 => 26#32
  | 78 => 34#32
  | 79 => 43#32
  | 80 => 52#32
  | 81 => 61#32
  | 82 => 70#32
  | 83 => 79#32
  | 84 => 6#32
  | 85 => 7#32
  | 86 => 8#32
  | 87 => 9#32
  | 88 => 10#32
  | 89 => 11#32
  | 90 => 12#32
  | 91 => 13#32
  | 92 => 14#32
  | 93 => 15#32
  | 94 => 16#32
  | 95 => 24#32
  | 96 => 25#32
  | 97 => 26#32
  | 98 => 35#32
  | 99 => 44#32
  | 100 => 53#32
  | 101 => 62#32
  | 102 => 71#32
  | 103 => 80#32
  | 104 => 0#32
  | 105 => 1#32
  | 106 => 2#32
  | 107 => 9#32
  | 108 => 10#32
  | 109 => 11#32
  | 110 => 19#32
  | 111 => 20#32
  | 112 => 21#32
  | 113 => 22#32
  | 114 => 23#32
  | 115 => 24#32
  | 116 => 25#32
  | 117 => 26#32
  | 118 => 27#32
  | 119 => 36#32
  | 120 => 45#32
  | 121 => 54#32
  | 122 => 63#32
  | 123 => 72#32
  | 124 => 0#32
  | 125 => 1#32
  | 126 => 2#32
  | 127 => 9#32
  | _ => 0#32

noncomputable abbrev lit1t0_3 (i : Nat) : BitVec 32 := match i % 128 with
  | 0 => 10#32
  | 1 => 11#32
  | 2 => 18#32
  | 3 => 20#32
  | 4 => 21#32
  | 5 => 22#32
  | 6 => 23#32
  | 7 => 24#32
  | 8 => 25#32
  | 9 => 26#32
  | 10 => 28#32
  | 11 => 37#32
  | 12 => 46#32
  | 13 => 55#32
  | 14 => 64#32
  | 15 => 73#32
  | 16 => 0#32
  | 17 => 1#32
  | 18 => 2#32
  | 19 => 9#32
  | 20 => 10#32
  | 21 => 11#32
  | 22 => 18#32
  | 23 => 19#32
  | 24 => 21#32
  | 25 => 22#32
  | 26 => 23#32
  | 27 => 24#32
  | 28 => 25#32
  | 29 => 26#32
  | 30 => 29#32
  | 31 => 38#32
  | 32 => 47#32
  | 33 => 56#32
  | 34 => 65#32
  | 35 => 74#32
  | 36 => 3#32
  | 37 => 4#32
  | 38 => 5#32
  | 39 => 12#32
  | 40 => 13#32
  | 41 => 14#32
  | 42 => 18#32
  | 43 => 19#32
  | 44 => 20#32
  | 45 => 22#32
  | 46 => 23#32
  | 47 => 24#32
  | 48 => 25#32
  | 49 => 26#32
  | 50 => 30#32
  | 51 => 39#32
  | 52 => 48#32
  | 53 => 57#32
  | 54 => 66#32
  | 55 => 75#32
  | 56 => 3#32
  | 57 => 4#32
  | 58 => 5#32
  | 59 => 12#32
  | 60 => 13#32
  | 61 => 14#32
  | 62 => 18#32
  | 63 => 19#32
  | 64 => 20#32
  | 65 => 21#32
  | 66 => 23#32
  | 67 => 24#32
  | 68 => 25#32
  | 69 => 26#32
  | 70 => 31#32
  | 71 => 40#32
  | 72 => 49#32
  | 73 => 58#32
  | 74 => 67#32
  | 75 => 76#32
  | 76 => 3#32
  | 77 => 4#32
  | 78 => 5#32
  | 79 => 12#32
  | 80 => 13#32
  | 81 => 14#32
  | 82 => 18#32
  | 83 => 19#32
  | 84 => 20#32
  | 85 => 21#32
  | 86 => 22#32
  | 87 => 24#32
  | 88 => 25#32
  | 89 => 26#32
  | 90 => 32#32
  | 91 => 41#32
  | 92 => 50#32
  | 93 => 59#32
  | 94 => 68#32
  | 95 => 77#32
  | 96 => 6#32
  | 97 => 7#32
  | 98 => 8#32
  | 99 => 15#32
  | 100 => 16#32
  | 101 => 17#32
  | 102 => 18#32
  | 103 => 19#32
  | 104 => 20#32
  | 105 => 21#32
  | 106 => 22#32
  | 107 => 23#32
  | 108 => 25#32
  | 109 => 26#32
  | 110 => 33#32
  | 111 => 42#32
  | 112 => 51#32
  | 113 => 60#32
  | 114 => 69#32
  | 115 => 78#32
  | 116 => 6#32
  | 117 => 7#32
  | 118 => 8#32
  | 119 => 15#32
  | 120 => 16#32
  | 121 => 17#32
  | 122 => 18#32
  | 123 => 19#32
  | 124 => 20#32
  | 125 => 21#32
  | 126 => 22#32
  | 127 => 23#32
  | _ => 0#32

noncomputable abbrev lit1t0_4 (i : Nat) : BitVec 32 := match i % 128 with
  | 0 => 24#32
  | 1 => 26#32
  | 2 => 34#32
  | 3 => 43#32
  | 4 => 52#32
  | 5 => 61#32
  | 6 => 70#32
  | 7 => 79#32
  | 8 => 6#32
  | 9 => 7#32
  | 10 => 8#32
  | 11 => 15#32
  | 12 => 16#32
  | 13 => 17#32
  | 14 => 18#32
  | 15 => 19#32
  | 16 => 20#32
  | 17 => 21#32
  | 18 => 22#32
  | 19 => 23#32
  | 20 => 24#32
  | 21 => 25#32
  | 22 => 35#32
  | 23 => 44#32
  | 24 => 53#32
  | 25 => 62#32
  | 26 => 71#32
  | 27 => 80#32
  | 28 => 0#32
  | 29 => 9#32
  | 30 => 18#32
  | 31 => 28#32
  | 32 => 29#32
  | 33 => 30#32
  | 34 => 31#32
  | 35 => 32#32
  | 36 => 33#32
  | 37 => 34#32
  | 38 => 35#32
  | 39 => 36#32
  | 40 => 37#32
  | 41 => 38#32
  | 42 => 45#32
  | 43 => 46#32
  | 44 => 47#32
  | 45 => 54#32
  | 46 => 63#32
  | 47 => 72#32
  | 48 => 1#32
  | 49 => 10#32
  | 50 => 19#32
  | 51 => 27#32
  | 52 => 29#32
  | 53 => 30#32
  | 54 => 31#32
  | 55 => 32#32
  | 56 => 33#32
  | 57 => 34#32
  | 58 => 35#32
  | 59 => 36#32
  | 60 => 37#32
  | 61 => 38#32
  | 62 => 45#32
  | 63 => 46#32
  | 64 => 47#32
  | 65 => 55#32
  | 66 => 64#32
  | 67 => 73#32
  | 68 => 2#32
  | 69 => 11#32
  | 70 => 20#32
  | 71 => 27#32
  | 72 => 28#32
  | 73 => 30#32
  | 74 => 31#32
  | 75 => 32#32
  | 76 => 33#32
  | 77 => 34#32
  | 78 => 35#32
  | 79 => 36#32
  | 80 => 37#32
  | 81 => 38#32
  | 82 => 45#32
  | 83 => 46#32
  | 84 => 47#32
  | 85 => 56#32
  | 86 => 65#32
  | 87 => 74#32
  | 88 => 3#32
  | 89 => 12#32
  | 90 => 21#32
  | 91 => 27#32
  | 92 => 28#32
  | 93 => 29#32
  | 94 => 31#32
  | 95 => 32#32
  | 96 => 33#32
  | 97 => 34#32
  | 98 => 35#32
  | 99 => 39#32
  | 100 => 40#32
  | 101 => 41#32
  | 102 => 48#32
  | 103 => 49#32
  | 104 => 50#32
  | 105 => 57#32
  | 106 => 66#32
  | 107 => 75#32
  | 108 => 4#32
  | 109 => 13#32
  | 110 => 22#32
  | 111 => 27#32
  | 112 => 28#32
  | 113 => 29#32
  | 114 => 30#32
  | 115 => 32#32
  | 116 => 33#32
  | 117 => 34#32
  | 118 => 35#32
  | 119 => 39#32
  | 120 => 40#32
  | 121 => 41#32
  | 122 => 48#32
  | 123 => 49#32
  | 124 => 50#32
  | 125 => 58#32
  | 126 => 67#32
  | 127 => 76#32
  | _ => 0#32

noncomputable abbrev lit1t0_5 (i : Nat) : BitVec 32 := match i % 128 with
  | 0 => 5#32
  | 1 => 14#32
  | 2 => 23#32
  | 3 => 27#32
  | 4 => 28#32
  | 5 => 29#32
  | 6 => 30#32
  | 7 => 31#32
  | 8 => 33#32
  | 9 => 34#32
  | 10 => 35#32
  | 11 => 39#32
  | 12 => 40#32
  | 13 => 41#32
  | 14 => 48#32
  | 15 => 49#32
  | 16 => 50#32
  | 17 => 59#32
  | 18 => 68#32
  | 19 => 77#32
  | 20 => 6#32
  | 21 => 15#32
  | 22 => 24#32
  | 23 => 27#32
  | 24 => 28#32
  | 25 => 29#32
  | 26 => 30#32
  | 27 => 31#32
  | 28 => 32#32
  | 29 => 34#32
  | 30 => 35#32
  | 31 => 42#32
  | 32 => 43#32
  | 33 => 44#32
  | 34 => 51#32
  | 35 => 52#32
  | 36 => 53#32
  | 37 => 60#32
  | 38 => 69#32
  | 39 => 78#32
  | 40 => 7#32
  | 41 => 16#32
  | 42 => 25#32
  | 43 => 27#32
  | 44 => 28#32
  | 45 => 29#32
  | 46 => 30#32
  | 47 => 31#32
  | 48 => 32#32
  | 49 => 33#32
  | 50 => 35#32
  | 51 => 42#32
  | 52 => 43#32
  | 53 => 44#32
  | 54 => 51#32
  | 55 => 52#32
  | 56 => 53#32
  | 57 => 61#32
  | 58 => 70#32
  | 59 => 79#32
  | 60 => 8#32
  | 61 => 17#32
  | 62 => 26#32
  | 63 => 27#32
  | 64 => 28#32
  | 65 => 29#32
  | 66 => 30#32
  | 67 => 31#32
  | 68 => 32#32
  | 69 => 33#32
  | 70 => 34#32
  | 71 => 42#32
  | 72 => 43#32
  | 73 => 44#32
  | 74 => 51#32
  | 75 => 52#32
  | 76 => 53#32
  | 77 => 62#32
  | 78 => 71#32
  | 79 => 80#32
  | 80 => 0#32
  | 81 => 9#32
  | 82 => 18#32
  | 83 => 27#32
  | 84 => 28#32
  | 85 => 29#32
  | 86 => 37#32
  | 87 => 38#32
  | 88 => 39#32
  | 89 => 40#32
  | 90 => 41#32
  | 91 => 42#32
  | 92 => 43#32
  | 93 => 44#32
  | 94 => 45#32
  | 95 => 46#32
  | 96 => 47#32
  | 97 => 54#32
  | 98 => 63#32
  | 99 => 72#32
  | 100 => 1#32
  | 101 => 10#32
  | 102 => 19#32
  | 103 => 27#32
  | 104 => 28#32
  | 105 => 29#32
  | 106 => 36#32
  | 107 => 38#32
  | 108 => 39#32
  | 109 => 40#32
  | 110 => 41#32
  | 111 => 42#32
  | 112 => 43#32
  | 113 => 44#32
  | 114 => 45#32
  | 115 => 46#32
  | 116 => 47#32
  | 117 => 55#32
  | 118 => 64#32
  | 119 => 73#32
  | 120 => 2#32
  | 121 => 11#32
  | 122 => 20#32
  | 123 => 27#32
  | 124 => 28#32
  | 125 => 29#32
  | 126 => 36#32
  | 127 => 37#32
  | _ => 0#32

noncomputable abbrev lit1t0_6 (i : Nat) : BitVec 32 := match i % 128 with
  | 0 => 39#32
  | 1 => 40#32
  | 2 => 41#32
  | 3 => 42#32
  | 4 => 43#32
  | 5 => 44#32
  | 6 => 45#32
  | 7 => 46#32
  | 8 => 47#32
  | 9 => 56#32
  | 10 => 65#32
  | 11 => 74#32
  | 12 => 3#32
  | 13 => 12#32
  | 14 => 21#32
  | 15 => 30#32
  | 16 => 31#32
  | 17 => 32#32
  | 18 => 36#32
  | 19 => 37#32
  | 20 => 38#32
  | 21 => 40#32
  | 22 => 41#32
  | 23 => 42#32
  | 24 => 43#32
  | 25 => 44#32
  | 26 => 48#32
  | 27 => 49#32
  | 28 => 50#32
  | 29 => 57#32
  | 30 => 66#32
  | 31 => 75#32
  | 32 => 4#32
  | 33 => 13#32
  | 34 => 22#32
  | 35 => 30#32
  | 36 => 31#32
  | 37 => 32#32
  | 38 => 36#32
  | 39 => 37#32
  | 40 => 38#32
  | 41 => 39#32
  | 42 => 41#32
  | 43 => 42#32
  | 44 => 43#32
  | 45 => 44#32
  | 46 => 48#32
  | 47 => 49#32
  | 48 => 50#32
  | 49 => 58#32
  | 50 => 67#32
  | 51 => 76#32
  | 52 => 5#32
  | 53 => 14#32
  | 54 => 23#32
  | 55 => 30#32
  | 56 => 31#32
  | 57 => 32#32
  | 58 => 36#32
  | 59 => 37#32
  | 60 => 38#32
  | 61 => 39#32
  | 62 => 40#32
  | 63 => 42#32
  | 64 => 43#32
  | 65 => 44#32
  | 66 => 48#32
  | 67 => 49#32
  | 68 => 50#32
  | 69 => 59#32
  | 70 => 68#32
  | 71 => 77#32
  | 72 => 6#32
  | 73 => 15#32
  | 74 => 24#32
  | 75 => 33#32
  | 76 => 34#32
  | 77 => 35#32
  | 78 => 36#32
  | 79 => 37#32
  | 80 => 38#32
  | 81 => 39#32
  | 82 => 40#32
  | 83 => 41#32
  | 84 => 43#32
  | 85 => 44#32
  | 86 => 51#32
  | 87 => 52#32
  | 88 => 53#32
  | 89 => 60#32
  | 90 => 69#32
  | 91 => 78#32
  | 92 => 7#32
  | 93 => 16#32
  | 94 => 25#32
  | 95 => 33#32
  | 96 => 34#32
  | 97 => 35#32
  | 98 => 36#32
  | 99 => 37#32
  | 100 => 38#32
  | 101 => 39#32
  | 102 => 40#32
  | 103 => 41#32
  | 104 => 42#32
  | 105 => 44#32
  | 106 => 51#32
  | 107 => 52#32
  | 108 => 53#32
  | 109 => 61#32
  | 110 => 70#32
  | 111 => 79#32
  | 112 => 8#32
  | 113 => 17#32
  | 114 => 26#32
  | 115 => 33#32
  | 116 => 34#32
  | 117 => 35#32
  | 118 => 36#32
  | 119 => 37#32
  | 120 => 38#32
  | 121 => 39#32
  | 122 => 40#32
  | 123 => 41#32
  | 124 => 42#32
  | 125 => 43#32
  | 126 => 51#32
  | 127 => 52#32
  | _ => 0#32

noncomputable abbrev lit1t0_7 (i : Nat) : BitVec 32 := match i % 128 with
  | 0 => 53#32
  | 1 => 62#32
  | 2 => 71#32
  | 3 => 80#32
  | 4 => 0#32
  | 5 => 9#32
  | 6 => 18#32
  | 7 => 27#32
  | 8 => 28#32
  | 9 => 29#32
  | 10 => 36#32
  | 11 => 37#32
  | 12 => 38#32
  | 13 => 46#32
  | 14 => 47#32
  | 15 => 48#32
  | 16 => 49#32
  | 17 => 50#32
  | 18 => 51#32
  | 19 => 52#32
  | 20 => 53#32
  | 21 => 54#32
  | 22 => 63#32
  | 23 => 72#32
  | 24 => 1#32
  | 25 => 10#32
  | 26 => 19#32
  | 27 => 27#32
  | 28 => 28#32
  | 29 => 29#32
  | 30 => 36#32
  | 31 => 37#32
  | 32 => 38#32
  | 33 => 45#32
  | 34 => 47#32
  | 35 => 48#32
  | 36 => 49#32
  | 37 => 50#32
  | 38 => 51#32
  | 39 => 52#32
  | 40 => 53#32
  | 41 => 55#32
  | 42 => 64#32
  | 43 => 73#32
  | 44 => 2#32
  | 45 => 11#32
  | 46 => 20#32
  | 47 => 27#32
  | 48 => 28#32
  | 49 => 29#32
  | 50 => 36#32
  | 51 => 37#32
  | 52 => 38#32
  | 53 => 45#32
  | 54 => 46#32
  | 55 => 48#32
  | 56 => 49#32
  | 57 => 50#32
  | 58 => 51#32
  | 59 => 52#32
  | 60 => 53#32
  | 61 => 56#32
  | 62 => 65#32
  | 63 => 74#32
  | 64 => 3#32
  | 65 => 12#32
  | 66 => 21#32
  | 67 => 30#32
  | 68 => 31#32
  | 69 => 32#32
  | 70 => 39#32
  | 71 => 40#32
  | 72 => 41#32
  | 73 => 45#32
  | 74 => 46#32
  | 75 => 47#32
  | 76 => 49#32
  | 77 => 50#32
  | 78 => 51#32
  | 79 => 52#32
  | 80 => 53#32
  | 81 => 57#32
  | 82 => 66#32
  | 83 => 75#32
  | 84 => 4#32
  | 85 => 13#32
  | 86 => 22#32
  | 87 => 30#32
  | 88 => 31#32
  | 89 => 32#32
  | 90 => 39#32
  | 91 => 40#32
  | 92 => 41#32
  | 93 => 45#32
  | 94 => 46#32
  | 95 => 47#32
  | 96 => 48#32
  | 97 => 50#32
  | 98 => 51#32
  | 99 => 52#32
  | 100 => 53#32
  | 101 => 58#32
  | 102 => 67#32
  | 103 => 76#32
  | 104 => 5#32
  | 105 => 14#32
  | 106 => 23#32
  | 107 => 30#32
  | 108 => 31#32
  | 109 => 32#32
  | 110 => 39#32
  | 111 => 40#32
  | 112 => 41#32
  | 113 => 45#32
  | 114 => 46#32
  | 115 => 47#32
  | 116 => 48#32
  | 117 => 49#32
  | 118 => 51#32
  | 119 => 52#32
  | 120 => 53#32
  | 121 => 59#32
  | 122 => 68#32
  | 123 => 77#32
  | 124 => 6#32
  | 125 => 15#32
  | 126 => 24#32
  | 127 => 33#32
  | _ => 0#32

noncomputable abbrev lit1t0_8 (i : Nat) : BitVec 32 := match i % 128 with
  | 0 => 34#32
  | 1 => 35#32
  | 2 => 42#32
  | 3 => 43#32
  | 4 => 44#32
  | 5 => 45#32
  | 6 => 46#32
  | 7 => 47#32
  | 8 => 48#32
  | 9 => 49#32
  | 10 => 50#32
  | 11 => 52#32
  | 12 => 53#32
  | 13 => 60#32
  | 14 => 69#32
  | 15 => 78#32
  | 16 => 7#32
  | 17 => 16#32
  | 18 => 25#32
  | 19 => 33#32
  | 20 => 34#32
  | 21 => 35#32
  | 22 => 42#32
  | 23 => 43#32
  | 24 => 44#32
  | 25 => 45#32
  | 26 => 46#32
  | 27 => 47#32
  | 28 => 48#32
  | 29 => 49#32
  | 30 => 50#32
  | 31 => 51#32
  | 32 => 53#32
  | 33 => 61#32
  | 34 => 70#32
  | 35 => 79#32
  | 36 => 8#32
  | 37 => 17#32
  | 38 => 26#32
  | 39 => 33#32
  | 40 => 34#32
  | 41 => 35#32
  | 42 => 42#32
  | 43 => 43#32
  | 44 => 44#32
  | 45 => 45#32
  | 46 => 46#32
  | 47 => 47#32
  | 48 => 48#32
  | 49 => 49#32
  | 50 => 50#32
  | 51 => 51#32
  | 52 => 52#32
  | 53 => 62#32
  | 54 => 71#32
  | 55 => 80#32
  | 56 => 0#32
  | 57 => 9#32
  | 58 => 18#32
  | 59 => 27#32
  | 60 => 36#32
  | 61 => 45#32
  | 62 => 55#32
  | 63 => 56#32
  | 64 => 57#32
  | 65 => 58#32
  | 66 => 59#32
  | 67 => 60#32
  | 68 => 61#32
  | 69 => 62#32
  | 70 => 63#32
  | 71 => 64#32
  | 72 => 65#32
  | 73 => 72#32
  | 74 => 73#32
  | 75 => 74#32
  | 76 => 1#32
  | 77 => 10#32
  | 78 => 19#32
  | 79 => 28#32
  | 80 => 37#32
  | 81 => 46#32
  | 82 => 54#32
  | 83 => 56#32
  | 84 => 57#32
  | 85 => 58#32
  | 86 => 59#32
  | 87 => 60#32
  | 88 => 61#32
  | 89 => 62#32
  | 90 => 63#32
  | 91 => 64#32
  | 92 => 65#32
  | 93 => 72#32
  | 94 => 73#32
  | 95 => 74#32
  | 96 => 2#32
  | 97 => 11#32
  | 98 => 20#32
  | 99 => 29#32
  | 100 => 38#32
  | 101 => 47#32
  | 102 => 54#32
  | 103 => 55#32
  | 104 => 57#32
  | 105 => 58#32
  | 106 => 59#32
  | 107 => 60#32
  | 108 => 61#32
  | 109 => 62#32
  | 110 => 63#32
  | 111 => 64#32
  | 112 => 65#32
  | 113 => 72#32
  | 114 => 73#32
  | 115 => 74#32
  | 116 => 3#32
  | 117 => 12#32
  | 118 => 21#32
  | 119 => 30#32
  | 120 => 39#32
  | 121 => 48#32
  | 122 => 54#32
  | 123 => 55#32
  | 124 => 56#32
  | 125 => 58#32
  | 126 => 59#32
  | 127 => 60#32
  | _ => 0#32

noncomputable abbrev lit1t0_9 (i : Nat) : BitVec 32 := match i % 128 with
  | 0 => 61#32
  | 1 => 62#32
  | 2 => 66#32
  | 3 => 67#32
  | 4 => 68#32
  | 5 => 75#32
  | 6 => 76#32
  | 7 => 77#32
  | 8 => 4#32
  | 9 => 13#32
  | 10 => 22#32
  | 11 => 31#32
  | 12 => 40#32
  | 13 => 49#32
  | 14 => 54#32
  | 15 => 55#32
  | 16 => 56#32
  | 17 => 57#32
  | 18 => 59#32
  | 19 => 60#32
  | 20 => 61#32
  | 21 => 62#32
  | 22 => 66#32
  | 23 => 67#32
  | 24 => 68#32
  | 25 => 75#32
  | 26 => 76#32
  | 27 => 77#32
  | 28 => 5#32
  | 29 => 14#32
  | 30 => 23#32
  | 31 => 32#32
  | 32 => 41#32
  | 33 => 50#32
  | 34 => 54#32
  | 35 => 55#32
  | 36 => 56#32
  | 37 => 57#32
  | 38 => 58#32
  | 39 => 60#32
  | 40 => 61#32
  | 41 => 62#32
  | 42 => 66#32
  | 43 => 67#32
  | 44 => 68#32
  | 45 => 75#32
  | 46 => 76#32
  | 47 => 77#32
  | 48 => 6#32
  | 49 => 15#32
  | 50 => 24#32
  | 51 => 33#32
  | 52 => 42#32
  | 53 => 51#32
  | 54 => 54#32
  | 55 => 55#32
  | 56 => 56#32
  | 57 => 57#32
  | 58 => 58#32
  | 59 => 59#32
  | 60 => 61#32
  | 61 => 62#32
  | 62 => 69#32
  | 63 => 70#32
  | 64 => 71#32
  | 65 => 78#32
  | 66 => 79#32
  | 67 => 80#32
  | 68 => 7#32
  | 69 => 16#32
  | 70 => 25#32
  | 71 => 34#32
  | 72 => 43#32
  | 73 => 52#32
  | 74 => 54#32
  | 75 => 55#32
  | 76 => 56#32
  | 77 => 57#32
  | 78 => 58#32
  | 79 => 59#32
  | 80 => 60#32
  | 81 => 62#32
  | 82 => 69#32
  | 83 => 70#32
  | 84 => 71#32
  | 85 => 78#32
  | 86 => 79#32
  | 87 => 80#32
  | 88 => 8#32
  | 89 => 17#32
  | 90 => 26#32
  | 91 => 35#32
  | 92 => 44#32
  | 93 => 53#32
  | 94 => 54#32
  | 95 => 55#32
  | 96 => 56#32
  | 97 => 57#32
  | 98 => 58#32
  | 99 => 59#32
  | 100 => 60#32
  | 101 => 61#32
  | 102 => 69#32
  | 103 => 70#32
  | 104 => 71#32
  | 105 => 78#32
  | 106 => 79#32
  | 107 => 80#32
  | 108 => 0#32
  | 109 => 9#32
  | 110 => 18#32
  | 111 => 27#32
  | 112 => 36#32
  | 113 => 45#32
  | 114 => 54#32
  | 115 => 55#32
  | 116 => 56#32
  | 117 => 64#32
  | 118 => 65#32
  | 119 => 66#32
  | 120 => 67#32
  | 121 => 68#32
  | 122 => 69#32
  | 123 => 70#32
  | 124 => 71#32
  | 125 => 72#32
  | 126 => 73#32
  | 127 => 74#32
  | _ => 0#32

noncomputable abbrev lit1t0_10 (i : Nat) : BitVec 32 := match i % 128 with
  | 0 => 1#32
  | 1 => 10#32
  | 2 => 19#32
  | 3 => 28#32
  | 4 => 37#32
  | 5 => 46#32
  | 6 => 54#32
  | 7 => 55#32
  | 8 => 56#32
  | 9 => 63#32
  | 10 => 65#32
  | 11 => 66#32
  | 12 => 67#32
  | 13 => 68#32
  | 14 => 69#32
  | 15 => 70#32
  | 16 => 71#32
  | 17 => 72#32
  | 18 => 73#32
  | 19 => 74#32
  | 20 => 2#32
  | 21 => 11#32
  | 22 => 20#32
  | 23 => 29#32
  | 24 => 38#32
  | 25 => 47#32
  | 26 => 54#32
  | 27 => 55#32
  | 28 => 56#32
  | 29 => 63#32
  | 30 => 64#32
  | 31 => 66#32
  | 32 => 67#32
  | 33 => 68#32
  | 34 => 69#32
  | 35 => 70#32
  | 36 => 71#32
  | 37 => 72#32
  | 38 => 73#32
  | 39 => 74#32
  | 40 => 3#32
  | 41 => 12#32
  | 42 => 21#32
  | 43 => 30#32
  | 44 => 39#32
  | 45 => 48#32
  | 46 => 57#32
  | 47 => 58#32
  | 48 => 59#32
  | 49 => 63#32
  | 50 => 64#32
  | 51 => 65#32
  | 52 => 67#32
  | 53 => 68#32
  | 54 => 69#32
  | 55 => 70#32
  | 56 => 71#32
  | 57 => 75#32
  | 58 => 76#32
  | 59 => 77#32
  | 60 => 4#32
  | 61 => 13#32
  | 62 => 22#32
  | 63 => 31#32
  | 64 => 40#32
  | 65 => 49#32
  | 66 => 57#32
  | 67 => 58#32
  | 68 => 59#32
  | 69 => 63#32
  | 70 => 64#32
  | 71 => 65#32
  | 72 => 66#32
  | 73 => 68#32
  | 74 => 69#32
  | 75 => 70#32
  | 76 => 71#32
  | 77 => 75#32
  | 78 => 76#32
  | 79 => 77#32
  | 80 => 5#32
  | 81 => 14#32
  | 82 => 23#32
  | 83 => 32#32
  | 84 => 41#32
  | 85 => 50#32
  | 86 => 57#32
  | 87 => 58#32
  | 88 => 59#32
  | 89 => 63#32
  | 90 => 64#32
  | 91 => 65#32
  | 92 => 66#32
  | 93 => 67#32
  | 94 => 69#32
  | 95 => 70#32
  | 96 => 71#32
  | 97 => 75#32
  | 98 => 76#32
  | 99 => 77#32
  | 100 => 6#32
  | 101 => 15#32
  | 102 => 24#32
  | 103 => 33#32
  | 104 => 42#32
  | 105 => 51#32
  | 106 => 60#32
  | 107 => 61#32
  | 108 => 62#32
  | 109 => 63#32
  | 110 => 64#32
  | 111 => 65#32
  | 112 => 66#32
  | 113 => 67#32
  | 114 => 68#32
  | 115 => 70#32
  | 116 => 71#32
  | 117 => 78#32
  | 118 => 79#32
  | 119 => 80#32
  | 120 => 7#32
  | 121 => 16#32
  | 122 => 25#32
  | 123 => 34#32
  | 124 => 43#32
  | 125 => 52#32
  | 126 => 60#32
  | 127 => 61#32
  | _ => 0#32

noncomputable abbrev lit1t0_11 (i : Nat) : BitVec 32 := match i % 128 with
  | 0 => 62#32
  | 1 => 63#32
  | 2 => 64#32
  | 3 => 65#32
  | 4 => 66#32
  | 5 => 67#32
  | 6 => 68#32
  | 7 => 69#32
  | 8 => 71#32
  | 9 => 78#32
  | 10 => 79#32
  | 11 => 80#32
  | 12 => 8#32
  | 13 => 17#32
  | 14 => 26#32
  | 15 => 35#32
  | 16 => 44#32
  | 17 => 53#32
  | 18 => 60#32
  | 19 => 61#32
  | 20 => 62#32
  | 21 => 63#32
  | 22 => 64#32
  | 23 => 65#32
  | 24 => 66#32
  | 25 => 67#32
  | 26 => 68#32
  | 27 => 69#32
  | 28 => 70#32
  | 29 => 78#32
  | 30 => 79#32
  | 31 => 80#32
  | 32 => 0#32
  | 33 => 9#32
  | 34 => 18#32
  | 35 => 27#32
  | 36 => 36#32
  | 37 => 45#32
  | 38 => 54#32
  | 39 => 55#32
  | 40 => 56#32
  | 41 => 63#32
  | 42 => 64#32
  | 43 => 65#32
  | 44 => 73#32
  | 45 => 74#32
  | 46 => 75#32
  | 47 => 76#32
  | 48 => 77#32
  | 49 => 78#32
  | 50 => 79#32
  | 51 => 80#32
  | 52 => 1#32
  | 53 => 10#32
  | 54 => 19#32
  | 55 => 28#32
  | 56 => 37#32
  | 57 => 46#32
  | 58 => 54#32
  | 59 => 55#32
  | 60 => 56#32
  | 61 => 63#32
  | 62 => 64#32
  | 63 => 65#32
  | 64 => 72#32
  | 65 => 74#32
  | 66 => 75#32
  | 67 => 76#32
  | 68 => 77#32
  | 69 => 78#32
  | 70 => 79#32
  | 71 => 80#32
  | 72 => 2#32
  | 73 => 11#32
  | 74 => 20#32
  | 75 => 29#32
  | 76 => 38#32
  | 77 => 47#32
  | 78 => 54#32
  | 79 => 55#32
  | 80 => 56#32
  | 81 => 63#32
  | 82 => 64#32
  | 83 => 65#32
  | 84 => 72#32
  | 85 => 73#32
  | 86 => 75#32
  | 87 => 76#32
  | 88 => 77#32
  | 89 => 78#32
  | 90 => 79#32
  | 91 => 80#32
  | 92 => 3#32
  | 93 => 12#32
  | 94 => 21#32
  | 95 => 30#32
  | 96 => 39#32
  | 97 => 48#32
  | 98 => 57#32
  | 99 => 58#32
  | 100 => 59#32
  | 101 => 66#32
  | 102 => 67#32
  | 103 => 68#32
  | 104 => 72#32
  | 105 => 73#32
  | 106 => 74#32
  | 107 => 76#32
  | 108 => 77#32
  | 109 => 78#32
  | 110 => 79#32
  | 111 => 80#32
  | 112 => 4#32
  | 113 => 13#32
  | 114 => 22#32
  | 115 => 31#32
  | 116 => 40#32
  | 117 => 49#32
  | 118 => 57#32
  | 119 => 58#32
  | 120 => 59#32
  | 121 => 66#32
  | 122 => 67#32
  | 123 => 68#32
  | 124 => 72#32
  | 125 => 73#32
  | 126 => 74#32
  | 127 => 75#32
  | _ => 0#32

noncomputable abbrev lit1t0_12 (i : Nat) : BitVec 32 := match i % 128 with
  | 0 => 77#32
  | 1 => 78#32
  | 2 => 79#32
  | 3 => 80#32
  | 4 => 5#32
  | 5 => 14#32
  | 6 => 23#32
  | 7 => 32#32
  | 8 => 41#32
  | 9 => 50#32
  | 10 => 57#32
  | 11 => 58#32
  | 12 => 59#32
  | 13 => 66#32
  | 14 => 67#32
  | 15 => 68#32
  | 16 => 72#32
  | 17 => 73#32
  | 18 => 74#32
  | 19 => 75#32
  | 20 => 76#32
  | 21 => 78#32
  | 22 => 79#32
  | 23 => 80#32
  | 24 => 6#32
  | 25 => 15#32
  | 26 => 24#32
  | 27 => 33#32
  | 28 => 42#32
  | 29 => 51#32
  | 30 => 60#32
  | 31 => 61#32
  | 32 => 62#32
  | 33 => 69#32
  | 34 => 70#32
  | 35 => 71#32
  | 36 => 72#32
  | 37 => 73#32
  | 38 => 74#32
  | 39 => 75#32
  | 40 => 76#32
  | 41 => 77#32
  | 42 => 79#32
  | 43 => 80#32
  | 44 => 7#32
  | 45 => 16#32
  | 46 => 25#32
  | 47 => 34#32
  | 48 => 43#32
  | 49 => 52#32
  | 50 => 60#32
  | 51 => 61#32
  | 52 => 62#32
  | 53 => 69#32
  | 54 => 70#32
  | 55 => 71#32
  | 56 => 72#32
  | 57 => 73#32
  | 58 => 74#32
  | 59 => 75#32
  | 60 => 76#32
  | 61 => 77#32
  | 62 => 78#32
  | 63 => 80#32
  | 64 => 8#32
  | 65 => 17#32
  | 66 => 26#32
  | 67 => 35#32
  | 68 => 44#32
  | 69 => 53#32
  | 70 => 60#32
  | 71 => 61#32
  | 72 => 62#32
  | 73 => 69#32
  | 74 => 70#32
  | 75 => 71#32
  | 76 => 72#32
  | 77 => 73#32
  | 78 => 74#32
  | 79 => 75#32
  | 80 => 76#32
  | 81 => 77#32
  | 82 => 78#32
  | 83 => 79#32
  | _ => 0#32

noncomputable abbrev lit1t (i : Nat) : BitVec 32 := match i / 128 with
  | 0 => lit1t0_0 i
  | 1 => lit1t0_1 i
  | 2 => lit1t0_2 i
  | 3 => lit1t0_3 i
  | 4 => lit1t0_4 i
  | 5 => lit1t0_5 i
  | 6 => lit1t0_6 i
  | 7 => lit1t0_7 i
  | 8 => lit1t0_8 i
  | 9 => lit1t0_9 i
  | 10 => lit1t0_10 i
  | 11 => lit1t0_11 i
  | 12 => lit1t0_12 i
  | _ => 0#32

noncomputable abbrev lit1 : Fin 1620 → BitVec 32 := fun ⟨i, _⟩ => lit1t i

def fn_part2 {F : FTy → Type} [FloatOps F] (main_arg28 : FVec F S10 .f32) (main_v28 : IVec S100035 1) (main_v35 : IVec S2000700 1) (main_v36 : FVec F S32x10 .f32) (main_cst : FVec F S_ .f32) : IVec S_ 1 :=
  let main_v37 : FVec F S32x10 .f32 := broadcastInDim S32x10 ![] bcast_S_S32x10 main_cst
  let main_v38 : IVec S32x10 1 := cmpf .olt main_v36 main_v37
  let main_c_9 : IVec S_ 1 := constantI S_ 1 1#1
  let main_v39 : IVec S_ 1 := (fun x v => Host.reduce IntOp.andi x v reducesTo_S32x10_S_d0_1 h_S_) main_v38 main_c_9
  let main_v40 : FVec F S10 .f32 := Host.absf main_arg28
  let main_cst_10 : FVec F S_ .f32 := constant S_ .f32 0x7F800000#32
  let main_v41 : FVec F S10 .f32 := broadcastInDim S10 ![] bcast_S_S10 main_cst_10
  let main_v42 : IVec S10 1 := cmpf .olt main_v40 main_v41
  let main_c_11 : IVec S_ 1 := constantI S_ 1 1#1
  let main_v43 : IVec S_ 1 := (fun x v => Host.reduce IntOp.andi x v reducesTo_S10_S_d0 h_S_) main_v42 main_c_11
  let main_v44 : IVec S_ 1 := andi main_v39 main_v43
  let main_c_12 : IVec S_ 1 := constantI S_ 1 1#1
  let main_v45 : IVec S_ 1 := (fun x v => Host.reduce IntOp.andi x v reducesTo_S100035_S_d0 h_S_) main_v28 main_c_12
  let main_c_13 : IVec S_ 1 := constantI S_ 1 1#1
  let main_v46 : IVec S_ 1 := (fun x v => Host.reduce IntOp.andi x v reducesTo_S2000700_S_d0 h_S_) main_v35 main_c_13
  let main_v47 : IVec S_ 1 := andi main_v45 main_v46
  let main_v48 : IVec S_ 1 := andi main_v47 main_v44
  main_v48

def fn_part1 {F : FTy → Type} [FloatOps F] (main_arg1 : IVec S100035 32) (main_arg2 : IVec S100035 32) (main_arg3 : IVec S100035 32) (main_arg4 : IVec S2000700 32) (main_arg5 : IVec S2000700 32) (main_arg27 : FVec F S32x10 .f32) (main_arg28 : FVec F S10 .f32) (main_v2 : IVec S100035 32) (main_v5 : IVec S1235x1620 32) (main_v7 : IVec S1235x1620 32) (main_v9 : IVec S1235x1620 32) (main_v14 : IVec S100035 1) (main_v16 : IVec S100035 1) : IVec S_ 1 :=
  let main_v17 : IVec S100035 1 := andi main_v14 main_v16
  let main_c_6 : IVec S_ 32 := constantI S_ 32 10#32
  let main_v18 : IVec S100035 32 := broadcastInDim S100035 ![] bcast_S_S100035 main_c_6
  let main_v19 : IVec S100035 1 := cmpi .slt main_arg3 main_v18
  let main_v20 : IVec S100035 1 := andi main_v17 main_v19
  let main_c_7 : IVec S_ 32 := constantI S_ 32 9#32
  let main_v21 : IVec S100035 32 := broadcastInDim S100035 ![] bcast_S_S100035 main_c_7
  let main_v22 : IVec S100035 32 := Host.divsi main_v2 main_v21
  let main_v23 : IVec S100035 1 := cmpi .eq main_arg1 main_v22
  let main_v24 : IVec S100035 1 := andi main_v20 main_v23
  let main_c_8 : IVec S_ 32 := constantI S_ 32 9#32
  let main_v25 : IVec S100035 32 := broadcastInDim S100035 ![] bcast_S_S100035 main_c_8
  let main_v26 : IVec S100035 32 := Host.remsi main_v2 main_v25
  let main_v27 : IVec S100035 1 := cmpi .eq main_arg2 main_v26
  let main_v28 : IVec S100035 1 := andi main_v24 main_v27
  let main_v29 : IVec S1235x1620 32 := addi main_v7 main_v5
  let main_v30 : IVec S2000700 32 := shapeCast S2000700 main_v29 shapeCasts_S1235x1620_S2000700
  let main_v31 : IVec S2000700 1 := cmpi .eq main_arg4 main_v30
  let main_v32 : IVec S1235x1620 32 := addi main_v9 main_v5
  let main_v33 : IVec S2000700 32 := shapeCast S2000700 main_v32 shapeCasts_S1235x1620_S2000700
  let main_v34 : IVec S2000700 1 := cmpi .eq main_arg5 main_v33
  let main_v35 : IVec S2000700 1 := andi main_v31 main_v34
  let main_v36 : FVec F S32x10 .f32 := Host.absf main_arg27
  let main_cst : FVec F S_ .f32 := constant S_ .f32 0x7F800000#32
  fn_part2 (F := F) main_arg28 main_v28 main_v35 main_v36 main_cst

def fn {F : FTy → Type} [FloatOps F] (main_arg0 : IVec S100035 32) (main_arg1 : IVec S100035 32) (main_arg2 : IVec S100035 32) (main_arg3 : IVec S100035 32) (main_arg4 : IVec S2000700 32) (main_arg5 : IVec S2000700 32) (main_arg6 : FVec F S10x16 .f32) (main_arg7 : FVec F S9x16 .f32) (main_arg8 : FVec F S9x16 .f32) (main_arg9 : FVec F S48x32 .f32) (main_arg10 : FVec F S32 .f32) (main_arg11 : FVec F S32x32 .f32) (main_arg12 : FVec F S32 .f32) (main_arg13 : FVec F S32x32 .f32) (main_arg14 : FVec F S32 .f32) (main_arg15 : FVec F S32x32 .f32) (main_arg16 : FVec F S32 .f32) (main_arg17 : FVec F S128x64 .f32) (main_arg18 : FVec F S128x32 .f32) (main_arg19 : FVec F S64x32 .f32) (main_arg20 : FVec F S32 .f32) (main_arg21 : FVec F S32x32 .f32) (main_arg22 : FVec F S32 .f32) (main_arg23 : FVec F S32x32 .f32) (main_arg24 : FVec F S32 .f32) (main_arg25 : FVec F S32x32 .f32) (main_arg26 : FVec F S32 .f32) (main_arg27 : FVec F S32x10 .f32) (main_arg28 : FVec F S10 .f32) : IVec S_ 1 :=
  let main_c : IVec S1620 32 := fun i => lit0 (S1620.rowMajor i)
  let main_c_0 : IVec S1620 32 := fun i => lit1 (S1620.rowMajor i)
  let main_v0 : IVec S100035 32 := iotaInDim S100035 32 0
  let main_c_1 : IVec S_ 32 := constantI S_ 32 81#32
  let main_v1 : IVec S100035 32 := broadcastInDim S100035 ![] bcast_S_S100035 main_c_1
  let main_v2 : IVec S100035 32 := Host.remsi main_v0 main_v1
  let main_v3 : IVec S1235x1620 32 := iotaInDim S1235x1620 32 0
  let main_c_2 : IVec S_ 32 := constantI S_ 32 81#32
  let main_v4 : IVec S1235x1620 32 := broadcastInDim S1235x1620 ![] bcast_S_S1235x1620 main_c_2
  let main_v5 : IVec S1235x1620 32 := muli main_v4 main_v3
  let main_v6 : IVec S1x1620 32 := broadcastInDim S1x1620 ![1] bcast_S1620_S1x1620_1 main_c
  let main_v7 : IVec S1235x1620 32 := broadcastInDim S1235x1620 ![0, 1] bcast_S1x1620_S1235x1620_0_1 main_v6
  let main_v8 : IVec S1x1620 32 := broadcastInDim S1x1620 ![1] bcast_S1620_S1x1620_1 main_c_0
  let main_v9 : IVec S1235x1620 32 := broadcastInDim S1235x1620 ![0, 1] bcast_S1x1620_S1235x1620_0_1 main_v8
  let main_c_3 : IVec S_ 32 := constantI S_ 32 0#32
  let main_v10 : IVec S100035 32 := broadcastInDim S100035 ![] bcast_S_S100035 main_c_3
  let main_v11 : IVec S100035 1 := cmpi .sge main_arg0 main_v10
  let main_c_4 : IVec S_ 32 := constantI S_ 32 10#32
  let main_v12 : IVec S100035 32 := broadcastInDim S100035 ![] bcast_S_S100035 main_c_4
  let main_v13 : IVec S100035 1 := cmpi .slt main_arg0 main_v12
  let main_v14 : IVec S100035 1 := andi main_v11 main_v13
  let main_c_5 : IVec S_ 32 := constantI S_ 32 0#32
  let main_v15 : IVec S100035 32 := broadcastInDim S100035 ![] bcast_S_S100035 main_c_5
  let main_v16 : IVec S100035 1 := cmpi .sge main_arg3 main_v15
  fn_part1 (F := F) main_arg1 main_arg2 main_arg3 main_arg4 main_arg5 main_arg27 main_arg28 main_v2 main_v5 main_v7 main_v9 main_v14 main_v16
-- ==== Kernel.lean ====
abbrev S100035 : Shape := ⟨1, ![100035]⟩
abbrev S2000700 : Shape := ⟨1, ![2000700]⟩
abbrev S10x16 : Shape := ⟨2, ![10, 16]⟩
abbrev S9x16 : Shape := ⟨2, ![9, 16]⟩
abbrev S48x32 : Shape := ⟨2, ![48, 32]⟩
abbrev S32 : Shape := ⟨1, ![32]⟩
abbrev S32x32 : Shape := ⟨2, ![32, 32]⟩
abbrev S128x64 : Shape := ⟨2, ![128, 64]⟩
abbrev S128x32 : Shape := ⟨2, ![128, 32]⟩
abbrev S64x32 : Shape := ⟨2, ![64, 32]⟩
abbrev S32x10 : Shape := ⟨2, ![32, 10]⟩
abbrev S10 : Shape := ⟨1, ![10]⟩
abbrev S1620 : Shape := ⟨1, ![1620]⟩
abbrev S81x9 : Shape := ⟨2, ![81, 9]⟩
abbrev S4x4 : Shape := ⟨2, ![4, 4]⟩
abbrev S_ : Shape := ⟨0, ![]⟩
abbrev S1235x81 : Shape := ⟨2, ![1235, 81]⟩
abbrev S1240x81 : Shape := ⟨2, ![1240, 81]⟩
abbrev S155x2x4x81 : Shape := ⟨4, ![155, 2, 4, 81]⟩
abbrev S155x2x81x4 : Shape := ⟨4, ![155, 2, 81, 4]⟩
abbrev S155x162x4 : Shape := ⟨3, ![155, 162, 4]⟩
abbrev S1620x1 : Shape := ⟨2, ![1620, 1]⟩
abbrev S1620x81 : Shape := ⟨2, ![1620, 81]⟩
abbrev S32x64 : Shape := ⟨2, ![32, 64]⟩
abbrev S4x1x4x1 : Shape := ⟨4, ![4, 1, 4, 1]⟩
abbrev S1x32x1x32 : Shape := ⟨4, ![1, 32, 1, 32]⟩
abbrev S4x32x4x32 : Shape := ⟨4, ![4, 32, 4, 32]⟩
abbrev S128x128 : Shape := ⟨2, ![128, 128]⟩
abbrev S16x32 : Shape := ⟨2, ![16, 32]⟩
abbrev S1x32 : Shape := ⟨2, ![1, 32]⟩
abbrev S1x10x1x16 : Shape := ⟨4, ![1, 10, 1, 16]⟩
abbrev S4x10x4x16 : Shape := ⟨4, ![4, 10, 4, 16]⟩
abbrev S40x64 : Shape := ⟨2, ![40, 64]⟩
abbrev S1x16x1x32 : Shape := ⟨4, ![1, 16, 1, 32]⟩
abbrev S4x16x4x32 : Shape := ⟨4, ![4, 16, 4, 32]⟩
abbrev S64x128 : Shape := ⟨2, ![64, 128]⟩
abbrev S1x1x1x32 : Shape := ⟨4, ![1, 1, 1, 32]⟩
abbrev S1x1x4x32 : Shape := ⟨4, ![1, 1, 4, 32]⟩
abbrev S1x128 : Shape := ⟨2, ![1, 128]⟩
abbrev S1x32x1x10 : Shape := ⟨4, ![1, 32, 1, 10]⟩
abbrev S4x32x4x10 : Shape := ⟨4, ![4, 32, 4, 10]⟩
abbrev S128x40 : Shape := ⟨2, ![128, 40]⟩
abbrev S1x10 : Shape := ⟨2, ![1, 10]⟩
abbrev S1x1x1x10 : Shape := ⟨4, ![1, 1, 1, 10]⟩
abbrev S1x1x4x10 : Shape := ⟨4, ![1, 1, 4, 10]⟩
abbrev S1x40 : Shape := ⟨2, ![1, 40]⟩
abbrev S8x155x162x40 : Shape := ⟨4, ![8, 155, 162, 40]⟩
abbrev S8x155x162x4 : Shape := ⟨4, ![8, 155, 162, 4]⟩
abbrev S1x162x4 : Shape := ⟨3, ![1, 162, 4]⟩
abbrev S8x1x162x40 : Shape := ⟨4, ![8, 1, 162, 40]⟩
abbrev S8x1x162x4 : Shape := ⟨4, ![8, 1, 162, 4]⟩
abbrev S162x4 : Shape := ⟨2, ![162, 4]⟩
abbrev S162x4x10 : Shape := ⟨3, ![162, 4, 10]⟩
abbrev S162x4x1 : Shape := ⟨3, ![162, 4, 1]⟩
abbrev S162x40 : Shape := ⟨2, ![162, 40]⟩
abbrev S81x16 : Shape := ⟨2, ![81, 16]⟩
abbrev S81x32 : Shape := ⟨2, ![81, 32]⟩
abbrev S81x128 : Shape := ⟨2, ![81, 128]⟩
abbrev S1x81x128 : Shape := ⟨3, ![1, 81, 128]⟩
abbrev S2x81x128 : Shape := ⟨3, ![2, 81, 128]⟩
abbrev S162x128 : Shape := ⟨2, ![162, 128]⟩
abbrev S40x128 : Shape := ⟨2, ![40, 128]⟩
abbrev S1620x128 : Shape := ⟨2, ![1620, 128]⟩
abbrev S3240x128 : Shape := ⟨2, ![3240, 128]⟩
abbrev S162x1x128 : Shape := ⟨3, ![162, 1, 128]⟩
abbrev S162x20x128 : Shape := ⟨3, ![162, 20, 128]⟩
abbrev S1x1x162x40 : Shape := ⟨4, ![1, 1, 162, 40]⟩
abbrev S162x10 : Shape := ⟨2, ![162, 10]⟩
abbrev S162 : Shape := ⟨1, ![162]⟩
abbrev S162x1 : Shape := ⟨2, ![162, 1]⟩
abbrev S1x1x162x4 : Shape := ⟨4, ![1, 1, 162, 4]⟩
abbrev S8x155x2x81x4x10 : Shape := ⟨6, ![8, 155, 2, 81, 4, 10]⟩
abbrev S8x155x2x4x81x10 : Shape := ⟨6, ![8, 155, 2, 4, 81, 10]⟩
abbrev S8x100440x10 : Shape := ⟨3, ![8, 100440, 10]⟩
abbrev S8x100035x10 : Shape := ⟨3, ![8, 100035, 10]⟩
abbrev S8x155x2x81x4x1 : Shape := ⟨6, ![8, 155, 2, 81, 4, 1]⟩
abbrev S8x155x2x4x81x1 : Shape := ⟨6, ![8, 155, 2, 4, 81, 1]⟩
abbrev S8x100440x1 : Shape := ⟨3, ![8, 100440, 1]⟩
abbrev S8x100035x1 : Shape := ⟨3, ![8, 100035, 1]⟩
abbrev S8x100035 : Shape := ⟨2, ![8, 100035]⟩

abbrev nBuf : Space → Nat
  | .hbm => 288
  | .vmem => 49
  | .smem => 0
  | _ => 0

abbrev hbmTy0_0 (i : Nat) : BufTy := match i % 128 with
  | 0 => ⟨S100035, .i32⟩
  | 1 => ⟨S100035, .i32⟩
  | 2 => ⟨S100035, .i32⟩
  | 3 => ⟨S100035, .i32⟩
  | 4 => ⟨S2000700, .i32⟩
  | 5 => ⟨S2000700, .i32⟩
  | 6 => ⟨S10x16, .f32⟩
  | 7 => ⟨S9x16, .f32⟩
  | 8 => ⟨S9x16, .f32⟩
  | 9 => ⟨S48x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x32, .f32⟩
  | 16 => ⟨S32, .f32⟩
  | 17 => ⟨S128x64, .f32⟩
  | 18 => ⟨S128x32, .f32⟩
  | 19 => ⟨S64x32, .f32⟩
  | 20 => ⟨S32, .f32⟩
  | 21 => ⟨S32x32, .f32⟩
  | 22 => ⟨S32, .f32⟩
  | 23 => ⟨S32x32, .f32⟩
  | 24 => ⟨S32, .f32⟩
  | 25 => ⟨S32x32, .f32⟩
  | 26 => ⟨S32, .f32⟩
  | 27 => ⟨S32x10, .f32⟩
  | 28 => ⟨S10, .f32⟩
  | 29 => ⟨S1620, .i32⟩
  | 30 => ⟨S81x9, .f32⟩
  | 31 => ⟨S81x9, .f32⟩
  | 32 => ⟨S4x4, .i32⟩
  | 33 => ⟨S4x4, .i32⟩
  | 34 => ⟨S_, .i32⟩
  | 35 => ⟨S4x4, .i32⟩
  | 36 => ⟨S4x4, .i32⟩
  | 37 => ⟨S4x4, .i1⟩
  | 38 => ⟨S4x4, .f32⟩
  | 39 => ⟨S1235x81, .i32⟩
  | 40 => ⟨S_, .i32⟩
  | 41 => ⟨S_, .i32⟩
  | 42 => ⟨S1240x81, .i32⟩
  | 43 => ⟨S155x2x4x81, .i32⟩
  | 44 => ⟨S155x2x81x4, .i32⟩
  | 45 => ⟨S155x162x4, .i32⟩
  | 46 => ⟨S1235x81, .i32⟩
  | 47 => ⟨S_, .i32⟩
  | 48 => ⟨S_, .i32⟩
  | 49 => ⟨S1240x81, .i32⟩
  | 50 => ⟨S155x2x4x81, .i32⟩
  | 51 => ⟨S155x2x81x4, .i32⟩
  | 52 => ⟨S155x162x4, .i32⟩
  | 53 => ⟨S1620x1, .i32⟩
  | 54 => ⟨S1620x81, .i32⟩
  | 55 => ⟨S1620x81, .i32⟩
  | 56 => ⟨S1620x81, .i1⟩
  | 57 => ⟨S_, .f32⟩
  | 58 => ⟨S_, .f32⟩
  | 59 => ⟨S1620x81, .f32⟩
  | 60 => ⟨S1620x81, .f32⟩
  | 61 => ⟨S1620x81, .f32⟩
  | 62 => ⟨S1620x81, .f32⟩
  | 63 => ⟨S32x64, .f32⟩
  | 64 => ⟨S32x32, .f32⟩
  | 65 => ⟨S32x32, .f32⟩
  | 66 => ⟨S4x1x4x1, .f32⟩
  | 67 => ⟨S1x32x1x32, .f32⟩
  | 68 => ⟨S4x32x4x32, .f32⟩
  | 69 => ⟨S4x32x4x32, .f32⟩
  | 70 => ⟨S4x32x4x32, .f32⟩
  | 71 => ⟨S128x128, .f32⟩
  | 72 => ⟨S32x32, .f32⟩
  | 73 => ⟨S32x32, .f32⟩
  | 74 => ⟨S4x1x4x1, .f32⟩
  | 75 => ⟨S1x32x1x32, .f32⟩
  | 76 => ⟨S4x32x4x32, .f32⟩
  | 77 => ⟨S4x32x4x32, .f32⟩
  | 78 => ⟨S4x32x4x32, .f32⟩
  | 79 => ⟨S128x128, .f32⟩
  | 80 => ⟨S32x32, .f32⟩
  | 81 => ⟨S32x32, .f32⟩
  | 82 => ⟨S4x1x4x1, .f32⟩
  | 83 => ⟨S1x32x1x32, .f32⟩
  | 84 => ⟨S4x32x4x32, .f32⟩
  | 85 => ⟨S4x32x4x32, .f32⟩
  | 86 => ⟨S4x32x4x32, .f32⟩
  | 87 => ⟨S128x128, .f32⟩
  | 88 => ⟨S32x64, .f32⟩
  | 89 => ⟨S32x32, .f32⟩
  | 90 => ⟨S32x32, .f32⟩
  | 91 => ⟨S4x1x4x1, .f32⟩
  | 92 => ⟨S1x32x1x32, .f32⟩
  | 93 => ⟨S4x32x4x32, .f32⟩
  | 94 => ⟨S4x32x4x32, .f32⟩
  | 95 => ⟨S4x32x4x32, .f32⟩
  | 96 => ⟨S128x128, .f32⟩
  | 97 => ⟨S32x32, .f32⟩
  | 98 => ⟨S32x32, .f32⟩
  | 99 => ⟨S4x1x4x1, .f32⟩
  | 100 => ⟨S1x32x1x32, .f32⟩
  | 101 => ⟨S4x32x4x32, .f32⟩
  | 102 => ⟨S4x32x4x32, .f32⟩
  | 103 => ⟨S4x32x4x32, .f32⟩
  | 104 => ⟨S128x128, .f32⟩
  | 105 => ⟨S32x32, .f32⟩
  | 106 => ⟨S32x32, .f32⟩
  | 107 => ⟨S4x1x4x1, .f32⟩
  | 108 => ⟨S1x32x1x32, .f32⟩
  | 109 => ⟨S4x32x4x32, .f32⟩
  | 110 => ⟨S4x32x4x32, .f32⟩
  | 111 => ⟨S4x32x4x32, .f32⟩
  | 112 => ⟨S128x128, .f32⟩
  | 113 => ⟨S32x64, .f32⟩
  | 114 => ⟨S32x32, .f32⟩
  | 115 => ⟨S32x32, .f32⟩
  | 116 => ⟨S4x1x4x1, .f32⟩
  | 117 => ⟨S1x32x1x32, .f32⟩
  | 118 => ⟨S4x32x4x32, .f32⟩
  | 119 => ⟨S4x32x4x32, .f32⟩
  | 120 => ⟨S4x32x4x32, .f32⟩
  | 121 => ⟨S128x128, .f32⟩
  | 122 => ⟨S32x32, .f32⟩
  | 123 => ⟨S32x32, .f32⟩
  | 124 => ⟨S4x1x4x1, .f32⟩
  | 125 => ⟨S1x32x1x32, .f32⟩
  | 126 => ⟨S4x32x4x32, .f32⟩
  | 127 => ⟨S4x32x4x32, .f32⟩
  | _ => ⟨S100035, .i32⟩

abbrev hbmTy0_1 (i : Nat) : BufTy := match i % 128 with
  | 0 => ⟨S4x32x4x32, .f32⟩
  | 1 => ⟨S128x128, .f32⟩
  | 2 => ⟨S32x32, .f32⟩
  | 3 => ⟨S32x32, .f32⟩
  | 4 => ⟨S4x1x4x1, .f32⟩
  | 5 => ⟨S1x32x1x32, .f32⟩
  | 6 => ⟨S4x32x4x32, .f32⟩
  | 7 => ⟨S4x32x4x32, .f32⟩
  | 8 => ⟨S4x32x4x32, .f32⟩
  | 9 => ⟨S128x128, .f32⟩
  | 10 => ⟨S32x64, .f32⟩
  | 11 => ⟨S32x32, .f32⟩
  | 12 => ⟨S32x32, .f32⟩
  | 13 => ⟨S4x1x4x1, .f32⟩
  | 14 => ⟨S1x32x1x32, .f32⟩
  | 15 => ⟨S4x32x4x32, .f32⟩
  | 16 => ⟨S4x32x4x32, .f32⟩
  | 17 => ⟨S4x32x4x32, .f32⟩
  | 18 => ⟨S128x128, .f32⟩
  | 19 => ⟨S32x32, .f32⟩
  | 20 => ⟨S32x32, .f32⟩
  | 21 => ⟨S4x1x4x1, .f32⟩
  | 22 => ⟨S1x32x1x32, .f32⟩
  | 23 => ⟨S4x32x4x32, .f32⟩
  | 24 => ⟨S4x32x4x32, .f32⟩
  | 25 => ⟨S4x32x4x32, .f32⟩
  | 26 => ⟨S128x128, .f32⟩
  | 27 => ⟨S32x32, .f32⟩
  | 28 => ⟨S32x32, .f32⟩
  | 29 => ⟨S4x1x4x1, .f32⟩
  | 30 => ⟨S1x32x1x32, .f32⟩
  | 31 => ⟨S4x32x4x32, .f32⟩
  | 32 => ⟨S4x32x4x32, .f32⟩
  | 33 => ⟨S4x32x4x32, .f32⟩
  | 34 => ⟨S128x128, .f32⟩
  | 35 => ⟨S16x32, .f32⟩
  | 36 => ⟨S16x32, .f32⟩
  | 37 => ⟨S1x32, .f32⟩
  | 38 => ⟨S4x1x4x1, .f32⟩
  | 39 => ⟨S1x10x1x16, .f32⟩
  | 40 => ⟨S4x10x4x16, .f32⟩
  | 41 => ⟨S4x10x4x16, .f32⟩
  | 42 => ⟨S4x10x4x16, .f32⟩
  | 43 => ⟨S40x64, .f32⟩
  | 44 => ⟨S16x32, .f32⟩
  | 45 => ⟨S4x1x4x1, .f32⟩
  | 46 => ⟨S1x16x1x32, .f32⟩
  | 47 => ⟨S4x16x4x32, .f32⟩
  | 48 => ⟨S4x16x4x32, .f32⟩
  | 49 => ⟨S4x16x4x32, .f32⟩
  | 50 => ⟨S64x128, .f32⟩
  | 51 => ⟨S4x1x4x1, .f32⟩
  | 52 => ⟨S1x32x1x32, .f32⟩
  | 53 => ⟨S4x32x4x32, .f32⟩
  | 54 => ⟨S4x32x4x32, .f32⟩
  | 55 => ⟨S4x32x4x32, .f32⟩
  | 56 => ⟨S128x128, .f32⟩
  | 57 => ⟨S1x32, .f32⟩
  | 58 => ⟨S1x1x1x32, .f32⟩
  | 59 => ⟨S1x1x4x32, .f32⟩
  | 60 => ⟨S1x128, .f32⟩
  | 61 => ⟨S4x1x4x1, .f32⟩
  | 62 => ⟨S1x32x1x32, .f32⟩
  | 63 => ⟨S4x32x4x32, .f32⟩
  | 64 => ⟨S4x32x4x32, .f32⟩
  | 65 => ⟨S4x32x4x32, .f32⟩
  | 66 => ⟨S128x128, .f32⟩
  | 67 => ⟨S1x32, .f32⟩
  | 68 => ⟨S1x1x1x32, .f32⟩
  | 69 => ⟨S1x1x4x32, .f32⟩
  | 70 => ⟨S1x128, .f32⟩
  | 71 => ⟨S4x1x4x1, .f32⟩
  | 72 => ⟨S1x32x1x32, .f32⟩
  | 73 => ⟨S4x32x4x32, .f32⟩
  | 74 => ⟨S4x32x4x32, .f32⟩
  | 75 => ⟨S4x32x4x32, .f32⟩
  | 76 => ⟨S128x128, .f32⟩
  | 77 => ⟨S1x32, .f32⟩
  | 78 => ⟨S1x1x1x32, .f32⟩
  | 79 => ⟨S1x1x4x32, .f32⟩
  | 80 => ⟨S1x128, .f32⟩
  | 81 => ⟨S32x32, .f32⟩
  | 82 => ⟨S4x1x4x1, .f32⟩
  | 83 => ⟨S1x32x1x32, .f32⟩
  | 84 => ⟨S4x32x4x32, .f32⟩
  | 85 => ⟨S4x32x4x32, .f32⟩
  | 86 => ⟨S4x32x4x32, .f32⟩
  | 87 => ⟨S128x128, .f32⟩
  | 88 => ⟨S32x32, .f32⟩
  | 89 => ⟨S4x1x4x1, .f32⟩
  | 90 => ⟨S1x32x1x32, .f32⟩
  | 91 => ⟨S4x32x4x32, .f32⟩
  | 92 => ⟨S4x32x4x32, .f32⟩
  | 93 => ⟨S4x32x4x32, .f32⟩
  | 94 => ⟨S128x128, .f32⟩
  | 95 => ⟨S1x32, .f32⟩
  | 96 => ⟨S1x1x1x32, .f32⟩
  | 97 => ⟨S1x1x4x32, .f32⟩
  | 98 => ⟨S1x128, .f32⟩
  | 99 => ⟨S4x1x4x1, .f32⟩
  | 100 => ⟨S1x32x1x32, .f32⟩
  | 101 => ⟨S4x32x4x32, .f32⟩
  | 102 => ⟨S4x32x4x32, .f32⟩
  | 103 => ⟨S4x32x4x32, .f32⟩
  | 104 => ⟨S128x128, .f32⟩
  | 105 => ⟨S1x32, .f32⟩
  | 106 => ⟨S1x1x1x32, .f32⟩
  | 107 => ⟨S1x1x4x32, .f32⟩
  | 108 => ⟨S1x128, .f32⟩
  | 109 => ⟨S4x1x4x1, .f32⟩
  | 110 => ⟨S1x32x1x32, .f32⟩
  | 111 => ⟨S4x32x4x32, .f32⟩
  | 112 => ⟨S4x32x4x32, .f32⟩
  | 113 => ⟨S4x32x4x32, .f32⟩
  | 114 => ⟨S128x128, .f32⟩
  | 115 => ⟨S1x32, .f32⟩
  | 116 => ⟨S1x1x1x32, .f32⟩
  | 117 => ⟨S1x1x4x32, .f32⟩
  | 118 => ⟨S1x128, .f32⟩
  | 119 => ⟨S4x1x4x1, .f32⟩
  | 120 => ⟨S1x32x1x32, .f32⟩
  | 121 => ⟨S4x32x4x32, .f32⟩
  | 122 => ⟨S4x32x4x32, .f32⟩
  | 123 => ⟨S4x32x4x32, .f32⟩
  | 124 => ⟨S128x128, .f32⟩
  | 125 => ⟨S1x32, .f32⟩
  | 126 => ⟨S1x1x1x32, .f32⟩
  | 127 => ⟨S1x1x4x32, .f32⟩
  | _ => ⟨S100035, .i32⟩

abbrev hbmTy0_2 (i : Nat) : BufTy := match i % 128 with
  | 0 => ⟨S1x128, .f32⟩
  | 1 => ⟨S4x1x4x1, .f32⟩
  | 2 => ⟨S1x32x1x10, .f32⟩
  | 3 => ⟨S4x32x4x10, .f32⟩
  | 4 => ⟨S4x32x4x10, .f32⟩
  | 5 => ⟨S4x32x4x10, .f32⟩
  | 6 => ⟨S128x40, .f32⟩
  | 7 => ⟨S1x10, .f32⟩
  | 8 => ⟨S1x1x1x10, .f32⟩
  | 9 => ⟨S1x1x4x10, .f32⟩
  | 10 => ⟨S1x40, .f32⟩
  | 11 => ⟨S8x155x162x40, .f32⟩
  | 12 => ⟨S8x155x162x4, .i32⟩
  | 13 => ⟨S8x155x162x4, .f32⟩
  | 14 => ⟨S8x155x2x81x4x10, .f32⟩
  | 15 => ⟨S8x155x2x4x81x10, .f32⟩
  | 16 => ⟨S8x100440x10, .f32⟩
  | 17 => ⟨S8x100035x10, .f32⟩
  | 18 => ⟨S8x155x2x81x4x1, .i32⟩
  | 19 => ⟨S8x155x2x4x81x1, .i32⟩
  | 20 => ⟨S8x100440x1, .i32⟩
  | 21 => ⟨S8x100035x1, .i32⟩
  | 22 => ⟨S8x100035, .i32⟩
  | 23 => ⟨S8x155x2x81x4x1, .f32⟩
  | 24 => ⟨S8x155x2x4x81x1, .f32⟩
  | 25 => ⟨S8x100440x1, .f32⟩
  | 26 => ⟨S8x100035x1, .f32⟩
  | 27 => ⟨S8x100035, .f32⟩
  | 28 => ⟨S_, .f32⟩
  | 29 => ⟨S_, .f32⟩
  | 30 => ⟨S_, .f32⟩
  | 31 => ⟨S_, .f32⟩
  | _ => ⟨S100035, .i32⟩

abbrev hbmTy (i : Nat) : BufTy := match i / 128 with
  | 0 => hbmTy0_0 i
  | 1 => hbmTy0_1 i
  | 2 => hbmTy0_2 i
  | _ => ⟨S100035, .i32⟩

abbrev bufTy : (tb : Table) → Fin (tcTables nBuf tb) → BufTy
  | .hbm, ⟨i, _⟩ => hbmTy i
  | .local _ .vmem, ⟨0, _⟩ => ⟨S1x162x4, .i32⟩
  | .local _ .vmem, ⟨1, _⟩ => ⟨S1x162x4, .i32⟩
  | .local _ .vmem, ⟨2, _⟩ => ⟨S1x162x4, .i32⟩
  | .local _ .vmem, ⟨3, _⟩ => ⟨S1x162x4, .i32⟩
  | .local _ .vmem, ⟨4, _⟩ => ⟨S1620x81, .f32⟩
  | .local _ .vmem, ⟨5, _⟩ => ⟨S81x9, .f32⟩
  | .local _ .vmem, ⟨6, _⟩ => ⟨S81x9, .f32⟩
  | .local _ .vmem, ⟨7, _⟩ => ⟨S9x16, .f32⟩
  | .local _ .vmem, ⟨8, _⟩ => ⟨S9x16, .f32⟩
  | .local _ .vmem, ⟨9, _⟩ => ⟨S16x32, .f32⟩
  | .local _ .vmem, ⟨10, _⟩ => ⟨S16x32, .f32⟩
  | .local _ .vmem, ⟨11, _⟩ => ⟨S1x32, .f32⟩
  | .local _ .vmem, ⟨12, _⟩ => ⟨S40x64, .f32⟩
  | .local _ .vmem, ⟨13, _⟩ => ⟨S64x128, .f32⟩
  | .local _ .vmem, ⟨14, _⟩ => ⟨S128x128, .f32⟩
  | .local _ .vmem, ⟨15, _⟩ => ⟨S1x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S128x128, .f32⟩
  | .local _ .vmem, ⟨25, _⟩ => ⟨S128x128, .f32⟩
  | .local _ .vmem, ⟨26, _⟩ => ⟨S128x128, .f32⟩
  | .local _ .vmem, ⟨27, _⟩ => ⟨S128x128, .f32⟩
  | .local _ .vmem, ⟨28, _⟩ => ⟨S128x128, .f32⟩
  | .local _ .vmem, ⟨29, _⟩ => ⟨S128x128, .f32⟩
  | .local _ .vmem, ⟨30, _⟩ => ⟨S128x128, .f32⟩
  | .local _ .vmem, ⟨31, _⟩ => ⟨S128x128, .f32⟩
  | .local _ .vmem, ⟨32, _⟩ => ⟨S128x128, .f32⟩
  | .local _ .vmem, ⟨33, _⟩ => ⟨S128x128, .f32⟩
  | .local _ .vmem, ⟨34, _⟩ => ⟨S1x128, .f32⟩
  | .local _ .vmem, ⟨35, _⟩ => ⟨S128x128, .f32⟩
  | .local _ .vmem, ⟨36, _⟩ => ⟨S1x128, .f32⟩
  | .local _ .vmem, ⟨37, _⟩ => ⟨S128x128, .f32⟩
  | .local _ .vmem, ⟨38, _⟩ => ⟨S1x128, .f32⟩
  | .local _ .vmem, ⟨39, _⟩ => ⟨S128x128, .f32⟩
  | .local _ .vmem, ⟨40, _⟩ => ⟨S1x128, .f32⟩
  | .local _ .vmem, ⟨41, _⟩ => ⟨S128x40, .f32⟩
  | .local _ .vmem, ⟨42, _⟩ => ⟨S1x40, .f32⟩
  | .local _ .vmem, ⟨43, _⟩ => ⟨S8x1x162x40, .f32⟩
  | .local _ .vmem, ⟨44, _⟩ => ⟨S8x1x162x40, .f32⟩
  | .local _ .vmem, ⟨45, _⟩ => ⟨S8x1x162x4, .i32⟩
  | .local _ .vmem, ⟨46, _⟩ => ⟨S8x1x162x4, .i32⟩
  | .local _ .vmem, ⟨47, _⟩ => ⟨S8x1x162x4, .f32⟩
  | .local _ .vmem, ⟨48, _⟩ => ⟨S8x1x162x4, .f32⟩
  | _, _ => ⟨S100035, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 49 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | _ => false

abbrev sig : RefSig :=
  ofTc nBuf bufTy 0 49 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_cst : Ref sig .tc := ⟨.hbm, 30, rfl⟩
abbrev main_cst_0 : Ref sig .tc := ⟨.hbm, 31, rfl⟩
abbrev main_v0 : Ref sig .tc := ⟨.hbm, 32, rfl⟩
abbrev main_v1 : Ref sig .tc := ⟨.hbm, 33, rfl⟩
abbrev main_c_1 : Ref sig .tc := ⟨.hbm, 34, rfl⟩
abbrev main_v2 : Ref sig .tc := ⟨.hbm, 35, rfl⟩
abbrev main_v3 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_c_2 : Ref sig .tc := ⟨.hbm, 40, rfl⟩
abbrev main_call0_v0 : Ref sig .tc := ⟨.hbm, 41, rfl⟩
abbrev main_v7 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_c_3 : Ref sig .tc := ⟨.hbm, 47, rfl⟩
abbrev main_call1_v0 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_cst_4 : Ref sig .tc := ⟨.hbm, 57, rfl⟩
abbrev main_cst_5 : Ref sig .tc := ⟨.hbm, 58, rfl⟩
abbrev main_call2_v0 : Ref sig .tc := ⟨.hbm, 59, rfl⟩
abbrev main_call2_v1 : Ref sig .tc := ⟨.hbm, 60, rfl⟩
abbrev main_v20 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_v24 : Ref sig .tc := ⟨.hbm, 65, rfl⟩
abbrev main_call3_v0 : Ref sig .tc := ⟨.hbm, 66, rfl⟩
abbrev main_call3_v1 : Ref sig .tc := ⟨.hbm, 67, rfl⟩
abbrev main_call3_v2 : Ref sig .tc := ⟨.hbm, 68, rfl⟩
abbrev main_call3_v3 : Ref sig .tc := ⟨.hbm, 69, rfl⟩
abbrev main_call3_v4 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_call4_v0 : Ref sig .tc := ⟨.hbm, 74, rfl⟩
abbrev main_call4_v1 : Ref sig .tc := ⟨.hbm, 75, rfl⟩
abbrev main_call4_v2 : Ref sig .tc := ⟨.hbm, 76, rfl⟩
abbrev main_call4_v3 : Ref sig .tc := ⟨.hbm, 77, rfl⟩
abbrev main_call4_v4 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_call5_v0 : Ref sig .tc := ⟨.hbm, 82, rfl⟩
abbrev main_call5_v1 : Ref sig .tc := ⟨.hbm, 83, rfl⟩
abbrev main_call5_v2 : Ref sig .tc := ⟨.hbm, 84, rfl⟩
abbrev main_call5_v3 : Ref sig .tc := ⟨.hbm, 85, rfl⟩
abbrev main_call5_v4 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_call6_v0 : Ref sig .tc := ⟨.hbm, 91, rfl⟩
abbrev main_call6_v1 : Ref sig .tc := ⟨.hbm, 92, rfl⟩
abbrev main_call6_v2 : Ref sig .tc := ⟨.hbm, 93, rfl⟩
abbrev main_call6_v3 : Ref sig .tc := ⟨.hbm, 94, rfl⟩
abbrev main_call6_v4 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_call7_v0 : Ref sig .tc := ⟨.hbm, 99, rfl⟩
abbrev main_call7_v1 : Ref sig .tc := ⟨.hbm, 100, rfl⟩
abbrev main_call7_v2 : Ref sig .tc := ⟨.hbm, 101, rfl⟩
abbrev main_call7_v3 : Ref sig .tc := ⟨.hbm, 102, rfl⟩
abbrev main_call7_v4 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_call8_v0 : Ref sig .tc := ⟨.hbm, 107, rfl⟩
abbrev main_call8_v1 : Ref sig .tc := ⟨.hbm, 108, rfl⟩
abbrev main_call8_v2 : Ref sig .tc := ⟨.hbm, 109, rfl⟩
abbrev main_call8_v3 : Ref sig .tc := ⟨.hbm, 110, rfl⟩
abbrev main_call8_v4 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_v44 : Ref sig .tc := ⟨.hbm, 115, rfl⟩
abbrev main_call9_v0 : Ref sig .tc := ⟨.hbm, 116, rfl⟩
abbrev main_call9_v1 : Ref sig .tc := ⟨.hbm, 117, rfl⟩
abbrev main_call9_v2 : Ref sig .tc := ⟨.hbm, 118, rfl⟩
abbrev main_call9_v3 : Ref sig .tc := ⟨.hbm, 119, rfl⟩
abbrev main_call9_v4 : Ref sig .tc := ⟨.hbm, 120, rfl⟩
abbrev main_v45 : Ref sig .tc := ⟨.hbm, 121, rfl⟩
abbrev main_v46 : Ref sig .tc := ⟨.hbm, 122, rfl⟩
abbrev main_v47 : Ref sig .tc := ⟨.hbm, 123, rfl⟩
abbrev main_call10_v0 : Ref sig .tc := ⟨.hbm, 124, rfl⟩
abbrev main_call10_v1 : Ref sig .tc := ⟨.hbm, 125, rfl⟩
abbrev main_call10_v2 : Ref sig .tc := ⟨.hbm, 126, rfl⟩
abbrev main_call10_v3 : Ref sig .tc := ⟨.hbm, 127, rfl⟩
abbrev main_call10_v4 : Ref sig .tc := ⟨.hbm, 128, rfl⟩
abbrev main_v48 : Ref sig .tc := ⟨.hbm, 129, rfl⟩
abbrev main_v49 : Ref sig .tc := ⟨.hbm, 130, rfl⟩
abbrev main_v50 : Ref sig .tc := ⟨.hbm, 131, rfl⟩
abbrev main_call11_v0 : Ref sig .tc := ⟨.hbm, 132, rfl⟩
abbrev main_call11_v1 : Ref sig .tc := ⟨.hbm, 133, rfl⟩
abbrev main_call11_v2 : Ref sig .tc := ⟨.hbm, 134, rfl⟩
abbrev main_call11_v3 : Ref sig .tc := ⟨.hbm, 135, rfl⟩
abbrev main_call11_v4 : Ref sig .tc := ⟨.hbm, 136, rfl⟩
abbrev main_v51 : Ref sig .tc := ⟨.hbm, 137, rfl⟩
abbrev main_v52 : Ref sig .tc := ⟨.hbm, 138, rfl⟩
abbrev main_v53 : Ref sig .tc := ⟨.hbm, 139, rfl⟩
abbrev main_v54 : Ref sig .tc := ⟨.hbm, 140, rfl⟩
abbrev main_call12_v0 : Ref sig .tc := ⟨.hbm, 141, rfl⟩
abbrev main_call12_v1 : Ref sig .tc := ⟨.hbm, 142, rfl⟩
abbrev main_call12_v2 : Ref sig .tc := ⟨.hbm, 143, rfl⟩
abbrev main_call12_v3 : Ref sig .tc := ⟨.hbm, 144, rfl⟩
abbrev main_call12_v4 : Ref sig .tc := ⟨.hbm, 145, rfl⟩
abbrev main_v55 : Ref sig .tc := ⟨.hbm, 146, rfl⟩
abbrev main_v56 : Ref sig .tc := ⟨.hbm, 147, rfl⟩
abbrev main_v57 : Ref sig .tc := ⟨.hbm, 148, rfl⟩
abbrev main_call13_v0 : Ref sig .tc := ⟨.hbm, 149, rfl⟩
abbrev main_call13_v1 : Ref sig .tc := ⟨.hbm, 150, rfl⟩
abbrev main_call13_v2 : Ref sig .tc := ⟨.hbm, 151, rfl⟩
abbrev main_call13_v3 : Ref sig .tc := ⟨.hbm, 152, rfl⟩
abbrev main_call13_v4 : Ref sig .tc := ⟨.hbm, 153, rfl⟩
abbrev main_v58 : Ref sig .tc := ⟨.hbm, 154, rfl⟩
abbrev main_v59 : Ref sig .tc := ⟨.hbm, 155, rfl⟩
abbrev main_v60 : Ref sig .tc := ⟨.hbm, 156, rfl⟩
abbrev main_call14_v0 : Ref sig .tc := ⟨.hbm, 157, rfl⟩
abbrev main_call14_v1 : Ref sig .tc := ⟨.hbm, 158, rfl⟩
abbrev main_call14_v2 : Ref sig .tc := ⟨.hbm, 159, rfl⟩
abbrev main_call14_v3 : Ref sig .tc := ⟨.hbm, 160, rfl⟩
abbrev main_call14_v4 : Ref sig .tc := ⟨.hbm, 161, rfl⟩
abbrev main_v61 : Ref sig .tc := ⟨.hbm, 162, rfl⟩
abbrev main_v62 : Ref sig .tc := ⟨.hbm, 163, rfl⟩
abbrev main_v63 : Ref sig .tc := ⟨.hbm, 164, rfl⟩
abbrev main_v64 : Ref sig .tc := ⟨.hbm, 165, rfl⟩
abbrev main_call15_v0 : Ref sig .tc := ⟨.hbm, 166, rfl⟩
abbrev main_call15_v1 : Ref sig .tc := ⟨.hbm, 167, rfl⟩
abbrev main_call15_v2 : Ref sig .tc := ⟨.hbm, 168, rfl⟩
abbrev main_call15_v3 : Ref sig .tc := ⟨.hbm, 169, rfl⟩
abbrev main_call15_v4 : Ref sig .tc := ⟨.hbm, 170, rfl⟩
abbrev main_v65 : Ref sig .tc := ⟨.hbm, 171, rfl⟩
abbrev main_v66 : Ref sig .tc := ⟨.hbm, 172, rfl⟩
abbrev main_call16_v0 : Ref sig .tc := ⟨.hbm, 173, rfl⟩
abbrev main_call16_v1 : Ref sig .tc := ⟨.hbm, 174, rfl⟩
abbrev main_call16_v2 : Ref sig .tc := ⟨.hbm, 175, rfl⟩
abbrev main_call16_v3 : Ref sig .tc := ⟨.hbm, 176, rfl⟩
abbrev main_call16_v4 : Ref sig .tc := ⟨.hbm, 177, rfl⟩
abbrev main_v67 : Ref sig .tc := ⟨.hbm, 178, rfl⟩
abbrev main_call17_v0 : Ref sig .tc := ⟨.hbm, 179, rfl⟩
abbrev main_call17_v1 : Ref sig .tc := ⟨.hbm, 180, rfl⟩
abbrev main_call17_v2 : Ref sig .tc := ⟨.hbm, 181, rfl⟩
abbrev main_call17_v3 : Ref sig .tc := ⟨.hbm, 182, rfl⟩
abbrev main_call17_v4 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_v71 : Ref sig .tc := ⟨.hbm, 187, rfl⟩
abbrev main_v72 : Ref sig .tc := ⟨.hbm, 188, rfl⟩
abbrev main_call18_v0 : Ref sig .tc := ⟨.hbm, 189, rfl⟩
abbrev main_call18_v1 : Ref sig .tc := ⟨.hbm, 190, rfl⟩
abbrev main_call18_v2 : Ref sig .tc := ⟨.hbm, 191, rfl⟩
abbrev main_call18_v3 : Ref sig .tc := ⟨.hbm, 192, rfl⟩
abbrev main_call18_v4 : Ref sig .tc := ⟨.hbm, 193, rfl⟩
abbrev main_v73 : Ref sig .tc := ⟨.hbm, 194, rfl⟩
abbrev main_v74 : Ref sig .tc := ⟨.hbm, 195, rfl⟩
abbrev main_v75 : Ref sig .tc := ⟨.hbm, 196, rfl⟩
abbrev main_v76 : Ref sig .tc := ⟨.hbm, 197, rfl⟩
abbrev main_v77 : Ref sig .tc := ⟨.hbm, 198, rfl⟩
abbrev main_call19_v0 : Ref sig .tc := ⟨.hbm, 199, rfl⟩
abbrev main_call19_v1 : Ref sig .tc := ⟨.hbm, 200, rfl⟩
abbrev main_call19_v2 : Ref sig .tc := ⟨.hbm, 201, rfl⟩
abbrev main_call19_v3 : Ref sig .tc := ⟨.hbm, 202, rfl⟩
abbrev main_call19_v4 : Ref sig .tc := ⟨.hbm, 203, rfl⟩
abbrev main_v78 : Ref sig .tc := ⟨.hbm, 204, rfl⟩
abbrev main_v79 : Ref sig .tc := ⟨.hbm, 205, rfl⟩
abbrev main_v80 : Ref sig .tc := ⟨.hbm, 206, rfl⟩
abbrev main_v81 : Ref sig .tc := ⟨.hbm, 207, rfl⟩
abbrev main_v82 : Ref sig .tc := ⟨.hbm, 208, rfl⟩
abbrev main_v83 : Ref sig .tc := ⟨.hbm, 209, rfl⟩
abbrev main_call20_v0 : Ref sig .tc := ⟨.hbm, 210, rfl⟩
abbrev main_call20_v1 : Ref sig .tc := ⟨.hbm, 211, rfl⟩
abbrev main_call20_v2 : Ref sig .tc := ⟨.hbm, 212, rfl⟩
abbrev main_call20_v3 : Ref sig .tc := ⟨.hbm, 213, rfl⟩
abbrev main_call20_v4 : Ref sig .tc := ⟨.hbm, 214, rfl⟩
abbrev main_v84 : Ref sig .tc := ⟨.hbm, 215, rfl⟩
abbrev main_v85 : Ref sig .tc := ⟨.hbm, 216, rfl⟩
abbrev main_call21_v0 : Ref sig .tc := ⟨.hbm, 217, rfl⟩
abbrev main_call21_v1 : Ref sig .tc := ⟨.hbm, 218, rfl⟩
abbrev main_call21_v2 : Ref sig .tc := ⟨.hbm, 219, rfl⟩
abbrev main_call21_v3 : Ref sig .tc := ⟨.hbm, 220, rfl⟩
abbrev main_call21_v4 : Ref sig .tc := ⟨.hbm, 221, rfl⟩
abbrev main_v86 : Ref sig .tc := ⟨.hbm, 222, rfl⟩
abbrev main_v87 : Ref sig .tc := ⟨.hbm, 223, rfl⟩
abbrev main_v88 : Ref sig .tc := ⟨.hbm, 224, rfl⟩
abbrev main_v89 : Ref sig .tc := ⟨.hbm, 225, rfl⟩
abbrev main_v90 : Ref sig .tc := ⟨.hbm, 226, rfl⟩
abbrev main_call22_v0 : Ref sig .tc := ⟨.hbm, 227, rfl⟩
abbrev main_call22_v1 : Ref sig .tc := ⟨.hbm, 228, rfl⟩
abbrev main_call22_v2 : Ref sig .tc := ⟨.hbm, 229, rfl⟩
abbrev main_call22_v3 : Ref sig .tc := ⟨.hbm, 230, rfl⟩
abbrev main_call22_v4 : Ref sig .tc := ⟨.hbm, 231, rfl⟩
abbrev main_v91 : Ref sig .tc := ⟨.hbm, 232, rfl⟩
abbrev main_v92 : Ref sig .tc := ⟨.hbm, 233, rfl⟩
abbrev main_v93 : Ref sig .tc := ⟨.hbm, 234, rfl⟩
abbrev main_v94 : Ref sig .tc := ⟨.hbm, 235, rfl⟩
abbrev main_v95 : Ref sig .tc := ⟨.hbm, 236, rfl⟩
abbrev main_call23_v0 : Ref sig .tc := ⟨.hbm, 237, rfl⟩
abbrev main_call23_v1 : Ref sig .tc := ⟨.hbm, 238, rfl⟩
abbrev main_call23_v2 : Ref sig .tc := ⟨.hbm, 239, rfl⟩
abbrev main_call23_v3 : Ref sig .tc := ⟨.hbm, 240, rfl⟩
abbrev main_call23_v4 : Ref sig .tc := ⟨.hbm, 241, rfl⟩
abbrev main_v96 : Ref sig .tc := ⟨.hbm, 242, rfl⟩
abbrev main_v97 : Ref sig .tc := ⟨.hbm, 243, rfl⟩
abbrev main_v98 : Ref sig .tc := ⟨.hbm, 244, rfl⟩
abbrev main_v99 : Ref sig .tc := ⟨.hbm, 245, rfl⟩
abbrev main_v100 : Ref sig .tc := ⟨.hbm, 246, rfl⟩
abbrev main_call24_v0 : Ref sig .tc := ⟨.hbm, 247, rfl⟩
abbrev main_call24_v1 : Ref sig .tc := ⟨.hbm, 248, rfl⟩
abbrev main_call24_v2 : Ref sig .tc := ⟨.hbm, 249, rfl⟩
abbrev main_call24_v3 : Ref sig .tc := ⟨.hbm, 250, rfl⟩
abbrev main_call24_v4 : Ref sig .tc := ⟨.hbm, 251, rfl⟩
abbrev main_v101 : Ref sig .tc := ⟨.hbm, 252, rfl⟩
abbrev main_v102 : Ref sig .tc := ⟨.hbm, 253, rfl⟩
abbrev main_v103 : Ref sig .tc := ⟨.hbm, 254, rfl⟩
abbrev main_v104 : Ref sig .tc := ⟨.hbm, 255, rfl⟩
abbrev main_v105 : Ref sig .tc := ⟨.hbm, 256, rfl⟩
abbrev main_call25_v0 : Ref sig .tc := ⟨.hbm, 257, rfl⟩
abbrev main_call25_v1 : Ref sig .tc := ⟨.hbm, 258, rfl⟩
abbrev main_call25_v2 : Ref sig .tc := ⟨.hbm, 259, rfl⟩
abbrev main_call25_v3 : Ref sig .tc := ⟨.hbm, 260, rfl⟩
abbrev main_call25_v4 : Ref sig .tc := ⟨.hbm, 261, rfl⟩
abbrev main_v106 : Ref sig .tc := ⟨.hbm, 262, rfl⟩
abbrev main_v107 : Ref sig .tc := ⟨.hbm, 263, rfl⟩
abbrev main_v108 : Ref sig .tc := ⟨.hbm, 264, rfl⟩
abbrev main_v109 : Ref sig .tc := ⟨.hbm, 265, rfl⟩
abbrev main_v110 : Ref sig .tc := ⟨.hbm, 266, rfl⟩
abbrev main_v111_0 : Ref sig .tc := ⟨.hbm, 267, rfl⟩
abbrev main_v111_1 : Ref sig .tc := ⟨.hbm, 268, rfl⟩
abbrev main_v111_2 : Ref sig .tc := ⟨.hbm, 269, rfl⟩
abbrev main_v112 : Ref sig .tc := ⟨.hbm, 270, rfl⟩
abbrev main_v113 : Ref sig .tc := ⟨.hbm, 271, rfl⟩
abbrev main_v114 : Ref sig .tc := ⟨.hbm, 272, rfl⟩
abbrev main_v115 : Ref sig .tc := ⟨.hbm, 273, rfl⟩
abbrev main_v116 : Ref sig .tc := ⟨.hbm, 274, rfl⟩
abbrev main_v117 : Ref sig .tc := ⟨.hbm, 275, rfl⟩
abbrev main_v118 : Ref sig .tc := ⟨.hbm, 276, rfl⟩
abbrev main_v119 : Ref sig .tc := ⟨.hbm, 277, rfl⟩
abbrev main_v120 : Ref sig .tc := ⟨.hbm, 278, rfl⟩
abbrev main_v121 : Ref sig .tc := ⟨.hbm, 279, rfl⟩
abbrev main_v122 : Ref sig .tc := ⟨.hbm, 280, rfl⟩
abbrev main_v123 : Ref sig .tc := ⟨.hbm, 281, rfl⟩
abbrev main_v124 : Ref sig .tc := ⟨.hbm, 282, rfl⟩
abbrev main_v125 : Ref sig .tc := ⟨.hbm, 283, rfl⟩
abbrev main_cst_6 : Ref sig .tc := ⟨.hbm, 284, rfl⟩
abbrev main_v126 : Ref sig .tc := ⟨.hbm, 285, rfl⟩
abbrev main_cst_7 : Ref sig .tc := ⟨.hbm, 286, rfl⟩
abbrev main_v127 : Ref sig .tc := ⟨.hbm, 287, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg17_0 : Ref sig .tc := ⟨.vmem, 19, rfl⟩
abbrev cc0_stg18_0 : Ref sig .tc := ⟨.vmem, 20, rfl⟩
abbrev cc0_stg19_0 : Ref sig .tc := ⟨.vmem, 21, rfl⟩
abbrev cc0_stg20_0 : Ref sig .tc := ⟨.vmem, 22, rfl⟩
abbrev cc0_stg21_0 : Ref sig .tc := ⟨.vmem, 23, rfl⟩
abbrev cc0_stg22_0 : Ref sig .tc := ⟨.vmem, 24, rfl⟩
abbrev cc0_stg23_0 : Ref sig .tc := ⟨.vmem, 25, rfl⟩
abbrev cc0_stg24_0 : Ref sig .tc := ⟨.vmem, 26, rfl⟩
abbrev cc0_stg25_0 : Ref sig .tc := ⟨.vmem, 27, rfl⟩
abbrev cc0_stg26_0 : Ref sig .tc := ⟨.vmem, 28, rfl⟩
abbrev cc0_stg27_0 : Ref sig .tc := ⟨.vmem, 29, rfl⟩
abbrev cc0_stg28_0 : Ref sig .tc := ⟨.vmem, 30, rfl⟩
abbrev cc0_stg29_0 : Ref sig .tc := ⟨.vmem, 31, rfl⟩
abbrev cc0_stg30_0 : Ref sig .tc := ⟨.vmem, 32, rfl⟩
abbrev cc0_stg31_0 : Ref sig .tc := ⟨.vmem, 33, rfl⟩
abbrev cc0_stg32_0 : Ref sig .tc := ⟨.vmem, 34, rfl⟩
abbrev cc0_stg33_0 : Ref sig .tc := ⟨.vmem, 35, rfl⟩
abbrev cc0_stg34_0 : Ref sig .tc := ⟨.vmem, 36, rfl⟩
abbrev cc0_stg35_0 : Ref sig .tc := ⟨.vmem, 37, rfl⟩
abbrev cc0_stg36_0 : Ref sig .tc := ⟨.vmem, 38, rfl⟩
abbrev cc0_stg37_0 : Ref sig .tc := ⟨.vmem, 39, rfl⟩
abbrev cc0_stg38_0 : Ref sig .tc := ⟨.vmem, 40, rfl⟩
abbrev cc0_stg39_0 : Ref sig .tc := ⟨.vmem, 41, rfl⟩
abbrev cc0_stg40_0 : Ref sig .tc := ⟨.vmem, 42, rfl⟩
abbrev cc0_stg41_0 : Ref sig .tc := ⟨.vmem, 43, rfl⟩
abbrev cc0_stg41_1 : Ref sig .tc := ⟨.vmem, 44, rfl⟩
abbrev cc0_stg42_0 : Ref sig .tc := ⟨.vmem, 45, rfl⟩
abbrev cc0_stg42_1 : Ref sig .tc := ⟨.vmem, 46, rfl⟩
abbrev cc0_stg43_0 : Ref sig .tc := ⟨.vmem, 47, rfl⟩
abbrev cc0_stg43_1 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem17_0 : DmaSem sig := 19
abbrev cc0_sem18_0 : DmaSem sig := 20
abbrev cc0_sem19_0 : DmaSem sig := 21
abbrev cc0_sem20_0 : DmaSem sig := 22
abbrev cc0_sem21_0 : DmaSem sig := 23
abbrev cc0_sem22_0 : DmaSem sig := 24
abbrev cc0_sem23_0 : DmaSem sig := 25
abbrev cc0_sem24_0 : DmaSem sig := 26
abbrev cc0_sem25_0 : DmaSem sig := 27
abbrev cc0_sem26_0 : DmaSem sig := 28
abbrev cc0_sem27_0 : DmaSem sig := 29
abbrev cc0_sem28_0 : DmaSem sig := 30
abbrev cc0_sem29_0 : DmaSem sig := 31
abbrev cc0_sem30_0 : DmaSem sig := 32
abbrev cc0_sem31_0 : DmaSem sig := 33
abbrev cc0_sem32_0 : DmaSem sig := 34
abbrev cc0_sem33_0 : DmaSem sig := 35
abbrev cc0_sem34_0 : DmaSem sig := 36
abbrev cc0_sem35_0 : DmaSem sig := 37
abbrev cc0_sem36_0 : DmaSem sig := 38
abbrev cc0_sem37_0 : DmaSem sig := 39
abbrev cc0_sem38_0 : DmaSem sig := 40
abbrev cc0_sem39_0 : DmaSem sig := 41
abbrev cc0_sem40_0 : DmaSem sig := 42
abbrev cc0_sem41_0 : DmaSem sig := 43
abbrev cc0_sem41_1 : DmaSem sig := 44
abbrev cc0_sem42_0 : DmaSem sig := 45
abbrev cc0_sem42_1 : DmaSem sig := 46
abbrev cc0_sem43_0 : DmaSem sig := 47
abbrev cc0_sem43_1 : DmaSem sig := 48

abbrev nD : Nat := 1
abbrev τ : Topo := Topo.v7x

variable {F : FTy → Type} [FloatOps F]

abbrev grid0 : Pipeline.Grid := ⟨1, ![155], ![false]⟩

@[reducible] def k0_t1_loop : Scf.Loop 32 :=
  let c0_i32 : BitVec 32 := 0#32
  let c8_i32 : BitVec 32 := 8#32
  let v76 : BitVec 32 := Scalar.addi c0_i32 c8_i32
  let c1_i32 : BitVec 32 := 1#32
  ⟨c0_i32, v76, c1_i32⟩
def k0_off1 (k0_t1 : Fin k0_t1_loop.trips) : Fin 4 → Nat :=
  let c0_i32 : BitVec 32 := 0#32
  let c1_i32 : BitVec 32 := 1#32
  let arg45 : BitVec 32 := Scf.iv c0_i32 c1_i32 k0_t1
  let v189 : Index := Scalar.indexCast arg45
  let c0_121 : Index := 0#32
  let c0_122 : Index := 0#32
  let c0_123 : Index := 0#32
  ![v189.toNat, 0, 0, 0]
def k0_off2 (k0_t1 : Fin k0_t1_loop.trips) : Fin 4 → Nat :=
  let c0_i32 : BitVec 32 := 0#32
  let c1_i32 : BitVec 32 := 1#32
  let arg45 : BitVec 32 := Scf.iv c0_i32 c1_i32 k0_t1
  let v252 : Index := Scalar.indexCast arg45
  let c0_138 : Index := 0#32
  let c0_139 : Index := 0#32
  let c0_140 : Index := 0#32
  ![v252.toNat, 0, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_22 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_31 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_32 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_33 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_34 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_35 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_36 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_37 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_38 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_39 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_40 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_41 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_42 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_43 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x162x4 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x162x4 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1620x81 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S81x9 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S81x9 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S9x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S9x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S40x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S128x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S128x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S128x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S128x128 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S128x128 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S128x128 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S128x128 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S128x128 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S128x128 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S128x128 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S128x128 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S128x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S128x128 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 1 → Memref sig .tc .vmem S128x128 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))
abbrev reads0_31 : Fin grid0.rank → Bool := ![false]

abbrev stage0_32 : Fin 1 → Memref sig .tc .vmem S1x128 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))
abbrev reads0_32 : Fin grid0.rank → Bool := ![false]

abbrev stage0_33 : Fin 1 → Memref sig .tc .vmem S128x128 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))
abbrev reads0_33 : Fin grid0.rank → Bool := ![false]

abbrev stage0_34 : Fin 1 → Memref sig .tc .vmem S1x128 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))
abbrev reads0_34 : Fin grid0.rank → Bool := ![false]

abbrev stage0_35 : Fin 1 → Memref sig .tc .vmem S128x128 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))
abbrev reads0_35 : Fin grid0.rank → Bool := ![false]

abbrev stage0_36 : Fin 1 → Memref sig .tc .vmem S1x128 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))
abbrev reads0_36 : Fin grid0.rank → Bool := ![false]

abbrev stage0_37 : Fin 1 → Memref sig .tc .vmem S128x128 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))
abbrev reads0_37 : Fin grid0.rank → Bool := ![false]

abbrev stage0_38 : Fin 1 → Memref sig .tc .vmem S1x128 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))
abbrev reads0_38 : Fin grid0.rank → Bool := ![false]

abbrev stage0_39 : Fin 1 → Memref sig .tc .vmem S128x40 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))
abbrev reads0_39 : Fin grid0.rank → Bool := ![false]

abbrev stage0_40 : Fin 1 → Memref sig .tc .vmem S1x40 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))
abbrev reads0_40 : Fin grid0.rank → Bool := ![false]

abbrev stage0_41 : Fin 2 → Memref sig .tc .vmem S8x1x162x40 .f32 := fun | 0 => Memref.whole cc0_stg41_0 | 1 => Memref.whole cc0_stg41_1 | ⟨_ + 2, h⟩ => absurd h (Nat.not_lt.2 (Nat.le_add_left _ _))
abbrev sem0_41 : Fin 2 → DmaSem sig := fun | 0 => cc0_sem41_0 | 1 => cc0_sem41_1 | ⟨_ + 2, h⟩ => absurd h (Nat.not_lt.2 (Nat.le_add_left _ _))
abbrev reads0_41 : Fin grid0.rank → Bool := ![true]

abbrev stage0_42 : Fin 2 → Memref sig .tc .vmem S8x1x162x4 .i32 := fun | 0 => Memref.whole cc0_stg42_0 | 1 => Memref.whole cc0_stg42_1 | ⟨_ + 2, h⟩ => absurd h (Nat.not_lt.2 (Nat.le_add_left _ _))
abbrev sem0_42 : Fin 2 → DmaSem sig := fun | 0 => cc0_sem42_0 | 1 => cc0_sem42_1 | ⟨_ + 2, h⟩ => absurd h (Nat.not_lt.2 (Nat.le_add_left _ _))
abbrev reads0_42 : Fin grid0.rank → Bool := ![true]

abbrev stage0_43 : Fin 2 → Memref sig .tc .vmem S8x1x162x4 .f32 := fun | 0 => Memref.whole cc0_stg43_0 | 1 => Memref.whole cc0_stg43_1 | ⟨_ + 2, h⟩ => absurd h (Nat.not_lt.2 (Nat.le_add_left _ _))
abbrev sem0_43 : Fin 2 → DmaSem sig := fun | 0 => cc0_sem43_0 | 1 => cc0_sem43_1 | ⟨_ + 2, h⟩ => absurd h (Nat.not_lt.2 (Nat.le_add_left _ _))
abbrev reads0_43 : Fin grid0.rank → Bool := ![true]
-- ==== ReferenceIdeal.lean ====
abbrev S100035 : Shape := ⟨1, ![100035]⟩
abbrev S2000700 : Shape := ⟨1, ![2000700]⟩
abbrev S10x16 : Shape := ⟨2, ![10, 16]⟩
abbrev S9x16 : Shape := ⟨2, ![9, 16]⟩
abbrev S48x32 : Shape := ⟨2, ![48, 32]⟩
abbrev S32 : Shape := ⟨1, ![32]⟩
abbrev S32x32 : Shape := ⟨2, ![32, 32]⟩
abbrev S128x64 : Shape := ⟨2, ![128, 64]⟩
abbrev S128x32 : Shape := ⟨2, ![128, 32]⟩
abbrev S64x32 : Shape := ⟨2, ![64, 32]⟩
abbrev S32x10 : Shape := ⟨2, ![32, 10]⟩
abbrev S10 : Shape := ⟨1, ![10]⟩
abbrev S_ : Shape := ⟨0, ![]⟩
abbrev S100035x1 : Shape := ⟨2, ![100035, 1]⟩
abbrev S100035x16 : Shape := ⟨2, ![100035, 16]⟩
abbrev S100035x48 : Shape := ⟨2, ![100035, 48]⟩
abbrev S100035x32 : Shape := ⟨2, ![100035, 32]⟩
abbrev S1x32 : Shape := ⟨2, ![1, 32]⟩
abbrev S2000700x1 : Shape := ⟨2, ![2000700, 1]⟩
abbrev S2000700x32 : Shape := ⟨2, ![2000700, 32]⟩
abbrev S2000700x64 : Shape := ⟨2, ![2000700, 64]⟩
abbrev S100035x64 : Shape := ⟨2, ![100035, 64]⟩
abbrev S64x128 : Shape := ⟨2, ![64, 128]⟩
abbrev S100035x128 : Shape := ⟨2, ![100035, 128]⟩
abbrev S32x128 : Shape := ⟨2, ![32, 128]⟩
abbrev S1x100035x32 : Shape := ⟨3, ![1, 100035, 32]⟩
abbrev S8x100035x32 : Shape := ⟨3, ![8, 100035, 32]⟩
abbrev S8x100035x10 : Shape := ⟨3, ![8, 100035, 10]⟩
abbrev S1x1x10 : Shape := ⟨3, ![1, 1, 10]⟩
abbrev S8x100035 : Shape := ⟨2, ![8, 100035]⟩
abbrev S8x100035x1 : Shape := ⟨3, ![8, 100035, 1]⟩
abbrev S1x100035 : Shape := ⟨2, ![1, 100035]⟩
abbrev S800280 : Shape := ⟨1, ![800280]⟩
abbrev S800280x10 : Shape := ⟨2, ![800280, 10]⟩
abbrev S800280x1 : Shape := ⟨2, ![800280, 1]⟩
abbrev S800280x1x1 : Shape := ⟨3, ![800280, 1, 1]⟩
abbrev S1 : Shape := ⟨1, ![1]⟩
abbrev S1x1x1 : Shape := ⟨3, ![1, 1, 1]⟩

abbrev nBuf : Space → Nat
  | .hbm => 867
  | .vmem => 0
  | .smem => 0
  | _ => 0

abbrev hbmTy0_0 (i : Nat) : BufTy := match i % 128 with
  | 0 => ⟨S100035, .i32⟩
  | 1 => ⟨S100035, .i32⟩
  | 2 => ⟨S100035, .i32⟩
  | 3 => ⟨S100035, .i32⟩
  | 4 => ⟨S2000700, .i32⟩
  | 5 => ⟨S2000700, .i32⟩
  | 6 => ⟨S10x16, .f32⟩
  | 7 => ⟨S9x16, .f32⟩
  | 8 => ⟨S9x16, .f32⟩
  | 9 => ⟨S48x32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32x32, .f32⟩
  | 16 => ⟨S32, .f32⟩
  | 17 => ⟨S128x64, .f32⟩
  | 18 => ⟨S128x32, .f32⟩
  | 19 => ⟨S64x32, .f32⟩
  | 20 => ⟨S32, .f32⟩
  | 21 => ⟨S32x32, .f32⟩
  | 22 => ⟨S32, .f32⟩
  | 23 => ⟨S32x32, .f32⟩
  | 24 => ⟨S32, .f32⟩
  | 25 => ⟨S32x32, .f32⟩
  | 26 => ⟨S32, .f32⟩
  | 27 => ⟨S32x10, .f32⟩
  | 28 => ⟨S10, .f32⟩
  | 29 => ⟨S_, .i32⟩
  | 30 => ⟨S100035, .i32⟩
  | 31 => ⟨S100035, .i1⟩
  | 32 => ⟨S_, .i32⟩
  | 33 => ⟨S100035, .i32⟩
  | 34 => ⟨S100035, .i32⟩
  | 35 => ⟨S100035, .i32⟩
  | 36 => ⟨S100035x1, .i32⟩
  | 37 => ⟨S100035x16, .f32⟩
  | 38 => ⟨S_, .i32⟩
  | 39 => ⟨S100035, .i32⟩
  | 40 => ⟨S100035, .i1⟩
  | 41 => ⟨S_, .i32⟩
  | 42 => ⟨S100035, .i32⟩
  | 43 => ⟨S100035, .i32⟩
  | 44 => ⟨S100035, .i32⟩
  | 45 => ⟨S100035x1, .i32⟩
  | 46 => ⟨S100035x16, .f32⟩
  | 47 => ⟨S_, .i32⟩
  | 48 => ⟨S100035, .i32⟩
  | 49 => ⟨S100035, .i1⟩
  | 50 => ⟨S_, .i32⟩
  | 51 => ⟨S100035, .i32⟩
  | 52 => ⟨S100035, .i32⟩
  | 53 => ⟨S100035, .i32⟩
  | 54 => ⟨S100035x1, .i32⟩
  | 55 => ⟨S100035x16, .f32⟩
  | 56 => ⟨S100035x48, .f32⟩
  | 57 => ⟨S100035x32, .f32⟩
  | 58 => ⟨S1x32, .f32⟩
  | 59 => ⟨S100035x32, .f32⟩
  | 60 => ⟨S100035x32, .f32⟩
  | 61 => ⟨S_, .f32⟩
  | 62 => ⟨S100035x32, .f32⟩
  | 63 => ⟨S100035x32, .f32⟩
  | 64 => ⟨S100035x32, .f32⟩
  | 65 => ⟨S1x32, .f32⟩
  | 66 => ⟨S100035x32, .f32⟩
  | 67 => ⟨S100035x32, .f32⟩
  | 68 => ⟨S_, .f32⟩
  | 69 => ⟨S100035x32, .f32⟩
  | 70 => ⟨S100035x32, .f32⟩
  | 71 => ⟨S100035x32, .f32⟩
  | 72 => ⟨S1x32, .f32⟩
  | 73 => ⟨S100035x32, .f32⟩
  | 74 => ⟨S100035x32, .f32⟩
  | 75 => ⟨S_, .f32⟩
  | 76 => ⟨S100035x32, .f32⟩
  | 77 => ⟨S100035x32, .f32⟩
  | 78 => ⟨S100035x32, .f32⟩
  | 79 => ⟨S1x32, .f32⟩
  | 80 => ⟨S100035x32, .f32⟩
  | 81 => ⟨S100035x32, .f32⟩
  | 82 => ⟨S_, .f32⟩
  | 83 => ⟨S100035x32, .f32⟩
  | 84 => ⟨S_, .i32⟩
  | 85 => ⟨S2000700, .i32⟩
  | 86 => ⟨S2000700, .i1⟩
  | 87 => ⟨S_, .i32⟩
  | 88 => ⟨S2000700, .i32⟩
  | 89 => ⟨S2000700, .i32⟩
  | 90 => ⟨S2000700, .i32⟩
  | 91 => ⟨S2000700x1, .i32⟩
  | 92 => ⟨S2000700x32, .f32⟩
  | 93 => ⟨S_, .i32⟩
  | 94 => ⟨S2000700, .i32⟩
  | 95 => ⟨S2000700, .i1⟩
  | 96 => ⟨S_, .i32⟩
  | 97 => ⟨S2000700, .i32⟩
  | 98 => ⟨S2000700, .i32⟩
  | 99 => ⟨S2000700, .i32⟩
  | 100 => ⟨S2000700x1, .i32⟩
  | 101 => ⟨S2000700x32, .f32⟩
  | 102 => ⟨S2000700x64, .f32⟩
  | 103 => ⟨S2000700x32, .f32⟩
  | 104 => ⟨S1x32, .f32⟩
  | 105 => ⟨S2000700x32, .f32⟩
  | 106 => ⟨S2000700x32, .f32⟩
  | 107 => ⟨S_, .f32⟩
  | 108 => ⟨S2000700x32, .f32⟩
  | 109 => ⟨S2000700x32, .f32⟩
  | 110 => ⟨S2000700x32, .f32⟩
  | 111 => ⟨S1x32, .f32⟩
  | 112 => ⟨S2000700x32, .f32⟩
  | 113 => ⟨S2000700x32, .f32⟩
  | 114 => ⟨S_, .f32⟩
  | 115 => ⟨S2000700x32, .f32⟩
  | 116 => ⟨S2000700x32, .f32⟩
  | 117 => ⟨S2000700x32, .f32⟩
  | 118 => ⟨S1x32, .f32⟩
  | 119 => ⟨S2000700x32, .f32⟩
  | 120 => ⟨S2000700x32, .f32⟩
  | 121 => ⟨S_, .f32⟩
  | 122 => ⟨S2000700x32, .f32⟩
  | 123 => ⟨S2000700x32, .f32⟩
  | 124 => ⟨S2000700x32, .f32⟩
  | 125 => ⟨S1x32, .f32⟩
  | 126 => ⟨S2000700x32, .f32⟩
  | 127 => ⟨S2000700x32, .f32⟩
  | _ => ⟨S100035, .i32⟩

abbrev hbmTy0_1 (i : Nat) : BufTy := match i % 128 with
  | 0 => ⟨S_, .f32⟩
  | 1 => ⟨S100035x32, .f32⟩
  | 2 => ⟨S2000700x1, .i32⟩
  | 3 => ⟨S100035x32, .f32⟩
  | 4 => ⟨S100035x64, .f32⟩
  | 5 => ⟨S64x128, .f32⟩
  | 6 => ⟨S100035x128, .f32⟩
  | 7 => ⟨S32x128, .f32⟩
  | 8 => ⟨S100035x128, .f32⟩
  | 9 => ⟨S100035x128, .f32⟩
  | 10 => ⟨S100035x32, .f32⟩
  | 11 => ⟨S100035x32, .f32⟩
  | 12 => ⟨S100035x32, .f32⟩
  | 13 => ⟨S100035x32, .f32⟩
  | 14 => ⟨S100035x32, .f32⟩
  | 15 => ⟨S100035x32, .f32⟩
  | 16 => ⟨S_, .f32⟩
  | 17 => ⟨S100035x32, .f32⟩
  | 18 => ⟨S100035x32, .f32⟩
  | 19 => ⟨S_, .f32⟩
  | 20 => ⟨S100035x32, .f32⟩
  | 21 => ⟨S100035x32, .f32⟩
  | 22 => ⟨S100035x32, .f32⟩
  | 23 => ⟨S100035x32, .f32⟩
  | 24 => ⟨S_, .f32⟩
  | 25 => ⟨S100035x32, .f32⟩
  | 26 => ⟨S100035x32, .f32⟩
  | 27 => ⟨S_, .f32⟩
  | 28 => ⟨S100035x32, .f32⟩
  | 29 => ⟨S100035x32, .f32⟩
  | 30 => ⟨S100035x32, .f32⟩
  | 31 => ⟨S100035x32, .f32⟩
  | 32 => ⟨S100035x32, .f32⟩
  | 33 => ⟨S_, .f32⟩
  | 34 => ⟨S100035x32, .f32⟩
  | 35 => ⟨S100035x32, .f32⟩
  | 36 => ⟨S_, .f32⟩
  | 37 => ⟨S100035x32, .f32⟩
  | 38 => ⟨S100035x32, .f32⟩
  | 39 => ⟨S100035x32, .f32⟩
  | 40 => ⟨S100035x32, .f32⟩
  | 41 => ⟨S100035x32, .f32⟩
  | 42 => ⟨S100035x32, .f32⟩
  | 43 => ⟨S100035x32, .f32⟩
  | 44 => ⟨S_, .i32⟩
  | 45 => ⟨S2000700, .i32⟩
  | 46 => ⟨S2000700, .i1⟩
  | 47 => ⟨S_, .i32⟩
  | 48 => ⟨S2000700, .i32⟩
  | 49 => ⟨S2000700, .i32⟩
  | 50 => ⟨S2000700, .i32⟩
  | 51 => ⟨S2000700x1, .i32⟩
  | 52 => ⟨S2000700x32, .f32⟩
  | 53 => ⟨S_, .i32⟩
  | 54 => ⟨S2000700, .i32⟩
  | 55 => ⟨S2000700, .i1⟩
  | 56 => ⟨S_, .i32⟩
  | 57 => ⟨S2000700, .i32⟩
  | 58 => ⟨S2000700, .i32⟩
  | 59 => ⟨S2000700, .i32⟩
  | 60 => ⟨S2000700x1, .i32⟩
  | 61 => ⟨S2000700x32, .f32⟩
  | 62 => ⟨S2000700x64, .f32⟩
  | 63 => ⟨S2000700x32, .f32⟩
  | 64 => ⟨S1x32, .f32⟩
  | 65 => ⟨S2000700x32, .f32⟩
  | 66 => ⟨S2000700x32, .f32⟩
  | 67 => ⟨S_, .f32⟩
  | 68 => ⟨S2000700x32, .f32⟩
  | 69 => ⟨S2000700x32, .f32⟩
  | 70 => ⟨S2000700x32, .f32⟩
  | 71 => ⟨S1x32, .f32⟩
  | 72 => ⟨S2000700x32, .f32⟩
  | 73 => ⟨S2000700x32, .f32⟩
  | 74 => ⟨S_, .f32⟩
  | 75 => ⟨S2000700x32, .f32⟩
  | 76 => ⟨S2000700x32, .f32⟩
  | 77 => ⟨S2000700x32, .f32⟩
  | 78 => ⟨S1x32, .f32⟩
  | 79 => ⟨S2000700x32, .f32⟩
  | 80 => ⟨S2000700x32, .f32⟩
  | 81 => ⟨S_, .f32⟩
  | 82 => ⟨S2000700x32, .f32⟩
  | 83 => ⟨S2000700x32, .f32⟩
  | 84 => ⟨S2000700x32, .f32⟩
  | 85 => ⟨S1x32, .f32⟩
  | 86 => ⟨S2000700x32, .f32⟩
  | 87 => ⟨S2000700x32, .f32⟩
  | 88 => ⟨S_, .f32⟩
  | 89 => ⟨S100035x32, .f32⟩
  | 90 => ⟨S2000700x1, .i32⟩
  | 91 => ⟨S100035x32, .f32⟩
  | 92 => ⟨S100035x64, .f32⟩
  | 93 => ⟨S64x128, .f32⟩
  | 94 => ⟨S100035x128, .f32⟩
  | 95 => ⟨S32x128, .f32⟩
  | 96 => ⟨S100035x128, .f32⟩
  | 97 => ⟨S100035x128, .f32⟩
  | 98 => ⟨S100035x32, .f32⟩
  | 99 => ⟨S100035x32, .f32⟩
  | 100 => ⟨S100035x32, .f32⟩
  | 101 => ⟨S100035x32, .f32⟩
  | 102 => ⟨S100035x32, .f32⟩
  | 103 => ⟨S100035x32, .f32⟩
  | 104 => ⟨S_, .f32⟩
  | 105 => ⟨S100035x32, .f32⟩
  | 106 => ⟨S100035x32, .f32⟩
  | 107 => ⟨S_, .f32⟩
  | 108 => ⟨S100035x32, .f32⟩
  | 109 => ⟨S100035x32, .f32⟩
  | 110 => ⟨S100035x32, .f32⟩
  | 111 => ⟨S100035x32, .f32⟩
  | 112 => ⟨S_, .f32⟩
  | 113 => ⟨S100035x32, .f32⟩
  | 114 => ⟨S100035x32, .f32⟩
  | 115 => ⟨S_, .f32⟩
  | 116 => ⟨S100035x32, .f32⟩
  | 117 => ⟨S100035x32, .f32⟩
  | 118 => ⟨S100035x32, .f32⟩
  | 119 => ⟨S100035x32, .f32⟩
  | 120 => ⟨S100035x32, .f32⟩
  | 121 => ⟨S_, .f32⟩
  | 122 => ⟨S100035x32, .f32⟩
  | 123 => ⟨S100035x32, .f32⟩
  | 124 => ⟨S_, .f32⟩
  | 125 => ⟨S100035x32, .f32⟩
  | 126 => ⟨S100035x32, .f32⟩
  | 127 => ⟨S100035x32, .f32⟩
  | _ => ⟨S100035, .i32⟩

abbrev hbmTy0_2 (i : Nat) : BufTy := match i % 128 with
  | 0 => ⟨S100035x32, .f32⟩
  | 1 => ⟨S100035x32, .f32⟩
  | 2 => ⟨S100035x32, .f32⟩
  | 3 => ⟨S100035x32, .f32⟩
  | 4 => ⟨S_, .i32⟩
  | 5 => ⟨S2000700, .i32⟩
  | 6 => ⟨S2000700, .i1⟩
  | 7 => ⟨S_, .i32⟩
  | 8 => ⟨S2000700, .i32⟩
  | 9 => ⟨S2000700, .i32⟩
  | 10 => ⟨S2000700, .i32⟩
  | 11 => ⟨S2000700x1, .i32⟩
  | 12 => ⟨S2000700x32, .f32⟩
  | 13 => ⟨S_, .i32⟩
  | 14 => ⟨S2000700, .i32⟩
  | 15 => ⟨S2000700, .i1⟩
  | 16 => ⟨S_, .i32⟩
  | 17 => ⟨S2000700, .i32⟩
  | 18 => ⟨S2000700, .i32⟩
  | 19 => ⟨S2000700, .i32⟩
  | 20 => ⟨S2000700x1, .i32⟩
  | 21 => ⟨S2000700x32, .f32⟩
  | 22 => ⟨S2000700x64, .f32⟩
  | 23 => ⟨S2000700x32, .f32⟩
  | 24 => ⟨S1x32, .f32⟩
  | 25 => ⟨S2000700x32, .f32⟩
  | 26 => ⟨S2000700x32, .f32⟩
  | 27 => ⟨S_, .f32⟩
  | 28 => ⟨S2000700x32, .f32⟩
  | 29 => ⟨S2000700x32, .f32⟩
  | 30 => ⟨S2000700x32, .f32⟩
  | 31 => ⟨S1x32, .f32⟩
  | 32 => ⟨S2000700x32, .f32⟩
  | 33 => ⟨S2000700x32, .f32⟩
  | 34 => ⟨S_, .f32⟩
  | 35 => ⟨S2000700x32, .f32⟩
  | 36 => ⟨S2000700x32, .f32⟩
  | 37 => ⟨S2000700x32, .f32⟩
  | 38 => ⟨S1x32, .f32⟩
  | 39 => ⟨S2000700x32, .f32⟩
  | 40 => ⟨S2000700x32, .f32⟩
  | 41 => ⟨S_, .f32⟩
  | 42 => ⟨S2000700x32, .f32⟩
  | 43 => ⟨S2000700x32, .f32⟩
  | 44 => ⟨S2000700x32, .f32⟩
  | 45 => ⟨S1x32, .f32⟩
  | 46 => ⟨S2000700x32, .f32⟩
  | 47 => ⟨S2000700x32, .f32⟩
  | 48 => ⟨S_, .f32⟩
  | 49 => ⟨S100035x32, .f32⟩
  | 50 => ⟨S2000700x1, .i32⟩
  | 51 => ⟨S100035x32, .f32⟩
  | 52 => ⟨S100035x64, .f32⟩
  | 53 => ⟨S64x128, .f32⟩
  | 54 => ⟨S100035x128, .f32⟩
  | 55 => ⟨S32x128, .f32⟩
  | 56 => ⟨S100035x128, .f32⟩
  | 57 => ⟨S100035x128, .f32⟩
  | 58 => ⟨S100035x32, .f32⟩
  | 59 => ⟨S100035x32, .f32⟩
  | 60 => ⟨S100035x32, .f32⟩
  | 61 => ⟨S100035x32, .f32⟩
  | 62 => ⟨S100035x32, .f32⟩
  | 63 => ⟨S100035x32, .f32⟩
  | 64 => ⟨S_, .f32⟩
  | 65 => ⟨S100035x32, .f32⟩
  | 66 => ⟨S100035x32, .f32⟩
  | 67 => ⟨S_, .f32⟩
  | 68 => ⟨S100035x32, .f32⟩
  | 69 => ⟨S100035x32, .f32⟩
  | 70 => ⟨S100035x32, .f32⟩
  | 71 => ⟨S100035x32, .f32⟩
  | 72 => ⟨S_, .f32⟩
  | 73 => ⟨S100035x32, .f32⟩
  | 74 => ⟨S100035x32, .f32⟩
  | 75 => ⟨S_, .f32⟩
  | 76 => ⟨S100035x32, .f32⟩
  | 77 => ⟨S100035x32, .f32⟩
  | 78 => ⟨S100035x32, .f32⟩
  | 79 => ⟨S100035x32, .f32⟩
  | 80 => ⟨S100035x32, .f32⟩
  | 81 => ⟨S_, .f32⟩
  | 82 => ⟨S100035x32, .f32⟩
  | 83 => ⟨S100035x32, .f32⟩
  | 84 => ⟨S_, .f32⟩
  | 85 => ⟨S100035x32, .f32⟩
  | 86 => ⟨S100035x32, .f32⟩
  | 87 => ⟨S100035x32, .f32⟩
  | 88 => ⟨S100035x32, .f32⟩
  | 89 => ⟨S100035x32, .f32⟩
  | 90 => ⟨S100035x32, .f32⟩
  | 91 => ⟨S100035x32, .f32⟩
  | 92 => ⟨S_, .i32⟩
  | 93 => ⟨S2000700, .i32⟩
  | 94 => ⟨S2000700, .i1⟩
  | 95 => ⟨S_, .i32⟩
  | 96 => ⟨S2000700, .i32⟩
  | 97 => ⟨S2000700, .i32⟩
  | 98 => ⟨S2000700, .i32⟩
  | 99 => ⟨S2000700x1, .i32⟩
  | 100 => ⟨S2000700x32, .f32⟩
  | 101 => ⟨S_, .i32⟩
  | 102 => ⟨S2000700, .i32⟩
  | 103 => ⟨S2000700, .i1⟩
  | 104 => ⟨S_, .i32⟩
  | 105 => ⟨S2000700, .i32⟩
  | 106 => ⟨S2000700, .i32⟩
  | 107 => ⟨S2000700, .i32⟩
  | 108 => ⟨S2000700x1, .i32⟩
  | 109 => ⟨S2000700x32, .f32⟩
  | 110 => ⟨S2000700x64, .f32⟩
  | 111 => ⟨S2000700x32, .f32⟩
  | 112 => ⟨S1x32, .f32⟩
  | 113 => ⟨S2000700x32, .f32⟩
  | 114 => ⟨S2000700x32, .f32⟩
  | 115 => ⟨S_, .f32⟩
  | 116 => ⟨S2000700x32, .f32⟩
  | 117 => ⟨S2000700x32, .f32⟩
  | 118 => ⟨S2000700x32, .f32⟩
  | 119 => ⟨S1x32, .f32⟩
  | 120 => ⟨S2000700x32, .f32⟩
  | 121 => ⟨S2000700x32, .f32⟩
  | 122 => ⟨S_, .f32⟩
  | 123 => ⟨S2000700x32, .f32⟩
  | 124 => ⟨S2000700x32, .f32⟩
  | 125 => ⟨S2000700x32, .f32⟩
  | 126 => ⟨S1x32, .f32⟩
  | 127 => ⟨S2000700x32, .f32⟩
  | _ => ⟨S100035, .i32⟩

abbrev hbmTy0_3 (i : Nat) : BufTy := match i % 128 with
  | 0 => ⟨S2000700x32, .f32⟩
  | 1 => ⟨S_, .f32⟩
  | 2 => ⟨S2000700x32, .f32⟩
  | 3 => ⟨S2000700x32, .f32⟩
  | 4 => ⟨S2000700x32, .f32⟩
  | 5 => ⟨S1x32, .f32⟩
  | 6 => ⟨S2000700x32, .f32⟩
  | 7 => ⟨S2000700x32, .f32⟩
  | 8 => ⟨S_, .f32⟩
  | 9 => ⟨S100035x32, .f32⟩
  | 10 => ⟨S2000700x1, .i32⟩
  | 11 => ⟨S100035x32, .f32⟩
  | 12 => ⟨S100035x64, .f32⟩
  | 13 => ⟨S64x128, .f32⟩
  | 14 => ⟨S100035x128, .f32⟩
  | 15 => ⟨S32x128, .f32⟩
  | 16 => ⟨S100035x128, .f32⟩
  | 17 => ⟨S100035x128, .f32⟩
  | 18 => ⟨S100035x32, .f32⟩
  | 19 => ⟨S100035x32, .f32⟩
  | 20 => ⟨S100035x32, .f32⟩
  | 21 => ⟨S100035x32, .f32⟩
  | 22 => ⟨S100035x32, .f32⟩
  | 23 => ⟨S100035x32, .f32⟩
  | 24 => ⟨S_, .f32⟩
  | 25 => ⟨S100035x32, .f32⟩
  | 26 => ⟨S100035x32, .f32⟩
  | 27 => ⟨S_, .f32⟩
  | 28 => ⟨S100035x32, .f32⟩
  | 29 => ⟨S100035x32, .f32⟩
  | 30 => ⟨S100035x32, .f32⟩
  | 31 => ⟨S100035x32, .f32⟩
  | 32 => ⟨S_, .f32⟩
  | 33 => ⟨S100035x32, .f32⟩
  | 34 => ⟨S100035x32, .f32⟩
  | 35 => ⟨S_, .f32⟩
  | 36 => ⟨S100035x32, .f32⟩
  | 37 => ⟨S100035x32, .f32⟩
  | 38 => ⟨S100035x32, .f32⟩
  | 39 => ⟨S100035x32, .f32⟩
  | 40 => ⟨S100035x32, .f32⟩
  | 41 => ⟨S_, .f32⟩
  | 42 => ⟨S100035x32, .f32⟩
  | 43 => ⟨S100035x32, .f32⟩
  | 44 => ⟨S_, .f32⟩
  | 45 => ⟨S100035x32, .f32⟩
  | 46 => ⟨S100035x32, .f32⟩
  | 47 => ⟨S100035x32, .f32⟩
  | 48 => ⟨S100035x32, .f32⟩
  | 49 => ⟨S100035x32, .f32⟩
  | 50 => ⟨S100035x32, .f32⟩
  | 51 => ⟨S100035x32, .f32⟩
  | 52 => ⟨S_, .i32⟩
  | 53 => ⟨S2000700, .i32⟩
  | 54 => ⟨S2000700, .i1⟩
  | 55 => ⟨S_, .i32⟩
  | 56 => ⟨S2000700, .i32⟩
  | 57 => ⟨S2000700, .i32⟩
  | 58 => ⟨S2000700, .i32⟩
  | 59 => ⟨S2000700x1, .i32⟩
  | 60 => ⟨S2000700x32, .f32⟩
  | 61 => ⟨S_, .i32⟩
  | 62 => ⟨S2000700, .i32⟩
  | 63 => ⟨S2000700, .i1⟩
  | 64 => ⟨S_, .i32⟩
  | 65 => ⟨S2000700, .i32⟩
  | 66 => ⟨S2000700, .i32⟩
  | 67 => ⟨S2000700, .i32⟩
  | 68 => ⟨S2000700x1, .i32⟩
  | 69 => ⟨S2000700x32, .f32⟩
  | 70 => ⟨S2000700x64, .f32⟩
  | 71 => ⟨S2000700x32, .f32⟩
  | 72 => ⟨S1x32, .f32⟩
  | 73 => ⟨S2000700x32, .f32⟩
  | 74 => ⟨S2000700x32, .f32⟩
  | 75 => ⟨S_, .f32⟩
  | 76 => ⟨S2000700x32, .f32⟩
  | 77 => ⟨S2000700x32, .f32⟩
  | 78 => ⟨S2000700x32, .f32⟩
  | 79 => ⟨S1x32, .f32⟩
  | 80 => ⟨S2000700x32, .f32⟩
  | 81 => ⟨S2000700x32, .f32⟩
  | 82 => ⟨S_, .f32⟩
  | 83 => ⟨S2000700x32, .f32⟩
  | 84 => ⟨S2000700x32, .f32⟩
  | 85 => ⟨S2000700x32, .f32⟩
  | 86 => ⟨S1x32, .f32⟩
  | 87 => ⟨S2000700x32, .f32⟩
  | 88 => ⟨S2000700x32, .f32⟩
  | 89 => ⟨S_, .f32⟩
  | 90 => ⟨S2000700x32, .f32⟩
  | 91 => ⟨S2000700x32, .f32⟩
  | 92 => ⟨S2000700x32, .f32⟩
  | 93 => ⟨S1x32, .f32⟩
  | 94 => ⟨S2000700x32, .f32⟩
  | 95 => ⟨S2000700x32, .f32⟩
  | 96 => ⟨S_, .f32⟩
  | 97 => ⟨S100035x32, .f32⟩
  | 98 => ⟨S2000700x1, .i32⟩
  | 99 => ⟨S100035x32, .f32⟩
  | 100 => ⟨S100035x64, .f32⟩
  | 101 => ⟨S64x128, .f32⟩
  | 102 => ⟨S100035x128, .f32⟩
  | 103 => ⟨S32x128, .f32⟩
  | 104 => ⟨S100035x128, .f32⟩
  | 105 => ⟨S100035x128, .f32⟩
  | 106 => ⟨S100035x32, .f32⟩
  | 107 => ⟨S100035x32, .f32⟩
  | 108 => ⟨S100035x32, .f32⟩
  | 109 => ⟨S100035x32, .f32⟩
  | 110 => ⟨S100035x32, .f32⟩
  | 111 => ⟨S100035x32, .f32⟩
  | 112 => ⟨S_, .f32⟩
  | 113 => ⟨S100035x32, .f32⟩
  | 114 => ⟨S100035x32, .f32⟩
  | 115 => ⟨S_, .f32⟩
  | 116 => ⟨S100035x32, .f32⟩
  | 117 => ⟨S100035x32, .f32⟩
  | 118 => ⟨S100035x32, .f32⟩
  | 119 => ⟨S100035x32, .f32⟩
  | 120 => ⟨S_, .f32⟩
  | 121 => ⟨S100035x32, .f32⟩
  | 122 => ⟨S100035x32, .f32⟩
  | 123 => ⟨S_, .f32⟩
  | 124 => ⟨S100035x32, .f32⟩
  | 125 => ⟨S100035x32, .f32⟩
  | 126 => ⟨S100035x32, .f32⟩
  | 127 => ⟨S100035x32, .f32⟩
  | _ => ⟨S100035, .i32⟩

abbrev hbmTy0_4 (i : Nat) : BufTy := match i % 128 with
  | 0 => ⟨S100035x32, .f32⟩
  | 1 => ⟨S_, .f32⟩
  | 2 => ⟨S100035x32, .f32⟩
  | 3 => ⟨S100035x32, .f32⟩
  | 4 => ⟨S_, .f32⟩
  | 5 => ⟨S100035x32, .f32⟩
  | 6 => ⟨S100035x32, .f32⟩
  | 7 => ⟨S100035x32, .f32⟩
  | 8 => ⟨S100035x32, .f32⟩
  | 9 => ⟨S100035x32, .f32⟩
  | 10 => ⟨S100035x32, .f32⟩
  | 11 => ⟨S100035x32, .f32⟩
  | 12 => ⟨S_, .i32⟩
  | 13 => ⟨S2000700, .i32⟩
  | 14 => ⟨S2000700, .i1⟩
  | 15 => ⟨S_, .i32⟩
  | 16 => ⟨S2000700, .i32⟩
  | 17 => ⟨S2000700, .i32⟩
  | 18 => ⟨S2000700, .i32⟩
  | 19 => ⟨S2000700x1, .i32⟩
  | 20 => ⟨S2000700x32, .f32⟩
  | 21 => ⟨S_, .i32⟩
  | 22 => ⟨S2000700, .i32⟩
  | 23 => ⟨S2000700, .i1⟩
  | 24 => ⟨S_, .i32⟩
  | 25 => ⟨S2000700, .i32⟩
  | 26 => ⟨S2000700, .i32⟩
  | 27 => ⟨S2000700, .i32⟩
  | 28 => ⟨S2000700x1, .i32⟩
  | 29 => ⟨S2000700x32, .f32⟩
  | 30 => ⟨S2000700x64, .f32⟩
  | 31 => ⟨S2000700x32, .f32⟩
  | 32 => ⟨S1x32, .f32⟩
  | 33 => ⟨S2000700x32, .f32⟩
  | 34 => ⟨S2000700x32, .f32⟩
  | 35 => ⟨S_, .f32⟩
  | 36 => ⟨S2000700x32, .f32⟩
  | 37 => ⟨S2000700x32, .f32⟩
  | 38 => ⟨S2000700x32, .f32⟩
  | 39 => ⟨S1x32, .f32⟩
  | 40 => ⟨S2000700x32, .f32⟩
  | 41 => ⟨S2000700x32, .f32⟩
  | 42 => ⟨S_, .f32⟩
  | 43 => ⟨S2000700x32, .f32⟩
  | 44 => ⟨S2000700x32, .f32⟩
  | 45 => ⟨S2000700x32, .f32⟩
  | 46 => ⟨S1x32, .f32⟩
  | 47 => ⟨S2000700x32, .f32⟩
  | 48 => ⟨S2000700x32, .f32⟩
  | 49 => ⟨S_, .f32⟩
  | 50 => ⟨S2000700x32, .f32⟩
  | 51 => ⟨S2000700x32, .f32⟩
  | 52 => ⟨S2000700x32, .f32⟩
  | 53 => ⟨S1x32, .f32⟩
  | 54 => ⟨S2000700x32, .f32⟩
  | 55 => ⟨S2000700x32, .f32⟩
  | 56 => ⟨S_, .f32⟩
  | 57 => ⟨S100035x32, .f32⟩
  | 58 => ⟨S2000700x1, .i32⟩
  | 59 => ⟨S100035x32, .f32⟩
  | 60 => ⟨S100035x64, .f32⟩
  | 61 => ⟨S64x128, .f32⟩
  | 62 => ⟨S100035x128, .f32⟩
  | 63 => ⟨S32x128, .f32⟩
  | 64 => ⟨S100035x128, .f32⟩
  | 65 => ⟨S100035x128, .f32⟩
  | 66 => ⟨S100035x32, .f32⟩
  | 67 => ⟨S100035x32, .f32⟩
  | 68 => ⟨S100035x32, .f32⟩
  | 69 => ⟨S100035x32, .f32⟩
  | 70 => ⟨S100035x32, .f32⟩
  | 71 => ⟨S100035x32, .f32⟩
  | 72 => ⟨S_, .f32⟩
  | 73 => ⟨S100035x32, .f32⟩
  | 74 => ⟨S100035x32, .f32⟩
  | 75 => ⟨S_, .f32⟩
  | 76 => ⟨S100035x32, .f32⟩
  | 77 => ⟨S100035x32, .f32⟩
  | 78 => ⟨S100035x32, .f32⟩
  | 79 => ⟨S100035x32, .f32⟩
  | 80 => ⟨S_, .f32⟩
  | 81 => ⟨S100035x32, .f32⟩
  | 82 => ⟨S100035x32, .f32⟩
  | 83 => ⟨S_, .f32⟩
  | 84 => ⟨S100035x32, .f32⟩
  | 85 => ⟨S100035x32, .f32⟩
  | 86 => ⟨S100035x32, .f32⟩
  | 87 => ⟨S100035x32, .f32⟩
  | 88 => ⟨S100035x32, .f32⟩
  | 89 => ⟨S_, .f32⟩
  | 90 => ⟨S100035x32, .f32⟩
  | 91 => ⟨S100035x32, .f32⟩
  | 92 => ⟨S_, .f32⟩
  | 93 => ⟨S100035x32, .f32⟩
  | 94 => ⟨S100035x32, .f32⟩
  | 95 => ⟨S100035x32, .f32⟩
  | 96 => ⟨S100035x32, .f32⟩
  | 97 => ⟨S100035x32, .f32⟩
  | 98 => ⟨S100035x32, .f32⟩
  | 99 => ⟨S100035x32, .f32⟩
  | 100 => ⟨S_, .i32⟩
  | 101 => ⟨S2000700, .i32⟩
  | 102 => ⟨S2000700, .i1⟩
  | 103 => ⟨S_, .i32⟩
  | 104 => ⟨S2000700, .i32⟩
  | 105 => ⟨S2000700, .i32⟩
  | 106 => ⟨S2000700, .i32⟩
  | 107 => ⟨S2000700x1, .i32⟩
  | 108 => ⟨S2000700x32, .f32⟩
  | 109 => ⟨S_, .i32⟩
  | 110 => ⟨S2000700, .i32⟩
  | 111 => ⟨S2000700, .i1⟩
  | 112 => ⟨S_, .i32⟩
  | 113 => ⟨S2000700, .i32⟩
  | 114 => ⟨S2000700, .i32⟩
  | 115 => ⟨S2000700, .i32⟩
  | 116 => ⟨S2000700x1, .i32⟩
  | 117 => ⟨S2000700x32, .f32⟩
  | 118 => ⟨S2000700x64, .f32⟩
  | 119 => ⟨S2000700x32, .f32⟩
  | 120 => ⟨S1x32, .f32⟩
  | 121 => ⟨S2000700x32, .f32⟩
  | 122 => ⟨S2000700x32, .f32⟩
  | 123 => ⟨S_, .f32⟩
  | 124 => ⟨S2000700x32, .f32⟩
  | 125 => ⟨S2000700x32, .f32⟩
  | 126 => ⟨S2000700x32, .f32⟩
  | 127 => ⟨S1x32, .f32⟩
  | _ => ⟨S100035, .i32⟩

abbrev hbmTy0_5 (i : Nat) : BufTy := match i % 128 with
  | 0 => ⟨S2000700x32, .f32⟩
  | 1 => ⟨S2000700x32, .f32⟩
  | 2 => ⟨S_, .f32⟩
  | 3 => ⟨S2000700x32, .f32⟩
  | 4 => ⟨S2000700x32, .f32⟩
  | 5 => ⟨S2000700x32, .f32⟩
  | 6 => ⟨S1x32, .f32⟩
  | 7 => ⟨S2000700x32, .f32⟩
  | 8 => ⟨S2000700x32, .f32⟩
  | 9 => ⟨S_, .f32⟩
  | 10 => ⟨S2000700x32, .f32⟩
  | 11 => ⟨S2000700x32, .f32⟩
  | 12 => ⟨S2000700x32, .f32⟩
  | 13 => ⟨S1x32, .f32⟩
  | 14 => ⟨S2000700x32, .f32⟩
  | 15 => ⟨S2000700x32, .f32⟩
  | 16 => ⟨S_, .f32⟩
  | 17 => ⟨S100035x32, .f32⟩
  | 18 => ⟨S2000700x1, .i32⟩
  | 19 => ⟨S100035x32, .f32⟩
  | 20 => ⟨S100035x64, .f32⟩
  | 21 => ⟨S64x128, .f32⟩
  | 22 => ⟨S100035x128, .f32⟩
  | 23 => ⟨S32x128, .f32⟩
  | 24 => ⟨S100035x128, .f32⟩
  | 25 => ⟨S100035x128, .f32⟩
  | 26 => ⟨S100035x32, .f32⟩
  | 27 => ⟨S100035x32, .f32⟩
  | 28 => ⟨S100035x32, .f32⟩
  | 29 => ⟨S100035x32, .f32⟩
  | 30 => ⟨S100035x32, .f32⟩
  | 31 => ⟨S100035x32, .f32⟩
  | 32 => ⟨S_, .f32⟩
  | 33 => ⟨S100035x32, .f32⟩
  | 34 => ⟨S100035x32, .f32⟩
  | 35 => ⟨S_, .f32⟩
  | 36 => ⟨S100035x32, .f32⟩
  | 37 => ⟨S100035x32, .f32⟩
  | 38 => ⟨S100035x32, .f32⟩
  | 39 => ⟨S100035x32, .f32⟩
  | 40 => ⟨S_, .f32⟩
  | 41 => ⟨S100035x32, .f32⟩
  | 42 => ⟨S100035x32, .f32⟩
  | 43 => ⟨S_, .f32⟩
  | 44 => ⟨S100035x32, .f32⟩
  | 45 => ⟨S100035x32, .f32⟩
  | 46 => ⟨S100035x32, .f32⟩
  | 47 => ⟨S100035x32, .f32⟩
  | 48 => ⟨S100035x32, .f32⟩
  | 49 => ⟨S_, .f32⟩
  | 50 => ⟨S100035x32, .f32⟩
  | 51 => ⟨S100035x32, .f32⟩
  | 52 => ⟨S_, .f32⟩
  | 53 => ⟨S100035x32, .f32⟩
  | 54 => ⟨S100035x32, .f32⟩
  | 55 => ⟨S100035x32, .f32⟩
  | 56 => ⟨S100035x32, .f32⟩
  | 57 => ⟨S100035x32, .f32⟩
  | 58 => ⟨S100035x32, .f32⟩
  | 59 => ⟨S100035x32, .f32⟩
  | 60 => ⟨S_, .i32⟩
  | 61 => ⟨S2000700, .i32⟩
  | 62 => ⟨S2000700, .i1⟩
  | 63 => ⟨S_, .i32⟩
  | 64 => ⟨S2000700, .i32⟩
  | 65 => ⟨S2000700, .i32⟩
  | 66 => ⟨S2000700, .i32⟩
  | 67 => ⟨S2000700x1, .i32⟩
  | 68 => ⟨S2000700x32, .f32⟩
  | 69 => ⟨S_, .i32⟩
  | 70 => ⟨S2000700, .i32⟩
  | 71 => ⟨S2000700, .i1⟩
  | 72 => ⟨S_, .i32⟩
  | 73 => ⟨S2000700, .i32⟩
  | 74 => ⟨S2000700, .i32⟩
  | 75 => ⟨S2000700, .i32⟩
  | 76 => ⟨S2000700x1, .i32⟩
  | 77 => ⟨S2000700x32, .f32⟩
  | 78 => ⟨S2000700x64, .f32⟩
  | 79 => ⟨S2000700x32, .f32⟩
  | 80 => ⟨S1x32, .f32⟩
  | 81 => ⟨S2000700x32, .f32⟩
  | 82 => ⟨S2000700x32, .f32⟩
  | 83 => ⟨S_, .f32⟩
  | 84 => ⟨S2000700x32, .f32⟩
  | 85 => ⟨S2000700x32, .f32⟩
  | 86 => ⟨S2000700x32, .f32⟩
  | 87 => ⟨S1x32, .f32⟩
  | 88 => ⟨S2000700x32, .f32⟩
  | 89 => ⟨S2000700x32, .f32⟩
  | 90 => ⟨S_, .f32⟩
  | 91 => ⟨S2000700x32, .f32⟩
  | 92 => ⟨S2000700x32, .f32⟩
  | 93 => ⟨S2000700x32, .f32⟩
  | 94 => ⟨S1x32, .f32⟩
  | 95 => ⟨S2000700x32, .f32⟩
  | 96 => ⟨S2000700x32, .f32⟩
  | 97 => ⟨S_, .f32⟩
  | 98 => ⟨S2000700x32, .f32⟩
  | 99 => ⟨S2000700x32, .f32⟩
  | 100 => ⟨S2000700x32, .f32⟩
  | 101 => ⟨S1x32, .f32⟩
  | 102 => ⟨S2000700x32, .f32⟩
  | 103 => ⟨S2000700x32, .f32⟩
  | 104 => ⟨S_, .f32⟩
  | 105 => ⟨S100035x32, .f32⟩
  | 106 => ⟨S2000700x1, .i32⟩
  | 107 => ⟨S100035x32, .f32⟩
  | 108 => ⟨S100035x64, .f32⟩
  | 109 => ⟨S64x128, .f32⟩
  | 110 => ⟨S100035x128, .f32⟩
  | 111 => ⟨S32x128, .f32⟩
  | 112 => ⟨S100035x128, .f32⟩
  | 113 => ⟨S100035x128, .f32⟩
  | 114 => ⟨S100035x32, .f32⟩
  | 115 => ⟨S100035x32, .f32⟩
  | 116 => ⟨S100035x32, .f32⟩
  | 117 => ⟨S100035x32, .f32⟩
  | 118 => ⟨S100035x32, .f32⟩
  | 119 => ⟨S100035x32, .f32⟩
  | 120 => ⟨S_, .f32⟩
  | 121 => ⟨S100035x32, .f32⟩
  | 122 => ⟨S100035x32, .f32⟩
  | 123 => ⟨S_, .f32⟩
  | 124 => ⟨S100035x32, .f32⟩
  | 125 => ⟨S100035x32, .f32⟩
  | 126 => ⟨S100035x32, .f32⟩
  | 127 => ⟨S100035x32, .f32⟩
  | _ => ⟨S100035, .i32⟩

abbrev hbmTy0_6 (i : Nat) : BufTy := match i % 128 with
  | 0 => ⟨S_, .f32⟩
  | 1 => ⟨S100035x32, .f32⟩
  | 2 => ⟨S100035x32, .f32⟩
  | 3 => ⟨S_, .f32⟩
  | 4 => ⟨S100035x32, .f32⟩
  | 5 => ⟨S100035x32, .f32⟩
  | 6 => ⟨S100035x32, .f32⟩
  | 7 => ⟨S100035x32, .f32⟩
  | 8 => ⟨S100035x32, .f32⟩
  | 9 => ⟨S_, .f32⟩
  | 10 => ⟨S100035x32, .f32⟩
  | 11 => ⟨S100035x32, .f32⟩
  | 12 => ⟨S_, .f32⟩
  | 13 => ⟨S100035x32, .f32⟩
  | 14 => ⟨S100035x32, .f32⟩
  | 15 => ⟨S100035x32, .f32⟩
  | 16 => ⟨S100035x32, .f32⟩
  | 17 => ⟨S100035x32, .f32⟩
  | 18 => ⟨S100035x32, .f32⟩
  | 19 => ⟨S100035x32, .f32⟩
  | 20 => ⟨S1x100035x32, .f32⟩
  | 21 => ⟨S1x100035x32, .f32⟩
  | 22 => ⟨S1x100035x32, .f32⟩
  | 23 => ⟨S1x100035x32, .f32⟩
  | 24 => ⟨S1x100035x32, .f32⟩
  | 25 => ⟨S1x100035x32, .f32⟩
  | 26 => ⟨S1x100035x32, .f32⟩
  | 27 => ⟨S1x100035x32, .f32⟩
  | 28 => ⟨S8x100035x32, .f32⟩
  | 29 => ⟨S8x100035x10, .f32⟩
  | 30 => ⟨S1x1x10, .f32⟩
  | 31 => ⟨S8x100035x10, .f32⟩
  | 32 => ⟨S8x100035x10, .f32⟩
  | 33 => ⟨S8x100035x10, .i32⟩
  | 34 => ⟨S_, .f32⟩
  | 35 => ⟨S8x100035, .f32⟩
  | 36 => ⟨S8x100035x1, .f32⟩
  | 37 => ⟨S8x100035x10, .f32⟩
  | 38 => ⟨S8x100035x10, .i1⟩
  | 39 => ⟨S_, .i32⟩
  | 40 => ⟨S_, .i32⟩
  | 41 => ⟨S8x100035x10, .i32⟩
  | 42 => ⟨S8x100035x10, .i32⟩
  | 43 => ⟨S_, .i32⟩
  | 44 => ⟨S8x100035, .i32⟩
  | 45 => ⟨S1x100035, .i32⟩
  | 46 => ⟨S1x100035, .i32⟩
  | 47 => ⟨S1x100035, .i32⟩
  | 48 => ⟨S1x100035, .i32⟩
  | 49 => ⟨S1x100035, .i32⟩
  | 50 => ⟨S1x100035, .i32⟩
  | 51 => ⟨S1x100035, .i32⟩
  | 52 => ⟨S1x100035, .i32⟩
  | 53 => ⟨S8x100035, .i32⟩
  | 54 => ⟨S800280, .i32⟩
  | 55 => ⟨S800280x10, .f32⟩
  | 56 => ⟨S_, .f32⟩
  | 57 => ⟨S800280, .f32⟩
  | 58 => ⟨S_, .f32⟩
  | 59 => ⟨S800280, .f32⟩
  | 60 => ⟨S800280, .f32⟩
  | 61 => ⟨S800280x1, .f32⟩
  | 62 => ⟨S800280x10, .f32⟩
  | 63 => ⟨S800280x10, .f32⟩
  | 64 => ⟨S800280x10, .f32⟩
  | 65 => ⟨S_, .f32⟩
  | 66 => ⟨S800280, .f32⟩
  | 67 => ⟨S800280x1, .f32⟩
  | 68 => ⟨S800280x1, .f32⟩
  | 69 => ⟨S800280x10, .f32⟩
  | 70 => ⟨S800280x10, .f32⟩
  | 71 => ⟨S800280x1, .i32⟩
  | 72 => ⟨S_, .i32⟩
  | 73 => ⟨S800280x1, .i32⟩
  | 74 => ⟨S800280x1, .i1⟩
  | 75 => ⟨S_, .i32⟩
  | 76 => ⟨S800280x1, .i32⟩
  | 77 => ⟨S800280x1, .i32⟩
  | 78 => ⟨S800280x1, .i32⟩
  | 79 => ⟨S800280x1x1, .i32⟩
  | 80 => ⟨S1, .i32⟩
  | 81 => ⟨S_, .i32⟩
  | 82 => ⟨S800280x1x1, .i32⟩
  | 83 => ⟨S800280x1x1, .i1⟩
  | 84 => ⟨S1x1x1, .i32⟩
  | 85 => ⟨S800280x1x1, .i32⟩
  | 86 => ⟨S800280x1x1, .i1⟩
  | 87 => ⟨S800280x1x1, .i1⟩
  | 88 => ⟨S_, .i1⟩
  | 89 => ⟨S800280x1, .i1⟩
  | 90 => ⟨S800280x1, .f32⟩
  | 91 => ⟨S_, .f32⟩
  | 92 => ⟨S800280x1, .f32⟩
  | 93 => ⟨S800280x1, .f32⟩
  | 94 => ⟨S_, .f32⟩
  | 95 => ⟨S_, .f32⟩
  | 96 => ⟨S_, .f32⟩
  | 97 => ⟨S_, .f32⟩
  | 98 => ⟨S_, .f32⟩
  | _ => ⟨S100035, .i32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100035, .i32⟩

abbrev bufTy : (tb : Table) → Fin (tcTables nBuf tb) → BufTy
  | .hbm, ⟨i, _⟩ => hbmTy i
  | _, _ => ⟨S100035, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_c : Ref sig .tc := ⟨.hbm, 29, rfl⟩
abbrev main_v0 : Ref sig .tc := ⟨.hbm, 30, rfl⟩
abbrev main_v1 : Ref sig .tc := ⟨.hbm, 31, rfl⟩
abbrev main_c_0 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_c_1 : Ref sig .tc := ⟨.hbm, 38, rfl⟩
abbrev main_v7 : Ref sig .tc := ⟨.hbm, 39, rfl⟩
abbrev main_v8 : Ref sig .tc := ⟨.hbm, 40, rfl⟩
abbrev main_c_2 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c_3 : Ref sig .tc := ⟨.hbm, 47, rfl⟩
abbrev main_v14 : Ref sig .tc := ⟨.hbm, 48, rfl⟩
abbrev main_v15 : Ref sig .tc := ⟨.hbm, 49, rfl⟩
abbrev main_c_4 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_call0_cst : Ref sig .tc := ⟨.hbm, 61, rfl⟩
abbrev main_call0_v0 : Ref sig .tc := ⟨.hbm, 62, rfl⟩
abbrev main_v26 : Ref sig .tc := ⟨.hbm, 63, rfl⟩
abbrev main_v27 : Ref sig .tc := ⟨.hbm, 64, rfl⟩
abbrev main_v28 : Ref sig .tc := ⟨.hbm, 65, rfl⟩
abbrev main_v29 : Ref sig .tc := ⟨.hbm, 66, rfl⟩
abbrev main_v30 : Ref sig .tc := ⟨.hbm, 67, rfl⟩
abbrev main_call1_cst : Ref sig .tc := ⟨.hbm, 68, rfl⟩
abbrev main_call1_v0 : Ref sig .tc := ⟨.hbm, 69, rfl⟩
abbrev main_v31 : Ref sig .tc := ⟨.hbm, 70, rfl⟩
abbrev main_v32 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_call2_cst : Ref sig .tc := ⟨.hbm, 75, rfl⟩
abbrev main_call2_v0 : Ref sig .tc := ⟨.hbm, 76, rfl⟩
abbrev main_v36 : Ref sig .tc := ⟨.hbm, 77, rfl⟩
abbrev main_v37 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_cst : Ref sig .tc := ⟨.hbm, 82, rfl⟩
abbrev main_v41 : Ref sig .tc := ⟨.hbm, 83, rfl⟩
abbrev main_c_5 : Ref sig .tc := ⟨.hbm, 84, rfl⟩
abbrev main_v42 : Ref sig .tc := ⟨.hbm, 85, rfl⟩
abbrev main_v43 : Ref sig .tc := ⟨.hbm, 86, rfl⟩
abbrev main_c_6 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_c_7 : Ref sig .tc := ⟨.hbm, 93, rfl⟩
abbrev main_v49 : Ref sig .tc := ⟨.hbm, 94, rfl⟩
abbrev main_v50 : Ref sig .tc := ⟨.hbm, 95, rfl⟩
abbrev main_c_8 : Ref sig .tc := ⟨.hbm, 96, rfl⟩
abbrev main_v51 : Ref sig .tc := ⟨.hbm, 97, rfl⟩
abbrev main_v52 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_v58 : Ref sig .tc := ⟨.hbm, 104, rfl⟩
abbrev main_v59 : Ref sig .tc := ⟨.hbm, 105, rfl⟩
abbrev main_v60 : Ref sig .tc := ⟨.hbm, 106, rfl⟩
abbrev main_call3_cst : Ref sig .tc := ⟨.hbm, 107, rfl⟩
abbrev main_call3_v0 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_call4_cst : Ref sig .tc := ⟨.hbm, 114, rfl⟩
abbrev main_call4_v0 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_call5_cst : Ref sig .tc := ⟨.hbm, 121, rfl⟩
abbrev main_call5_v0 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_v75 : Ref sig .tc := ⟨.hbm, 127, rfl⟩
abbrev main_cst_9 : Ref sig .tc := ⟨.hbm, 128, rfl⟩
abbrev main_v76 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_v80 : Ref sig .tc := ⟨.hbm, 133, rfl⟩
abbrev main_v81 : Ref sig .tc := ⟨.hbm, 134, rfl⟩
abbrev main_v82 : Ref sig .tc := ⟨.hbm, 135, rfl⟩
abbrev main_v83 : Ref sig .tc := ⟨.hbm, 136, rfl⟩
abbrev main_v84 : Ref sig .tc := ⟨.hbm, 137, rfl⟩
abbrev main_v85 : Ref sig .tc := ⟨.hbm, 138, rfl⟩
abbrev main_v86 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_cst_10 : Ref sig .tc := ⟨.hbm, 144, rfl⟩
abbrev main_v91 : Ref sig .tc := ⟨.hbm, 145, rfl⟩
abbrev main_v92 : Ref sig .tc := ⟨.hbm, 146, rfl⟩
abbrev main_cst_11 : Ref sig .tc := ⟨.hbm, 147, rfl⟩
abbrev main_v93 : Ref sig .tc := ⟨.hbm, 148, rfl⟩
abbrev main_v94 : Ref sig .tc := ⟨.hbm, 149, rfl⟩
abbrev main_v95 : Ref sig .tc := ⟨.hbm, 150, rfl⟩
abbrev main_v96 : Ref sig .tc := ⟨.hbm, 151, rfl⟩
abbrev main_cst_12 : Ref sig .tc := ⟨.hbm, 152, rfl⟩
abbrev main_v97 : Ref sig .tc := ⟨.hbm, 153, rfl⟩
abbrev main_v98 : Ref sig .tc := ⟨.hbm, 154, rfl⟩
abbrev main_cst_13 : Ref sig .tc := ⟨.hbm, 155, rfl⟩
abbrev main_v99 : Ref sig .tc := ⟨.hbm, 156, rfl⟩
abbrev main_v100 : Ref sig .tc := ⟨.hbm, 157, rfl⟩
abbrev main_v101 : Ref sig .tc := ⟨.hbm, 158, rfl⟩
abbrev main_v102 : Ref sig .tc := ⟨.hbm, 159, rfl⟩
abbrev main_v103 : Ref sig .tc := ⟨.hbm, 160, rfl⟩
abbrev main_cst_14 : Ref sig .tc := ⟨.hbm, 161, rfl⟩
abbrev main_v104 : Ref sig .tc := ⟨.hbm, 162, rfl⟩
abbrev main_v105 : Ref sig .tc := ⟨.hbm, 163, rfl⟩
abbrev main_cst_15 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_v112 : Ref sig .tc := ⟨.hbm, 171, rfl⟩
abbrev main_c_16 : Ref sig .tc := ⟨.hbm, 172, rfl⟩
abbrev main_v113 : Ref sig .tc := ⟨.hbm, 173, rfl⟩
abbrev main_v114 : Ref sig .tc := ⟨.hbm, 174, rfl⟩
abbrev main_c_17 : Ref sig .tc := ⟨.hbm, 175, rfl⟩
abbrev main_v115 : Ref sig .tc := ⟨.hbm, 176, rfl⟩
abbrev main_v116 : Ref sig .tc := ⟨.hbm, 177, rfl⟩
abbrev main_v117 : Ref sig .tc := ⟨.hbm, 178, rfl⟩
abbrev main_v118 : Ref sig .tc := ⟨.hbm, 179, rfl⟩
abbrev main_v119 : Ref sig .tc := ⟨.hbm, 180, rfl⟩
abbrev main_c_18 : Ref sig .tc := ⟨.hbm, 181, rfl⟩
abbrev main_v120 : Ref sig .tc := ⟨.hbm, 182, rfl⟩
abbrev main_v121 : Ref sig .tc := ⟨.hbm, 183, rfl⟩
abbrev main_c_19 : Ref sig .tc := ⟨.hbm, 184, rfl⟩
abbrev main_v122 : Ref sig .tc := ⟨.hbm, 185, rfl⟩
abbrev main_v123 : Ref sig .tc := ⟨.hbm, 186, rfl⟩
abbrev main_v124 : Ref sig .tc := ⟨.hbm, 187, rfl⟩
abbrev main_v125 : Ref sig .tc := ⟨.hbm, 188, rfl⟩
abbrev main_v126 : Ref sig .tc := ⟨.hbm, 189, rfl⟩
abbrev main_v127 : Ref sig .tc := ⟨.hbm, 190, rfl⟩
abbrev main_v128 : Ref sig .tc := ⟨.hbm, 191, rfl⟩
abbrev main_v129 : Ref sig .tc := ⟨.hbm, 192, rfl⟩
abbrev main_v130 : Ref sig .tc := ⟨.hbm, 193, rfl⟩
abbrev main_v131 : Ref sig .tc := ⟨.hbm, 194, rfl⟩
abbrev main_call6_cst : Ref sig .tc := ⟨.hbm, 195, rfl⟩
abbrev main_call6_v0 : Ref sig .tc := ⟨.hbm, 196, rfl⟩
abbrev main_v132 : Ref sig .tc := ⟨.hbm, 197, rfl⟩
abbrev main_v133 : Ref sig .tc := ⟨.hbm, 198, rfl⟩
abbrev main_v134 : Ref sig .tc := ⟨.hbm, 199, rfl⟩
abbrev main_v135 : Ref sig .tc := ⟨.hbm, 200, rfl⟩
abbrev main_v136 : Ref sig .tc := ⟨.hbm, 201, rfl⟩
abbrev main_call7_cst : Ref sig .tc := ⟨.hbm, 202, rfl⟩
abbrev main_call7_v0 : Ref sig .tc := ⟨.hbm, 203, rfl⟩
abbrev main_v137 : Ref sig .tc := ⟨.hbm, 204, rfl⟩
abbrev main_v138 : Ref sig .tc := ⟨.hbm, 205, rfl⟩
abbrev main_v139 : Ref sig .tc := ⟨.hbm, 206, rfl⟩
abbrev main_v140 : Ref sig .tc := ⟨.hbm, 207, rfl⟩
abbrev main_v141 : Ref sig .tc := ⟨.hbm, 208, rfl⟩
abbrev main_call8_cst : Ref sig .tc := ⟨.hbm, 209, rfl⟩
abbrev main_call8_v0 : Ref sig .tc := ⟨.hbm, 210, rfl⟩
abbrev main_v142 : Ref sig .tc := ⟨.hbm, 211, rfl⟩
abbrev main_v143 : Ref sig .tc := ⟨.hbm, 212, rfl⟩
abbrev main_v144 : Ref sig .tc := ⟨.hbm, 213, rfl⟩
abbrev main_v145 : Ref sig .tc := ⟨.hbm, 214, rfl⟩
abbrev main_v146 : Ref sig .tc := ⟨.hbm, 215, rfl⟩
abbrev main_cst_20 : Ref sig .tc := ⟨.hbm, 216, rfl⟩
abbrev main_v147 : Ref sig .tc := ⟨.hbm, 217, rfl⟩
abbrev main_v148 : Ref sig .tc := ⟨.hbm, 218, rfl⟩
abbrev main_v149 : Ref sig .tc := ⟨.hbm, 219, rfl⟩
abbrev main_v150 : Ref sig .tc := ⟨.hbm, 220, rfl⟩
abbrev main_v151 : Ref sig .tc := ⟨.hbm, 221, rfl⟩
abbrev main_v152 : Ref sig .tc := ⟨.hbm, 222, rfl⟩
abbrev main_v153 : Ref sig .tc := ⟨.hbm, 223, rfl⟩
abbrev main_v154 : Ref sig .tc := ⟨.hbm, 224, rfl⟩
abbrev main_v155 : Ref sig .tc := ⟨.hbm, 225, rfl⟩
abbrev main_v156 : Ref sig .tc := ⟨.hbm, 226, rfl⟩
abbrev main_v157 : Ref sig .tc := ⟨.hbm, 227, rfl⟩
abbrev main_v158 : Ref sig .tc := ⟨.hbm, 228, rfl⟩
abbrev main_v159 : Ref sig .tc := ⟨.hbm, 229, rfl⟩
abbrev main_v160 : Ref sig .tc := ⟨.hbm, 230, rfl⟩
abbrev main_v161 : Ref sig .tc := ⟨.hbm, 231, rfl⟩
abbrev main_cst_21 : Ref sig .tc := ⟨.hbm, 232, rfl⟩
abbrev main_v162 : Ref sig .tc := ⟨.hbm, 233, rfl⟩
abbrev main_v163 : Ref sig .tc := ⟨.hbm, 234, rfl⟩
abbrev main_cst_22 : Ref sig .tc := ⟨.hbm, 235, rfl⟩
abbrev main_v164 : Ref sig .tc := ⟨.hbm, 236, rfl⟩
abbrev main_v165 : Ref sig .tc := ⟨.hbm, 237, rfl⟩
abbrev main_v166 : Ref sig .tc := ⟨.hbm, 238, rfl⟩
abbrev main_v167 : Ref sig .tc := ⟨.hbm, 239, rfl⟩
abbrev main_cst_23 : Ref sig .tc := ⟨.hbm, 240, rfl⟩
abbrev main_v168 : Ref sig .tc := ⟨.hbm, 241, rfl⟩
abbrev main_v169 : Ref sig .tc := ⟨.hbm, 242, rfl⟩
abbrev main_cst_24 : Ref sig .tc := ⟨.hbm, 243, rfl⟩
abbrev main_v170 : Ref sig .tc := ⟨.hbm, 244, rfl⟩
abbrev main_v171 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_cst_25 : Ref sig .tc := ⟨.hbm, 249, rfl⟩
abbrev main_v175 : Ref sig .tc := ⟨.hbm, 250, rfl⟩
abbrev main_v176 : Ref sig .tc := ⟨.hbm, 251, rfl⟩
abbrev main_cst_26 : Ref sig .tc := ⟨.hbm, 252, rfl⟩
abbrev main_v177 : Ref sig .tc := ⟨.hbm, 253, rfl⟩
abbrev main_v178 : Ref sig .tc := ⟨.hbm, 254, rfl⟩
abbrev main_v179 : Ref sig .tc := ⟨.hbm, 255, rfl⟩
abbrev main_v180 : Ref sig .tc := ⟨.hbm, 256, rfl⟩
abbrev main_v181 : Ref sig .tc := ⟨.hbm, 257, rfl⟩
abbrev main_v182 : Ref sig .tc := ⟨.hbm, 258, rfl⟩
abbrev main_v183 : Ref sig .tc := ⟨.hbm, 259, rfl⟩
abbrev main_c_27 : Ref sig .tc := ⟨.hbm, 260, rfl⟩
abbrev main_v184 : Ref sig .tc := ⟨.hbm, 261, rfl⟩
abbrev main_v185 : Ref sig .tc := ⟨.hbm, 262, rfl⟩
abbrev main_c_28 : Ref sig .tc := ⟨.hbm, 263, rfl⟩
abbrev main_v186 : Ref sig .tc := ⟨.hbm, 264, rfl⟩
abbrev main_v187 : Ref sig .tc := ⟨.hbm, 265, rfl⟩
abbrev main_v188 : Ref sig .tc := ⟨.hbm, 266, rfl⟩
abbrev main_v189 : Ref sig .tc := ⟨.hbm, 267, rfl⟩
abbrev main_v190 : Ref sig .tc := ⟨.hbm, 268, rfl⟩
abbrev main_c_29 : Ref sig .tc := ⟨.hbm, 269, rfl⟩
abbrev main_v191 : Ref sig .tc := ⟨.hbm, 270, rfl⟩
abbrev main_v192 : Ref sig .tc := ⟨.hbm, 271, rfl⟩
abbrev main_c_30 : Ref sig .tc := ⟨.hbm, 272, rfl⟩
abbrev main_v193 : Ref sig .tc := ⟨.hbm, 273, rfl⟩
abbrev main_v194 : Ref sig .tc := ⟨.hbm, 274, rfl⟩
abbrev main_v195 : Ref sig .tc := ⟨.hbm, 275, rfl⟩
abbrev main_v196 : Ref sig .tc := ⟨.hbm, 276, rfl⟩
abbrev main_v197 : Ref sig .tc := ⟨.hbm, 277, rfl⟩
abbrev main_v198 : Ref sig .tc := ⟨.hbm, 278, rfl⟩
abbrev main_v199 : Ref sig .tc := ⟨.hbm, 279, rfl⟩
abbrev main_v200 : Ref sig .tc := ⟨.hbm, 280, rfl⟩
abbrev main_v201 : Ref sig .tc := ⟨.hbm, 281, rfl⟩
abbrev main_v202 : Ref sig .tc := ⟨.hbm, 282, rfl⟩
abbrev main_call9_cst : Ref sig .tc := ⟨.hbm, 283, rfl⟩
abbrev main_call9_v0 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_call10_cst : Ref sig .tc := ⟨.hbm, 290, rfl⟩
abbrev main_call10_v0 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_call11_cst : Ref sig .tc := ⟨.hbm, 297, rfl⟩
abbrev main_call11_v0 : Ref sig .tc := ⟨.hbm, 298, rfl⟩
abbrev main_v213 : Ref sig .tc := ⟨.hbm, 299, rfl⟩
abbrev main_v214 : Ref sig .tc := ⟨.hbm, 300, rfl⟩
abbrev main_v215 : Ref sig .tc := ⟨.hbm, 301, rfl⟩
abbrev main_v216 : Ref sig .tc := ⟨.hbm, 302, rfl⟩
abbrev main_v217 : Ref sig .tc := ⟨.hbm, 303, rfl⟩
abbrev main_cst_31 : Ref sig .tc := ⟨.hbm, 304, rfl⟩
abbrev main_v218 : Ref sig .tc := ⟨.hbm, 305, rfl⟩
abbrev main_v219 : Ref sig .tc := ⟨.hbm, 306, rfl⟩
abbrev main_v220 : Ref sig .tc := ⟨.hbm, 307, rfl⟩
abbrev main_v221 : Ref sig .tc := ⟨.hbm, 308, rfl⟩
abbrev main_v222 : Ref sig .tc := ⟨.hbm, 309, rfl⟩
abbrev main_v223 : Ref sig .tc := ⟨.hbm, 310, rfl⟩
abbrev main_v224 : Ref sig .tc := ⟨.hbm, 311, rfl⟩
abbrev main_v225 : Ref sig .tc := ⟨.hbm, 312, rfl⟩
abbrev main_v226 : Ref sig .tc := ⟨.hbm, 313, rfl⟩
abbrev main_v227 : Ref sig .tc := ⟨.hbm, 314, rfl⟩
abbrev main_v228 : Ref sig .tc := ⟨.hbm, 315, rfl⟩
abbrev main_v229 : Ref sig .tc := ⟨.hbm, 316, rfl⟩
abbrev main_v230 : Ref sig .tc := ⟨.hbm, 317, rfl⟩
abbrev main_v231 : Ref sig .tc := ⟨.hbm, 318, rfl⟩
abbrev main_v232 : Ref sig .tc := ⟨.hbm, 319, rfl⟩
abbrev main_cst_32 : Ref sig .tc := ⟨.hbm, 320, rfl⟩
abbrev main_v233 : Ref sig .tc := ⟨.hbm, 321, rfl⟩
abbrev main_v234 : Ref sig .tc := ⟨.hbm, 322, rfl⟩
abbrev main_cst_33 : Ref sig .tc := ⟨.hbm, 323, rfl⟩
abbrev main_v235 : Ref sig .tc := ⟨.hbm, 324, rfl⟩
abbrev main_v236 : Ref sig .tc := ⟨.hbm, 325, rfl⟩
abbrev main_v237 : Ref sig .tc := ⟨.hbm, 326, rfl⟩
abbrev main_v238 : Ref sig .tc := ⟨.hbm, 327, rfl⟩
abbrev main_cst_34 : Ref sig .tc := ⟨.hbm, 328, rfl⟩
abbrev main_v239 : Ref sig .tc := ⟨.hbm, 329, rfl⟩
abbrev main_v240 : Ref sig .tc := ⟨.hbm, 330, rfl⟩
abbrev main_cst_35 : Ref sig .tc := ⟨.hbm, 331, rfl⟩
abbrev main_v241 : Ref sig .tc := ⟨.hbm, 332, rfl⟩
abbrev main_v242 : Ref sig .tc := ⟨.hbm, 333, rfl⟩
abbrev main_v243 : Ref sig .tc := ⟨.hbm, 334, rfl⟩
abbrev main_v244 : Ref sig .tc := ⟨.hbm, 335, rfl⟩
abbrev main_v245 : Ref sig .tc := ⟨.hbm, 336, rfl⟩
abbrev main_cst_36 : Ref sig .tc := ⟨.hbm, 337, rfl⟩
abbrev main_v246 : Ref sig .tc := ⟨.hbm, 338, rfl⟩
abbrev main_v247 : Ref sig .tc := ⟨.hbm, 339, rfl⟩
abbrev main_cst_37 : Ref sig .tc := ⟨.hbm, 340, rfl⟩
abbrev main_v248 : Ref sig .tc := ⟨.hbm, 341, rfl⟩
abbrev main_v249 : Ref sig .tc := ⟨.hbm, 342, rfl⟩
abbrev main_v250 : Ref sig .tc := ⟨.hbm, 343, rfl⟩
abbrev main_v251 : Ref sig .tc := ⟨.hbm, 344, rfl⟩
abbrev main_v252 : Ref sig .tc := ⟨.hbm, 345, rfl⟩
abbrev main_v253 : Ref sig .tc := ⟨.hbm, 346, rfl⟩
abbrev main_v254 : Ref sig .tc := ⟨.hbm, 347, rfl⟩
abbrev main_c_38 : Ref sig .tc := ⟨.hbm, 348, rfl⟩
abbrev main_v255 : Ref sig .tc := ⟨.hbm, 349, rfl⟩
abbrev main_v256 : Ref sig .tc := ⟨.hbm, 350, rfl⟩
abbrev main_c_39 : Ref sig .tc := ⟨.hbm, 351, rfl⟩
abbrev main_v257 : Ref sig .tc := ⟨.hbm, 352, rfl⟩
abbrev main_v258 : Ref sig .tc := ⟨.hbm, 353, rfl⟩
abbrev main_v259 : Ref sig .tc := ⟨.hbm, 354, rfl⟩
abbrev main_v260 : Ref sig .tc := ⟨.hbm, 355, rfl⟩
abbrev main_v261 : Ref sig .tc := ⟨.hbm, 356, rfl⟩
abbrev main_c_40 : Ref sig .tc := ⟨.hbm, 357, rfl⟩
abbrev main_v262 : Ref sig .tc := ⟨.hbm, 358, rfl⟩
abbrev main_v263 : Ref sig .tc := ⟨.hbm, 359, rfl⟩
abbrev main_c_41 : Ref sig .tc := ⟨.hbm, 360, rfl⟩
abbrev main_v264 : Ref sig .tc := ⟨.hbm, 361, rfl⟩
abbrev main_v265 : Ref sig .tc := ⟨.hbm, 362, rfl⟩
abbrev main_v266 : Ref sig .tc := ⟨.hbm, 363, rfl⟩
abbrev main_v267 : Ref sig .tc := ⟨.hbm, 364, rfl⟩
abbrev main_v268 : Ref sig .tc := ⟨.hbm, 365, rfl⟩
abbrev main_v269 : Ref sig .tc := ⟨.hbm, 366, rfl⟩
abbrev main_v270 : Ref sig .tc := ⟨.hbm, 367, rfl⟩
abbrev main_v271 : Ref sig .tc := ⟨.hbm, 368, rfl⟩
abbrev main_v272 : Ref sig .tc := ⟨.hbm, 369, rfl⟩
abbrev main_v273 : Ref sig .tc := ⟨.hbm, 370, rfl⟩
abbrev main_call12_cst : Ref sig .tc := ⟨.hbm, 371, rfl⟩
abbrev main_call12_v0 : Ref sig .tc := ⟨.hbm, 372, rfl⟩
abbrev main_v274 : Ref sig .tc := ⟨.hbm, 373, rfl⟩
abbrev main_v275 : Ref sig .tc := ⟨.hbm, 374, rfl⟩
abbrev main_v276 : Ref sig .tc := ⟨.hbm, 375, rfl⟩
abbrev main_v277 : Ref sig .tc := ⟨.hbm, 376, rfl⟩
abbrev main_v278 : Ref sig .tc := ⟨.hbm, 377, rfl⟩
abbrev main_call13_cst : Ref sig .tc := ⟨.hbm, 378, rfl⟩
abbrev main_call13_v0 : Ref sig .tc := ⟨.hbm, 379, rfl⟩
abbrev main_v279 : Ref sig .tc := ⟨.hbm, 380, rfl⟩
abbrev main_v280 : Ref sig .tc := ⟨.hbm, 381, rfl⟩
abbrev main_v281 : Ref sig .tc := ⟨.hbm, 382, rfl⟩
abbrev main_v282 : Ref sig .tc := ⟨.hbm, 383, rfl⟩
abbrev main_v283 : Ref sig .tc := ⟨.hbm, 384, rfl⟩
abbrev main_call14_cst : Ref sig .tc := ⟨.hbm, 385, rfl⟩
abbrev main_call14_v0 : Ref sig .tc := ⟨.hbm, 386, rfl⟩
abbrev main_v284 : Ref sig .tc := ⟨.hbm, 387, rfl⟩
abbrev main_v285 : Ref sig .tc := ⟨.hbm, 388, rfl⟩
abbrev main_v286 : Ref sig .tc := ⟨.hbm, 389, rfl⟩
abbrev main_v287 : Ref sig .tc := ⟨.hbm, 390, rfl⟩
abbrev main_v288 : Ref sig .tc := ⟨.hbm, 391, rfl⟩
abbrev main_cst_42 : Ref sig .tc := ⟨.hbm, 392, rfl⟩
abbrev main_v289 : Ref sig .tc := ⟨.hbm, 393, rfl⟩
abbrev main_v290 : Ref sig .tc := ⟨.hbm, 394, rfl⟩
abbrev main_v291 : Ref sig .tc := ⟨.hbm, 395, rfl⟩
abbrev main_v292 : Ref sig .tc := ⟨.hbm, 396, rfl⟩
abbrev main_v293 : Ref sig .tc := ⟨.hbm, 397, rfl⟩
abbrev main_v294 : Ref sig .tc := ⟨.hbm, 398, rfl⟩
abbrev main_v295 : Ref sig .tc := ⟨.hbm, 399, rfl⟩
abbrev main_v296 : Ref sig .tc := ⟨.hbm, 400, rfl⟩
abbrev main_v297 : Ref sig .tc := ⟨.hbm, 401, rfl⟩
abbrev main_v298 : Ref sig .tc := ⟨.hbm, 402, rfl⟩
abbrev main_v299 : Ref sig .tc := ⟨.hbm, 403, rfl⟩
abbrev main_v300 : Ref sig .tc := ⟨.hbm, 404, rfl⟩
abbrev main_v301 : Ref sig .tc := ⟨.hbm, 405, rfl⟩
abbrev main_v302 : Ref sig .tc := ⟨.hbm, 406, rfl⟩
abbrev main_v303 : Ref sig .tc := ⟨.hbm, 407, rfl⟩
abbrev main_cst_43 : Ref sig .tc := ⟨.hbm, 408, rfl⟩
abbrev main_v304 : Ref sig .tc := ⟨.hbm, 409, rfl⟩
abbrev main_v305 : Ref sig .tc := ⟨.hbm, 410, rfl⟩
abbrev main_cst_44 : Ref sig .tc := ⟨.hbm, 411, rfl⟩
abbrev main_v306 : Ref sig .tc := ⟨.hbm, 412, rfl⟩
abbrev main_v307 : Ref sig .tc := ⟨.hbm, 413, rfl⟩
abbrev main_v308 : Ref sig .tc := ⟨.hbm, 414, rfl⟩
abbrev main_v309 : Ref sig .tc := ⟨.hbm, 415, rfl⟩
abbrev main_cst_45 : Ref sig .tc := ⟨.hbm, 416, rfl⟩
abbrev main_v310 : Ref sig .tc := ⟨.hbm, 417, rfl⟩
abbrev main_v311 : Ref sig .tc := ⟨.hbm, 418, rfl⟩
abbrev main_cst_46 : Ref sig .tc := ⟨.hbm, 419, rfl⟩
abbrev main_v312 : Ref sig .tc := ⟨.hbm, 420, rfl⟩
abbrev main_v313 : Ref sig .tc := ⟨.hbm, 421, rfl⟩
abbrev main_v314 : Ref sig .tc := ⟨.hbm, 422, rfl⟩
abbrev main_v315 : Ref sig .tc := ⟨.hbm, 423, rfl⟩
abbrev main_v316 : Ref sig .tc := ⟨.hbm, 424, rfl⟩
abbrev main_cst_47 : Ref sig .tc := ⟨.hbm, 425, rfl⟩
abbrev main_v317 : Ref sig .tc := ⟨.hbm, 426, rfl⟩
abbrev main_v318 : Ref sig .tc := ⟨.hbm, 427, rfl⟩
abbrev main_cst_48 : Ref sig .tc := ⟨.hbm, 428, rfl⟩
abbrev main_v319 : Ref sig .tc := ⟨.hbm, 429, rfl⟩
abbrev main_v320 : Ref sig .tc := ⟨.hbm, 430, rfl⟩
abbrev main_v321 : Ref sig .tc := ⟨.hbm, 431, rfl⟩
abbrev main_v322 : Ref sig .tc := ⟨.hbm, 432, rfl⟩
abbrev main_v323 : Ref sig .tc := ⟨.hbm, 433, rfl⟩
abbrev main_v324 : Ref sig .tc := ⟨.hbm, 434, rfl⟩
abbrev main_v325 : Ref sig .tc := ⟨.hbm, 435, rfl⟩
abbrev main_c_49 : Ref sig .tc := ⟨.hbm, 436, rfl⟩
abbrev main_v326 : Ref sig .tc := ⟨.hbm, 437, rfl⟩
abbrev main_v327 : Ref sig .tc := ⟨.hbm, 438, rfl⟩
abbrev main_c_50 : Ref sig .tc := ⟨.hbm, 439, rfl⟩
abbrev main_v328 : Ref sig .tc := ⟨.hbm, 440, rfl⟩
abbrev main_v329 : Ref sig .tc := ⟨.hbm, 441, rfl⟩
abbrev main_v330 : Ref sig .tc := ⟨.hbm, 442, rfl⟩
abbrev main_v331 : Ref sig .tc := ⟨.hbm, 443, rfl⟩
abbrev main_v332 : Ref sig .tc := ⟨.hbm, 444, rfl⟩
abbrev main_c_51 : Ref sig .tc := ⟨.hbm, 445, rfl⟩
abbrev main_v333 : Ref sig .tc := ⟨.hbm, 446, rfl⟩
abbrev main_v334 : Ref sig .tc := ⟨.hbm, 447, rfl⟩
abbrev main_c_52 : Ref sig .tc := ⟨.hbm, 448, rfl⟩
abbrev main_v335 : Ref sig .tc := ⟨.hbm, 449, rfl⟩
abbrev main_v336 : Ref sig .tc := ⟨.hbm, 450, rfl⟩
abbrev main_v337 : Ref sig .tc := ⟨.hbm, 451, rfl⟩
abbrev main_v338 : Ref sig .tc := ⟨.hbm, 452, rfl⟩
abbrev main_v339 : Ref sig .tc := ⟨.hbm, 453, rfl⟩
abbrev main_v340 : Ref sig .tc := ⟨.hbm, 454, rfl⟩
abbrev main_v341 : Ref sig .tc := ⟨.hbm, 455, rfl⟩
abbrev main_v342 : Ref sig .tc := ⟨.hbm, 456, rfl⟩
abbrev main_v343 : Ref sig .tc := ⟨.hbm, 457, rfl⟩
abbrev main_v344 : Ref sig .tc := ⟨.hbm, 458, rfl⟩
abbrev main_call15_cst : Ref sig .tc := ⟨.hbm, 459, rfl⟩
abbrev main_call15_v0 : Ref sig .tc := ⟨.hbm, 460, rfl⟩
abbrev main_v345 : Ref sig .tc := ⟨.hbm, 461, rfl⟩
abbrev main_v346 : Ref sig .tc := ⟨.hbm, 462, rfl⟩
abbrev main_v347 : Ref sig .tc := ⟨.hbm, 463, rfl⟩
abbrev main_v348 : Ref sig .tc := ⟨.hbm, 464, rfl⟩
abbrev main_v349 : Ref sig .tc := ⟨.hbm, 465, rfl⟩
abbrev main_call16_cst : Ref sig .tc := ⟨.hbm, 466, rfl⟩
abbrev main_call16_v0 : Ref sig .tc := ⟨.hbm, 467, rfl⟩
abbrev main_v350 : Ref sig .tc := ⟨.hbm, 468, rfl⟩
abbrev main_v351 : Ref sig .tc := ⟨.hbm, 469, rfl⟩
abbrev main_v352 : Ref sig .tc := ⟨.hbm, 470, rfl⟩
abbrev main_v353 : Ref sig .tc := ⟨.hbm, 471, rfl⟩
abbrev main_v354 : Ref sig .tc := ⟨.hbm, 472, rfl⟩
abbrev main_call17_cst : Ref sig .tc := ⟨.hbm, 473, rfl⟩
abbrev main_call17_v0 : Ref sig .tc := ⟨.hbm, 474, rfl⟩
abbrev main_v355 : Ref sig .tc := ⟨.hbm, 475, rfl⟩
abbrev main_v356 : Ref sig .tc := ⟨.hbm, 476, rfl⟩
abbrev main_v357 : Ref sig .tc := ⟨.hbm, 477, rfl⟩
abbrev main_v358 : Ref sig .tc := ⟨.hbm, 478, rfl⟩
abbrev main_v359 : Ref sig .tc := ⟨.hbm, 479, rfl⟩
abbrev main_cst_53 : Ref sig .tc := ⟨.hbm, 480, rfl⟩
abbrev main_v360 : Ref sig .tc := ⟨.hbm, 481, rfl⟩
abbrev main_v361 : Ref sig .tc := ⟨.hbm, 482, rfl⟩
abbrev main_v362 : Ref sig .tc := ⟨.hbm, 483, rfl⟩
abbrev main_v363 : Ref sig .tc := ⟨.hbm, 484, rfl⟩
abbrev main_v364 : Ref sig .tc := ⟨.hbm, 485, rfl⟩
abbrev main_v365 : Ref sig .tc := ⟨.hbm, 486, rfl⟩
abbrev main_v366 : Ref sig .tc := ⟨.hbm, 487, rfl⟩
abbrev main_v367 : Ref sig .tc := ⟨.hbm, 488, rfl⟩
abbrev main_v368 : Ref sig .tc := ⟨.hbm, 489, rfl⟩
abbrev main_v369 : Ref sig .tc := ⟨.hbm, 490, rfl⟩
abbrev main_v370 : Ref sig .tc := ⟨.hbm, 491, rfl⟩
abbrev main_v371 : Ref sig .tc := ⟨.hbm, 492, rfl⟩
abbrev main_v372 : Ref sig .tc := ⟨.hbm, 493, rfl⟩
abbrev main_v373 : Ref sig .tc := ⟨.hbm, 494, rfl⟩
abbrev main_v374 : Ref sig .tc := ⟨.hbm, 495, rfl⟩
abbrev main_cst_54 : Ref sig .tc := ⟨.hbm, 496, rfl⟩
abbrev main_v375 : Ref sig .tc := ⟨.hbm, 497, rfl⟩
abbrev main_v376 : Ref sig .tc := ⟨.hbm, 498, rfl⟩
abbrev main_cst_55 : Ref sig .tc := ⟨.hbm, 499, rfl⟩
abbrev main_v377 : Ref sig .tc := ⟨.hbm, 500, rfl⟩
abbrev main_v378 : Ref sig .tc := ⟨.hbm, 501, rfl⟩
abbrev main_v379 : Ref sig .tc := ⟨.hbm, 502, rfl⟩
abbrev main_v380 : Ref sig .tc := ⟨.hbm, 503, rfl⟩
abbrev main_cst_56 : Ref sig .tc := ⟨.hbm, 504, rfl⟩
abbrev main_v381 : Ref sig .tc := ⟨.hbm, 505, rfl⟩
abbrev main_v382 : Ref sig .tc := ⟨.hbm, 506, rfl⟩
abbrev main_cst_57 : Ref sig .tc := ⟨.hbm, 507, rfl⟩
abbrev main_v383 : Ref sig .tc := ⟨.hbm, 508, rfl⟩
abbrev main_v384 : Ref sig .tc := ⟨.hbm, 509, rfl⟩
abbrev main_v385 : Ref sig .tc := ⟨.hbm, 510, rfl⟩
abbrev main_v386 : Ref sig .tc := ⟨.hbm, 511, rfl⟩
abbrev main_v387 : Ref sig .tc := ⟨.hbm, 512, rfl⟩
abbrev main_cst_58 : Ref sig .tc := ⟨.hbm, 513, rfl⟩
abbrev main_v388 : Ref sig .tc := ⟨.hbm, 514, rfl⟩
abbrev main_v389 : Ref sig .tc := ⟨.hbm, 515, rfl⟩
abbrev main_cst_59 : Ref sig .tc := ⟨.hbm, 516, rfl⟩
abbrev main_v390 : Ref sig .tc := ⟨.hbm, 517, rfl⟩
abbrev main_v391 : Ref sig .tc := ⟨.hbm, 518, rfl⟩
abbrev main_v392 : Ref sig .tc := ⟨.hbm, 519, rfl⟩
abbrev main_v393 : Ref sig .tc := ⟨.hbm, 520, rfl⟩
abbrev main_v394 : Ref sig .tc := ⟨.hbm, 521, rfl⟩
abbrev main_v395 : Ref sig .tc := ⟨.hbm, 522, rfl⟩
abbrev main_v396 : Ref sig .tc := ⟨.hbm, 523, rfl⟩
abbrev main_c_60 : Ref sig .tc := ⟨.hbm, 524, rfl⟩
abbrev main_v397 : Ref sig .tc := ⟨.hbm, 525, rfl⟩
abbrev main_v398 : Ref sig .tc := ⟨.hbm, 526, rfl⟩
abbrev main_c_61 : Ref sig .tc := ⟨.hbm, 527, rfl⟩
abbrev main_v399 : Ref sig .tc := ⟨.hbm, 528, rfl⟩
abbrev main_v400 : Ref sig .tc := ⟨.hbm, 529, rfl⟩
abbrev main_v401 : Ref sig .tc := ⟨.hbm, 530, rfl⟩
abbrev main_v402 : Ref sig .tc := ⟨.hbm, 531, rfl⟩
abbrev main_v403 : Ref sig .tc := ⟨.hbm, 532, rfl⟩
abbrev main_c_62 : Ref sig .tc := ⟨.hbm, 533, rfl⟩
abbrev main_v404 : Ref sig .tc := ⟨.hbm, 534, rfl⟩
abbrev main_v405 : Ref sig .tc := ⟨.hbm, 535, rfl⟩
abbrev main_c_63 : Ref sig .tc := ⟨.hbm, 536, rfl⟩
abbrev main_v406 : Ref sig .tc := ⟨.hbm, 537, rfl⟩
abbrev main_v407 : Ref sig .tc := ⟨.hbm, 538, rfl⟩
abbrev main_v408 : Ref sig .tc := ⟨.hbm, 539, rfl⟩
abbrev main_v409 : Ref sig .tc := ⟨.hbm, 540, rfl⟩
abbrev main_v410 : Ref sig .tc := ⟨.hbm, 541, rfl⟩
abbrev main_v411 : Ref sig .tc := ⟨.hbm, 542, rfl⟩
abbrev main_v412 : Ref sig .tc := ⟨.hbm, 543, rfl⟩
abbrev main_v413 : Ref sig .tc := ⟨.hbm, 544, rfl⟩
abbrev main_v414 : Ref sig .tc := ⟨.hbm, 545, rfl⟩
abbrev main_v415 : Ref sig .tc := ⟨.hbm, 546, rfl⟩
abbrev main_call18_cst : Ref sig .tc := ⟨.hbm, 547, rfl⟩
abbrev main_call18_v0 : Ref sig .tc := ⟨.hbm, 548, rfl⟩
abbrev main_v416 : Ref sig .tc := ⟨.hbm, 549, rfl⟩
abbrev main_v417 : Ref sig .tc := ⟨.hbm, 550, rfl⟩
abbrev main_v418 : Ref sig .tc := ⟨.hbm, 551, rfl⟩
abbrev main_v419 : Ref sig .tc := ⟨.hbm, 552, rfl⟩
abbrev main_v420 : Ref sig .tc := ⟨.hbm, 553, rfl⟩
abbrev main_call19_cst : Ref sig .tc := ⟨.hbm, 554, rfl⟩
abbrev main_call19_v0 : Ref sig .tc := ⟨.hbm, 555, rfl⟩
abbrev main_v421 : Ref sig .tc := ⟨.hbm, 556, rfl⟩
abbrev main_v422 : Ref sig .tc := ⟨.hbm, 557, rfl⟩
abbrev main_v423 : Ref sig .tc := ⟨.hbm, 558, rfl⟩
abbrev main_v424 : Ref sig .tc := ⟨.hbm, 559, rfl⟩
abbrev main_v425 : Ref sig .tc := ⟨.hbm, 560, rfl⟩
abbrev main_call20_cst : Ref sig .tc := ⟨.hbm, 561, rfl⟩
abbrev main_call20_v0 : Ref sig .tc := ⟨.hbm, 562, rfl⟩
abbrev main_v426 : Ref sig .tc := ⟨.hbm, 563, rfl⟩
abbrev main_v427 : Ref sig .tc := ⟨.hbm, 564, rfl⟩
abbrev main_v428 : Ref sig .tc := ⟨.hbm, 565, rfl⟩
abbrev main_v429 : Ref sig .tc := ⟨.hbm, 566, rfl⟩
abbrev main_v430 : Ref sig .tc := ⟨.hbm, 567, rfl⟩
abbrev main_cst_64 : Ref sig .tc := ⟨.hbm, 568, rfl⟩
abbrev main_v431 : Ref sig .tc := ⟨.hbm, 569, rfl⟩
abbrev main_v432 : Ref sig .tc := ⟨.hbm, 570, rfl⟩
abbrev main_v433 : Ref sig .tc := ⟨.hbm, 571, rfl⟩
abbrev main_v434 : Ref sig .tc := ⟨.hbm, 572, rfl⟩
abbrev main_v435 : Ref sig .tc := ⟨.hbm, 573, rfl⟩
abbrev main_v436 : Ref sig .tc := ⟨.hbm, 574, rfl⟩
abbrev main_v437 : Ref sig .tc := ⟨.hbm, 575, rfl⟩
abbrev main_v438 : Ref sig .tc := ⟨.hbm, 576, rfl⟩
abbrev main_v439 : Ref sig .tc := ⟨.hbm, 577, rfl⟩
abbrev main_v440 : Ref sig .tc := ⟨.hbm, 578, rfl⟩
abbrev main_v441 : Ref sig .tc := ⟨.hbm, 579, rfl⟩
abbrev main_v442 : Ref sig .tc := ⟨.hbm, 580, rfl⟩
abbrev main_v443 : Ref sig .tc := ⟨.hbm, 581, rfl⟩
abbrev main_v444 : Ref sig .tc := ⟨.hbm, 582, rfl⟩
abbrev main_v445 : Ref sig .tc := ⟨.hbm, 583, rfl⟩
abbrev main_cst_65 : Ref sig .tc := ⟨.hbm, 584, rfl⟩
abbrev main_v446 : Ref sig .tc := ⟨.hbm, 585, rfl⟩
abbrev main_v447 : Ref sig .tc := ⟨.hbm, 586, rfl⟩
abbrev main_cst_66 : Ref sig .tc := ⟨.hbm, 587, rfl⟩
abbrev main_v448 : Ref sig .tc := ⟨.hbm, 588, rfl⟩
abbrev main_v449 : Ref sig .tc := ⟨.hbm, 589, rfl⟩
abbrev main_v450 : Ref sig .tc := ⟨.hbm, 590, rfl⟩
abbrev main_v451 : Ref sig .tc := ⟨.hbm, 591, rfl⟩
abbrev main_cst_67 : Ref sig .tc := ⟨.hbm, 592, rfl⟩
abbrev main_v452 : Ref sig .tc := ⟨.hbm, 593, rfl⟩
abbrev main_v453 : Ref sig .tc := ⟨.hbm, 594, rfl⟩
abbrev main_cst_68 : Ref sig .tc := ⟨.hbm, 595, rfl⟩
abbrev main_v454 : Ref sig .tc := ⟨.hbm, 596, rfl⟩
abbrev main_v455 : Ref sig .tc := ⟨.hbm, 597, rfl⟩
abbrev main_v456 : Ref sig .tc := ⟨.hbm, 598, rfl⟩
abbrev main_v457 : Ref sig .tc := ⟨.hbm, 599, rfl⟩
abbrev main_v458 : Ref sig .tc := ⟨.hbm, 600, rfl⟩
abbrev main_cst_69 : Ref sig .tc := ⟨.hbm, 601, rfl⟩
abbrev main_v459 : Ref sig .tc := ⟨.hbm, 602, rfl⟩
abbrev main_v460 : Ref sig .tc := ⟨.hbm, 603, rfl⟩
abbrev main_cst_70 : Ref sig .tc := ⟨.hbm, 604, rfl⟩
abbrev main_v461 : Ref sig .tc := ⟨.hbm, 605, rfl⟩
abbrev main_v462 : Ref sig .tc := ⟨.hbm, 606, rfl⟩
abbrev main_v463 : Ref sig .tc := ⟨.hbm, 607, rfl⟩
abbrev main_v464 : Ref sig .tc := ⟨.hbm, 608, rfl⟩
abbrev main_v465 : Ref sig .tc := ⟨.hbm, 609, rfl⟩
abbrev main_v466 : Ref sig .tc := ⟨.hbm, 610, rfl⟩
abbrev main_v467 : Ref sig .tc := ⟨.hbm, 611, rfl⟩
abbrev main_c_71 : Ref sig .tc := ⟨.hbm, 612, rfl⟩
abbrev main_v468 : Ref sig .tc := ⟨.hbm, 613, rfl⟩
abbrev main_v469 : Ref sig .tc := ⟨.hbm, 614, rfl⟩
abbrev main_c_72 : Ref sig .tc := ⟨.hbm, 615, rfl⟩
abbrev main_v470 : Ref sig .tc := ⟨.hbm, 616, rfl⟩
abbrev main_v471 : Ref sig .tc := ⟨.hbm, 617, rfl⟩
abbrev main_v472 : Ref sig .tc := ⟨.hbm, 618, rfl⟩
abbrev main_v473 : Ref sig .tc := ⟨.hbm, 619, rfl⟩
abbrev main_v474 : Ref sig .tc := ⟨.hbm, 620, rfl⟩
abbrev main_c_73 : Ref sig .tc := ⟨.hbm, 621, rfl⟩
abbrev main_v475 : Ref sig .tc := ⟨.hbm, 622, rfl⟩
abbrev main_v476 : Ref sig .tc := ⟨.hbm, 623, rfl⟩
abbrev main_c_74 : Ref sig .tc := ⟨.hbm, 624, rfl⟩
abbrev main_v477 : Ref sig .tc := ⟨.hbm, 625, rfl⟩
abbrev main_v478 : Ref sig .tc := ⟨.hbm, 626, rfl⟩
abbrev main_v479 : Ref sig .tc := ⟨.hbm, 627, rfl⟩
abbrev main_v480 : Ref sig .tc := ⟨.hbm, 628, rfl⟩
abbrev main_v481 : Ref sig .tc := ⟨.hbm, 629, rfl⟩
abbrev main_v482 : Ref sig .tc := ⟨.hbm, 630, rfl⟩
abbrev main_v483 : Ref sig .tc := ⟨.hbm, 631, rfl⟩
abbrev main_v484 : Ref sig .tc := ⟨.hbm, 632, rfl⟩
abbrev main_v485 : Ref sig .tc := ⟨.hbm, 633, rfl⟩
abbrev main_v486 : Ref sig .tc := ⟨.hbm, 634, rfl⟩
abbrev main_call21_cst : Ref sig .tc := ⟨.hbm, 635, rfl⟩
abbrev main_call21_v0 : Ref sig .tc := ⟨.hbm, 636, rfl⟩
abbrev main_v487 : Ref sig .tc := ⟨.hbm, 637, rfl⟩
abbrev main_v488 : Ref sig .tc := ⟨.hbm, 638, rfl⟩
abbrev main_v489 : Ref sig .tc := ⟨.hbm, 639, rfl⟩
abbrev main_v490 : Ref sig .tc := ⟨.hbm, 640, rfl⟩
abbrev main_v491 : Ref sig .tc := ⟨.hbm, 641, rfl⟩
abbrev main_call22_cst : Ref sig .tc := ⟨.hbm, 642, rfl⟩
abbrev main_call22_v0 : Ref sig .tc := ⟨.hbm, 643, rfl⟩
abbrev main_v492 : Ref sig .tc := ⟨.hbm, 644, rfl⟩
abbrev main_v493 : Ref sig .tc := ⟨.hbm, 645, rfl⟩
abbrev main_v494 : Ref sig .tc := ⟨.hbm, 646, rfl⟩
abbrev main_v495 : Ref sig .tc := ⟨.hbm, 647, rfl⟩
abbrev main_v496 : Ref sig .tc := ⟨.hbm, 648, rfl⟩
abbrev main_call23_cst : Ref sig .tc := ⟨.hbm, 649, rfl⟩
abbrev main_call23_v0 : Ref sig .tc := ⟨.hbm, 650, rfl⟩
abbrev main_v497 : Ref sig .tc := ⟨.hbm, 651, rfl⟩
abbrev main_v498 : Ref sig .tc := ⟨.hbm, 652, rfl⟩
abbrev main_v499 : Ref sig .tc := ⟨.hbm, 653, rfl⟩
abbrev main_v500 : Ref sig .tc := ⟨.hbm, 654, rfl⟩
abbrev main_v501 : Ref sig .tc := ⟨.hbm, 655, rfl⟩
abbrev main_cst_75 : Ref sig .tc := ⟨.hbm, 656, rfl⟩
abbrev main_v502 : Ref sig .tc := ⟨.hbm, 657, rfl⟩
abbrev main_v503 : Ref sig .tc := ⟨.hbm, 658, rfl⟩
abbrev main_v504 : Ref sig .tc := ⟨.hbm, 659, rfl⟩
abbrev main_v505 : Ref sig .tc := ⟨.hbm, 660, rfl⟩
abbrev main_v506 : Ref sig .tc := ⟨.hbm, 661, rfl⟩
abbrev main_v507 : Ref sig .tc := ⟨.hbm, 662, rfl⟩
abbrev main_v508 : Ref sig .tc := ⟨.hbm, 663, rfl⟩
abbrev main_v509 : Ref sig .tc := ⟨.hbm, 664, rfl⟩
abbrev main_v510 : Ref sig .tc := ⟨.hbm, 665, rfl⟩
abbrev main_v511 : Ref sig .tc := ⟨.hbm, 666, rfl⟩
abbrev main_v512 : Ref sig .tc := ⟨.hbm, 667, rfl⟩
abbrev main_v513 : Ref sig .tc := ⟨.hbm, 668, rfl⟩
abbrev main_v514 : Ref sig .tc := ⟨.hbm, 669, rfl⟩
abbrev main_v515 : Ref sig .tc := ⟨.hbm, 670, rfl⟩
abbrev main_v516 : Ref sig .tc := ⟨.hbm, 671, rfl⟩
abbrev main_cst_76 : Ref sig .tc := ⟨.hbm, 672, rfl⟩
abbrev main_v517 : Ref sig .tc := ⟨.hbm, 673, rfl⟩
abbrev main_v518 : Ref sig .tc := ⟨.hbm, 674, rfl⟩
abbrev main_cst_77 : Ref sig .tc := ⟨.hbm, 675, rfl⟩
abbrev main_v519 : Ref sig .tc := ⟨.hbm, 676, rfl⟩
abbrev main_v520 : Ref sig .tc := ⟨.hbm, 677, rfl⟩
abbrev main_v521 : Ref sig .tc := ⟨.hbm, 678, rfl⟩
abbrev main_v522 : Ref sig .tc := ⟨.hbm, 679, rfl⟩
abbrev main_cst_78 : Ref sig .tc := ⟨.hbm, 680, rfl⟩
abbrev main_v523 : Ref sig .tc := ⟨.hbm, 681, rfl⟩
abbrev main_v524 : Ref sig .tc := ⟨.hbm, 682, rfl⟩
abbrev main_cst_79 : Ref sig .tc := ⟨.hbm, 683, rfl⟩
abbrev main_v525 : Ref sig .tc := ⟨.hbm, 684, rfl⟩
abbrev main_v526 : Ref sig .tc := ⟨.hbm, 685, rfl⟩
abbrev main_v527 : Ref sig .tc := ⟨.hbm, 686, rfl⟩
abbrev main_v528 : Ref sig .tc := ⟨.hbm, 687, rfl⟩
abbrev main_v529 : Ref sig .tc := ⟨.hbm, 688, rfl⟩
abbrev main_cst_80 : Ref sig .tc := ⟨.hbm, 689, rfl⟩
abbrev main_v530 : Ref sig .tc := ⟨.hbm, 690, rfl⟩
abbrev main_v531 : Ref sig .tc := ⟨.hbm, 691, rfl⟩
abbrev main_cst_81 : Ref sig .tc := ⟨.hbm, 692, rfl⟩
abbrev main_v532 : Ref sig .tc := ⟨.hbm, 693, rfl⟩
abbrev main_v533 : Ref sig .tc := ⟨.hbm, 694, rfl⟩
abbrev main_v534 : Ref sig .tc := ⟨.hbm, 695, rfl⟩
abbrev main_v535 : Ref sig .tc := ⟨.hbm, 696, rfl⟩
abbrev main_v536 : Ref sig .tc := ⟨.hbm, 697, rfl⟩
abbrev main_v537 : Ref sig .tc := ⟨.hbm, 698, rfl⟩
abbrev main_v538 : Ref sig .tc := ⟨.hbm, 699, rfl⟩
abbrev main_c_82 : Ref sig .tc := ⟨.hbm, 700, rfl⟩
abbrev main_v539 : Ref sig .tc := ⟨.hbm, 701, rfl⟩
abbrev main_v540 : Ref sig .tc := ⟨.hbm, 702, rfl⟩
abbrev main_c_83 : Ref sig .tc := ⟨.hbm, 703, rfl⟩
abbrev main_v541 : Ref sig .tc := ⟨.hbm, 704, rfl⟩
abbrev main_v542 : Ref sig .tc := ⟨.hbm, 705, rfl⟩
abbrev main_v543 : Ref sig .tc := ⟨.hbm, 706, rfl⟩
abbrev main_v544 : Ref sig .tc := ⟨.hbm, 707, rfl⟩
abbrev main_v545 : Ref sig .tc := ⟨.hbm, 708, rfl⟩
abbrev main_c_84 : Ref sig .tc := ⟨.hbm, 709, rfl⟩
abbrev main_v546 : Ref sig .tc := ⟨.hbm, 710, rfl⟩
abbrev main_v547 : Ref sig .tc := ⟨.hbm, 711, rfl⟩
abbrev main_c_85 : Ref sig .tc := ⟨.hbm, 712, rfl⟩
abbrev main_v548 : Ref sig .tc := ⟨.hbm, 713, rfl⟩
abbrev main_v549 : Ref sig .tc := ⟨.hbm, 714, rfl⟩
abbrev main_v550 : Ref sig .tc := ⟨.hbm, 715, rfl⟩
abbrev main_v551 : Ref sig .tc := ⟨.hbm, 716, rfl⟩
abbrev main_v552 : Ref sig .tc := ⟨.hbm, 717, rfl⟩
abbrev main_v553 : Ref sig .tc := ⟨.hbm, 718, rfl⟩
abbrev main_v554 : Ref sig .tc := ⟨.hbm, 719, rfl⟩
abbrev main_v555 : Ref sig .tc := ⟨.hbm, 720, rfl⟩
abbrev main_v556 : Ref sig .tc := ⟨.hbm, 721, rfl⟩
abbrev main_v557 : Ref sig .tc := ⟨.hbm, 722, rfl⟩
abbrev main_call24_cst : Ref sig .tc := ⟨.hbm, 723, rfl⟩
abbrev main_call24_v0 : Ref sig .tc := ⟨.hbm, 724, rfl⟩
abbrev main_v558 : Ref sig .tc := ⟨.hbm, 725, rfl⟩
abbrev main_v559 : Ref sig .tc := ⟨.hbm, 726, rfl⟩
abbrev main_v560 : Ref sig .tc := ⟨.hbm, 727, rfl⟩
abbrev main_v561 : Ref sig .tc := ⟨.hbm, 728, rfl⟩
abbrev main_v562 : Ref sig .tc := ⟨.hbm, 729, rfl⟩
abbrev main_call25_cst : Ref sig .tc := ⟨.hbm, 730, rfl⟩
abbrev main_call25_v0 : Ref sig .tc := ⟨.hbm, 731, rfl⟩
abbrev main_v563 : Ref sig .tc := ⟨.hbm, 732, rfl⟩
abbrev main_v564 : Ref sig .tc := ⟨.hbm, 733, rfl⟩
abbrev main_v565 : Ref sig .tc := ⟨.hbm, 734, rfl⟩
abbrev main_v566 : Ref sig .tc := ⟨.hbm, 735, rfl⟩
abbrev main_v567 : Ref sig .tc := ⟨.hbm, 736, rfl⟩
abbrev main_call26_cst : Ref sig .tc := ⟨.hbm, 737, rfl⟩
abbrev main_call26_v0 : Ref sig .tc := ⟨.hbm, 738, rfl⟩
abbrev main_v568 : Ref sig .tc := ⟨.hbm, 739, rfl⟩
abbrev main_v569 : Ref sig .tc := ⟨.hbm, 740, rfl⟩
abbrev main_v570 : Ref sig .tc := ⟨.hbm, 741, rfl⟩
abbrev main_v571 : Ref sig .tc := ⟨.hbm, 742, rfl⟩
abbrev main_v572 : Ref sig .tc := ⟨.hbm, 743, rfl⟩
abbrev main_cst_86 : Ref sig .tc := ⟨.hbm, 744, rfl⟩
abbrev main_v573 : Ref sig .tc := ⟨.hbm, 745, rfl⟩
abbrev main_v574 : Ref sig .tc := ⟨.hbm, 746, rfl⟩
abbrev main_v575 : Ref sig .tc := ⟨.hbm, 747, rfl⟩
abbrev main_v576 : Ref sig .tc := ⟨.hbm, 748, rfl⟩
abbrev main_v577 : Ref sig .tc := ⟨.hbm, 749, rfl⟩
abbrev main_v578 : Ref sig .tc := ⟨.hbm, 750, rfl⟩
abbrev main_v579 : Ref sig .tc := ⟨.hbm, 751, rfl⟩
abbrev main_v580 : Ref sig .tc := ⟨.hbm, 752, rfl⟩
abbrev main_v581 : Ref sig .tc := ⟨.hbm, 753, rfl⟩
abbrev main_v582 : Ref sig .tc := ⟨.hbm, 754, rfl⟩
abbrev main_v583 : Ref sig .tc := ⟨.hbm, 755, rfl⟩
abbrev main_v584 : Ref sig .tc := ⟨.hbm, 756, rfl⟩
abbrev main_v585 : Ref sig .tc := ⟨.hbm, 757, rfl⟩
abbrev main_v586 : Ref sig .tc := ⟨.hbm, 758, rfl⟩
abbrev main_v587 : Ref sig .tc := ⟨.hbm, 759, rfl⟩
abbrev main_cst_87 : Ref sig .tc := ⟨.hbm, 760, rfl⟩
abbrev main_v588 : Ref sig .tc := ⟨.hbm, 761, rfl⟩
abbrev main_v589 : Ref sig .tc := ⟨.hbm, 762, rfl⟩
abbrev main_cst_88 : Ref sig .tc := ⟨.hbm, 763, rfl⟩
abbrev main_v590 : Ref sig .tc := ⟨.hbm, 764, rfl⟩
abbrev main_v591 : Ref sig .tc := ⟨.hbm, 765, rfl⟩
abbrev main_v592 : Ref sig .tc := ⟨.hbm, 766, rfl⟩
abbrev main_v593 : Ref sig .tc := ⟨.hbm, 767, rfl⟩
abbrev main_cst_89 : Ref sig .tc := ⟨.hbm, 768, rfl⟩
abbrev main_v594 : Ref sig .tc := ⟨.hbm, 769, rfl⟩
abbrev main_v595 : Ref sig .tc := ⟨.hbm, 770, rfl⟩
abbrev main_cst_90 : Ref sig .tc := ⟨.hbm, 771, rfl⟩
abbrev main_v596 : Ref sig .tc := ⟨.hbm, 772, rfl⟩
abbrev main_v597 : Ref sig .tc := ⟨.hbm, 773, rfl⟩
abbrev main_v598 : Ref sig .tc := ⟨.hbm, 774, rfl⟩
abbrev main_v599 : Ref sig .tc := ⟨.hbm, 775, rfl⟩
abbrev main_v600 : Ref sig .tc := ⟨.hbm, 776, rfl⟩
abbrev main_cst_91 : Ref sig .tc := ⟨.hbm, 777, rfl⟩
abbrev main_v601 : Ref sig .tc := ⟨.hbm, 778, rfl⟩
abbrev main_v602 : Ref sig .tc := ⟨.hbm, 779, rfl⟩
abbrev main_cst_92 : Ref sig .tc := ⟨.hbm, 780, rfl⟩
abbrev main_v603 : Ref sig .tc := ⟨.hbm, 781, rfl⟩
abbrev main_v604 : Ref sig .tc := ⟨.hbm, 782, rfl⟩
abbrev main_v605 : Ref sig .tc := ⟨.hbm, 783, rfl⟩
abbrev main_v606 : Ref sig .tc := ⟨.hbm, 784, rfl⟩
abbrev main_v607 : Ref sig .tc := ⟨.hbm, 785, rfl⟩
abbrev main_v608 : Ref sig .tc := ⟨.hbm, 786, rfl⟩
abbrev main_v609 : Ref sig .tc := ⟨.hbm, 787, rfl⟩
abbrev main_v610 : Ref sig .tc := ⟨.hbm, 788, rfl⟩
abbrev main_v611 : Ref sig .tc := ⟨.hbm, 789, rfl⟩
abbrev main_v612 : Ref sig .tc := ⟨.hbm, 790, rfl⟩
abbrev main_v613 : Ref sig .tc := ⟨.hbm, 791, rfl⟩
abbrev main_v614 : Ref sig .tc := ⟨.hbm, 792, rfl⟩
abbrev main_v615 : Ref sig .tc := ⟨.hbm, 793, rfl⟩
abbrev main_v616 : Ref sig .tc := ⟨.hbm, 794, rfl⟩
abbrev main_v617 : Ref sig .tc := ⟨.hbm, 795, rfl⟩
abbrev main_v618 : Ref sig .tc := ⟨.hbm, 796, rfl⟩
abbrev main_v619 : Ref sig .tc := ⟨.hbm, 797, rfl⟩
abbrev main_v620 : Ref sig .tc := ⟨.hbm, 798, rfl⟩
abbrev main_v621 : Ref sig .tc := ⟨.hbm, 799, rfl⟩
abbrev main_v622 : Ref sig .tc := ⟨.hbm, 800, rfl⟩
abbrev main_v623 : Ref sig .tc := ⟨.hbm, 801, rfl⟩
abbrev main_cst_93 : Ref sig .tc := ⟨.hbm, 802, rfl⟩
abbrev main_v624 : Ref sig .tc := ⟨.hbm, 803, rfl⟩
abbrev main_v625 : Ref sig .tc := ⟨.hbm, 804, rfl⟩
abbrev main_v626 : Ref sig .tc := ⟨.hbm, 805, rfl⟩
abbrev main_v627 : Ref sig .tc := ⟨.hbm, 806, rfl⟩
abbrev main_c_94 : Ref sig .tc := ⟨.hbm, 807, rfl⟩
abbrev main_call27_v0 : Ref sig .tc := ⟨.hbm, 808, rfl⟩
abbrev main_call27_v1 : Ref sig .tc := ⟨.hbm, 809, rfl⟩
abbrev main_v628 : Ref sig .tc := ⟨.hbm, 810, rfl⟩
abbrev main_c_95 : Ref sig .tc := ⟨.hbm, 811, rfl⟩
abbrev main_v629 : Ref sig .tc := ⟨.hbm, 812, rfl⟩
abbrev main_v630 : Ref sig .tc := ⟨.hbm, 813, rfl⟩
abbrev main_v631 : Ref sig .tc := ⟨.hbm, 814, rfl⟩
abbrev main_v632 : Ref sig .tc := ⟨.hbm, 815, rfl⟩
abbrev main_v633 : Ref sig .tc := ⟨.hbm, 816, rfl⟩
abbrev main_v634 : Ref sig .tc := ⟨.hbm, 817, rfl⟩
abbrev main_v635 : Ref sig .tc := ⟨.hbm, 818, rfl⟩
abbrev main_v636 : Ref sig .tc := ⟨.hbm, 819, rfl⟩
abbrev main_v637 : Ref sig .tc := ⟨.hbm, 820, rfl⟩
abbrev main_v638 : Ref sig .tc := ⟨.hbm, 821, rfl⟩
abbrev main_v639 : Ref sig .tc := ⟨.hbm, 822, rfl⟩
abbrev main_v640 : Ref sig .tc := ⟨.hbm, 823, rfl⟩
abbrev main_call28_cst : Ref sig .tc := ⟨.hbm, 824, rfl⟩
abbrev main_call28_v0 : Ref sig .tc := ⟨.hbm, 825, rfl⟩
abbrev main_call28_cst_0 : Ref sig .tc := ⟨.hbm, 826, rfl⟩
abbrev main_call28_v1 : Ref sig .tc := ⟨.hbm, 827, rfl⟩
abbrev main_call28_v2 : Ref sig .tc := ⟨.hbm, 828, rfl⟩
abbrev main_call28_v3 : Ref sig .tc := ⟨.hbm, 829, rfl⟩
abbrev main_call28_v4 : Ref sig .tc := ⟨.hbm, 830, rfl⟩
abbrev main_call28_v5 : Ref sig .tc := ⟨.hbm, 831, rfl⟩
abbrev main_call28_v6 : Ref sig .tc := ⟨.hbm, 832, rfl⟩
abbrev main_call28_cst_1 : Ref sig .tc := ⟨.hbm, 833, rfl⟩
abbrev main_call28_v7 : Ref sig .tc := ⟨.hbm, 834, rfl⟩
abbrev main_call28_v8 : Ref sig .tc := ⟨.hbm, 835, rfl⟩
abbrev main_call28_v9 : Ref sig .tc := ⟨.hbm, 836, rfl⟩
abbrev main_call28_v10 : Ref sig .tc := ⟨.hbm, 837, rfl⟩
abbrev main_v641 : Ref sig .tc := ⟨.hbm, 838, rfl⟩
abbrev main_v642 : Ref sig .tc := ⟨.hbm, 839, rfl⟩
abbrev main_call29_c : Ref sig .tc := ⟨.hbm, 840, rfl⟩
abbrev main_call29_v0 : Ref sig .tc := ⟨.hbm, 841, rfl⟩
abbrev main_call29_v1 : Ref sig .tc := ⟨.hbm, 842, rfl⟩
abbrev main_call29_c_0 : Ref sig .tc := ⟨.hbm, 843, rfl⟩
abbrev main_call29_v2 : Ref sig .tc := ⟨.hbm, 844, rfl⟩
abbrev main_call29_v3 : Ref sig .tc := ⟨.hbm, 845, rfl⟩
abbrev main_call29_v4 : Ref sig .tc := ⟨.hbm, 846, rfl⟩
abbrev main_call29_v5 : Ref sig .tc := ⟨.hbm, 847, rfl⟩
abbrev main_call29_c_1 : Ref sig .tc := ⟨.hbm, 848, rfl⟩
abbrev main_call29_c_2 : Ref sig .tc := ⟨.hbm, 849, rfl⟩
abbrev main_call29_v6 : Ref sig .tc := ⟨.hbm, 850, rfl⟩
abbrev main_call29_v7 : Ref sig .tc := ⟨.hbm, 851, rfl⟩
abbrev main_call29_v8 : Ref sig .tc := ⟨.hbm, 852, rfl⟩
abbrev main_call29_v9 : Ref sig .tc := ⟨.hbm, 853, rfl⟩
abbrev main_call29_v10 : Ref sig .tc := ⟨.hbm, 854, rfl⟩
abbrev main_call29_v11 : Ref sig .tc := ⟨.hbm, 855, rfl⟩
abbrev main_call29_c_3 : Ref sig .tc := ⟨.hbm, 856, rfl⟩
abbrev main_call29_v12 : Ref sig .tc := ⟨.hbm, 857, rfl⟩
abbrev main_call29_v13 : Ref sig .tc := ⟨.hbm, 858, rfl⟩
abbrev main_call29_cst : Ref sig .tc := ⟨.hbm, 859, rfl⟩
abbrev main_call29_v14 : Ref sig .tc := ⟨.hbm, 860, rfl⟩
abbrev main_v643 : Ref sig .tc := ⟨.hbm, 861, rfl⟩
abbrev main_cst_96 : Ref sig .tc := ⟨.hbm, 862, rfl⟩
abbrev main_v644 : Ref sig .tc := ⟨.hbm, 863, rfl⟩
abbrev main_cst_97 : Ref sig .tc := ⟨.hbm, 864, rfl⟩
abbrev main_v645 : Ref sig .tc := ⟨.hbm, 865, rfl⟩
abbrev main_v646 : Ref sig .tc := ⟨.hbm, 866, rfl⟩

abbrev nD : Nat := 1
abbrev τ : Topo := Topo.v7x

variable {F : FTy → Type} [FloatOps F]
-- ==== Proof.Own.KernelIdeal.RunA.lean ====
/-
  One run of the kernel's body: what its stores leave in the three results' buffers, found by running it.
-/
module

public import proofs.«01_k».proof.Proof.Gen.KernelIdeal.Frame.Runs

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 0 in
noncomputable def kernelRun0_A (c : Dev nD) (i : grid0.Coords) (arg1 : Memref sig .tc .vmem S1x162x4 .i32) (harg1 : arg1.IsWhole) (arg2 : Memref sig .tc .vmem S1x162x4 .i32) (harg2 : arg2.IsWhole) (arg3 : Memref sig .tc .vmem S1620x81 .f32) (harg3 : arg3.IsWhole) (arg4 : Memref sig .tc .vmem S81x9 .f32) (harg4 : arg4.IsWhole) (arg5 : Memref sig .tc .vmem S81x9 .f32) (harg5 : arg5.IsWhole) (arg6 : Memref sig .tc .vmem S9x16 .f32) (harg6 : arg6.IsWhole) (arg7 : Memref sig .tc .vmem S9x16 .f32) (harg7 : arg7.IsWhole) (arg8 : Memref sig .tc .vmem S16x32 .f32) (harg8 : arg8.IsWhole) (arg9 : Memref sig .tc .vmem S16x32 .f32) (harg9 : arg9.IsWhole) (arg10 : Memref sig .tc .vmem S1x32 .f32) (harg10 : arg10.IsWhole) (arg11 : Memref sig .tc .vmem S40x64 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S1x128 .f32) (harg33 : arg33.IsWhole) (arg34 : Memref sig .tc .vmem S128x128 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x40 .f32) (harg40 : arg40.IsWhole) (arg41 : Memref sig .tc .vmem S1x40 .f32) (harg41 : arg41.IsWhole) (arg42 : Memref sig .tc .vmem S8x1x162x40 .f32) (harg42 : arg42.IsWhole) (arg43 : Memref sig .tc .vmem S8x1x162x4 .i32) (harg43 : arg43.IsWhole) (arg44 : Memref sig .tc .vmem S8x1x162x4 .f32) (harg44 : arg44.IsWhole)
    (x0 : Vec F S1x162x4 .i32) (x1 : Vec F S1x162x4 .i32) (x2 : Vec F S1620x81 .f32) (x3 : Vec F S81x9 .f32) (x4 : Vec F S81x9 .f32) (x5 : Vec F S9x16 .f32) (x6 : Vec F S9x16 .f32) (x7 : Vec F S16x32 .f32) (x8 : Vec F S16x32 .f32) (x9 : Vec F S1x32 .f32) (x10 : Vec F S40x64 .f32) (x11 : Vec F S64x128 .f32) (x12 : Vec F S128x128 .f32) (x13 : Vec F S1x128 .f32) (x14 : Vec F S128x128 .f32) (x15 : Vec F S1x128 .f32) (x16 : Vec F S128x128 .f32) (x17 : Vec F S1x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) (x26 : Vec F S128x128 .f32) (x27 : Vec F S128x128 .f32) (x28 : Vec F S128x128 .f32) (x29 : Vec F S128x128 .f32) (x30 : Vec F S128x128 .f32) (x31 : Vec F S128x128 .f32) (x32 : Vec F S1x128 .f32) (x33 : Vec F S128x128 .f32) (x34 : Vec F S1x128 .f32) (x35 : Vec F S128x128 .f32) (x36 : Vec F S1x128 .f32) (x37 : Vec F S128x128 .f32) (x38 : Vec F S1x128 .f32) (x39 : Vec F S128x40 .f32) (x40 : Vec F S1x40 .f32) :
    Σ' (L41 : List (View.Piece (Elt F) S8x1x162x40 .f32)), Σ' (L42 : List (View.Piece (Elt F) S8x1x162x4 .i32)), { L43 : List (View.Piece (Elt F) S8x1x162x4 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ owns (c : Thread nD τ) arg38 fullShare x37 ∗ owns (c : Thread nD τ) arg39 fullShare x38 ∗ owns (c : Thread nD τ) arg40 fullShare x39 ∗ owns (c : Thread nD τ) arg41 fullShare x40 ∗ (∃ d, owns (c : Thread nD τ) arg42 fullShare d) ∗ (∃ d, owns (c : Thread nD τ) arg43 fullShare d) ∗ (∃ d, owns (c : Thread nD τ) arg44 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare x16 ∗ owns (c : Thread nD τ) arg18 fullShare x17 ∗ owns (c : Thread nD τ) arg19 fullShare x18 ∗ owns (c : Thread nD τ) arg20 fullShare x19 ∗ owns (c : Thread nD τ) arg21 fullShare x20 ∗ owns (c : Thread nD τ) arg22 fullShare x21 ∗ owns (c : Thread nD τ) arg23 fullShare x22 ∗ owns (c : Thread nD τ) arg24 fullShare x23 ∗ owns (c : Thread nD τ) arg25 fullShare x24 ∗ owns (c : Thread nD τ) arg26 fullShare x25 ∗ owns (c : Thread nD τ) arg27 fullShare x26 ∗ owns (c : Thread nD τ) arg28 fullShare x27 ∗ owns (c : Thread nD τ) arg29 fullShare x28 ∗ owns (c : Thread nD τ) arg30 fullShare x29 ∗ owns (c : Thread nD τ) arg31 fullShare x30 ∗ owns (c : Thread nD τ) arg32 fullShare x31 ∗ owns (c : Thread nD τ) arg33 fullShare x32 ∗ owns (c : Thread nD τ) arg34 fullShare x33 ∗ owns (c : Thread nD τ) arg35 fullShare x34 ∗ owns (c : Thread nD τ) arg36 fullShare x35 ∗ owns (c : Thread nD τ) arg37 fullShare x36 ∗ owns (c : Thread nD τ) arg38 fullShare x37 ∗ owns (c : Thread nD τ) arg39 fullShare x38 ∗ owns (c : Thread nD τ) arg40 fullShare x39 ∗ owns (c : Thread nD τ) arg41 fullShare x40 ∗ (∃ f, arg42.view.loc (c : Thread nD τ) ↦[arg42.view.set]{fullShare} arg42.view.writes (Elt F) f L41) ∗ (∃ f, arg43.view.loc (c : Thread nD τ) ↦[arg43.view.set]{fullShare} arg43.view.writes (Elt F) f L42) ∗ (∃ f, arg44.view.loc (c : Thread nD τ) ↦[arg44.view.set]{fullShare} arg44.view.writes (Elt F) f L43)) -∗ K ⟨⟩))
          ⊢ wp frame (wpE (defs₀ (F := F)) Variants.none c none) E (cc0_body i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44) K } := by
  refine ⟨?_, ?_, ?_, fun E K => ?run⟩
  case run =>
    simp only [cc0_body_eq_skeleton]; unfold cc0_body_skel
    simp only [k0_part6_eq_skeleton, k0_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%f30, %hf30, H30⟩, ⟨%f31, %hf31, H31⟩, ⟨%f32, %hf32, H32⟩, ⟨%f33, %hf33, H33⟩, ⟨%f34, %hf34, H34⟩, ⟨%f35, %hf35, H35⟩, ⟨%f36, %hf36, H36⟩, ⟨%f37, %hf37, H37⟩, ⟨%f38, %hf38, H38⟩, ⟨%f39, %hf39, H39⟩, ⟨%f40, %hf40, H40⟩, ⟨%d41, %f41, -, H41⟩, ⟨%d42, %f42, -, H42⟩, ⟨%d43, %f43, -, H43⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg16.eq_unread hf15; obtain rfl := harg17.eq_unread hf16; obtain rfl := harg18.eq_unread hf17; obtain rfl := harg19.eq_unread hf18; obtain rfl := harg20.eq_unread hf19; obtain rfl := harg21.eq_unread hf20; obtain rfl := harg22.eq_unread hf21; obtain rfl := harg23.eq_unread hf22; obtain rfl := harg24.eq_unread hf23; obtain rfl := harg25.eq_unread hf24; obtain rfl := harg26.eq_unread hf25; obtain rfl := harg27.eq_unread hf26; obtain rfl := harg28.eq_unread hf27; obtain rfl := harg29.eq_unread hf28; obtain rfl := harg30.eq_unread hf29; obtain rfl := harg31.eq_unread hf30; obtain rfl := harg32.eq_unread hf31; obtain rfl := harg33.eq_unread hf32; obtain rfl := harg34.eq_unread hf33; obtain rfl := harg35.eq_unread hf34; obtain rfl := harg36.eq_unread hf35; obtain rfl := harg37.eq_unread hf36; obtain rfl := harg38.eq_unread hf37; obtain rfl := harg39.eq_unread hf38; obtain rfl := harg40.eq_unread hf39; obtain rfl := harg41.eq_unread hf40
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]
    · iexists _; isplitr; · ipureintro; exact harg16.read_unread _
      iexact H15
    isplitl [H16]
    · iexists _; isplitr; · ipureintro; exact harg17.read_unread _
      iexact H16
    isplitl [H17]
    · iexists _; isplitr; · ipureintro; exact harg18.read_unread _
      iexact H17
    isplitl [H18]
    · iexists _; isplitr; · ipureintro; exact harg19.read_unread _
      iexact H18
    isplitl [H19]
    · iexists _; isplitr; · ipureintro; exact harg20.read_unread _
      iexact H19
    isplitl [H20]
    · iexists _; isplitr; · ipureintro; exact harg21.read_unread _
      iexact H20
    isplitl [H21]
    · iexists _; isplitr; · ipureintro; exact harg22.read_unread _
      iexact H21
    isplitl [H22]
    · iexists _; isplitr; · ipureintro; exact harg23.read_unread _
      iexact H22
    isplitl [H23]
    · iexists _; isplitr; · ipureintro; exact harg24.read_unread _
      iexact H23
    isplitl [H24]
    · iexists _; isplitr; · ipureintro; exact harg25.read_unread _
      iexact H24
    isplitl [H25]
    · iexists _; isplitr; · ipureintro; exact harg26.read_unread _
      iexact H25
    isplitl [H26]
    · iexists _; isplitr; · ipureintro; exact harg27.read_unread _
      iexact H26
    isplitl [H27]
    · iexists _; isplitr; · ipureintro; exact harg28.read_unread _
      iexact H27
    isplitl [H28]
    · iexists _; isplitr; · ipureintro; exact harg29.read_unread _
      iexact H28
    isplitl [H29]
    · iexists _; isplitr; · ipureintro; exact harg30.read_unread _
      iexact H29
    isplitl [H30]
    · iexists _; isplitr; · ipureintro; exact harg31.read_unread _
      iexact H30
    isplitl [H31]
    · iexists _; isplitr; · ipureintro; exact harg32.read_unread _
      iexact H31
    isplitl [H32]
    · iexists _; isplitr; · ipureintro; exact harg33.read_unread _
      iexact H32
    isplitl [H33]
    · iexists _; isplitr; · ipureintro; exact harg34.read_unread _
      iexact H33
    isplitl [H34]
    · iexists _; isplitr; · ipureintro; exact harg35.read_unread _
      iexact H34
    isplitl [H35]
    · iexists _; isplitr; · ipureintro; exact harg36.read_unread _
      iexact H35
    isplitl [H36]
    · iexists _; isplitr; · ipureintro; exact harg37.read_unread _
      iexact H36
    isplitl [H37]
    · iexists _; isplitr; · ipureintro; exact harg38.read_unread _
      iexact H37
    isplitl [H38]
    · iexists _; isplitr; · ipureintro; exact harg39.read_unread _
      iexact H38
    isplitl [H39]
    · iexists _; isplitr; · ipureintro; exact harg40.read_unread _
      iexact H39
    isplitl [H40]
    · iexists _; isplitr; · ipureintro; exact harg41.read_unread _
      iexact H40
    isplitl [H41]; · iexists _; iexact H41
    isplitl [H42]; · iexists _; iexact H42
    iexists _; iexact H43

end Cert.KernelIdeal.Gen

end
-- ==== Proof.Own.KernelIdeal.Frame.lean ====
/-
  The program's runs from any memory: the grid's stores cover the results, the arguments end unchanged.
-/
module

public import proofs.«01_k».proof.Proof.Own.KernelIdeal.RunA
public import Idealize.ShloMosaic.Lib.Claim

@[expose] public section

set_option maxRecDepth 16384
set_option maxHeartbeats 0

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
theorem cover0_A_41 (c : Dev nD) (i : grid0.Coords) (arg1 : Memref sig .tc .vmem S1x162x4 .i32) (harg1 : arg1.IsWhole) (arg2 : Memref sig .tc .vmem S1x162x4 .i32) (harg2 : arg2.IsWhole) (arg3 : Memref sig .tc .vmem S1620x81 .f32) (harg3 : arg3.IsWhole) (arg4 : Memref sig .tc .vmem S81x9 .f32) (harg4 : arg4.IsWhole) (arg5 : Memref sig .tc .vmem S81x9 .f32) (harg5 : arg5.IsWhole) (arg6 : Memref sig .tc .vmem S9x16 .f32) (harg6 : arg6.IsWhole) (arg7 : Memref sig .tc .vmem S9x16 .f32) (harg7 : arg7.IsWhole) (arg8 : Memref sig .tc .vmem S16x32 .f32) (harg8 : arg8.IsWhole) (arg9 : Memref sig .tc .vmem S16x32 .f32) (harg9 : arg9.IsWhole) (arg10 : Memref sig .tc .vmem S1x32 .f32) (harg10 : arg10.IsWhole) (arg11 : Memref sig .tc .vmem S40x64 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S1x128 .f32) (harg33 : arg33.IsWhole) (arg34 : Memref sig .tc .vmem S128x128 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x40 .f32) (harg40 : arg40.IsWhole) (arg41 : Memref sig .tc .vmem S1x40 .f32) (harg41 : arg41.IsWhole) (arg42 : Memref sig .tc .vmem S8x1x162x40 .f32) (harg42 : arg42.IsWhole) (arg43 : Memref sig .tc .vmem S8x1x162x4 .i32) (harg43 : arg43.IsWhole) (arg44 : Memref sig .tc .vmem S8x1x162x4 .f32) (harg44 : arg44.IsWhole)
    (x0 : Vec F S1x162x4 .i32) (x1 : Vec F S1x162x4 .i32) (x2 : Vec F S1620x81 .f32) (x3 : Vec F S81x9 .f32) (x4 : Vec F S81x9 .f32) (x5 : Vec F S9x16 .f32) (x6 : Vec F S9x16 .f32) (x7 : Vec F S16x32 .f32) (x8 : Vec F S16x32 .f32) (x9 : Vec F S1x32 .f32) (x10 : Vec F S40x64 .f32) (x11 : Vec F S64x128 .f32) (x12 : Vec F S128x128 .f32) (x13 : Vec F S1x128 .f32) (x14 : Vec F S128x128 .f32) (x15 : Vec F S1x128 .f32) (x16 : Vec F S128x128 .f32) (x17 : Vec F S1x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) (x26 : Vec F S128x128 .f32) (x27 : Vec F S128x128 .f32) (x28 : Vec F S128x128 .f32) (x29 : Vec F S128x128 .f32) (x30 : Vec F S128x128 .f32) (x31 : Vec F S128x128 .f32) (x32 : Vec F S1x128 .f32) (x33 : Vec F S128x128 .f32) (x34 : Vec F S1x128 .f32) (x35 : Vec F S128x128 .f32) (x36 : Vec F S1x128 .f32) (x37 : Vec F S128x128 .f32) (x38 : Vec F S1x128 .f32) (x39 : Vec F S128x40 .f32) (x40 : Vec F S1x40 .f32) (y : S8x1x162x40.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40).1 S1x1x162x40.size (by sl_kernel_rfl) y

def out0_A_41 (c : Dev nD) (i : grid0.Coords) (arg1 : Memref sig .tc .vmem S1x162x4 .i32) (harg1 : arg1.IsWhole) (arg2 : Memref sig .tc .vmem S1x162x4 .i32) (harg2 : arg2.IsWhole) (arg3 : Memref sig .tc .vmem S1620x81 .f32) (harg3 : arg3.IsWhole) (arg4 : Memref sig .tc .vmem S81x9 .f32) (harg4 : arg4.IsWhole) (arg5 : Memref sig .tc .vmem S81x9 .f32) (harg5 : arg5.IsWhole) (arg6 : Memref sig .tc .vmem S9x16 .f32) (harg6 : arg6.IsWhole) (arg7 : Memref sig .tc .vmem S9x16 .f32) (harg7 : arg7.IsWhole) (arg8 : Memref sig .tc .vmem S16x32 .f32) (harg8 : arg8.IsWhole) (arg9 : Memref sig .tc .vmem S16x32 .f32) (harg9 : arg9.IsWhole) (arg10 : Memref sig .tc .vmem S1x32 .f32) (harg10 : arg10.IsWhole) (arg11 : Memref sig .tc .vmem S40x64 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S1x128 .f32) (harg33 : arg33.IsWhole) (arg34 : Memref sig .tc .vmem S128x128 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x40 .f32) (harg40 : arg40.IsWhole) (arg41 : Memref sig .tc .vmem S1x40 .f32) (harg41 : arg41.IsWhole) (arg42 : Memref sig .tc .vmem S8x1x162x40 .f32) (harg42 : arg42.IsWhole) (arg43 : Memref sig .tc .vmem S8x1x162x4 .i32) (harg43 : arg43.IsWhole) (arg44 : Memref sig .tc .vmem S8x1x162x4 .f32) (harg44 : arg44.IsWhole)
    (x0 : Vec F S1x162x4 .i32) (x1 : Vec F S1x162x4 .i32) (x2 : Vec F S1620x81 .f32) (x3 : Vec F S81x9 .f32) (x4 : Vec F S81x9 .f32) (x5 : Vec F S9x16 .f32) (x6 : Vec F S9x16 .f32) (x7 : Vec F S16x32 .f32) (x8 : Vec F S16x32 .f32) (x9 : Vec F S1x32 .f32) (x10 : Vec F S40x64 .f32) (x11 : Vec F S64x128 .f32) (x12 : Vec F S128x128 .f32) (x13 : Vec F S1x128 .f32) (x14 : Vec F S128x128 .f32) (x15 : Vec F S1x128 .f32) (x16 : Vec F S128x128 .f32) (x17 : Vec F S1x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) (x26 : Vec F S128x128 .f32) (x27 : Vec F S128x128 .f32) (x28 : Vec F S128x128 .f32) (x29 : Vec F S128x128 .f32) (x30 : Vec F S128x128 .f32) (x31 : Vec F S128x128 .f32) (x32 : Vec F S1x128 .f32) (x33 : Vec F S128x128 .f32) (x34 : Vec F S1x128 .f32) (x35 : Vec F S128x128 .f32) (x36 : Vec F S1x128 .f32) (x37 : Vec F S128x128 .f32) (x38 : Vec F S1x128 .f32) (x39 : Vec F S128x40 .f32) (x40 : Vec F S1x40 .f32) : Vec F S8x1x162x40 .f32 :=
  VO0_41.read (Elt F) (VO0_41.writes (Elt F) VO0_41.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40).1)

theorem cover0_A_42 (c : Dev nD) (i : grid0.Coords) (arg1 : Memref sig .tc .vmem S1x162x4 .i32) (harg1 : arg1.IsWhole) (arg2 : Memref sig .tc .vmem S1x162x4 .i32) (harg2 : arg2.IsWhole) (arg3 : Memref sig .tc .vmem S1620x81 .f32) (harg3 : arg3.IsWhole) (arg4 : Memref sig .tc .vmem S81x9 .f32) (harg4 : arg4.IsWhole) (arg5 : Memref sig .tc .vmem S81x9 .f32) (harg5 : arg5.IsWhole) (arg6 : Memref sig .tc .vmem S9x16 .f32) (harg6 : arg6.IsWhole) (arg7 : Memref sig .tc .vmem S9x16 .f32) (harg7 : arg7.IsWhole) (arg8 : Memref sig .tc .vmem S16x32 .f32) (harg8 : arg8.IsWhole) (arg9 : Memref sig .tc .vmem S16x32 .f32) (harg9 : arg9.IsWhole) (arg10 : Memref sig .tc .vmem S1x32 .f32) (harg10 : arg10.IsWhole) (arg11 : Memref sig .tc .vmem S40x64 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S1x128 .f32) (harg33 : arg33.IsWhole) (arg34 : Memref sig .tc .vmem S128x128 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x40 .f32) (harg40 : arg40.IsWhole) (arg41 : Memref sig .tc .vmem S1x40 .f32) (harg41 : arg41.IsWhole) (arg42 : Memref sig .tc .vmem S8x1x162x40 .f32) (harg42 : arg42.IsWhole) (arg43 : Memref sig .tc .vmem S8x1x162x4 .i32) (harg43 : arg43.IsWhole) (arg44 : Memref sig .tc .vmem S8x1x162x4 .f32) (harg44 : arg44.IsWhole)
    (x0 : Vec F S1x162x4 .i32) (x1 : Vec F S1x162x4 .i32) (x2 : Vec F S1620x81 .f32) (x3 : Vec F S81x9 .f32) (x4 : Vec F S81x9 .f32) (x5 : Vec F S9x16 .f32) (x6 : Vec F S9x16 .f32) (x7 : Vec F S16x32 .f32) (x8 : Vec F S16x32 .f32) (x9 : Vec F S1x32 .f32) (x10 : Vec F S40x64 .f32) (x11 : Vec F S64x128 .f32) (x12 : Vec F S128x128 .f32) (x13 : Vec F S1x128 .f32) (x14 : Vec F S128x128 .f32) (x15 : Vec F S1x128 .f32) (x16 : Vec F S128x128 .f32) (x17 : Vec F S1x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) (x26 : Vec F S128x128 .f32) (x27 : Vec F S128x128 .f32) (x28 : Vec F S128x128 .f32) (x29 : Vec F S128x128 .f32) (x30 : Vec F S128x128 .f32) (x31 : Vec F S128x128 .f32) (x32 : Vec F S1x128 .f32) (x33 : Vec F S128x128 .f32) (x34 : Vec F S1x128 .f32) (x35 : Vec F S128x128 .f32) (x36 : Vec F S1x128 .f32) (x37 : Vec F S128x128 .f32) (x38 : Vec F S1x128 .f32) (x39 : Vec F S128x40 .f32) (x40 : Vec F S1x40 .f32) (y : S8x1x162x4.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40).2.1 S1x1x162x4.size (by sl_kernel_rfl) y

def out0_A_42 (c : Dev nD) (i : grid0.Coords) (arg1 : Memref sig .tc .vmem S1x162x4 .i32) (harg1 : arg1.IsWhole) (arg2 : Memref sig .tc .vmem S1x162x4 .i32) (harg2 : arg2.IsWhole) (arg3 : Memref sig .tc .vmem S1620x81 .f32) (harg3 : arg3.IsWhole) (arg4 : Memref sig .tc .vmem S81x9 .f32) (harg4 : arg4.IsWhole) (arg5 : Memref sig .tc .vmem S81x9 .f32) (harg5 : arg5.IsWhole) (arg6 : Memref sig .tc .vmem S9x16 .f32) (harg6 : arg6.IsWhole) (arg7 : Memref sig .tc .vmem S9x16 .f32) (harg7 : arg7.IsWhole) (arg8 : Memref sig .tc .vmem S16x32 .f32) (harg8 : arg8.IsWhole) (arg9 : Memref sig .tc .vmem S16x32 .f32) (harg9 : arg9.IsWhole) (arg10 : Memref sig .tc .vmem S1x32 .f32) (harg10 : arg10.IsWhole) (arg11 : Memref sig .tc .vmem S40x64 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S1x128 .f32) (harg33 : arg33.IsWhole) (arg34 : Memref sig .tc .vmem S128x128 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x40 .f32) (harg40 : arg40.IsWhole) (arg41 : Memref sig .tc .vmem S1x40 .f32) (harg41 : arg41.IsWhole) (arg42 : Memref sig .tc .vmem S8x1x162x40 .f32) (harg42 : arg42.IsWhole) (arg43 : Memref sig .tc .vmem S8x1x162x4 .i32) (harg43 : arg43.IsWhole) (arg44 : Memref sig .tc .vmem S8x1x162x4 .f32) (harg44 : arg44.IsWhole)
    (x0 : Vec F S1x162x4 .i32) (x1 : Vec F S1x162x4 .i32) (x2 : Vec F S1620x81 .f32) (x3 : Vec F S81x9 .f32) (x4 : Vec F S81x9 .f32) (x5 : Vec F S9x16 .f32) (x6 : Vec F S9x16 .f32) (x7 : Vec F S16x32 .f32) (x8 : Vec F S16x32 .f32) (x9 : Vec F S1x32 .f32) (x10 : Vec F S40x64 .f32) (x11 : Vec F S64x128 .f32) (x12 : Vec F S128x128 .f32) (x13 : Vec F S1x128 .f32) (x14 : Vec F S128x128 .f32) (x15 : Vec F S1x128 .f32) (x16 : Vec F S128x128 .f32) (x17 : Vec F S1x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) (x26 : Vec F S128x128 .f32) (x27 : Vec F S128x128 .f32) (x28 : Vec F S128x128 .f32) (x29 : Vec F S128x128 .f32) (x30 : Vec F S128x128 .f32) (x31 : Vec F S128x128 .f32) (x32 : Vec F S1x128 .f32) (x33 : Vec F S128x128 .f32) (x34 : Vec F S1x128 .f32) (x35 : Vec F S128x128 .f32) (x36 : Vec F S1x128 .f32) (x37 : Vec F S128x128 .f32) (x38 : Vec F S1x128 .f32) (x39 : Vec F S128x40 .f32) (x40 : Vec F S1x40 .f32) : Vec F S8x1x162x4 .i32 :=
  VO0_42.read (Elt F) (VO0_42.writes (Elt F) VO0_42.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40).2.1)

theorem cover0_A_43 (c : Dev nD) (i : grid0.Coords) (arg1 : Memref sig .tc .vmem S1x162x4 .i32) (harg1 : arg1.IsWhole) (arg2 : Memref sig .tc .vmem S1x162x4 .i32) (harg2 : arg2.IsWhole) (arg3 : Memref sig .tc .vmem S1620x81 .f32) (harg3 : arg3.IsWhole) (arg4 : Memref sig .tc .vmem S81x9 .f32) (harg4 : arg4.IsWhole) (arg5 : Memref sig .tc .vmem S81x9 .f32) (harg5 : arg5.IsWhole) (arg6 : Memref sig .tc .vmem S9x16 .f32) (harg6 : arg6.IsWhole) (arg7 : Memref sig .tc .vmem S9x16 .f32) (harg7 : arg7.IsWhole) (arg8 : Memref sig .tc .vmem S16x32 .f32) (harg8 : arg8.IsWhole) (arg9 : Memref sig .tc .vmem S16x32 .f32) (harg9 : arg9.IsWhole) (arg10 : Memref sig .tc .vmem S1x32 .f32) (harg10 : arg10.IsWhole) (arg11 : Memref sig .tc .vmem S40x64 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S1x128 .f32) (harg33 : arg33.IsWhole) (arg34 : Memref sig .tc .vmem S128x128 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x40 .f32) (harg40 : arg40.IsWhole) (arg41 : Memref sig .tc .vmem S1x40 .f32) (harg41 : arg41.IsWhole) (arg42 : Memref sig .tc .vmem S8x1x162x40 .f32) (harg42 : arg42.IsWhole) (arg43 : Memref sig .tc .vmem S8x1x162x4 .i32) (harg43 : arg43.IsWhole) (arg44 : Memref sig .tc .vmem S8x1x162x4 .f32) (harg44 : arg44.IsWhole)
    (x0 : Vec F S1x162x4 .i32) (x1 : Vec F S1x162x4 .i32) (x2 : Vec F S1620x81 .f32) (x3 : Vec F S81x9 .f32) (x4 : Vec F S81x9 .f32) (x5 : Vec F S9x16 .f32) (x6 : Vec F S9x16 .f32) (x7 : Vec F S16x32 .f32) (x8 : Vec F S16x32 .f32) (x9 : Vec F S1x32 .f32) (x10 : Vec F S40x64 .f32) (x11 : Vec F S64x128 .f32) (x12 : Vec F S128x128 .f32) (x13 : Vec F S1x128 .f32) (x14 : Vec F S128x128 .f32) (x15 : Vec F S1x128 .f32) (x16 : Vec F S128x128 .f32) (x17 : Vec F S1x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) (x26 : Vec F S128x128 .f32) (x27 : Vec F S128x128 .f32) (x28 : Vec F S128x128 .f32) (x29 : Vec F S128x128 .f32) (x30 : Vec F S128x128 .f32) (x31 : Vec F S128x128 .f32) (x32 : Vec F S1x128 .f32) (x33 : Vec F S128x128 .f32) (x34 : Vec F S1x128 .f32) (x35 : Vec F S128x128 .f32) (x36 : Vec F S1x128 .f32) (x37 : Vec F S128x128 .f32) (x38 : Vec F S1x128 .f32) (x39 : Vec F S128x40 .f32) (x40 : Vec F S1x40 .f32) (y : S8x1x162x4.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40).2.2.1 S1x1x162x4.size (by sl_kernel_rfl) y

def out0_A_43 (c : Dev nD) (i : grid0.Coords) (arg1 : Memref sig .tc .vmem S1x162x4 .i32) (harg1 : arg1.IsWhole) (arg2 : Memref sig .tc .vmem S1x162x4 .i32) (harg2 : arg2.IsWhole) (arg3 : Memref sig .tc .vmem S1620x81 .f32) (harg3 : arg3.IsWhole) (arg4 : Memref sig .tc .vmem S81x9 .f32) (harg4 : arg4.IsWhole) (arg5 : Memref sig .tc .vmem S81x9 .f32) (harg5 : arg5.IsWhole) (arg6 : Memref sig .tc .vmem S9x16 .f32) (harg6 : arg6.IsWhole) (arg7 : Memref sig .tc .vmem S9x16 .f32) (harg7 : arg7.IsWhole) (arg8 : Memref sig .tc .vmem S16x32 .f32) (harg8 : arg8.IsWhole) (arg9 : Memref sig .tc .vmem S16x32 .f32) (harg9 : arg9.IsWhole) (arg10 : Memref sig .tc .vmem S1x32 .f32) (harg10 : arg10.IsWhole) (arg11 : Memref sig .tc .vmem S40x64 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S1x128 .f32) (harg33 : arg33.IsWhole) (arg34 : Memref sig .tc .vmem S128x128 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x40 .f32) (harg40 : arg40.IsWhole) (arg41 : Memref sig .tc .vmem S1x40 .f32) (harg41 : arg41.IsWhole) (arg42 : Memref sig .tc .vmem S8x1x162x40 .f32) (harg42 : arg42.IsWhole) (arg43 : Memref sig .tc .vmem S8x1x162x4 .i32) (harg43 : arg43.IsWhole) (arg44 : Memref sig .tc .vmem S8x1x162x4 .f32) (harg44 : arg44.IsWhole)
    (x0 : Vec F S1x162x4 .i32) (x1 : Vec F S1x162x4 .i32) (x2 : Vec F S1620x81 .f32) (x3 : Vec F S81x9 .f32) (x4 : Vec F S81x9 .f32) (x5 : Vec F S9x16 .f32) (x6 : Vec F S9x16 .f32) (x7 : Vec F S16x32 .f32) (x8 : Vec F S16x32 .f32) (x9 : Vec F S1x32 .f32) (x10 : Vec F S40x64 .f32) (x11 : Vec F S64x128 .f32) (x12 : Vec F S128x128 .f32) (x13 : Vec F S1x128 .f32) (x14 : Vec F S128x128 .f32) (x15 : Vec F S1x128 .f32) (x16 : Vec F S128x128 .f32) (x17 : Vec F S1x128 .f32) (x18 : Vec F S128x128 .f32) (x19 : Vec F S128x128 .f32) (x20 : Vec F S128x128 .f32) (x21 : Vec F S128x128 .f32) (x22 : Vec F S128x128 .f32) (x23 : Vec F S128x128 .f32) (x24 : Vec F S128x128 .f32) (x25 : Vec F S128x128 .f32) (x26 : Vec F S128x128 .f32) (x27 : Vec F S128x128 .f32) (x28 : Vec F S128x128 .f32) (x29 : Vec F S128x128 .f32) (x30 : Vec F S128x128 .f32) (x31 : Vec F S128x128 .f32) (x32 : Vec F S1x128 .f32) (x33 : Vec F S128x128 .f32) (x34 : Vec F S1x128 .f32) (x35 : Vec F S128x128 .f32) (x36 : Vec F S1x128 .f32) (x37 : Vec F S128x128 .f32) (x38 : Vec F S1x128 .f32) (x39 : Vec F S128x40 .f32) (x40 : Vec F S1x40 .f32) : Vec F S8x1x162x4 .f32 :=
  VO0_43.read (Elt F) (VO0_43.writes (Elt F) VO0_43.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40).2.2.1)

/-! ## What the outputs hold after each point -/

def outsAt0 (c : Dev nD) (t : Fin cfg0.N) : Vec F S8x1x162x40 .f32 × Vec F S8x1x162x4 .i32 × Vec F S8x1x162x4 .f32 :=
  (out0_A_41 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t), out0_A_42 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t), out0_A_43 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) (ms0_31 t) (hs0_31 t) (ms0_32 t) (hs0_32 t) (ms0_33 t) (hs0_33 t) (ms0_34 t) (hs0_34 t) (ms0_35 t) (hs0_35 t) (ms0_36 t) (hs0_36 t) (ms0_37 t) (hs0_37 t) (ms0_38 t) (hs0_38 t) (ms0_39 t) (hs0_39 t) (ms0_40 t) (hs0_40 t) (ms0_41 t) (hs0_41 t) (ms0_42 t) (hs0_42 t) (ms0_43 t) (hs0_43 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t))

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => iblk m c 40 t
    | ⟨41, _⟩ => (outsAt0 m c t).1
    | ⟨42, _⟩ => (outsAt0 m c t).2.1
    | ⟨43, _⟩ => (outsAt0 m c t).2.2
    | ⟨_ + 44, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = iblk m c 30 t := by dsimp only [dats]
theorem after0_31 (c : Dev nD) (t : Fin cfg0.N) : (dats m 0 c).after 31 t = iblk m c 31 t := by dsimp only [dats]
theorem after0_32 (c : Dev nD) (t : Fin cfg0.N) : (dats m 0 c).after 32 t = iblk m c 32 t := by dsimp only [dats]
theorem after0_33 (c : Dev nD) (t : Fin cfg0.N) : (dats m 0 c).after 33 t = iblk m c 33 t := by dsimp only [dats]
theorem after0_34 (c : Dev nD) (t : Fin cfg0.N) : (dats m 0 c).after 34 t = iblk m c 34 t := by dsimp only [dats]
theorem after0_35 (c : Dev nD) (t : Fin cfg0.N) : (dats m 0 c).after 35 t = iblk m c 35 t := by dsimp only [dats]
theorem after0_36 (c : Dev nD) (t : Fin cfg0.N) : (dats m 0 c).after 36 t = iblk m c 36 t := by dsimp only [dats]
theorem after0_37 (c : Dev nD) (t : Fin cfg0.N) : (dats m 0 c).after 37 t = iblk m c 37 t := by dsimp only [dats]
theorem after0_38 (c : Dev nD) (t : Fin cfg0.N) : (dats m 0 c).after 38 t = iblk m c 38 t := by dsimp only [dats]
theorem after0_39 (c : Dev nD) (t : Fin cfg0.N) : (dats m 0 c).after 39 t = iblk m c 39 t := by dsimp only [dats]
theorem after0_40 (c : Dev nD) (t : Fin cfg0.N) : (dats m 0 c).after 40 t = iblk m c 40 t := by dsimp only [dats]
theorem after0_41 (c : Dev nD) (t : Fin cfg0.N) : (dats m 0 c).after 41 t = (outsAt0 m c t).1 := by dsimp only [dats]
theorem after0_42 (c : Dev nD) (t : Fin cfg0.N) : (dats m 0 c).after 42 t = (outsAt0 m c t).2.1 := by dsimp only [dats]
theorem after0_43 (c : Dev nD) (t : Fin cfg0.N) : (dats m 0 c).after 43 t = (outsAt0 m c t).2.2 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d
theorem before0_30 (c : Dev nD) (t : Fin cfg0.N) (d) : (dats m 0 c).before 30 t d = iblk m c 30 t :=
  before0_30_of m (dats m 0 c) (A_eq m c 30) (after0_30 m c) t d
theorem before0_31 (c : Dev nD) (t : Fin cfg0.N) (d) : (dats m 0 c).before 31 t d = iblk m c 31 t :=
  before0_31_of m (dats m 0 c) (A_eq m c 31) (after0_31 m c) t d
theorem before0_32 (c : Dev nD) (t : Fin cfg0.N) (d) : (dats m 0 c).before 32 t d = iblk m c 32 t :=
  before0_32_of m (dats m 0 c) (A_eq m c 32) (after0_32 m c) t d
theorem before0_33 (c : Dev nD) (t : Fin cfg0.N) (d) : (dats m 0 c).before 33 t d = iblk m c 33 t :=
  before0_33_of m (dats m 0 c) (A_eq m c 33) (after0_33 m c) t d
theorem before0_34 (c : Dev nD) (t : Fin cfg0.N) (d) : (dats m 0 c).before 34 t d = iblk m c 34 t :=
  before0_34_of m (dats m 0 c) (A_eq m c 34) (after0_34 m c) t d
theorem before0_35 (c : Dev nD) (t : Fin cfg0.N) (d) : (dats m 0 c).before 35 t d = iblk m c 35 t :=
  before0_35_of m (dats m 0 c) (A_eq m c 35) (after0_35 m c) t d
theorem before0_36 (c : Dev nD) (t : Fin cfg0.N) (d) : (dats m 0 c).before 36 t d = iblk m c 36 t :=
  before0_36_of m (dats m 0 c) (A_eq m c 36) (after0_36 m c) t d
theorem before0_37 (c : Dev nD) (t : Fin cfg0.N) (d) : (dats m 0 c).before 37 t d = iblk m c 37 t :=
  before0_37_of m (dats m 0 c) (A_eq m c 37) (after0_37 m c) t d
theorem before0_38 (c : Dev nD) (t : Fin cfg0.N) (d) : (dats m 0 c).before 38 t d = iblk m c 38 t :=
  before0_38_of m (dats m 0 c) (A_eq m c 38) (after0_38 m c) t d
theorem before0_39 (c : Dev nD) (t : Fin cfg0.N) (d) : (dats m 0 c).before 39 t d = iblk m c 39 t :=
  before0_39_of m (dats m 0 c) (A_eq m c 39) (after0_39 m c) t d
theorem before0_40 (c : Dev nD) (t : Fin cfg0.N) (d) : (dats m 0 c).before 40 t d = iblk m c 40 t :=
  before0_40_of m (dats m 0 c) (A_eq m c 40) (after0_40 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d))
    ∗ (∃ d, owns (c : Thread nD τ) (ms0_31 t) fullShare ((dats m 0 c).before 31 t d))
    ∗ (∃ d, owns (c : Thread nD τ) (ms0_32 t) fullShare ((dats m 0 c).before 32 t d))
    ∗ (∃ d, owns (c : Thread nD τ) (ms0_33 t) fullShare ((dats m 0 c).before 33 t d))
    ∗ (∃ d, owns (c : Thread nD τ) (ms0_34 t) fullShare ((dats m 0 c).before 34 t d))
    ∗ (∃ d, owns (c : Thread nD τ) (ms0_35 t) fullShare ((dats m 0 c).before 35 t d))
    ∗ (∃ d, owns (c : Thread nD τ) (ms0_36 t) fullShare ((dats m 0 c).before 36 t d))
    ∗ (∃ d, owns (c : Thread nD τ) (ms0_37 t) fullShare ((dats m 0 c).before 37 t d))
    ∗ (∃ d, owns (c : Thread nD τ) (ms0_38 t) fullShare ((dats m 0 c).before 38 t d))
    ∗ (∃ d, owns (c : Thread nD τ) (ms0_39 t) fullShare ((dats m 0 c).before 39 t d))
    ∗ (∃ d, owns (c : Thread nD τ) (ms0_40 t) fullShare ((dats m 0 c).before 40 t d))
    ∗ (∃ d, owns (c : Thread nD τ) (ms0_41 t) fullShare ((dats m 0 c).before 41 t d))
    ∗ (∃ d, owns (c : Thread nD τ) (ms0_42 t) fullShare ((dats m 0 c).before 42 t d))
    ∗ (∃ d, owns (c : Thread nD τ) (ms0_43 t) fullShare ((dats m 0 c).before 43 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t)
    ∗ owns (c : Thread nD τ) (ms0_31 t) fullShare ((dats m 0 c).after 31 t)
    ∗ owns (c : Thread nD τ) (ms0_32 t) fullShare ((dats m 0 c).after 32 t)
    ∗ owns (c : Thread nD τ) (ms0_33 t) fullShare ((dats m 0 c).after 33 t)
    ∗ owns (c : Thread nD τ) (ms0_34 t) fullShare ((dats m 0 c).after 34 t)
    ∗ owns (c : Thread nD τ) (ms0_35 t) fullShare ((dats m 0 c).after 35 t)
    ∗ owns (c : Thread nD τ) (ms0_36 t) fullShare ((dats m 0 c).after 36 t)
    ∗ owns (c : Thread nD τ) (ms0_37 t) fullShare ((dats m 0 c).after 37 t)
    ∗ owns (c : Thread nD τ) (ms0_38 t) fullShare ((dats m 0 c).after 38 t)
    ∗ owns (c : Thread nD τ) (ms0_39 t) fullShare ((dats m 0 c).after 39 t)
    ∗ owns (c : Thread nD τ) (ms0_40 t) fullShare ((dats m 0 c).after 40 t)
    ∗ owns (c : Thread nD τ) (ms0_41 t) fullShare ((dats m 0 c).after 41 t)
    ∗ owns (c : Thread nD τ) (ms0_42 t) fullShare ((dats m 0 c).after 42 t)
    ∗ owns (c : Thread nD τ) (ms0_43 t) fullShare ((dats m 0 c).after 43 t))

set_option maxHeartbeats 4400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29, before0_30, before0_31, before0_32, before0_33, before0_34, before0_35, before0_36, before0_37, before0_38, before0_39, before0_40]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30, after0_31, after0_32, after0_33, after0_34, after0_35, after0_36, after0_37, after0_38, after0_39, after0_40, after0_41, after0_42, after0_43]
  unfold outsAt0
  unfold out0_A_41 out0_A_42 out0_A_43; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩, ⟨%d31, H31⟩, ⟨%d32, H32⟩, ⟨%d33, H33⟩, ⟨%d34, H34⟩, ⟨%d35, H35⟩, ⟨%d36, H36⟩, ⟨%d37, H37⟩, ⟨%d38, H38⟩, ⟨%d39, H39⟩, ⟨%d40, H40⟩, ⟨%d41, H41⟩, ⟨%d42, H42⟩, ⟨%d43, H43⟩⟩
  iapply ((kernelRun0_A c (grid0.coords t) _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) (iblk m c 40 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]; · iexists _; iexact H41
  isplitl [H42]; · iexists _; iexact H42
  isplitl [H43]; · iexists _; iexact H43
  iintro ⟨H0, H1, H2, H3, H4, H5, H6, H7, H8, H9, H10, H11, H12, H13, H14, H15, H16, H17, H18, H19, H20, H21, H22, H23, H24, H25, H26, H27, H28, H29, H30, H31, H32, H33, H34, H35, H36, H37, H38, H39, H40, ⟨%e41, H41⟩, ⟨%e42, H42⟩, ⟨%e43, H43⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexact H30
  isplitl [H31]; · iexact H31
  isplitl [H32]; · iexact H32
  isplitl [H33]; · iexact H33
  isplitl [H34]; · iexact H34
  isplitl [H35]; · iexact H35
  isplitl [H36]; · iexact H36
  isplitl [H37]; · iexact H37
  isplitl [H38]; · iexact H38
  isplitl [H39]; · iexact H39
  isplitl [H40]; · iexact H40
  isplitl [H41]
  · unfold owns; iexists _; isplitr
    swap; · iexact H41
    ipureintro; exact View.read_writes_of_cover _ _ _ _ _ (cover0_A_41 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H42]
  · unfold owns; iexists _; isplitr
    swap; · iexact H42
    ipureintro; exact View.read_writes_of_cover _ _ _ _ _ (cover0_A_42 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H43
  ipureintro; exact View.read_writes_of_cover _ _ _ _ _ (cover0_A_43 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- Every run ends with the region's arrays as the body's stores make them. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)) :=
  frame_of m ρ (dats m) (A_eq m) (run_main m ρ)

/-- Every run ends, with the arguments unchanged. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28))
      ∧ r.2.sem = fun _ => 0) :=
  θ_run_and (unchanged m ρ) ((θ_run defs _ _).mono (fun _ h => h.2) (run_main_quiescent m ρ))

end Cert.KernelIdeal.Gen

end
-- ==== Proof.Own.Spec.lean ====
/-
  The mathematics of the model over the extended reals, naming no program: one puzzle has 81 cells, each with a hidden
  row of 32 numbers and an LSTM memory of 32 numbers; a cell hears the 20 cells it shares a row, a column or a box with.
-/
module

public import Idealize.ShloMosaic.Lib.Pointwise

@[expose] public section

noncomputable section

namespace Sudoku

open Idealize.ShloMosaic
open scoped BigOperators

/-! ## The neighbours of a cell -/

/-- Two different cells share a row, a column or a 3×3 box. -/
def adj (a b : ℕ) : Bool :=
  a != b && (a / 9 == b / 9 || a % 9 == b % 9 || (a / 27 == b / 27 && a % 9 / 3 == b % 9 / 3))

/-- The neighbours of a cell in increasing order. -/
def nbList (n : ℕ) : List ℕ := (List.range 81).filter (adj n)

/-- The `k`-th neighbour of cell `n`. -/
def nb (n : Fin 81) (k : Fin 20) : Fin 81 := ⟨(nbList n.val).getD k.val 0 % 81, Nat.mod_lt _ (by decide)⟩

/-- How often `b` is named among the neighbours of `a`. -/
def mult (a b : Fin 81) : ℕ := (Finset.univ.filter fun k => nb a k = b).card

/-- Being a neighbour is symmetric. -/
theorem mult_comm (a b : Fin 81) : mult a b = mult b a := by
  revert a b; decide +kernel

/-- A sum over the neighbours of a cell, counted by cells. -/
theorem sum_nb (a : Fin 81) (f : Fin 81 → EReal) : ∑ k, f (nb a k) = ∑ b, mult a b • f b := by
  have h : ∀ k, f (nb a k) = ∑ b, if nb a k = b then f b else 0 := fun k => by simp
  rw [Finset.sum_congr rfl fun k _ => h k, Finset.sum_comm]
  refine Finset.sum_congr rfl fun b _ => ?_
  rw [← Finset.sum_filter, Finset.sum_const]; rfl

/-- Adding up what is sent to `n` over all directed edges is adding up over the neighbours of `n`. -/
theorem sum_edges (n : Fin 81) (f : Fin 81 → EReal) :
    ∑ b : Fin 81, ∑ k : Fin 20, (if nb b k = n then f b else 0) = ∑ k, f (nb n k) := by
  rw [sum_nb]
  refine Finset.sum_congr rfl fun b _ => ?_
  rw [← Finset.sum_filter, Finset.sum_const, mult_comm n b]; rfl

/-! ## The model -/

/-- The weights. -/
structure Wt where
  dE : Fin 10 → Fin 16 → EReal
  rE : Fin 9 → Fin 16 → EReal
  cE : Fin 9 → Fin 16 → EReal
  w1 : Fin 48 → Fin 32 → EReal
  b1 : Fin 32 → EReal
  w2 : Fin 32 → Fin 32 → EReal
  b2 : Fin 32 → EReal
  w3 : Fin 32 → Fin 32 → EReal
  b3 : Fin 32 → EReal
  w4 : Fin 32 → Fin 32 → EReal
  b4 : Fin 32 → EReal
  wih : Fin 128 → Fin 64 → EReal
  whh : Fin 128 → Fin 32 → EReal
  m1 : Fin 64 → Fin 32 → EReal
  n1 : Fin 32 → EReal
  m2 : Fin 32 → Fin 32 → EReal
  n2 : Fin 32 → EReal
  m3 : Fin 32 → Fin 32 → EReal
  n3 : Fin 32 → EReal
  m4 : Fin 32 → Fin 32 → EReal
  n4 : Fin 32 → EReal
  ow : Fin 32 → Fin 10 → EReal
  ob : Fin 10 → EReal

/-- A row times a matrix. -/
def mul {n k : ℕ} (v : Fin n → EReal) (W : Fin n → Fin k → EReal) (j : Fin k) : EReal := ∑ i, v i * W i j

/-- A dense layer. -/
def lin {n k : ℕ} (W : Fin n → Fin k → EReal) (b : Fin k → EReal) (v : Fin n → EReal) (j : Fin k) : EReal := mul v W j + b j

/-- A dense layer and its rectification. -/
def rlin {n k : ℕ} (W : Fin n → Fin k → EReal) (b : Fin k → EReal) (v : Fin n → EReal) (j : Fin k) : EReal := max (lin W b v j) 0

/-- A block of rows of a matrix. -/
def rows {n : ℕ} (N : ℕ) {k : ℕ} (o : ℕ) (W : Fin N → Fin k → EReal) (h : o + n ≤ N) (i : Fin n) (j : Fin k) : EReal :=
  W ⟨o + i.val, by omega⟩ j

/-- Rows of hidden numbers, one per cell. -/
abbrev Rows := Fin 81 → Fin 32 → EReal

variable (w : Wt)

/-- The first input layer of a cell holding digit `d`. -/
def x1 (d : Fin 10) (n : Fin 81) (j : Fin 32) : EReal :=
  max (mul (w.dE d) (rows 48 0 w.w1 (by decide)) j
    + (mul (w.rE ⟨n.val / 9, by omega⟩) (rows 48 16 w.w1 (by decide)) j
      + mul (w.cE ⟨n.val % 9, by omega⟩) (rows 48 32 w.w1 (by decide)) j + w.b1 j)) 0

/-- The input row of a cell. -/
def xin (d : Fin 81 → Fin 10) : Rows := fun n => lin w.w4 w.b4 (rlin w.w3 w.b3 (rlin w.w2 w.b2 (x1 w (d n) n)))

/-- The first message layer for a sender row and a receiver row. -/
def e1 (s r : Fin 32 → EReal) (j : Fin 32) : EReal :=
  max (mul s (rows 64 0 w.m1 (by decide)) j + (mul r (rows 64 32 w.m1 (by decide)) j + w.n1 j)) 0

/-- The third message layer. -/
def e3 (s r : Fin 32 → EReal) : Fin 32 → EReal := rlin w.m3 w.n3 (rlin w.m2 w.n2 (e1 w s r))

/-- What a cell hears: the last message layer is linear and comes after the sum. -/
def heard (h : Rows) (n : Fin 81) (l : Fin 32) : EReal :=
  mul (fun j => ∑ k, e3 w (h (nb n k)) (h n) j) w.m4 l + 20 * w.n4 l

/-- A block of the transposed input weights of the LSTM: gate `g`, columns from `o`. -/
def wihT (g : Fin 4) (o : ℕ) (ho : o + 32 ≤ 64) (i j : Fin 32) : EReal :=
  w.wih ⟨32 * g.val + j.val, by omega⟩ ⟨o + i.val, by omega⟩
/-- The same of the recurrent weights. -/
def whhT (g : Fin 4) (i j : Fin 32) : EReal := w.whh ⟨32 * g.val + j.val, by omega⟩ i

/-- A gate's row. -/
def gate (g : Fin 4) (x m h : Fin 32 → EReal) (j : Fin 32) : EReal :=
  mul x (wihT w g 0 (by decide)) j + mul m (wihT w g 32 (by decide)) j + mul h (whhT w g) j

/-- The next memory. -/
def nextC (x : Rows) (s : Rows × Rows) (n : Fin 81) (j : Fin 32) : EReal :=
  Ideal.logistic (gate w 1 (x n) (heard w s.1 n) (s.1 n) j) * s.2 n j
    + Ideal.logistic (gate w 0 (x n) (heard w s.1 n) (s.1 n) j) * Ideal.tanh (gate w 2 (x n) (heard w s.1 n) (s.1 n) j)

/-- The next hidden rows. -/
def nextH (x : Rows) (s : Rows × Rows) (n : Fin 81) (j : Fin 32) : EReal :=
  Ideal.logistic (gate w 3 (x n) (heard w s.1 n) (s.1 n) j) * Ideal.tanh (nextC w x s n j)

/-- One step of message passing. -/
def next (x : Rows) (s : Rows × Rows) : Rows × Rows := (nextH w x s, nextC w x s)

/-- The state after `k` steps. -/
def state (x : Rows) : ℕ → Rows × Rows
  | 0 => (x, fun _ _ => 0)
  | k + 1 => next w x (state x k)

/-- The scores of the ten digits of a cell. -/
def score (h : Rows) (n : Fin 81) : Fin 10 → EReal := lin w.ow w.ob (h n)

/-- The scores after step `s`. -/
def out (d : Fin 81 → Fin 10) (s : ℕ) (n : Fin 81) : Fin 10 → EReal := score w (state w (xin w d) (s + 1)).1 n

/-! ## What the two programs do with the scores -/

/-- The largest score. -/
def top (l : Fin 10 → EReal) : EReal := Finset.univ.fold max ⊥ l

/-- The first digit with the largest score. -/
def pick (l : Fin 10 → EReal) : BitVec 32 :=
  Finset.univ.fold IntOp.minsi 2147483647#32 fun v : Fin 10 => if l v = top l then BitVec.ofNat 32 v.val else 10#32

/-- The cross entropy of the scores against digit `a`, as the kernel writes it. -/
def cost (l : Fin 10 → EReal) (a : Fin 10) : EReal :=
  (Ideal.log (∑ v, Ideal.exp (l v - top l)) + top l) - l a

/-! ## The rectified layers are nonnegative: the last message layer may be moved past the sum -/

theorem e3_nonneg (s r : Fin 32 → EReal) (j : Fin 32) : 0 ≤ e3 w s r j := le_max_right _ _

/-- A sum of nonnegative extended reals times a factor is the sum of the products. -/
theorem sum_mul_of_nonneg {ι : Type*} (t : Finset ι) (f : ι → EReal) (hf : ∀ i, 0 ≤ f i) (c : EReal) :
    (∑ i ∈ t, f i) * c = ∑ i ∈ t, f i * c := by
  classical
  induction t using Finset.induction_on with
  | empty => simp
  | insert a t ha ih =>
    rw [Finset.sum_insert ha, Finset.sum_insert ha, ← ih]
    exact EReal.right_distrib_of_nonneg (hf a) (Finset.sum_nonneg fun i _ => hf i)

/-- What a cell hears is the sum of the whole messages of its neighbours. -/
theorem heard_eq (h : Rows) (n : Fin 81) (l : Fin 32) :
    heard w h n l = ∑ k : Fin 20, lin w.m4 w.n4 (e3 w (h (nb n k)) (h n)) l := by
  unfold heard lin mul
  rw [Finset.sum_add_distrib, Finset.sum_comm]
  congr 1
  · exact Finset.sum_congr rfl fun j _ => sum_mul_of_nonneg _ _ (fun k => e3_nonneg w _ _ j) _
  · rw [Finset.sum_const]; simp

/-! ## The hidden rows are real numbers -/

/-- An extended real that is a real number. -/
def IsReal (x : EReal) : Prop := ∃ r : ℝ, x = r

theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sum {ι : Type*} (t : Finset ι) (f : ι → EReal) (hf : ∀ i, IsReal (f i)) : IsReal (∑ i ∈ t, f i) := by
  classical
  induction t using Finset.induction_on with
  | empty => exact ⟨0, by simp⟩
  | insert a t ha ih => rw [Finset.sum_insert ha]; exact (hf a).add ih

theorem isReal_logistic (x : EReal) : IsReal (Ideal.logistic x) := by
  induction x with
  | bot => exact ⟨0, by simp⟩
  | top => exact ⟨1, by simp⟩
  | coe r => exact ⟨_, Ideal.logistic_coe r⟩
theorem isReal_tanh (x : EReal) : IsReal (Ideal.tanh x) := by
  induction x with
  | bot => exact ⟨-1, by simp⟩
  | top => exact ⟨1, by simp⟩
  | coe r => exact ⟨_, Ideal.tanh_coe r⟩

theorem isReal_nextH (x : Rows) (s : Rows × Rows) (n : Fin 81) (j : Fin 32) : IsReal (nextH w x s n j) :=
  (isReal_logistic _).mul (isReal_tanh _)

/-- With a finite output layer the scores are real. -/
theorem isReal_out (hw : ∀ i j, IsReal (w.ow i j)) (hb : ∀ j, IsReal (w.ob j)) (d : Fin 81 → Fin 10) (s : ℕ) (n : Fin 81)
    (v : Fin 10) : IsReal (out w d s n v) :=
  (IsReal.sum _ _ fun i => (isReal_nextH w _ _ n i).mul (hw i v)).add (hb v)

/-! ## The cost as the reference writes it -/

/-- The sum of real numbers, as extended reals. -/
theorem coe_sum {ι : Type*} (t : Finset ι) (f : ι → ℝ) : ((∑ i ∈ t, f i : ℝ) : EReal) = ∑ i ∈ t, (f i : EReal) := by
  classical
  induction t using Finset.induction_on with
  | empty => simp
  | insert a t ha ih => rw [Finset.sum_insert ha, Finset.sum_insert ha, EReal.coe_add, ih]

theorem top_mem (l : Fin 10 → EReal) : ∃ v, l v = top l := by
  have hne : (Finset.univ : Finset (Fin 10)).Nonempty := ⟨0, Finset.mem_univ _⟩
  obtain ⟨v, -, hv⟩ := Finset.exists_mem_eq_sup' hne l
  exact ⟨v, hv.symm.trans (Finset.sup'_eq_sup hne l)⟩

/-- For real scores, minus the logarithm of the softmax as the reference spells it is the cost. -/
theorem neg_logp (l : Fin 10 → EReal) (hl : ∀ v, IsReal (l v)) (a : Fin 10) :
    IsReal ((l a - top l) - Ideal.log (∑ v, Ideal.exp (l v - top l)))
      ∧ -((l a - top l) - Ideal.log (∑ v, Ideal.exp (l v - top l))) = cost l a := by
  obtain ⟨v0, h0⟩ := top_mem l
  choose r hr using hl
  have ht : top l = (r v0 : EReal) := by rw [← h0, hr]
  have hs : ∑ v, Ideal.exp (l v - top l) = ((∑ v, Real.exp (r v - r v0) : ℝ) : EReal) := by
    rw [coe_sum]
    refine Finset.sum_congr rfl fun v _ => ?_
    rw [ht, hr, ← EReal.coe_sub, Ideal.exp_coe]
  have hp : ¬ (∑ v, Real.exp (r v - r v0) ≤ 0) := not_le.mpr (Finset.sum_pos (fun v _ => Real.exp_pos _) ⟨0, Finset.mem_univ _⟩)
  have hlog : Ideal.log (∑ v, Ideal.exp (l v - top l)) = ((Real.log (∑ v, Real.exp (r v - r v0)) : ℝ) : EReal) := by
    rw [hs, Ideal.log_coe, if_neg hp]
  unfold cost
  rw [hlog, ht, hr a]
  refine ⟨⟨_, by rw [← EReal.coe_sub, ← EReal.coe_sub]⟩, ?_⟩
  rw [← EReal.coe_sub, ← EReal.coe_sub, ← EReal.coe_add, ← EReal.coe_sub, ← EReal.coe_neg]
  congr 1; ring

end Sudoku
-- ==== Proof.Own.Rows.lean ====
/-
  Four puzzles side by side in the lanes of a row: what the vector operations of the kernel do to such rows. Nothing
  here names a program.
-/
module

public import Idealize.ShloMosaic.Lib.Pointwise
public import Idealize.ShloMosaic.Lib.MatmulPlain
public import proofs.«01_k».proof.Proof.Own.Spec

@[expose] public section

noncomputable section

namespace Sudoku

open Idealize.ShloMosaic
open scoped BigOperators

/-- Lane `j` of the `p`-th of four groups of `n` lanes. -/
def ln {n N : ℕ} (h : N = 4 * n) (p : Fin 4) (j : Fin n) : Fin N := ⟨n * p.val + j.val, by
  subst h; have := p.isLt; have := j.isLt; nlinarith [Nat.mul_le_mul_left n (show p.val ≤ 3 by omega)]⟩

@[simp] theorem ln_val {n N : ℕ} (h : N = 4 * n) (p : Fin 4) (j : Fin n) : (ln h p j).val = n * p.val + j.val := rfl

/-- Every lane is a lane of a group. -/
theorem exists_ln {n N : ℕ} (h : N = 4 * n) (l : Fin N) : ∃ p j, l = ln h p j := by
  have hl := l.isLt
  have hn : 0 < n := by by_contra h0; obtain rfl : n = 0 := by omega
                        omega
  refine ⟨⟨l.val / n, (Nat.div_lt_iff_lt_mul hn).mpr (by omega)⟩, ⟨l.val % n, Nat.mod_lt _ hn⟩, Fin.ext ?_⟩
  exact (Nat.div_add_mod _ _).symm

/-- A sum over the lanes, group by group. -/
theorem sum_ln {n N : ℕ} (h : N = 4 * n) (F : Fin N → EReal) : ∑ l, F l = ∑ p, ∑ j, F (ln h p j) := by
  subst h
  rw [← Fintype.sum_prod_type', ← Equiv.sum_comp finProdFinEquiv]
  refine Finset.sum_congr rfl fun x _ => congrArg F (Fin.ext ?_)
  simp [ln, finProdFinEquiv]; ring

/-- Row `r` holds `f p` in group `p`. -/
def Row {M N n : ℕ} (h : N = 4 * n) (V : FVec Ideal ⟨2, ![M, N]⟩ .f32) (r : Fin M) (f : Fin 4 → Fin n → EReal) : Prop :=
  ∀ p j, V (ix2 r (ln h p j)) = f p j

/-- A block-diagonal matrix with the same block four times. -/
def BD {n k N K : ℕ} (hN : N = 4 * n) (hK : K = 4 * k) (W : FVec Ideal ⟨2, ![N, K]⟩ .f32) (w : Fin n → Fin k → EReal) : Prop :=
  ∀ p i p' j, W (ix2 (ln hN p i) (ln hK p' j)) = if p = p' then w i j else 0

variable {M N K n k : ℕ} {hN : N = 4 * n} {hK : K = 4 * k} {r : Fin M}

theorem mul_bd {V : FVec Ideal ⟨2, ![M, N]⟩ .f32} {W : FVec Ideal ⟨2, ![N, K]⟩ .f32} {f : Fin 4 → Fin n → EReal}
    {w : Fin n → Fin k → EReal} (hV : Row hN V r f) (hW : BD hN hK W w) (p : Fin 4) (j : Fin k) :
    ∑ l : Fin N, V (ix2 r l) * W (ix2 l (ln hK p j)) = mul (f p) w j := by
  rw [sum_ln hN, Finset.sum_eq_single p]
  · exact Finset.sum_congr rfl fun i _ => by rw [hV, hW, if_pos rfl]
  · intro q _ hq; exact Finset.sum_eq_zero fun i _ => by rw [hW, if_neg hq, mul_zero]
  · simp

/-- A row times a block-diagonal matrix. -/
theorem Row.matmul {V : FVec Ideal ⟨2, ![M, N]⟩ .f32} {W : FVec Ideal ⟨2, ![N, K]⟩ .f32} {f : Fin 4 → Fin n → EReal}
    {w : Fin n → Fin k → EReal} (hV : Row hN V r f) (hW : BD hN hK W w) (prec : Option ContractPrecision) :
    Row hK (FloatOps.matmul (DotDims.plain M N K) prec V W (constant ⟨2, ![M, K]⟩ .f32 0x00000000#32)) r (fun p => mul (f p) w) :=
  fun p j => by
    refine ((Ideal.matmul_plain_apply prec V W _ r (ln hK p j)).trans ?_ : _)
    refine Eq.trans ?_ (mul_bd hV hW p j)
    show Ideal.ofBits .f32 0x00000000#32 + _ = _
    rw [Ideal.ofBits_zero_f32, zero_add]; rfl

theorem BD.matmul {a A : ℕ} {hA : A = 4 * a} {V : FVec Ideal ⟨2, ![A, N]⟩ .f32} {W : FVec Ideal ⟨2, ![N, K]⟩ .f32} {v : Fin a → Fin n → EReal}
    {w : Fin n → Fin k → EReal} (hV : BD hA hN V v) (hW : BD hN hK W w) (prec : Option ContractPrecision) :
    BD hA hK (FloatOps.matmul (DotDims.plain A N K) prec V W (constant ⟨2, ![A, K]⟩ .f32 0x00000000#32)) (fun i => mul (v i) w) :=
  fun p i p' j => by
    have hr : Row hN V (ln hA p i) (fun q l => if p = q then v i l else 0) := fun q l => hV p i q l
    rw [hr.matmul hW prec p' j]
    split_ifs with h
    · simp only [if_pos h]
    · exact Finset.sum_eq_zero fun i _ => by simp only [if_neg h, zero_mul]

theorem Row.addf {V U : FVec Ideal ⟨2, ![M, N]⟩ .f32} {f g : Fin 4 → Fin n → EReal} (hV : Row hN V r f) (hU : Row hN U r g) :
    Row hN (addf V U) r (fun p j => f p j + g p j) := fun p j => by
  have h := hV p j; have h' := hU p j; dsimp only; rw [← h, ← h']; rfl
theorem Row.mulf {V U : FVec Ideal ⟨2, ![M, N]⟩ .f32} {f g : Fin 4 → Fin n → EReal} (hV : Row hN V r f) (hU : Row hN U r g) :
    Row hN (mulf V U) r (fun p j => f p j * g p j) := fun p j => by
  have h := hV p j; have h' := hU p j; dsimp only; rw [← h, ← h']; rfl
theorem Row.subf {V U : FVec Ideal ⟨2, ![M, N]⟩ .f32} {f g : Fin 4 → Fin n → EReal} (hV : Row hN V r f) (hU : Row hN U r g) :
    Row hN (subf V U) r (fun p j => f p j - g p j) := fun p j => by
  have h := hV p j; have h' := hU p j; dsimp only; rw [← h, ← h']; rfl
theorem Row.logistic {V : FVec Ideal ⟨2, ![M, N]⟩ .f32} {f : Fin 4 → Fin n → EReal} (hV : Row hN V r f) :
    Row hN (logistic V) r (fun p j => Ideal.logistic (f p j)) := fun p j => by
  have h := hV p j; dsimp only; rw [← h]; rfl
theorem Row.tanh {V : FVec Ideal ⟨2, ![M, N]⟩ .f32} {f : Fin 4 → Fin n → EReal} (hV : Row hN V r f) :
    Row hN (tanh V) r (fun p j => Ideal.tanh (f p j)) := fun p j => by
  have h := hV p j; dsimp only; rw [← h]; rfl
theorem Row.exp {V : FVec Ideal ⟨2, ![M, N]⟩ .f32} {f : Fin 4 → Fin n → EReal} (hV : Row hN V r f) :
    Row hN (exp V) r (fun p j => Ideal.exp (f p j)) := fun p j => by
  have h := hV p j; dsimp only; rw [← h]; rfl
theorem Row.log {V : FVec Ideal ⟨2, ![M, N]⟩ .f32} {f : Fin 4 → Fin n → EReal} (hV : Row hN V r f) :
    Row hN (log V) r (fun p j => Ideal.log (f p j)) := fun p j => by
  have h := hV p j; dsimp only; rw [← h]; rfl
theorem Row.relu {V : FVec Ideal ⟨2, ![M, N]⟩ .f32} {f : Fin 4 → Fin n → EReal} (hV : Row hN V r f) :
    Row hN (maximumf V (broadcast ⟨2, ![M, N]⟩ (Scalar.ofBits .f32 0x00000000#32))) r (fun p j => max (f p j) 0) := fun p j => by
  have h := hV p j; dsimp only; rw [← h]; show max _ (Ideal.ofBits .f32 0x00000000#32) = _; rw [Ideal.ofBits_zero_f32]

/-- A bias row, the same four times, spread over the rows. -/
theorem Row.bias {B : FVec Ideal ⟨2, ![1, N]⟩ .f32} {b : Fin n → EReal} (hB : Row hN B 0 (fun _ => b))
    (hb : (⟨2, ![1, N]⟩ : Shape).Broadcasts ⟨2, ![M, N]⟩) : Row hN (broadcastTo ⟨2, ![M, N]⟩ B hb) r (fun _ => b) := fun p j => by
  have h := hB p j; dsimp only at h ⊢; rw [← h]; pointwise
  refine congrArg B (funext fun a => Fin.ext ?_)
  have h1 : N ≠ 1 := by omega
  match a with
  | ⟨0, _⟩ => rfl
  | ⟨1, _⟩ => simp [Shape.Idx.norm, h1]

theorem Row.cast {V : FVec Ideal ⟨2, ![M, N]⟩ .f32} {f : Fin 4 → Fin n → EReal} (hV : Row hN V r f)
    (h : (⟨2, ![M, N]⟩ : Shape).ShapeCasts ⟨2, ![M, N]⟩) : Row hN (shapeCast ⟨2, ![M, N]⟩ V h) r f := by
  rw [shapeCast_self]; exact hV
theorem BD.cast {W : FVec Ideal ⟨2, ![N, K]⟩ .f32} {w : Fin n → Fin k → EReal} (hW : BD hN hK W w)
    (h : (⟨2, ![N, K]⟩ : Shape).ShapeCasts ⟨2, ![N, K]⟩) : BD hN hK (shapeCast ⟨2, ![N, K]⟩ W h) w := by
  rw [shapeCast_self]; exact hW

end Sudoku
-- ==== Proof.Own.Block.lean ====
/-
  The kernel's body at one grid point, read row by row: eight puzzles, four side by side in the lanes, two on top of each other.
-/
module

public import proofs.«01_k».proof.Proof.Own.Rows
public import proofs.«01_k».proof.Proof.Gen.KernelIdeal.Skeleton

@[expose] public section

set_option maxRecDepth 16384

noncomputable section

namespace Sudoku

open Idealize.ShloMosaic Cert.KernelIdeal Cert.KernelIdeal.Gen
open scoped BigOperators

/-- The contents of the body's input buffers. -/
structure Blocks where
  q : Vec Ideal S1x162x4 .i32
  a : Vec Ideal S1x162x4 .i32
  g : Vec Ideal S1620x81 .f32
  roh : Vec Ideal S81x9 .f32
  coh : Vec Ideal S81x9 .f32
  re : Vec Ideal S9x16 .f32
  ce : Vec Ideal S9x16 .f32
  w1r : Vec Ideal S16x32 .f32
  w1c : Vec Ideal S16x32 .f32
  b1 : Vec Ideal S1x32 .f32
  de : Vec Ideal S40x64 .f32
  w1d : Vec Ideal S64x128 .f32
  w2 : Vec Ideal S128x128 .f32
  b2 : Vec Ideal S1x128 .f32
  w3 : Vec Ideal S128x128 .f32
  b3 : Vec Ideal S1x128 .f32
  w4 : Vec Ideal S128x128 .f32
  b4 : Vec Ideal S1x128 .f32
  ix : Vec Ideal S128x128 .f32
  im : Vec Ideal S128x128 .f32
  ih : Vec Ideal S128x128 .f32
  fx : Vec Ideal S128x128 .f32
  fm : Vec Ideal S128x128 .f32
  fh : Vec Ideal S128x128 .f32
  gx : Vec Ideal S128x128 .f32
  gm : Vec Ideal S128x128 .f32
  gh : Vec Ideal S128x128 .f32
  ox : Vec Ideal S128x128 .f32
  om : Vec Ideal S128x128 .f32
  oh : Vec Ideal S128x128 .f32
  ms : Vec Ideal S128x128 .f32
  md : Vec Ideal S128x128 .f32
  n1 : Vec Ideal S1x128 .f32
  m2 : Vec Ideal S128x128 .f32
  n2 : Vec Ideal S1x128 .f32
  m3 : Vec Ideal S128x128 .f32
  n3 : Vec Ideal S1x128 .f32
  m4 : Vec Ideal S128x128 .f32
  n4 : Vec Ideal S1x128 .f32
  ow : Vec Ideal S128x40 .f32
  ob : Vec Ideal S1x40 .f32

theorem h128 : 128 = 4 * 32 := rfl
theorem h64 : 64 = 4 * 16 := rfl
theorem h40 : 40 = 4 * 10 := rfl
theorem h4 : 4 = 4 * 1 := rfl

/-- The row of cell `n` in the upper (0) or lower (1) half. -/
def rw2 (u : Fin 2) (n : Fin 81) : Fin 162 := ⟨81 * u.val + n.val, by omega⟩
/-- The row of the `k`-th message to that cell. -/
def er (u : Fin 2) (n : Fin 81) (k : Fin 20) : Fin 3240 := ⟨20 * (81 * u.val + n.val) + k.val, by omega⟩

/-- The buffers hold the weights, packed: block-diagonal with the same block four times, biases side by side. -/
structure Good (B : Blocks) (w : Wt) : Prop where
  g : ∀ (n : Fin 81) (k : Fin 20) (m : Fin 81), B.g (ix2 (⟨20 * n.val + k.val, by omega⟩ : Fin 1620) m) = if m = nb n k then 1 else 0
  roh : ∀ (n : Fin 81) (i : Fin 9), B.roh (ix2 n i) = if i.val = n.val / 9 then 1 else 0
  coh : ∀ (n : Fin 81) (i : Fin 9), B.coh (ix2 n i) = if i.val = n.val % 9 then 1 else 0
  re : ∀ (n : Fin 9) (i : Fin 16), B.re (ix2 n i) = w.rE n i
  ce : ∀ (n : Fin 9) (i : Fin 16), B.ce (ix2 n i) = w.cE n i
  w1r : ∀ (n : Fin 16) (i : Fin 32), B.w1r (ix2 n i) = rows 48 16 w.w1 (by decide) n i
  w1c : ∀ (n : Fin 16) (i : Fin 32), B.w1c (ix2 n i) = rows 48 32 w.w1 (by decide) n i
  b1 : ∀ i : Fin 32, B.b1 (ix2 (0 : Fin 1) i) = w.b1 i
  de : BD h40 h64 B.de w.dE
  w1d : BD h64 h128 B.w1d (rows 48 0 w.w1 (by decide))
  w2 : BD h128 h128 B.w2 w.w2
  b2 : Row h128 B.b2 0 fun _ => w.b2
  w3 : BD h128 h128 B.w3 w.w3
  b3 : Row h128 B.b3 0 fun _ => w.b3
  w4 : BD h128 h128 B.w4 w.w4
  b4 : Row h128 B.b4 0 fun _ => w.b4
  ix : BD h128 h128 B.ix (wihT w 0 0 (by decide))
  im : BD h128 h128 B.im (wihT w 0 32 (by decide))
  ih : BD h128 h128 B.ih (whhT w 0)
  fx : BD h128 h128 B.fx (wihT w 1 0 (by decide))
  fm : BD h128 h128 B.fm (wihT w 1 32 (by decide))
  fh : BD h128 h128 B.fh (whhT w 1)
  gx : BD h128 h128 B.gx (wihT w 2 0 (by decide))
  gm : BD h128 h128 B.gm (wihT w 2 32 (by decide))
  gh : BD h128 h128 B.gh (whhT w 2)
  ox : BD h128 h128 B.ox (wihT w 3 0 (by decide))
  om : BD h128 h128 B.om (wihT w 3 32 (by decide))
  oh : BD h128 h128 B.oh (whhT w 3)
  ms : BD h128 h128 B.ms (rows 64 0 w.m1 (by decide))
  md : BD h128 h128 B.md (rows 64 32 w.m1 (by decide))
  n1 : Row h128 B.n1 0 fun _ => w.n1
  m2 : BD h128 h128 B.m2 w.m2
  n2 : Row h128 B.n2 0 fun _ => w.n2
  m3 : BD h128 h128 B.m3 w.m3
  n3 : Row h128 B.n3 0 fun _ => w.n3
  m4 : BD h128 h128 B.m4 w.m4
  n4 : Row h128 B.n4 0 fun _ => w.n4
  ow : BD h128 h40 B.ow w.ow
  ob : Row h40 B.ob 0 fun _ => w.ob

variable (B : Blocks)

/-! ## The body's values over the buffers -/

def kX : FVec Ideal S162x128 .f32 :=
  k0_pay1 (k0_pay29 (k0_pay26 B.q) (k0_pay28 B.roh B.re B.coh B.ce B.w1r B.w1c B.b1) B.de B.w1d B.w2 B.b2 B.w3 B.b3 B.w4) (k0_pay30 B.b4)
abbrev St := FVec Ideal S162x128 .f32 × FVec Ideal S162x128 .f32
def kE (s : St) : FVec Ideal S3240x128 .f32 := k0_pay5 (k0_pay3 B.g) s.1 B.ms B.md B.n1 B.m2 B.n2 B.m3
def kB : FVec Ideal S3240x128 .f32 := k0_pay6 B.n3
def kM (s : St) : FVec Ideal S162x128 .f32 := k0_pay7 (kE B s) (kB B) B.m4 B.n4
def kI (s : St) : FVec Ideal S162x128 .f32 := k0_pay8 (kX B) s.1 (kE B s) (kB B) B.m4 B.n4 B.ix B.im B.ih
def kF (s : St) : FVec Ideal S162x128 .f32 := k0_pay9 (kX B) (kE B s) (kB B) B.m4 B.n4 B.fx B.fm
def kC (s : St) : FVec Ideal S162x128 .f32 :=
  k0_pay11 (kX B) s.1 s.2 (kM B s) (kI B s) (kF B s) (k0_pay10 B.fh) (constant S162x128 .f32 0x00000000#32) B.gx B.gm B.gh
def kH (s : St) : FVec Ideal S162x128 .f32 :=
  k0_pay12 (kX B) s.1 s.2 (kM B s) (kI B s) (kF B s) (k0_pay10 B.fh) (constant S162x128 .f32 0x00000000#32) B.gx B.gm B.gh B.ox B.om B.oh
def kL (s : St) : FVec Ideal S162x40 .f32 :=
  k0_pay13 (kX B) s.1 s.2 (kM B s) (kI B s) (kF B s) (k0_pay10 B.fh) (constant S162x128 .f32 0x00000000#32) B.gx B.gm B.gh B.ox B.om B.oh B.ow
/-- One trip of the body's loop. -/
def kNext (s : St) : St := (kH B s, kC B s)
/-- The body's loop. -/
def kState : ℕ → St
  | 0 => (kX B, k0_pay2)
  | k + 1 => kNext B (kState k)

/-! ## Their rows -/

variable {B} {w : Wt} (G : Good B w)
include G

/-- A state's rows. -/
def SRow (s : St) (H : Fin 2 → Fin 4 → Rows × Rows) : Prop :=
  ∀ u n, Row h128 s.1 (rw2 u n) (fun p => (H u p).1 n) ∧ Row h128 s.2 (rw2 u n) (fun p => (H u p).2 n)

omit G in
theorem sender_sum (g : Vec Ideal S1620x81 .f32) (e : Fin 1620) (m : Fin 81)
    (hg : ∀ i, g (ix2 e i) = if i = m then (1 : EReal) else 0) (F : Fin 81 → EReal) :
    ∑ i : Fin 81, g (ix2 e i) * F i = F m := by
  simp [hg]

/-- The hidden rows that the messages start from. -/
theorem senders (V : FVec Ideal S162x128 .f32) (f : Fin 2 → Fin 4 → Rows) (hV : ∀ u n, Row h128 V (rw2 u n) fun p => f u p n)
    (u : Fin 2) (n : Fin 81) (k : Fin 20) :
    Row h128 (concatenate S3240x128 0 [⟨S1620x128, matmul dot_S1620x81_S81x128_S1620x128_1_0_0_1_n_n (some .fp32) (k0_pay3 B.g)
        (extractStridedSlice S81x128 ![0, 0] V slices_S162x128_o0_0_S81x128) (constant S1620x128 .f32 0x00000000#32)⟩,
      ⟨S1620x128, matmul dot_S1620x81_S81x128_S1620x128_1_0_0_1_n_n (some .fp32) (k0_pay3 B.g)
        (extractStridedSlice S81x128 ![81, 0] V slices_S162x128_o81_0_S81x128) (constant S1620x128 .f32 0x00000000#32)⟩]
      concatenates_S1620x128_S1620x128_S3240x128_d0) (er u n k) (fun p => f u p (nb n k)) := by
  intro p j
  dsimp only
  have hs : ∀ (o : Fin 2 → ℕ) (ho : o = ![81 * u.val, 0]) (hsl : S162x128.Slices o S81x128),
      matmul dot_S1620x81_S81x128_S1620x128_1_0_0_1_n_n (some .fp32) (k0_pay3 B.g)
        (extractStridedSlice S81x128 o V hsl) (constant S1620x128 .f32 0x00000000#32)
        (ix2 (⟨20 * n.val + k.val, by omega⟩ : Fin 1620) (ln h128 p j)) = f u p (nb n k) j := by
    intro o ho hsl
    subst ho
    refine (Ideal.matmul_plain_apply (some .fp32) (k0_pay3 B.g) (extractStridedSlice S81x128 _ V hsl) _ _ (ln h128 p j)).trans ?_
    show Ideal.ofBits .f32 0x00000000#32 + _ = _
    rw [Ideal.ofBits_zero_f32, zero_add]
    have hp3 : k0_pay3 B.g = B.g := by unfold k0_pay3; exact shapeCast_self ..
    rw [hp3]
    refine (sender_sum B.g _ (nb n k) (G.g n k) _).trans ?_
    refine Eq.trans ?_ (hV u (nb n k) p j)
    refine congrArg V (funext fun a => Fin.ext ?_)
    match a with
    | ⟨0, _⟩ => rfl
    | ⟨1, _⟩ => exact Nat.zero_add _
  match u, hs with
  | 0, hs =>
    refine (concatenate_apply_piece (t := S3240x128) 0 _ _ _ 0 (by simp) S1620x128 _ rfl rfl 0 rfl
      (ix2 (⟨20 * n.val + k.val, by omega⟩ : Fin 1620) (ln h128 p j)) ?_ ?_).trans (hs _ rfl _)
    · intro b hb
      match b, hb with
      | ⟨1, _⟩, _ => rfl
    · show 0 + (20 * n.val + k.val) = 20 * (81 * 0 + n.val) + k.val; omega
  | 1, hs =>
    refine (concatenate_apply_piece (t := S3240x128) 0 _ _ _ 1 (by simp) S1620x128 _ rfl rfl 1620 rfl
      (ix2 (⟨20 * n.val + k.val, by omega⟩ : Fin 1620) (ln h128 p j)) ?_ ?_).trans (hs _ rfl _)
    · intro b hb
      match b, hb with
      | ⟨1, _⟩, _ => rfl
    · show 1620 + (20 * n.val + k.val) = 20 * (81 * 1 + n.val) + k.val; omega

omit G in
/-- A row sent to each of a cell's messages. -/
theorem receivers (V : FVec Ideal S162x128 .f32) (f : Fin 4 → Fin 32 → EReal) (u : Fin 2) (n : Fin 81)
    (hV : Row h128 V (rw2 u n) f) (k : Fin 20) :
    Row h128 (shapeCast S3240x128 (broadcastTo S162x20x128 (shapeCast S162x1x128 (shapeCast S162x1x128 V
      shapeCasts_S162x128_S162x1x128) shapeCasts_S162x1x128_S162x1x128) broadcasts_S162x1x128_S162x20x128)
      shapeCasts_S162x20x128_S3240x128) (er u n k) f := by
  intro p j
  rw [← hV p j]
  pointwise
  refine congrArg V (ix2_inj _ _ _ _ |>.mpr ⟨Fin.ext ?_, rfl⟩)
  show (20 * (81 * u.val + n.val) + k.val) / 20 = 81 * u.val + n.val
  have := k.isLt; omega

omit G in
/-- The messages of a cell added up. -/
theorem sum20 (V : FVec Ideal S3240x128 .f32) (f : Fin 20 → Fin 4 → Fin 32 → EReal) (u : Fin 2) (n : Fin 81)
    (hV : ∀ k, Row h128 V (er u n k) (f k)) :
    Row h128 (multiReduction .add [1] S162x128 (shapeCast S162x20x128 V shapeCasts_S3240x128_S162x20x128) 0x00000000#32
      reduces_S162x20x128_S162x128 (.inl rfl) rfl) (rw2 u n) (fun p j => ∑ k, f k p j) := by
  intro p j
  pointwise
  refine Finset.sum_congr rfl fun k _ => ?_
  rw [← hV k p j]
  refine congrArg V (ix2_inj _ _ _ _ |>.mpr ⟨Fin.ext ?_, rfl⟩)
  show (81 * u.val + n.val) * 20 + k.val = 20 * (81 * u.val + n.val) + k.val
  omega

omit G in
theorem onehot (q : Vec Ideal S1x162x4 .i32) (r : Fin 162) (d : Fin 4 → Fin 10)
    (hq : ∀ p, q (ix3 (0 : Fin 1) r p) = BitVec.ofNat 32 (d p).val) :
    Row h40 (k0_pay26 (F := Ideal) q) r (fun p v => if v = d p then 1 else 0) := by
  intro p v
  pointwise [k0_pay26]
  have e1 : (⟨(ln h40 p v).val / 10, by have := (ln h40 p v).isLt; omega⟩ : Fin 4) = p :=
    Fin.ext (by show (10 * p.val + v.val) / 10 = p.val; have := v.isLt; omega)
  have e2 : (ln h40 p v).val % 10 = v.val := by show (10 * p.val + v.val) % 10 = v.val; have := v.isLt; omega
  rw [e1, e2, hq]
  generalize d p = d'
  have key : ∀ (v d : Fin 10), BitVec.setWidth 32 (IntOp.cmpi CmpIPredicate.eq (BitVec.ofNat 32 d.val) (BitVec.ofNat 32 v.val))
      = if v = d then 1#32 else 0#32 := by decide
  rw [key v d']
  split_ifs
  · show (((1#32 : BitVec 32).toInt : ℝ) : EReal) = 1; simp
  · show (((0#32 : BitVec 32).toInt : ℝ) : EReal) = 0; simp

end Sudoku
-- ==== Proof.Own.Body.lean ====
/-
  The kernel's body at one grid point: its rows are the rows of the message-passing network.
-/
module

public import proofs.«01_k».proof.Proof.Own.Block

@[expose] public section

set_option maxRecDepth 16384

noncomputable section

namespace Sudoku

open Idealize.ShloMosaic Cert.KernelIdeal Cert.KernelIdeal.Gen
open scoped BigOperators

/-- Four pieces side by side. -/
theorem cat4 {M n N : ℕ} {α : Type} (h : N = 4 * n) (a b c d : (⟨2, ![M, n]⟩ : Shape).Idx → α)
    (hc : Shape.Concatenates [(⟨2, ![M, n]⟩ : Shape), ⟨2, ![M, n]⟩, ⟨2, ![M, n]⟩, ⟨2, ![M, n]⟩] (⟨2, ![M, N]⟩ : Shape) 1) (r : Fin M) (p : Fin 4) (j : Fin n) :
    concatenate (⟨2, ![M, N]⟩ : Shape) 1 [⟨⟨2, ![M, n]⟩, a⟩, ⟨⟨2, ![M, n]⟩, b⟩, ⟨⟨2, ![M, n]⟩, c⟩, ⟨⟨2, ![M, n]⟩, d⟩] hc (ix2 r (ln h p j))
      = (![a, b, c, d] p) (ix2 r j) := by
  match p with
  | 0 =>
    refine concatenate_apply_piece (t := ⟨2, ![M, N]⟩) 1 _ _ _ 0 (by simp) ⟨2, ![M, n]⟩ _ rfl rfl 0 rfl (ix2 r j) ?_ ?_
    · intro b hb
      match b, hb with
      | ⟨0, _⟩, _ => rfl
      | ⟨1, _⟩, hb => exact absurd rfl hb
    · show 0 + j.val = n * 0 + j.val; omega
  | 1 =>
    refine concatenate_apply_piece (t := ⟨2, ![M, N]⟩) 1 _ _ _ 1 (by simp) ⟨2, ![M, n]⟩ _ rfl rfl n (by simp) (ix2 r j) ?_ ?_
    · intro b hb
      match b, hb with
      | ⟨0, _⟩, _ => rfl
      | ⟨1, _⟩, hb => exact absurd rfl hb
    · show n + j.val = n * 1 + j.val; omega
  | 2 =>
    refine concatenate_apply_piece (t := ⟨2, ![M, N]⟩) 1 _ _ _ 2 (by simp) ⟨2, ![M, n]⟩ _ rfl rfl (n + n) (by simp) (ix2 r j) ?_ ?_
    · intro b hb
      match b, hb with
      | ⟨0, _⟩, _ => rfl
      | ⟨1, _⟩, hb => exact absurd rfl hb
    · show n + n + j.val = n * 2 + j.val; omega
  | 3 =>
    refine concatenate_apply_piece (t := ⟨2, ![M, N]⟩) 1 _ _ _ 3 (by simp) ⟨2, ![M, n]⟩ _ rfl rfl (n + (n + n)) (by simp) (ix2 r j) ?_ ?_
    · intro b hb
      match b, hb with
      | ⟨0, _⟩, _ => rfl
      | ⟨1, _⟩, hb => exact absurd rfl hb
    · show n + (n + n) + j.val = n * 3 + j.val; omega

/-- Four columns side by side. -/
theorem cat1 {M : ℕ} {α : Type} (a b c d : (⟨2, ![M, 1]⟩ : Shape).Idx → α)
    (hc : Shape.Concatenates [(⟨2, ![M, 1]⟩ : Shape), ⟨2, ![M, 1]⟩, ⟨2, ![M, 1]⟩, ⟨2, ![M, 1]⟩] (⟨2, ![M, 4]⟩ : Shape) 1) (r : Fin M) (p : Fin 4) :
    concatenate (⟨2, ![M, 4]⟩ : Shape) 1 [⟨⟨2, ![M, 1]⟩, a⟩, ⟨⟨2, ![M, 1]⟩, b⟩, ⟨⟨2, ![M, 1]⟩, c⟩, ⟨⟨2, ![M, 1]⟩, d⟩] hc (ix2 r p)
      = (![a, b, c, d] p) (ix2 r 0) := by
  have e : p = ln h4 p 0 := Fin.ext (by show p.val = 1 * p.val + 0; omega)
  refine Eq.trans ?_ (cat4 h4 a b c d hc r p 0)
  rw [← e]

theorem ofBits_bot : Ideal.ofBits .f32 0xFF800000#32 = ⊥ := by simp [Ideal.ofBits, Ideal.ieee]

theorem ofBits_20 : Ideal.ofBits .f32 0x41A00000#32 = 20 := by
  rw [show (20 : EReal) = ((20 : ℝ) : EReal) by norm_cast]
  simp [Ideal.ofBits, Ideal.ieee, -EReal.coe_mul]; norm_num

/-- A cell's position, embedded and multiplied. -/
theorem posRow (n : Fin 81) (m : Fin 9) (R : FVec Ideal S81x9 .f32) (E : FVec Ideal S9x16 .f32) (W : FVec Ideal S16x32 .f32)
    (e : Fin 9 → Fin 16 → EReal) (v : Fin 16 → Fin 32 → EReal) (hR : ∀ i, R (ix2 n i) = if i = m then 1 else 0)
    (hE : ∀ i j, E (ix2 i j) = e i j) (hW : ∀ i j, W (ix2 i j) = v i j) (hc : S16x32.ShapeCasts S16x32) (j : Fin 32) :
    FloatOps.matmul (F := Ideal) (φ₁ := .f32) (φ₂ := .f32) dot_S81x16_S16x32_S81x32_1_0_0_1_n_n (some .fp32)
      (FloatOps.matmul (F := Ideal) (φ₁ := .f32) (φ₂ := .f32) dot_S81x9_S9x16_S81x16_1_0_0_1_n_n (some .fp32) R E (constant S81x16 .f32 0x00000000#32))
      (shapeCast S16x32 W hc) (constant S81x32 .f32 0x00000000#32) (ix2 n j) = mul (e m) v j := by
  rw [shapeCast_self]
  refine (Ideal.matmul_plain_apply (some .fp32) _ W _ n j).trans ?_
  show Ideal.ofBits .f32 0x00000000#32 + _ = _
  rw [Ideal.ofBits_zero_f32, zero_add]
  refine Finset.sum_congr rfl fun i _ => congrArg₂ (· * ·) ?_ (hW i j)
  refine (Ideal.matmul_plain_apply (some .fp32) R E _ n i).trans ?_
  show Ideal.ofBits .f32 0x00000000#32 + _ = _
  rw [Ideal.ofBits_zero_f32, zero_add]
  refine (Finset.sum_congr rfl fun l _ => congrArg₂ (· * ·) (hR l) (hE l i)).trans ?_
  simp

variable {B : Blocks} {w : Wt} (G : Good B w)
include G

theorem kE_row (s : St) (H : Fin 2 → Fin 4 → Rows) (hs : ∀ u n, Row h128 s.1 (rw2 u n) fun p => H u p n)
    (u : Fin 2) (n : Fin 81) (k : Fin 20) :
    Row h128 (addf (kE B s) (kB B)) (er u n k) fun p => lin w.m3 w.n3 (rlin w.m2 w.n2 (e1 w (H u p (nb n k)) (H u p n))) := by
  unfold kE kB k0_pay5 k0_pay6
  exact ((((((senders G _ (fun u p n => mul (H u p n) _) (fun u n => (hs u n).matmul (G.ms.cast _) _) u n k).addf
    (receivers _ _ u n (((hs u n).matmul (G.md.cast _) _).addf ((G.n1.cast _).bias _)) k)).relu.matmul (G.m2.cast _) _).addf
      ((G.n2.cast _).bias _)).relu.matmul (G.m3.cast _) _).addf ((G.n3.cast _).bias _))

theorem kM_row (s : St) (H : Fin 2 → Fin 4 → Rows) (hs : ∀ u n, Row h128 s.1 (rw2 u n) fun p => H u p n)
    (u : Fin 2) (n : Fin 81) : Row h128 (kM B s) (rw2 u n) fun p => heard w (H u p) n := by
  unfold kM k0_pay7
  have h20 : Row h128 (broadcast S1x128 (Scalar.ofBits (F := Ideal) .f32 0x41A00000#32)) 0 (fun _ _ => 20) := fun p j => ofBits_20
  have hb : Row h128 (mulf (broadcast S1x128 (Scalar.ofBits (F := Ideal) .f32 0x41A00000#32)) (shapeCast S1x128 B.n4 shapeCasts_S1x128_S1x128)) 0
      (fun _ j => 20 * w.n4 j) := h20.mulf (G.n4.cast _)
  exact ((sum20 _ _ u n (fun k => (kE_row G s H hs u n k).relu)).matmul (G.m4.cast _) _).addf (hb.bias _)

/-- The hidden input rows of the body. -/
theorem kX_row (D : Fin 2 → Fin 4 → Fin 81 → Fin 10) (hq : ∀ u p n, B.q (ix3 (0 : Fin 1) (rw2 u n) p) = BitVec.ofNat 32 (D u p n).val)
    (u : Fin 2) (n : Fin 81) : Row h128 (kX B) (rw2 u n) fun p => xin w (D u p) n := by
  have h38 : Row h128 (shapeCast S162x128 (broadcastTo S2x81x128 (shapeCast S1x81x128 (shapeCast S1x81x128
      (k0_pay28 B.roh B.re B.coh B.ce B.w1r B.w1c B.b1) shapeCasts_S81x128_S1x81x128) shapeCasts_S1x81x128_S1x81x128)
      broadcasts_S1x81x128_S2x81x128) shapeCasts_S2x81x128_S162x128) (rw2 u n) fun p j =>
      mul (w.rE ⟨n.val / 9, by omega⟩) (rows 48 16 w.w1 (by decide)) j
      + mul (w.cE ⟨n.val % 9, by omega⟩) (rows 48 32 w.w1 (by decide)) j + w.b1 j := by
    intro p j
    have h28 : k0_pay28 B.roh B.re B.coh B.ce B.w1r B.w1c B.b1 (ix2 n (ln h128 p j)) = mul (w.rE ⟨n.val / 9, by omega⟩) (rows 48 16 w.w1 (by decide)) j
      + mul (w.cE ⟨n.val % 9, by omega⟩) (rows 48 32 w.w1 (by decide)) j + w.b1 j := by
      unfold k0_pay28
      refine (cat4 h128 _ _ _ _ _ n p j).trans ?_
      have hp : ∀ x : S81x32.Idx → EReal, (![x, x, x, x] p) = x := fun x => by match p with | 0 => rfl | 1 => rfl | 2 => rfl | 3 => rfl
      rw [hp]
      exact congrArg₂ (· + ·) (congrArg₂ (· + ·) (posRow n ⟨n.val / 9, by omega⟩ B.roh B.re B.w1r w.rE _ (fun i => by rw [G.roh]; simp only [Fin.ext_iff]) G.re G.w1r _ j)
        (posRow n ⟨n.val % 9, by omega⟩ B.coh B.ce B.w1c w.cE _ (fun i => by rw [G.coh]; simp only [Fin.ext_iff]) G.ce G.w1c _ j)) (by
          pointwise; rw [← G.b1 j])
    dsimp only
    rw [← h28]
    pointwise
    refine congrArg (k0_pay28 B.roh B.re B.coh B.ce B.w1r B.w1c B.b1) (ix2_inj _ _ _ _ |>.mpr ⟨Fin.ext ?_, rfl⟩)
    show (81 * u.val + n.val) % 81 = n.val
    omega
  have h44 : Row h128 (matmul dot_S162x40_S40x128_S162x128_1_0_0_1_n_n (some .fp32) (k0_pay26 B.q)
      (FloatOps.matmul (F := Ideal) (φ₁ := .f32) (φ₂ := .f32) dot_S40x64_S64x128_S40x128_1_0_0_1_n_n (some .fp32) (shapeCast S40x64 B.de shapeCasts_S40x64_S40x64)
        (shapeCast S64x128 B.w1d shapeCasts_S64x128_S64x128) (constant S40x128 .f32 0x00000000#32))
      (constant S162x128 .f32 0x00000000#32)) (rw2 u n)
      fun p j => mul (w.dE (D u p n)) (rows 48 0 w.w1 (by decide)) j := by
    intro p j
    refine ((onehot B.q (rw2 u n) (fun p => D u p n) (fun p => hq u p n)).matmul ((G.de.cast _).matmul (G.w1d.cast _) _) _ p j).trans ?_
    show ∑ v, (if v = D u p n then (1 : EReal) else 0) * _ = _
    simp
  unfold kX k0_pay1 k0_pay29 k0_pay30
  exact ((((((h44.addf h38).relu.matmul (G.w2.cast _) _).addf ((G.b2.cast _).bias _)).relu.matmul (G.w3.cast _) _).addf
    ((G.b3.cast _).bias _)).relu.matmul (G.w4.cast _) _).addf ((G.b4.cast _).bias _)

theorem kGate (s : St) (H : Fin 2 → Fin 4 → Rows) (hs : ∀ u n, Row h128 s.1 (rw2 u n) fun p => H u p n)
    (X : Fin 2 → Fin 4 → Rows) (hX : ∀ u n, Row h128 (kX B) (rw2 u n) fun p => X u p n)
    (u : Fin 2) (n : Fin 81) :
    Row h128 (kI B s) (rw2 u n) (fun p => gate w 0 (X u p n) (heard w (H u p) n) (H u p n)) := by
  unfold kI k0_pay8
  exact (((hX u n).matmul (G.ix.cast _) _).addf ((kM_row G s H hs u n).matmul (G.im.cast _) _)).addf ((hs u n).matmul (G.ih.cast _) _)

theorem kC_row (s : St) (H : Fin 2 → Fin 4 → Rows × Rows) (hs : SRow s H)
    (X : Fin 2 → Fin 4 → Rows) (hX : ∀ u n, Row h128 (kX B) (rw2 u n) fun p => X u p n)
    (u : Fin 2) (n : Fin 81) :
    Row h128 (kC B s) (rw2 u n) (fun p => nextC w (X u p) (H u p) n) := by
  have h1 := fun u n => (hs u n).1
  have hm := kM_row G s (fun u p => (H u p).1) h1 u n
  unfold kC k0_pay11 kF k0_pay9 k0_pay10
  exact ((((((hX u n).matmul (G.fx.cast _) _).addf (hm.matmul (G.fm.cast _) _)).addf ((h1 u n).matmul (G.fh.cast _) _)).logistic).mulf (hs u n).2).addf
    ((kGate G s _ h1 X hX u n).logistic.mulf (((((hX u n).matmul (G.gx.cast _) _).addf (hm.matmul (G.gm.cast _) _)).addf ((h1 u n).matmul (G.gh.cast _) _)).tanh))

theorem kH_row (s : St) (H : Fin 2 → Fin 4 → Rows × Rows) (hs : SRow s H)
    (X : Fin 2 → Fin 4 → Rows) (hX : ∀ u n, Row h128 (kX B) (rw2 u n) fun p => X u p n)
    (u : Fin 2) (n : Fin 81) :
    Row h128 (kH B s) (rw2 u n) (fun p => nextH w (X u p) (H u p) n) := by
  have h1 := fun u n => (hs u n).1
  have hm := kM_row G s (fun u p => (H u p).1) h1 u n
  have hc := kC_row G s H hs X hX u n
  unfold kC at hc
  unfold kH k0_pay12
  exact ((((hX u n).matmul (G.ox.cast _) _).addf (hm.matmul (G.om.cast _) _)).addf ((h1 u n).matmul (G.oh.cast _) _)).logistic.mulf hc.tanh

theorem kState_row (D : Fin 2 → Fin 4 → Fin 81 → Fin 10) (hq : ∀ u p n, B.q (ix3 (0 : Fin 1) (rw2 u n) p) = BitVec.ofNat 32 (D u p n).val)
    (k : ℕ) : SRow (kState B k) fun u p => state w (xin w (D u p)) k := by
  have hX := kX_row G D hq
  induction k with
  | zero => exact fun u n => ⟨hX u n, fun p j => Ideal.ofBits_zero_f32⟩
  | succ k ih => exact fun u n => ⟨kH_row G _ _ ih _ hX u n, kC_row G _ _ ih _ hX u n⟩

/-- The scores of one trip. -/
theorem kL_row (D : Fin 2 → Fin 4 → Fin 81 → Fin 10) (hq : ∀ u p n, B.q (ix3 (0 : Fin 1) (rw2 u n) p) = BitVec.ofNat 32 (D u p n).val)
    (k : ℕ) (u : Fin 2) (n : Fin 81) : Row h40 (k0_pay14 (kL B (kState B k)) B.ob) (rw2 u n) fun p => out w (D u p) k n := by
  have h := (kState_row G D hq (k + 1) u n).1
  unfold kState kNext kH at h
  unfold k0_pay14 kL k0_pay13
  exact (h.matmul (G.ow.cast _) _).addf ((G.ob.cast _).bias _)

/-! ## Groups of ten lanes -/
omit G

/-- The `p`-th group of ten lanes added up. -/
theorem sum10 (V : FVec Ideal S162x40 .f32) (p : Fin 4) (o : ℕ) (ho : o = 10 * p.val) (hs : S162x40.Slices ![0, o] S162x10) (r : Fin 162) (j : Fin 1) :
    shapeCast S162x1 (multiReduction .add [1] S162 (extractStridedSlice S162x10 ![0, o] V hs) 0x00000000#32
      reduces_S162x10_S162 (.inl rfl) rfl) shapeCasts_S162_S162x1 (ix2 r j) = ∑ v, V (ix2 r (ln h40 p v)) := by
  subst ho
  pointwise
  rfl
/-- The largest of the `p`-th group of ten lanes. -/
theorem max10 (V : FVec Ideal S162x40 .f32) (p : Fin 4) (o : ℕ) (ho : o = 10 * p.val) (hs : S162x40.Slices ![0, o] S162x10) (r : Fin 162) (j : Fin 1) :
    shapeCast S162x1 (multiReduction .maximumf [1] S162 (extractStridedSlice S162x10 ![0, o] V hs) 0xFF800000#32
      reduces_S162x10_S162 (.inl rfl) rfl) shapeCasts_S162_S162x1 (ix2 r j) = top fun v => V (ix2 r (ln h40 p v)) := by
  subst ho
  pointwise
  rw [ofBits_bot]
  rfl
/-- The least of the `p`-th group of ten lanes. -/
theorem min10 (V : IVec S162x40 32) (p : Fin 4) (o : ℕ) (ho : o = 10 * p.val) (hs : S162x40.Slices ![0, o] S162x10) (r : Fin 162) (j : Fin 1) :
    shapeCast S162x1 (multiReductionI .minsi [1] S162 (extractStridedSlice S162x10 ![0, o] V hs) 2147483647#32
      reduces_S162x10_S162 rfl) shapeCasts_S162_S162x1 (ix2 r j)
      = Finset.univ.fold IntOp.minsi 2147483647#32 fun v : Fin 10 => V (ix2 r (ln h40 p v)) := by
  subst ho
  pointwise
  rfl
/-- A column spread over ten lanes. -/
theorem spread10 (V : FVec Ideal S162x4 .f32) (p : Fin 4) (o : ℕ) (ho : o = p.val) (hs : S162x4.Slices ![0, o] S162x1) (r : Fin 162) (v : Fin 10) :
    broadcastTo S162x10 (shapeCast S162x1 (extractStridedSlice S162x1 ![0, o] V hs) shapeCasts_S162x1_S162x1) broadcasts_S162x1_S162x10 (ix2 r v)
      = V (ix2 r p) := by
  subst ho
  pointwise

/-- The largest scores, a column per puzzle. -/
theorem tops (V : FVec Ideal S162x40 .f32) (b : FVec Ideal S1x40 .f32) (r : Fin 162) (l : Fin 4 → Fin 10 → EReal)
    (h : Row h40 (k0_pay14 V b) r l) (p : Fin 4) : k0_pay16 V b (ix2 r p) = top (l p) := by
  have hl : (fun v => k0_pay14 V b (ix2 r (ln h40 p v))) = l p := funext (h p)
  rw [← hl]
  unfold k0_pay16
  refine (cat1 _ _ _ _ concatenates_S162x1_S162x1_S162x1_S162x1_S162x4_d1 r p).trans ?_
  match p with
  | 0 => exact max10 _ 0 0 rfl _ r 0
  | 1 => exact max10 _ 1 10 rfl _ r 0
  | 2 => exact max10 _ 2 20 rfl _ r 0
  | 3 => exact max10 _ 3 30 rfl _ r 0

/-- The largest scores, beside each score. -/
theorem spreads (V : FVec Ideal S162x40 .f32) (b : FVec Ideal S1x40 .f32) (r : Fin 162) (l : Fin 4 → Fin 10 → EReal)
    (h : Row h40 (k0_pay14 V b) r l) : Row h40 (k0_pay17 V b) r fun p _ => top (l p) := by
  intro p v
  dsimp only
  rw [← tops V b r l h p]
  unfold k0_pay17
  refine (cat4 h40 _ _ _ _ concatenates_S162x10_S162x10_S162x10_S162x10_S162x40_d1 r p v).trans ?_
  match p with
  | 0 => exact spread10 (k0_pay16 V b) 0 0 rfl slices_S162x4_o0_0_S162x1 r v
  | 1 => exact spread10 (k0_pay16 V b) 1 1 rfl slices_S162x4_o0_1_S162x1 r v
  | 2 => exact spread10 (k0_pay16 V b) 2 2 rfl slices_S162x4_o0_2_S162x1 r v
  | 3 => exact spread10 (k0_pay16 V b) 3 3 rfl slices_S162x4_o0_3_S162x1 r v

/-- The digit a lane stands for. -/
theorem digit (r : Fin 162) (l : Fin 40) :
    select (andi k0_pay20 k0_pay19) (addi k0_pay18 (broadcast S162x40 10#32)) k0_pay18 (ix2 r l) = BitVec.ofNat 32 (l.val % 10) := by
  pointwise [k0_pay20, k0_pay19, k0_pay18]
  revert l; decide

/-- The predictions of one trip. -/
theorem preds (V : FVec Ideal S162x40 .f32) (b : FVec Ideal S1x40 .f32) (r : Fin 162) (l : Fin 4 → Fin 10 → EReal)
    (h : Row h40 (k0_pay14 V b) r l) (p : Fin 4) :
    k0_pay21 (k0_pay14 V b) (k0_pay17 V b) 10#32 k0_pay18 k0_pay19 k0_pay20 (ix4 (0 : Fin 1) (0 : Fin 1) r p) = pick (l p) := by
  have hs := spreads V b r l h
  generalize k0_pay17 V b = T at hs ⊢
  generalize k0_pay14 V b = L at h hs ⊢
  have key : ∀ v, select (cmpf .oeq L T) (select (andi k0_pay20 k0_pay19) (addi k0_pay18 (broadcast S162x40 10#32)) k0_pay18)
      (broadcast S162x40 10#32) (ix2 r (ln h40 p v)) = if l p v = top (l p) then BitVec.ofNat 32 v.val else 10#32 := fun v => by
    have hd := digit r (ln h40 p v)
    generalize select (andi k0_pay20 k0_pay19) (addi k0_pay18 (broadcast S162x40 10#32)) k0_pay18 = dd at hd ⊢
    have hm : (ln h40 p v).val % 10 = v.val := by show (10 * p.val + v.val) % 10 = v.val; omega
    rw [hm] at hd
    pointwise
    rw [h p v, hs p v, hd]
  unfold pick k0_pay21
  simp only [← key]
  generalize select (cmpf .oeq L T) (select (andi k0_pay20 k0_pay19) (addi k0_pay18 (broadcast S162x40 10#32)) k0_pay18)
      (broadcast S162x40 10#32) = W
  have hcast : ∀ Z : IVec S162x4 32, shapeCast S1x1x162x4 Z shapeCasts_S162x4_S1x1x162x4 (ix4 (0 : Fin 1) (0 : Fin 1) r p) = Z (ix2 r p) := fun Z => by pointwise
  refine (hcast _).trans ((cat1 _ _ _ _ concatenates_S162x1_S162x1_S162x1_S162x1_S162x4_d1 r p).trans ?_)
  match p with
  | 0 => exact min10 _ 0 0 rfl _ r 0
  | 1 => exact min10 _ 1 10 rfl _ r 0
  | 2 => exact min10 _ 2 20 rfl _ r 0
  | 3 => exact min10 _ 3 30 rfl _ r 0

/-- Four sums side by side. -/
theorem sums (W : FVec Ideal S162x40 .f32) (r : Fin 162) (p : Fin 4) :
    concatenate S162x4 1 [⟨S162x1, shapeCast S162x1 (multiReduction .add [1] S162 (extractStridedSlice S162x10 ![0, 0] W slices_S162x40_o0_0_S162x10) 0x00000000#32
      reduces_S162x10_S162 (.inl rfl) rfl) shapeCasts_S162_S162x1⟩,
     ⟨S162x1, shapeCast S162x1 (multiReduction .add [1] S162 (extractStridedSlice S162x10 ![0, 10] W slices_S162x40_o0_10_S162x10) 0x00000000#32
      reduces_S162x10_S162 (.inl rfl) rfl) shapeCasts_S162_S162x1⟩,
     ⟨S162x1, shapeCast S162x1 (multiReduction .add [1] S162 (extractStridedSlice S162x10 ![0, 20] W slices_S162x40_o0_20_S162x10) 0x00000000#32
      reduces_S162x10_S162 (.inl rfl) rfl) shapeCasts_S162_S162x1⟩,
     ⟨S162x1, shapeCast S162x1 (multiReduction .add [1] S162 (extractStridedSlice S162x10 ![0, 30] W slices_S162x40_o0_30_S162x10) 0x00000000#32
      reduces_S162x10_S162 (.inl rfl) rfl) shapeCasts_S162_S162x1⟩] concatenates_S162x1_S162x1_S162x1_S162x1_S162x4_d1 (ix2 r p)
      = ∑ v, W (ix2 r (ln h40 p v)) := by
  refine (cat1 _ _ _ _ concatenates_S162x1_S162x1_S162x1_S162x1_S162x4_d1 r p).trans ?_
  match p with
  | 0 => exact sum10 _ 0 0 rfl _ r 0
  | 1 => exact sum10 _ 1 10 rfl _ r 0
  | 2 => exact sum10 _ 2 20 rfl _ r 0
  | 3 => exact sum10 _ 3 30 rfl _ r 0

/-- The costs of one trip. -/
theorem costs (V : FVec Ideal S162x40 .f32) (b : FVec Ideal S1x40 .f32) (O : FVec Ideal S162x40 .f32) (r : Fin 162) (l : Fin 4 → Fin 10 → EReal)
    (h : Row h40 (k0_pay14 V b) r l) (A : Fin 4 → Fin 10) (hO : Row h40 O r fun p v => if v = A p then 1 else 0) (p : Fin 4) :
    k0_pay4 (k0_pay22 (k0_pay14 V b) (k0_pay16 V b) (k0_pay17 V b)) (k0_pay23 O (k0_pay14 V b)) (k0_pay24 O (k0_pay14 V b))
      (k0_pay25 O (k0_pay14 V b)) (ix4 (0 : Fin 1) (0 : Fin 1) r p) = cost (l p) (A p) := by
  have hs := spreads V b r l h
  have ht := tops V b r l h
  generalize k0_pay17 V b = T at hs ⊢
  generalize k0_pay16 V b = T' at ht ⊢
  generalize k0_pay14 V b = L at h hs ⊢
  unfold k0_pay4 k0_pay22 k0_pay24 k0_pay25 k0_pay23 cost
  have hcast : ∀ Z : FVec Ideal S162x4 .f32, shapeCast S1x1x162x4 Z shapeCasts_S162x4_S1x1x162x4 (ix4 (0 : Fin 1) (0 : Fin 1) r p) = Z (ix2 r p) := fun Z => by pointwise
  refine (hcast _).trans (congrArg₂ (· - ·) (congrArg₂ (· + ·) (congrArg Ideal.log ((sums _ r p).trans ?_)) (ht p)) ((sums _ r p).trans ?_))
  · exact Finset.sum_congr rfl fun v _ => (h.subf hs).exp p v
  · refine (Finset.sum_congr rfl fun v _ => h.mulf hO p v).trans ?_
    simp

end Sudoku
-- ==== Proof.Own.KernelIdeal.Loop.lean ====
/-
  The loop of the kernel's body: its trips are the steps of the network on the block's contents, its stores the scores.
-/
module

public import proofs.«01_k».proof.Proof.Own.Body
public import proofs.«01_k».proof.Proof.Gen.KernelIdeal.Loops
public import Idealize.ShloMosaic.Lib.VecWindow

@[expose] public section

set_option maxRecDepth 16384

noncomputable section

namespace Sudoku

open Idealize.ShloMosaic Idealize.ShloMosaic.TcCoe Cert.KernelIdeal Cert.KernelIdeal.Gen
open Idealize.SL Idealize.SL.RA

/-- A load of a whole buffer reads what it was filled with. -/
theorem rd {s : Shape} {e : EltTy} {m : Memref sig .tc .vmem s e} (h : m.IsWhole) (X : s.Idx → Elt Ideal e) {off : Fin s.rank → ℕ}
    (inb : ∀ a, off a + s.size a ≤ s.size a) :
    View.readAt (Elt Ideal) m.view (Rect.unit off s.size inb).toLoadRect (h.unread X) = X :=
  (View.readAt_full _ _ inb).trans (h.read_unread X)

section
variable {F : FTy → Type} [FloatOps F]
theorem rdA {m : Memref sig .tc .vmem S128x128 .f32} (h : m.IsWhole) (X : S128x128.Idx → Elt Ideal .f32) :
    View.readAt (Elt Ideal) m.view (Rect.unit ![0, 0] ![128, 128] inb_S128x128_S128x128_0_0).toLoadRect (h.unread X) = X := rd h X _
theorem rdB {m : Memref sig .tc .vmem S1x128 .f32} (h : m.IsWhole) (X : S1x128.Idx → Elt Ideal .f32) :
    View.readAt (Elt Ideal) m.view (Rect.unit ![0, 0] ![1, 128] inb_S1x128_S1x128_0_0).toLoadRect (h.unread X) = X := rd h X _
theorem rdC {m : Memref sig .tc .vmem S128x40 .f32} (h : m.IsWhole) (X : S128x40.Idx → Elt Ideal .f32) :
    View.readAt (Elt Ideal) m.view (Rect.unit ![0, 0] ![128, 40] inb_S128x40_S128x40_0_0).toLoadRect (h.unread X) = X := rd h X _
theorem rdD {m : Memref sig .tc .vmem S1x40 .f32} (h : m.IsWhole) (X : S1x40.Idx → Elt Ideal .f32) :
    View.readAt (Elt Ideal) m.view (Rect.unit ![0, 0] ![1, 40] inb_S1x40_S1x40_0_0).toLoadRect (h.unread X) = X := rd h X _
end

variable (B : Blocks)

section
variable (c : Dev nD) (i : grid0.Coords) (arg1 : Memref sig .tc .vmem S1x162x4 .i32) (harg1 : arg1.IsWhole) (arg2 : Memref sig .tc .vmem S1x162x4 .i32) (harg2 : arg2.IsWhole) (arg3 : Memref sig .tc .vmem S1620x81 .f32) (harg3 : arg3.IsWhole) (arg4 : Memref sig .tc .vmem S81x9 .f32) (harg4 : arg4.IsWhole) (arg5 : Memref sig .tc .vmem S81x9 .f32) (harg5 : arg5.IsWhole) (arg6 : Memref sig .tc .vmem S9x16 .f32) (harg6 : arg6.IsWhole) (arg7 : Memref sig .tc .vmem S9x16 .f32) (harg7 : arg7.IsWhole) (arg8 : Memref sig .tc .vmem S16x32 .f32) (harg8 : arg8.IsWhole) (arg9 : Memref sig .tc .vmem S16x32 .f32) (harg9 : arg9.IsWhole) (arg10 : Memref sig .tc .vmem S1x32 .f32) (harg10 : arg10.IsWhole) (arg11 : Memref sig .tc .vmem S40x64 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S1x128 .f32) (harg33 : arg33.IsWhole) (arg34 : Memref sig .tc .vmem S128x128 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x40 .f32) (harg40 : arg40.IsWhole) (arg41 : Memref sig .tc .vmem S1x40 .f32) (harg41 : arg41.IsWhole) (arg42 : Memref sig .tc .vmem S8x1x162x40 .f32) (harg42 : arg42.IsWhole) (arg43 : Memref sig .tc .vmem S8x1x162x4 .i32) (harg43 : arg43.IsWhole) (arg44 : Memref sig .tc .vmem S8x1x162x4 .f32) (harg44 : arg44.IsWhole)

set_option maxHeartbeats 0 in
theorem tripR_eq (k : Fin k0_t1_loop.trips) (acc : St) :
    tripR_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 (k0_pay27 B.a)
      (k0_pay29 (k0_pay26 B.q) (k0_pay28 B.roh B.re B.coh B.ce B.w1r B.w1c B.b1) B.de B.w1d B.w2 B.b2 B.w3 B.b3 B.w4) (k0_pay30 B.b4) B.g
      (harg19.unread B.ix) (harg20.unread B.im) (harg21.unread B.ih) (harg22.unread B.fx) (harg23.unread B.fm) (harg24.unread B.fh) (harg25.unread B.gx) (harg26.unread B.gm) (harg27.unread B.gh) (harg28.unread B.ox) (harg29.unread B.om) (harg30.unread B.oh) (harg31.unread B.ms) (harg32.unread B.md) (harg33.unread B.n1) (harg34.unread B.m2) (harg35.unread B.n2) (harg36.unread B.m3) (harg37.unread B.n3) (harg38.unread B.m4) (harg39.unread B.n4) (harg40.unread B.ow) (harg41.unread B.ob) k acc = kNext B acc := by
  unfold tripR_k0_t1 trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.cst_97, rdA, rdB]
  rfl

/-- What one trip stores. -/
def pc42 (k : Fin k0_t1_loop.trips) (acc : St) : View.Piece (Elt Ideal) S8x1x162x40 .f32 :=
  ⟨Rect.unit (k0_off1 k) S1x1x162x40.size (k0_off1_inb k), k0_pay15 (kL B acc) B.ob⟩
def pc43 (k : Fin k0_t1_loop.trips) (acc : St) : View.Piece (Elt Ideal) S8x1x162x4 .i32 :=
  ⟨Rect.unit (k0_off2 k) S1x1x162x4.size (k0_off2_inb k), k0_pay21 (k0_pay14 (kL B acc) B.ob) (k0_pay17 (kL B acc) B.ob) 10#32 k0_pay18 k0_pay19 k0_pay20⟩
def kCost (acc : St) : FVec Ideal S1x1x162x4 .f32 :=
  k0_pay4 (k0_pay22 (k0_pay14 (kL B acc) B.ob) (k0_pay16 (kL B acc) B.ob) (k0_pay17 (kL B acc) B.ob))
          (k0_pay23 (k0_pay27 B.a) (k0_pay14 (kL B acc) B.ob)) (k0_pay24 (k0_pay27 B.a) (k0_pay14 (kL B acc) B.ob)) (k0_pay25 (k0_pay27 B.a) (k0_pay14 (kL B acc) B.ob))
def pc44 (k : Fin k0_t1_loop.trips) (acc : St) : View.Piece (Elt Ideal) S8x1x162x4 .f32 :=
  ⟨Rect.unit (k0_off2 k) S1x1x162x4.size (k0_off2_inb k), kCost B acc⟩

set_option maxHeartbeats 0 in
theorem tripL_eq (k : Fin k0_t1_loop.trips) (acc : St) :
    tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 (k0_pay27 B.a)
      (k0_pay29 (k0_pay26 B.q) (k0_pay28 B.roh B.re B.coh B.ce B.w1r B.w1c B.b1) B.de B.w1d B.w2 B.b2 B.w3 B.b3 B.w4) (k0_pay30 B.b4) B.g
      (harg19.unread B.ix) (harg20.unread B.im) (harg21.unread B.ih) (harg22.unread B.fx) (harg23.unread B.fm) (harg24.unread B.fh) (harg25.unread B.gx) (harg26.unread B.gm) (harg27.unread B.gh) (harg28.unread B.ox) (harg29.unread B.om) (harg30.unread B.oh) (harg31.unread B.ms) (harg32.unread B.md) (harg33.unread B.n1) (harg34.unread B.m2) (harg35.unread B.n2) (harg36.unread B.m3) (harg37.unread B.n3) (harg38.unread B.m4) (harg39.unread B.n4) (harg40.unread B.ow) (harg41.unread B.ob) k acc = ([pc42 B k acc], [pc43 B k acc], [pc44 B k acc]) := by
  unfold tripL_k0_t1 trip_k0_t1
  dsimp only
  simp only [trip_k0_t1.sl.r, trip_k0_t1.sl.r_1, trip_k0_t1.sl.r_2, trip_k0_t1.sl.r_3, trip_k0_t1.sl.r_4, trip_k0_t1.sl.r_5, trip_k0_t1.sl.r_6, trip_k0_t1.sl.r_7, trip_k0_t1.sl.r_8, trip_k0_t1.sl.r_9, trip_k0_t1.sl.r_10, trip_k0_t1.sl.r_11, trip_k0_t1.sl.r_12, trip_k0_t1.sl.r_13, trip_k0_t1.sl.r_14, trip_k0_t1.sl.r_15, trip_k0_t1.sl.r_16, trip_k0_t1.sl.cst_97, rdA, rdB, rdC, rdD]
  rfl

/-- What the trips before `n` leave. -/
def ST (n : ℕ) := st_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 (k0_pay27 B.a)
      (k0_pay29 (k0_pay26 B.q) (k0_pay28 B.roh B.re B.coh B.ce B.w1r B.w1c B.b1) B.de B.w1d B.w2 B.b2 B.w3 B.b3 B.w4) (k0_pay30 B.b4) B.g
      (harg19.unread B.ix) (harg20.unread B.im) (harg21.unread B.ih) (harg22.unread B.fx) (harg23.unread B.fm) (harg24.unread B.fh) (harg25.unread B.gx) (harg26.unread B.gm) (harg27.unread B.gh) (harg28.unread B.ox) (harg29.unread B.om) (harg30.unread B.oh) (harg31.unread B.ms) (harg32.unread B.md) (harg33.unread B.n1) (harg34.unread B.m2) (harg35.unread B.n2) (harg36.unread B.m3) (harg37.unread B.n3) (harg38.unread B.m4) (harg39.unread B.n4) (harg40.unread B.ow) (harg41.unread B.ob) (kState B 0) n

/-- What the stores hold, over the whole buffers. -/
def G42 (y : S8x1x162x40.Idx) : EReal := k0_pay15 (kL B (kState B (y 0).val)) B.ob (ix4 (0 : Fin 1) (0 : Fin 1) (y 2) (y 3))
def G43 (y : S8x1x162x4.Idx) : BitVec 32 := k0_pay21 (k0_pay14 (kL B (kState B (y 0).val)) B.ob) (k0_pay17 (kL B (kState B (y 0).val)) B.ob) 10#32
  k0_pay18 k0_pay19 k0_pay20 (ix4 (0 : Fin 1) (0 : Fin 1) (y 2) (y 3))
def G44 (y : S8x1x162x4.Idx) : EReal := kCost B (kState B (y 0).val) (ix4 (0 : Fin 1) (0 : Fin 1) (y 2) (y 3))

theorem off1 (k : Fin k0_t1_loop.trips) : k0_off1 k = ![k.val, 0, 0, 0] := by
  revert k; decide
theorem off2 (k : Fin k0_t1_loop.trips) : k0_off2 k = ![k.val, 0, 0, 0] := by
  revert k; decide

theorem eta4 {a b : ℕ} (x : (⟨4, ![1, 1, a, b]⟩ : Shape).Idx) : x = ix4 (0 : Fin 1) (0 : Fin 1) (x 2) (x 3) := by
  funext d
  match d with
  | ⟨0, _⟩ => exact Subsingleton.elim (α := Fin 1) _ _
  | ⟨1, _⟩ => exact Subsingleton.elim (α := Fin 1) _ _
  | ⟨2, _⟩ => rfl
  | ⟨3, _⟩ => rfl

/-- The place of a piece's entry. -/
theorem emb4 {a b : ℕ} (k : ℕ) (off : Fin 4 → ℕ) (ho : off = ![k, 0, 0, 0]) (inb : ∀ d, off d + (![1, 1, a, b] : Fin 4 → ℕ) d ≤ (![8, 1, a, b] : Fin 4 → ℕ) d)
    (x : (⟨4, ![1, 1, a, b]⟩ : Shape).Idx) :
    (((Rect.unit (s := ⟨4, ![8, 1, a, b]⟩) off ![1, 1, a, b] inb).emb x) 0).val = k
      ∧ ((Rect.unit (s := ⟨4, ![8, 1, a, b]⟩) off ![1, 1, a, b] inb).emb x) 2 = x 2
      ∧ ((Rect.unit (s := ⟨4, ![8, 1, a, b]⟩) off ![1, 1, a, b] inb).emb x) 3 = x 3 := by
  subst ho
  refine ⟨?_, Fin.ext ?_, Fin.ext ?_⟩
  · show k + 1 * (x 0).val = k
    have h : (x 0).val < 1 := (x 0).isLt
    omega
  · show 0 + 1 * (x 2).val = (x 2).val; omega
  · show 0 + 1 * (x 3).val = (x 3).val; omega

theorem pc42_at (k : Fin k0_t1_loop.trips) (x : (pc42 B k (kState B k.val)).1.shape.Idx) :
    (pc42 B k (kState B k.val)).2 x = G42 B ((pc42 B k (kState B k.val)).1.emb x) := by
  obtain ⟨h0, h2, h3⟩ := emb4 (a := 162) (b := 40) k.val (k0_off1 k) (off1 k) (k0_off1_inb k) x
  unfold G42
  refine (congrArg (k0_pay15 (kL B (kState B k.val)) B.ob) (eta4 (a := 162) (b := 40) x)).trans ?_
  rw [← h2, ← h3]
  exact congrArg (fun n => k0_pay15 (kL B (kState B n)) B.ob _) h0.symm

theorem pc43_at (k : Fin k0_t1_loop.trips) (x : (pc43 B k (kState B k.val)).1.shape.Idx) :
    (pc43 B k (kState B k.val)).2 x = G43 B ((pc43 B k (kState B k.val)).1.emb x) := by
  obtain ⟨h0, h2, h3⟩ := emb4 (a := 162) (b := 4) k.val (k0_off2 k) (off2 k) (k0_off2_inb k) x
  unfold G43
  refine (congrArg (k0_pay21 (k0_pay14 (kL B (kState B k.val)) B.ob) (k0_pay17 (kL B (kState B k.val)) B.ob) 10#32 k0_pay18 k0_pay19 k0_pay20)
    (eta4 (a := 162) (b := 4) x)).trans ?_
  rw [← h2, ← h3]
  exact congrArg (fun n => k0_pay21 (k0_pay14 (kL B (kState B n)) B.ob) (k0_pay17 (kL B (kState B n)) B.ob) 10#32 k0_pay18 k0_pay19 k0_pay20 _) h0.symm

theorem pc44_at (k : Fin k0_t1_loop.trips) (x : (pc44 B k (kState B k.val)).1.shape.Idx) :
    (pc44 B k (kState B k.val)).2 x = G44 B ((pc44 B k (kState B k.val)).1.emb x) := by
  obtain ⟨h0, h2, h3⟩ := emb4 (a := 162) (b := 4) k.val (k0_off2 k) (off2 k) (k0_off2_inb k) x
  unfold G44
  refine (congrArg (kCost B (kState B k.val)) (eta4 (a := 162) (b := 4) x)).trans ?_
  rw [← h2, ← h3]
  exact congrArg (fun n => kCost B (kState B n) _) h0.symm

theorem ST_eq (n : ℕ) (hn : n ≤ k0_t1_loop.trips) : (ST B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 n).1 = kState B n
    ∧ (∀ p ∈ (ST B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 n).2.1, ∀ x, p.2 x = G42 B (p.1.emb x))
    ∧ (∀ p ∈ (ST B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 n).2.2.1, ∀ x, p.2 x = G43 B (p.1.emb x))
    ∧ (∀ p ∈ (ST B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 n).2.2.2, ∀ x, p.2 x = G44 B (p.1.emb x)) := by
  induction n with
  | zero => exact ⟨rfl, fun p hp => absurd hp List.not_mem_nil, fun p hp => absurd hp List.not_mem_nil, fun p hp => absurd hp List.not_mem_nil⟩
  | succ n ih =>
    obtain ⟨e, h1, h2, h3⟩ := ih (by omega)
    unfold ST at e h1 h2 h3 ⊢
    rw [st_k0_t1_succ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ ⟨n, hn⟩]
    rw [tripR_eq, tripL_eq, e]
    refine ⟨rfl, ?_, ?_, ?_⟩
    · intro p hp
      rcases List.mem_append.mp hp with hp | hp
      · rw [List.mem_singleton.mp hp]; exact pc42_at B ⟨n, hn⟩
      · exact h1 p hp
    · intro p hp
      rcases List.mem_append.mp hp with hp | hp
      · rw [List.mem_singleton.mp hp]; exact pc43_at B ⟨n, hn⟩
      · exact h2 p hp
    · intro p hp
      rcases List.mem_append.mp hp with hp | hp
      · rw [List.mem_singleton.mp hp]; exact pc44_at B ⟨n, hn⟩
      · exact h3 p hp
end

end Sudoku
-- ==== Proof.Own.KernelIdeal.Run.lean ====
/-
  The body's run at one point: what its loop stores is what the buffers end with.
-/
module

public import proofs.«01_k».proof.Proof.Own.KernelIdeal.Loop
public import proofs.«01_k».proof.Proof.Own.KernelIdeal.RunA
public import Idealize.ShloMosaic.Lib.Pipeline.CanonAppend

@[expose] public section

set_option maxRecDepth 16384

noncomputable section

namespace Sudoku

open Idealize.ShloMosaic Idealize.ShloMosaic.TcCoe Cert.KernelIdeal Cert.KernelIdeal.Gen
open Idealize.SL Idealize.SL.RA

variable (B : Blocks) (c : Dev nD) (i : grid0.Coords) (arg1 : Memref sig .tc .vmem S1x162x4 .i32) (harg1 : arg1.IsWhole) (arg2 : Memref sig .tc .vmem S1x162x4 .i32) (harg2 : arg2.IsWhole) (arg3 : Memref sig .tc .vmem S1620x81 .f32) (harg3 : arg3.IsWhole) (arg4 : Memref sig .tc .vmem S81x9 .f32) (harg4 : arg4.IsWhole) (arg5 : Memref sig .tc .vmem S81x9 .f32) (harg5 : arg5.IsWhole) (arg6 : Memref sig .tc .vmem S9x16 .f32) (harg6 : arg6.IsWhole) (arg7 : Memref sig .tc .vmem S9x16 .f32) (harg7 : arg7.IsWhole) (arg8 : Memref sig .tc .vmem S16x32 .f32) (harg8 : arg8.IsWhole) (arg9 : Memref sig .tc .vmem S16x32 .f32) (harg9 : arg9.IsWhole) (arg10 : Memref sig .tc .vmem S1x32 .f32) (harg10 : arg10.IsWhole) (arg11 : Memref sig .tc .vmem S40x64 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S1x128 .f32) (harg33 : arg33.IsWhole) (arg34 : Memref sig .tc .vmem S128x128 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x40 .f32) (harg40 : arg40.IsWhole) (arg41 : Memref sig .tc .vmem S1x40 .f32) (harg41 : arg41.IsWhole) (arg42 : Memref sig .tc .vmem S8x1x162x40 .f32) (harg42 : arg42.IsWhole) (arg43 : Memref sig .tc .vmem S8x1x162x4 .i32) (harg43 : arg43.IsWhole) (arg44 : Memref sig .tc .vmem S8x1x162x4 .f32) (harg44 : arg44.IsWhole)

theorem r1_eq : kernelRun0_A.sl.r_1 (F := Ideal) c arg2 harg2 B.a = k0_pay27 B.a := congrArg k0_pay27 (rd harg2 B.a _)
theorem r4_eq : kernelRun0_A.sl.r_4 (F := Ideal) c arg18 harg18 B.b4 = k0_pay30 B.b4 := congrArg k0_pay30 (rd harg18 B.b4 _)
theorem r0_eq : kernelRun0_A.sl.r (F := Ideal) c arg1 harg1 B.q = k0_pay26 B.q := congrArg k0_pay26 (rd harg1 B.q _)
theorem r2_eq : kernelRun0_A.sl.r_2 (F := Ideal) c arg4 harg4 arg5 harg5 arg6 harg6 arg7 harg7 arg8 harg8 arg9 harg9 arg10 harg10
    B.roh B.coh B.re B.ce B.w1r B.w1c B.b1 = k0_pay28 B.roh B.re B.coh B.ce B.w1r B.w1c B.b1 := by
  unfold kernelRun0_A.sl.r_2
  rw [rd harg4, rd harg5, rd harg6, rd harg7, rd harg8, rd harg9, rd harg10]
theorem r3_eq : kernelRun0_A.sl.r_3 (F := Ideal) c arg1 harg1 arg4 harg4 arg5 harg5 arg6 harg6 arg7 harg7 arg8 harg8 arg9 harg9 arg10 harg10
    arg11 harg11 arg12 harg12 arg13 harg13 arg14 harg14 arg15 harg15 arg16 harg16 arg17 harg17
    B.q B.roh B.coh B.re B.ce B.w1r B.w1c B.b1 B.de B.w1d B.w2 B.b2 B.w3 B.b3 B.w4 =
    k0_pay29 (k0_pay26 B.q) (k0_pay28 B.roh B.re B.coh B.ce B.w1r B.w1c B.b1) B.de B.w1d B.w2 B.b2 B.w3 B.b3 B.w4 := by
  unfold kernelRun0_A.sl.r_3
  rw [r0_eq, r2_eq, rd harg11, rd harg12, rd harg13, rd harg14, rd harg15, rd harg16, rd harg17]
theorem g_eq : View.readAt (Elt Ideal) arg3.view (Rect.unit ![0, 0] ![1620, 81] inb_S1620x81_S1620x81_0_0).toLoadRect (harg3.unread B.g) = B.g :=
  rd harg3 B.g _

set_option maxHeartbeats 0 in
/-- The stores of the run are those of its loop. -/
theorem run_eq : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob).1 = (ST B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 k0_t1_loop.trips).2.1 ∧
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob).2.1 = (ST B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 k0_t1_loop.trips).2.2.1 ∧
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob).2.2.1 = (ST B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 k0_t1_loop.trips).2.2.2 := by
  unfold kernelRun0_A
  dsimp only
  rw [r1_eq, r3_eq, r4_eq, g_eq]
  exact ⟨rfl, rfl, rfl⟩

theorem of_pieces {s : Shape} {e : EltTy} {L L' : List (View.Piece (Elt Ideal) s e)} (h : L = L') {G : s.Idx → Elt Ideal e}
    (hL : ∀ p ∈ L', ∀ x, p.2 x = G (p.1.emb x)) : ∀ p ∈ L, ∀ x, p.2 x = G (p.1.emb x) := by
  subst h
  exact hL

/-- What they hold. -/
theorem run42 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob).1, ∀ x, p.2 x = G42 B (p.1.emb x) :=
  of_pieces (run_eq B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44).1 (ST_eq B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 k0_t1_loop.trips le_rfl).2.1
theorem run43 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob).2.1, ∀ x, p.2 x = G43 B (p.1.emb x) :=
  of_pieces (run_eq B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44).2.1 (ST_eq B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 k0_t1_loop.trips le_rfl).2.2.1
theorem run44 : ∀ p ∈ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob).2.2.1, ∀ x, p.2 x = G44 B (p.1.emb x) :=
  of_pieces (run_eq B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44).2.2 (ST_eq B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 k0_t1_loop.trips le_rfl).2.2.2

/-- A buffer's contents after stores that cover it. -/
theorem read_pieces {κ : Kind} {sp : Space} {s : Shape} {e : EltTy} (v : View sig κ sp s e) (f : v.ty.Contents (Elt Ideal))
    (L : List (View.Piece (Elt Ideal) s e)) (G : s.Idx → Elt Ideal e) (hL : ∀ p ∈ L, ∀ x, p.2 x = G (p.1.emb x))
    (hc : ∀ y, ∃ p ∈ L, y ∈ p.1.set) : v.read (Elt Ideal) (v.writes (Elt Ideal) f L) = G := by
  funext y
  refine (View.read_writes_apply_eq_canon v f y L (hc y)).trans ?_
  have h := View.canon_append_of_pieces G [] L hL y (hc y)
  rwa [List.append_nil] at h

end Sudoku
-- ==== Proof.Own.Pack.lean ====
/-
  The packing of the weights: the same block four times along the diagonal, a bias four times side by side.
-/
module

public import proofs.«01_k».proof.Proof.Own.Block

@[expose] public section

set_option maxRecDepth 16384

noncomputable section

namespace Sudoku

open Idealize.ShloMosaic Cert.KernelIdeal Cert.KernelIdeal.Gen
open scoped BigOperators

/-- The unit matrix of size four. -/
def eye4 : FVec Ideal S4x4 .f32 :=
  uitofp .f32 (cmpi .eq (addi (iotaInDim S4x4 32 0) (broadcastInDim S4x4 ![] bcast_S_S4x4 (constantI S_ 32 0#32))) (iotaInDim S4x4 32 1))

theorem eye4_apply (p q : Fin 4) : eye4 (ix2 p q) = if p = q then 1 else 0 := by
  have h : ∀ p q : Fin 4, IntOp.cmpi .eq (BitVec.ofNat 32 p.val + 0#32) (BitVec.ofNat 32 q.val) = if p = q then 1#1 else 0#1 := by decide
  have e : eye4 (ix2 p q) = ((((IntOp.cmpi .eq (BitVec.ofNat 32 p.val + 0#32) (BitVec.ofNat 32 q.val)).toNat : ℝ)) : EReal) := rfl
  rw [e, h]; split <;> simp

variable {a b N K : ℕ}

theorem one_or (i : Fin a) : i.val = if a = 1 then 0 else i.val := by
  have := i.isLt
  split <;> omega

/-- The block `W` four times along the diagonal. -/
def kron (W : FVec Ideal ⟨2, ![a, b]⟩ .f32) (h0 : S4x4.BroadcastsInDim ⟨4, ![4, 1, 4, 1]⟩ ![0, 2])
    (h1 : Shape.BroadcastsInDim ⟨2, ![a, b]⟩ ⟨4, ![1, a, 1, b]⟩ ![1, 3])
    (h2 : Shape.BroadcastsInDim ⟨4, ![4, 1, 4, 1]⟩ ⟨4, ![4, a, 4, b]⟩ ![0, 1, 2, 3])
    (h3 : Shape.BroadcastsInDim ⟨4, ![1, a, 1, b]⟩ ⟨4, ![4, a, 4, b]⟩ ![0, 1, 2, 3])
    (hc : Shape.ShapeCasts ⟨4, ![4, a, 4, b]⟩ ⟨2, ![N, K]⟩) : FVec Ideal ⟨2, ![N, K]⟩ .f32 :=
  shapeCast ⟨2, ![N, K]⟩ (mulf
    (broadcastInDim (⟨4, ![4, a, 4, b]⟩ : Shape) ![0, 1, 2, 3] h2 (broadcastInDim (⟨4, ![4, 1, 4, 1]⟩ : Shape) ![0, 2] h0 eye4))
    (broadcastInDim (⟨4, ![4, a, 4, b]⟩ : Shape) ![0, 1, 2, 3] h3 (broadcastInDim (⟨4, ![1, a, 1, b]⟩ : Shape) ![1, 3] h1 W))) hc

theorem kron_bd (hN : N = 4 * a) (hK : K = 4 * b) (W : FVec Ideal ⟨2, ![a, b]⟩ .f32) (h0) (h1) (h2) (h3) (hc) {w : Fin a → Fin b → EReal}
    (hw : ∀ i j, W (ix2 i j) = w i j) : BD hN hK (kron (N := N) (K := K) W h0 h1 h2 h3 hc) w := by
  intro p i q j
  unfold kron
  rw [shapeCast_apply _ _ _ (ix4 p i q j) (by
    rw [Shape.rowMajor_val_two, Shape.rowMajor_val_four]
    subst hN hK
    show ((p.val * a + i.val) * 4 + q.val) * b + j.val = (a * p.val + i.val) * (4 * b) + (b * q.val + j.val)
    ring)]
  have e1 : broadcastInDim (⟨4, ![4, a, 4, b]⟩ : Shape) ![0, 1, 2, 3] h2 (broadcastInDim (⟨4, ![4, 1, 4, 1]⟩ : Shape) ![0, 2] h0 eye4)
      (ix4 p i q j) = eye4 (ix2 p q) := by
    refine (broadcastInDim_apply _ _ _ _ (ix4 p (0 : Fin 1) q (0 : Fin 1)) ?_).trans (broadcastInDim_apply _ _ _ _ (ix2 p q) ?_)
    · exact Fin.forall_fin_succ.mpr ⟨rfl, Fin.forall_fin_succ.mpr ⟨rfl, Fin.forall_fin_two.mpr ⟨rfl, rfl⟩⟩⟩
    · exact Fin.forall_fin_two.mpr ⟨rfl, rfl⟩
  have e2 : broadcastInDim (⟨4, ![4, a, 4, b]⟩ : Shape) ![0, 1, 2, 3] h3 (broadcastInDim (⟨4, ![1, a, 1, b]⟩ : Shape) ![1, 3] h1 W)
      (ix4 p i q j) = W (ix2 i j) := by
    refine (broadcastInDim_apply _ _ _ _ (ix4 (0 : Fin 1) i (0 : Fin 1) j) ?_).trans (broadcastInDim_apply _ _ _ _ (ix2 i j) ?_)
    · exact Fin.forall_fin_succ.mpr ⟨rfl, Fin.forall_fin_succ.mpr ⟨one_or i, Fin.forall_fin_two.mpr ⟨rfl, one_or j⟩⟩⟩
    · exact Fin.forall_fin_two.mpr ⟨one_or i, one_or j⟩
  show _ * _ = _
  rw [e1, e2, eye4_apply, hw]
  split <;> simp

/-- A bias four times side by side. -/
def tile (v : FVec Ideal ⟨1, ![b]⟩ .f32) (h0 : Shape.ShapeCasts ⟨1, ![b]⟩ ⟨2, ![1, b]⟩)
    (h1 : Shape.ShapeCasts ⟨2, ![1, b]⟩ ⟨4, ![1, 1, 1, b]⟩)
    (h2 : Shape.BroadcastsInDim ⟨4, ![1, 1, 1, b]⟩ ⟨4, ![1, 1, 4, b]⟩ ![0, 1, 2, 3])
    (h3 : Shape.ShapeCasts ⟨4, ![1, 1, 4, b]⟩ ⟨2, ![1, K]⟩) : FVec Ideal ⟨2, ![1, K]⟩ .f32 :=
  shapeCast ⟨2, ![1, K]⟩ (broadcastInDim (⟨4, ![1, 1, 4, b]⟩ : Shape) ![0, 1, 2, 3] h2
    (shapeCast (⟨4, ![1, 1, 1, b]⟩ : Shape) (shapeCast (⟨2, ![1, b]⟩ : Shape) v h0) h1)) h3

theorem tile_row (hK : K = 4 * b) (v : FVec Ideal ⟨1, ![b]⟩ .f32) (h0) (h1) (h2) (h3) {f : Fin b → EReal} (hf : ∀ j, v (ix1 j) = f j) :
    Row hK (tile (K := K) v h0 h1 h2 h3) 0 fun _ => f := by
  intro p j
  unfold tile
  rw [shapeCast_apply _ _ _ (ix4 (0 : Fin 1) (0 : Fin 1) p j) (by
    rw [Shape.rowMajor_val_two, Shape.rowMajor_val_four]
    show ((0 * 1 + 0) * 4 + p.val) * b + j.val = 0 * K + (b * p.val + j.val)
    ring)]
  have e1 : ∀ X : FVec Ideal ⟨4, ![1, 1, 1, b]⟩ .f32, broadcastInDim (⟨4, ![1, 1, 4, b]⟩ : Shape) ![0, 1, 2, 3] h2 X
      (ix4 (0 : Fin 1) (0 : Fin 1) p j) = X (ix4 (0 : Fin 1) (0 : Fin 1) (0 : Fin 1) j) := fun X =>
    broadcastInDim_apply _ _ _ _ _
      (Fin.forall_fin_succ.mpr ⟨rfl, Fin.forall_fin_succ.mpr ⟨rfl, Fin.forall_fin_two.mpr ⟨rfl, one_or j⟩⟩⟩)
  rw [e1, shapeCast_apply _ _ _ (ix2 (0 : Fin 1) j) (by
    rw [Shape.rowMajor_val_two, Shape.rowMajor_val_four]
    show 0 * b + j.val = ((0 * 1 + 0) * 1 + 0) * b + j.val
    ring), shapeCast_apply _ _ _ (ix1 j) (by
    rw [Shape.rowMajor_val_one, Shape.rowMajor_val_two]
    show j.val = 0 * b + j.val
    ring)]
  exact hf j

theorem kron32 (W : FVec Ideal S32x32 .f32) {w : Fin 32 → Fin 32 → EReal} (hw : ∀ i j, W (ix2 i j) = w i j) :
    BD h128 h128 (kron W bcast_S4x4_S4x1x4x1_0_2 bcast_S32x32_S1x32x1x32_1_3 bcast_S4x1x4x1_S4x32x4x32_0_1_2_3
      bcast_S1x32x1x32_S4x32x4x32_0_1_2_3 shapeCasts_S4x32x4x32_S128x128) w := kron_bd h128 h128 W _ _ _ _ _ hw
theorem kron10x16 (W : FVec Ideal S10x16 .f32) {w : Fin 10 → Fin 16 → EReal} (hw : ∀ i j, W (ix2 i j) = w i j) :
    BD h40 h64 (kron W bcast_S4x4_S4x1x4x1_0_2 bcast_S10x16_S1x10x1x16_1_3 bcast_S4x1x4x1_S4x10x4x16_0_1_2_3
      bcast_S1x10x1x16_S4x10x4x16_0_1_2_3 shapeCasts_S4x10x4x16_S40x64) w := kron_bd h40 h64 W _ _ _ _ _ hw
theorem kron16x32 (W : FVec Ideal S16x32 .f32) {w : Fin 16 → Fin 32 → EReal} (hw : ∀ i j, W (ix2 i j) = w i j) :
    BD h64 h128 (kron W bcast_S4x4_S4x1x4x1_0_2 bcast_S16x32_S1x16x1x32_1_3 bcast_S4x1x4x1_S4x16x4x32_0_1_2_3
      bcast_S1x16x1x32_S4x16x4x32_0_1_2_3 shapeCasts_S4x16x4x32_S64x128) w := kron_bd h64 h128 W _ _ _ _ _ hw
theorem kron32x10 (W : FVec Ideal S32x10 .f32) {w : Fin 32 → Fin 10 → EReal} (hw : ∀ i j, W (ix2 i j) = w i j) :
    BD h128 h40 (kron W bcast_S4x4_S4x1x4x1_0_2 bcast_S32x10_S1x32x1x10_1_3 bcast_S4x1x4x1_S4x32x4x10_0_1_2_3
      bcast_S1x32x1x10_S4x32x4x10_0_1_2_3 shapeCasts_S4x32x4x10_S128x40) w := kron_bd h128 h40 W _ _ _ _ _ hw
theorem tile32 (v : FVec Ideal S32 .f32) {f : Fin 32 → EReal} (hf : ∀ j, v (ix1 j) = f j) :
    Row h128 (tile v shapeCasts_S32_S1x32 shapeCasts_S1x32_S1x1x1x32 bcast_S1x1x1x32_S1x1x4x32_0_1_2_3 shapeCasts_S1x1x4x32_S1x128) 0
      fun _ => f := tile_row h128 v _ _ _ _ hf
theorem tile10 (v : FVec Ideal S10 .f32) {f : Fin 10 → EReal} (hf : ∀ j, v (ix1 j) = f j) :
    Row h40 (tile v shapeCasts_S10_S1x10 shapeCasts_S1x10_S1x1x1x10 bcast_S1x1x1x10_S1x1x4x10_0_1_2_3 shapeCasts_S1x1x4x10_S1x40) 0
      fun _ => f := tile_row h40 v _ _ _ _ hf

/-- A part of a matrix. -/
theorem part_apply {A B : ℕ} (X : FVec Ideal ⟨2, ![A, B]⟩ .f32) (o p : ℕ) (h : Shape.Slices ⟨2, ![A, B]⟩ ![o, p] ⟨2, ![a, b]⟩) (i : Fin a)
    (j : Fin b) (i' : Fin A) (j' : Fin B) (hi : i'.val = o + i.val) (hj : j'.val = p + j.val) :
    extractStridedSlice ⟨2, ![a, b]⟩ ![o, p] X h (ix2 i j) = X (ix2 i' j') := by
  refine congrArg X (funext fun x => Fin.ext ?_)
  revert x
  exact Fin.forall_fin_two.mpr ⟨hi.symm, hj.symm⟩

theorem turn_apply (X : FVec Ideal S32x32 .f32) (i j : Fin 32) :
    transpose S32x32 [1, 0] X transposes_S32x32_S32x32_1_0 (ix2 i j) = X (ix2 j i) := by
  refine congrArg X (funext fun x => Fin.ext ?_)
  revert x
  exact Fin.forall_fin_two.mpr ⟨rfl, rfl⟩

/-- A gate's part of the weights, transposed. -/
theorem gate_part {A : ℕ} (W : FVec Ideal ⟨2, ![128, A]⟩ .f32) (g : Fin 4) (o : ℕ) (ho : o + 32 ≤ A)
    (h1 : Shape.Slices ⟨2, ![128, A]⟩ ![32 * g.val, 0] ⟨2, ![32, A]⟩) (h2 : Shape.Slices ⟨2, ![32, A]⟩ ![0, o] S32x32) (i j : Fin 32) :
    transpose S32x32 [1, 0] (extractStridedSlice S32x32 ![0, o] (extractStridedSlice ⟨2, ![32, A]⟩ ![32 * g.val, 0] W h1) h2)
      transposes_S32x32_S32x32_1_0 (ix2 i j)
      = W (ix2 (⟨32 * g.val + j.val, by omega⟩ : Fin 128) (⟨o + i.val, by omega⟩ : Fin A)) := by
  rw [turn_apply]
  refine (part_apply _ 0 o h2 j i j ⟨o + i.val, by omega⟩ (by simp) rfl).trans ?_
  exact part_apply W _ 0 h1 j ⟨o + i.val, by omega⟩ _ _ rfl (by simp)

theorem hid_part (W : FVec Ideal S128x32 .f32) (g : Fin 4) (h1 : S128x32.Slices ![32 * g.val, 0] S32x32) (i j : Fin 32) :
    transpose S32x32 [1, 0] (extractStridedSlice S32x32 ![32 * g.val, 0] W h1) transposes_S32x32_S32x32_1_0 (ix2 i j)
      = W (ix2 (⟨32 * g.val + j.val, by omega⟩ : Fin 128) i) := by
  rw [turn_apply]
  exact part_apply W _ 0 h1 j i _ _ rfl (by simp)

/-! ## The literal tables -/

theorem lit0_nb : ∀ (n : Fin 81) (k : Fin 20), lit0 ⟨20 * n.val + k.val, by omega⟩ = BitVec.ofNat 32 (nb n k).val := by decide +kernel
theorem lit1_row : ∀ (n : Fin 81) (i : Fin 9), lit1 ⟨9 * n.val + i.val, by omega⟩ = if i.val = n.val / 9 then 0x3F800000#32 else 0#32 := by
  decide +kernel
theorem lit2_col : ∀ (n : Fin 81) (i : Fin 9), lit2 ⟨9 * n.val + i.val, by omega⟩ = if i.val = n.val % 9 then 0x3F800000#32 else 0#32 := by
  decide +kernel

theorem lane_bias_apply (v : FVec Ideal S32 .f32) (h : S32.ShapeCasts S1x32) (i : Fin 32) :
    shapeCast S1x32 v h (ix2 (0 : Fin 1) i) = v (ix1 i) :=
  shapeCast_apply _ _ _ (ix1 i) (by
    rw [Shape.rowMajor_val_one, Shape.rowMajor_val_two]
    show i.val = 0 * 32 + i.val
    ring)

/-- The rows of the neighbours. -/
theorem G_apply (n : Fin 81) (k : Fin 20) (j : Fin 81) :
    select (cmpi .eq (broadcastInDim S1620x81 ![0, 1] bcast_S1620x1_S1620x81_0_1
        (broadcastInDim S1620x1 ![0] bcast_S1620_S1620x1_0 fun i => lit0 (S1620.rowMajor i))) (iotaInDim S1620x81 32 1))
      (broadcastInDim S1620x81 ![] bcast_S_S1620x81 (constant (F := Ideal) S_ .f32 0x3F800000#32))
      (broadcastInDim S1620x81 ![] bcast_S_S1620x81 (constant (F := Ideal) S_ .f32 0x00000000#32))
      (ix2 (⟨20 * n.val + k.val, by omega⟩ : Fin 1620) j) = if j = nb n k then 1 else 0 := by
  have e : (BitVec.ofNat 32 (nb n k).val = BitVec.ofNat 32 j.val) ↔ j = nb n k := by
    have h1 := (nb n k).isLt
    have h2 := j.isLt
    constructor
    · intro h
      have h' := congrArg BitVec.toNat h
      rw [BitVec.toNat_ofNat, BitVec.toNat_ofNat, Nat.mod_eq_of_lt (by omega), Nat.mod_eq_of_lt (by omega)] at h'
      exact Fin.ext h'.symm
    · rintro rfl
      rfl
  have hl : (broadcastInDim S1620x81 ![0, 1] bcast_S1620x1_S1620x81_0_1
        (broadcastInDim S1620x1 ![0] bcast_S1620_S1620x1_0 fun i => lit0 (S1620.rowMajor i)))
      (ix2 (⟨20 * n.val + k.val, by omega⟩ : Fin 1620) j) = BitVec.ofNat 32 (nb n k).val := by
    refine (broadcastInDim_apply _ _ _ _ (ix2 (⟨20 * n.val + k.val, by omega⟩ : Fin 1620) (0 : Fin 1)) ?_).trans
      ((broadcastInDim_apply _ _ _ _ (ix1 (⟨20 * n.val + k.val, by omega⟩ : Fin 1620)) ?_).trans ?_)
    · exact Fin.forall_fin_two.mpr ⟨rfl, rfl⟩
    · exact Fin.forall_fin_one.mpr rfl
    · rw [← lit0_nb]
      refine congrArg lit0 (Fin.ext ?_)
      rw [Shape.rowMajor_val_one]
      rfl
  show (if IntOp.cmpi .eq ((broadcastInDim S1620x81 ![0, 1] bcast_S1620x1_S1620x81_0_1
        (broadcastInDim S1620x1 ![0] bcast_S1620_S1620x1_0 fun i => lit0 (S1620.rowMajor i)))
      (ix2 (⟨20 * n.val + k.val, by omega⟩ : Fin 1620) j)) (BitVec.ofNat 32 j.val) = 1#1 then Ideal.ofBits .f32 0x3F800000#32 else Ideal.ofBits .f32 0x00000000#32) = _
  rw [hl, Ideal.ofBits_one_f32, Ideal.ofBits_zero_f32]
  have hc : ∀ x y : BitVec 32, IntOp.cmpi .eq x y = if x = y then 1#1 else 0#1 := fun x y => by
    show BitVec.ofBool (x == y) = _
    by_cases h : x = y
    · subst h
      simp
    · rw [if_neg h, beq_eq_false_iff_ne.mpr h]
      rfl
  rw [hc]
  by_cases h : j = nb n k
  · rw [if_pos (e.mpr h), if_pos h, if_pos rfl]
  · rw [if_neg (fun h' => h (e.mp h')), if_neg h, if_neg (by decide)]

theorem roh_apply (n : Fin 81) (i : Fin 9) :
    (FloatOps.ofBits (F := Ideal) .f32 (lit1 (S81x9.rowMajor (ix2 n i))) : EReal) = if i.val = n.val / 9 then 1 else 0 := by
  have e : S81x9.rowMajor (ix2 n i) = (⟨9 * n.val + i.val, by omega⟩ : Fin 729) := Fin.ext (by
    rw [Shape.rowMajor_val_two]
    show n.val * 9 + i.val = 9 * n.val + i.val
    ring)
  rw [e, lit1_row]
  split
  · exact Ideal.ofBits_one_f32
  · exact Ideal.ofBits_zero_f32

theorem coh_apply (n : Fin 81) (i : Fin 9) :
    (FloatOps.ofBits (F := Ideal) .f32 (lit2 (S81x9.rowMajor (ix2 n i))) : EReal) = if i.val = n.val % 9 then 1 else 0 := by
  have e : S81x9.rowMajor (ix2 n i) = (⟨9 * n.val + i.val, by omega⟩ : Fin 729) := Fin.ext (by
    rw [Shape.rowMajor_val_two]
    show n.val * 9 + i.val = 9 * n.val + i.val
    ring)
  rw [e, lit2_col]
  split
  · exact Ideal.ofBits_one_f32
  · exact Ideal.ofBits_zero_f32

end Sudoku
-- ==== Proof.Own.Blk.lean ====
/-
  What the body's buffers hold at a grid point: the weights packed by the host, and the point's eight puzzles.
-/
module

public import proofs.«01_k».proof.Proof.Own.Pack
public import proofs.«01_k».proof.Proof.Gen.KernelIdeal.Frame.Runs
public import Idealize.ShloMosaic.Lib.Claim

@[expose] public section

set_option maxRecDepth 100000

noncomputable section

namespace Sudoku

open Idealize.ShloMosaic Idealize.ShloMosaic.TcCoe Cert.KernelIdeal Cert.KernelIdeal.Gen
open scoped BigOperators

variable (m : (ℓ : Loc nD τ sig) → Buf (Elt Ideal) ℓ) (c : Dev nD)

/-- The weights among the arguments. -/
def wts : Wt where
  dE := fun i j => (m ((c : Thread nD τ).loc main_arg6) : FVec Ideal S10x16 .f32) (ix2 i j)
  rE := fun i j => (m ((c : Thread nD τ).loc main_arg7) : FVec Ideal S9x16 .f32) (ix2 i j)
  cE := fun i j => (m ((c : Thread nD τ).loc main_arg8) : FVec Ideal S9x16 .f32) (ix2 i j)
  w1 := fun i j => (m ((c : Thread nD τ).loc main_arg9) : FVec Ideal S48x32 .f32) (ix2 i j)
  b1 := fun j => (m ((c : Thread nD τ).loc main_arg10) : FVec Ideal S32 .f32) (ix1 j)
  w2 := fun i j => (m ((c : Thread nD τ).loc main_arg11) : FVec Ideal S32x32 .f32) (ix2 i j)
  b2 := fun j => (m ((c : Thread nD τ).loc main_arg12) : FVec Ideal S32 .f32) (ix1 j)
  w3 := fun i j => (m ((c : Thread nD τ).loc main_arg13) : FVec Ideal S32x32 .f32) (ix2 i j)
  b3 := fun j => (m ((c : Thread nD τ).loc main_arg14) : FVec Ideal S32 .f32) (ix1 j)
  w4 := fun i j => (m ((c : Thread nD τ).loc main_arg15) : FVec Ideal S32x32 .f32) (ix2 i j)
  b4 := fun j => (m ((c : Thread nD τ).loc main_arg16) : FVec Ideal S32 .f32) (ix1 j)
  wih := fun i j => (m ((c : Thread nD τ).loc main_arg17) : FVec Ideal S128x64 .f32) (ix2 i j)
  whh := fun i j => (m ((c : Thread nD τ).loc main_arg18) : FVec Ideal S128x32 .f32) (ix2 i j)
  m1 := fun i j => (m ((c : Thread nD τ).loc main_arg19) : FVec Ideal S64x32 .f32) (ix2 i j)
  n1 := fun j => (m ((c : Thread nD τ).loc main_arg20) : FVec Ideal S32 .f32) (ix1 j)
  m2 := fun i j => (m ((c : Thread nD τ).loc main_arg21) : FVec Ideal S32x32 .f32) (ix2 i j)
  n2 := fun j => (m ((c : Thread nD τ).loc main_arg22) : FVec Ideal S32 .f32) (ix1 j)
  m3 := fun i j => (m ((c : Thread nD τ).loc main_arg23) : FVec Ideal S32x32 .f32) (ix2 i j)
  n3 := fun j => (m ((c : Thread nD τ).loc main_arg24) : FVec Ideal S32 .f32) (ix1 j)
  m4 := fun i j => (m ((c : Thread nD τ).loc main_arg25) : FVec Ideal S32x32 .f32) (ix2 i j)
  n4 := fun j => (m ((c : Thread nD τ).loc main_arg26) : FVec Ideal S32 .f32) (ix1 j)
  ow := fun i j => (m ((c : Thread nD τ).loc main_arg27) : FVec Ideal S32x10 .f32) (ix2 i j)
  ob := fun j => (m ((c : Thread nD τ).loc main_arg28) : FVec Ideal S10 .f32) (ix1 j)

/-- The buffers at point `t`. -/
def blk (t : Fin cfg0.N) : Blocks :=
  ⟨iblk m c 0 t, iblk m c 1 t, iblk m c 2 t, iblk m c 3 t, iblk m c 4 t, iblk m c 5 t, iblk m c 6 t, iblk m c 7 t,
    iblk m c 8 t, iblk m c 9 t, iblk m c 10 t, iblk m c 11 t, iblk m c 12 t, iblk m c 13 t, iblk m c 14 t,
    iblk m c 15 t, iblk m c 16 t, iblk m c 17 t, iblk m c 18 t, iblk m c 19 t, iblk m c 20 t, iblk m c 21 t,
    iblk m c 22 t, iblk m c 23 t, iblk m c 24 t, iblk m c 25 t, iblk m c 26 t, iblk m c 27 t, iblk m c 28 t,
    iblk m c 29 t, iblk m c 30 t, iblk m c 31 t, iblk m c 32 t, iblk m c 33 t, iblk m c 34 t, iblk m c 35 t,
    iblk m c 36 t, iblk m c 37 t, iblk m c 38 t, iblk m c 39 t, iblk m c 40 t⟩

end Sudoku
-- ==== Proof.Own.Outs.lean ====
/-
  What a point of the grid leaves in the output windows.
-/
module

public import proofs.«01_k».proof.Proof.Own.KernelIdeal.Run
public import proofs.«01_k».proof.Proof.Own.KernelIdeal.Frame
public import proofs.«01_k».proof.Proof.Own.Blk

@[expose] public section

set_option maxRecDepth 16384
set_option maxHeartbeats 4000000

noncomputable section

namespace Sudoku

open Idealize.ShloMosaic Idealize.ShloMosaic.TcCoe Cert.KernelIdeal Cert.KernelIdeal.Gen
open Idealize.SL Idealize.SL.RA

section
variable (B : Blocks) (c : Dev nD) (i : grid0.Coords) (arg1 : Memref sig .tc .vmem S1x162x4 .i32) (harg1 : arg1.IsWhole) (arg2 : Memref sig .tc .vmem S1x162x4 .i32) (harg2 : arg2.IsWhole) (arg3 : Memref sig .tc .vmem S1620x81 .f32) (harg3 : arg3.IsWhole) (arg4 : Memref sig .tc .vmem S81x9 .f32) (harg4 : arg4.IsWhole) (arg5 : Memref sig .tc .vmem S81x9 .f32) (harg5 : arg5.IsWhole) (arg6 : Memref sig .tc .vmem S9x16 .f32) (harg6 : arg6.IsWhole) (arg7 : Memref sig .tc .vmem S9x16 .f32) (harg7 : arg7.IsWhole) (arg8 : Memref sig .tc .vmem S16x32 .f32) (harg8 : arg8.IsWhole) (arg9 : Memref sig .tc .vmem S16x32 .f32) (harg9 : arg9.IsWhole) (arg10 : Memref sig .tc .vmem S1x32 .f32) (harg10 : arg10.IsWhole) (arg11 : Memref sig .tc .vmem S40x64 .f32) (harg11 : arg11.IsWhole) (arg12 : Memref sig .tc .vmem S64x128 .f32) (harg12 : arg12.IsWhole) (arg13 : Memref sig .tc .vmem S128x128 .f32) (harg13 : arg13.IsWhole) (arg14 : Memref sig .tc .vmem S1x128 .f32) (harg14 : arg14.IsWhole) (arg15 : Memref sig .tc .vmem S128x128 .f32) (harg15 : arg15.IsWhole) (arg16 : Memref sig .tc .vmem S1x128 .f32) (harg16 : arg16.IsWhole) (arg17 : Memref sig .tc .vmem S128x128 .f32) (harg17 : arg17.IsWhole) (arg18 : Memref sig .tc .vmem S1x128 .f32) (harg18 : arg18.IsWhole) (arg19 : Memref sig .tc .vmem S128x128 .f32) (harg19 : arg19.IsWhole) (arg20 : Memref sig .tc .vmem S128x128 .f32) (harg20 : arg20.IsWhole) (arg21 : Memref sig .tc .vmem S128x128 .f32) (harg21 : arg21.IsWhole) (arg22 : Memref sig .tc .vmem S128x128 .f32) (harg22 : arg22.IsWhole) (arg23 : Memref sig .tc .vmem S128x128 .f32) (harg23 : arg23.IsWhole) (arg24 : Memref sig .tc .vmem S128x128 .f32) (harg24 : arg24.IsWhole) (arg25 : Memref sig .tc .vmem S128x128 .f32) (harg25 : arg25.IsWhole) (arg26 : Memref sig .tc .vmem S128x128 .f32) (harg26 : arg26.IsWhole) (arg27 : Memref sig .tc .vmem S128x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S128x128 .f32) (harg30 : arg30.IsWhole) (arg31 : Memref sig .tc .vmem S128x128 .f32) (harg31 : arg31.IsWhole) (arg32 : Memref sig .tc .vmem S128x128 .f32) (harg32 : arg32.IsWhole) (arg33 : Memref sig .tc .vmem S1x128 .f32) (harg33 : arg33.IsWhole) (arg34 : Memref sig .tc .vmem S128x128 .f32) (harg34 : arg34.IsWhole) (arg35 : Memref sig .tc .vmem S1x128 .f32) (harg35 : arg35.IsWhole) (arg36 : Memref sig .tc .vmem S128x128 .f32) (harg36 : arg36.IsWhole) (arg37 : Memref sig .tc .vmem S1x128 .f32) (harg37 : arg37.IsWhole) (arg38 : Memref sig .tc .vmem S128x128 .f32) (harg38 : arg38.IsWhole) (arg39 : Memref sig .tc .vmem S1x128 .f32) (harg39 : arg39.IsWhole) (arg40 : Memref sig .tc .vmem S128x40 .f32) (harg40 : arg40.IsWhole) (arg41 : Memref sig .tc .vmem S1x40 .f32) (harg41 : arg41.IsWhole) (arg42 : Memref sig .tc .vmem S8x1x162x40 .f32) (harg42 : arg42.IsWhole) (arg43 : Memref sig .tc .vmem S8x1x162x4 .i32) (harg43 : arg43.IsWhole) (arg44 : Memref sig .tc .vmem S8x1x162x4 .f32) (harg44 : arg44.IsWhole)

theorem gen42 : out0_A_41 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob = G42 B := by
  have h1 := run42 B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44
  have h2 := cover0_A_41 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob
  unfold out0_A_41
  generalize kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob = K at h1 h2 ⊢
  exact read_pieces _ _ K.1 _ h1 h2
theorem gen43 : out0_A_42 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob = G43 B := by
  have h1 := run43 B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44
  have h2 := cover0_A_42 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob
  unfold out0_A_42
  generalize kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob = K at h1 h2 ⊢
  exact read_pieces _ _ K.2.1 _ h1 h2
theorem gen44 : out0_A_43 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob = G44 B := by
  have h1 := run44 B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44
  have h2 := cover0_A_43 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob
  unfold out0_A_43
  generalize kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 B.q B.a B.g B.roh B.coh B.re B.ce B.w1r B.w1c B.b1 B.de B.w1d B.w2 B.b2 B.w3 B.b3 B.w4 B.b4 B.ix B.im B.ih B.fx B.fm B.fh B.gx B.gm B.gh B.ox B.om B.oh B.ms B.md B.n1 B.m2 B.n2 B.m3 B.n3 B.m4 B.n4 B.ow B.ob = K at h1 h2 ⊢
  exact read_pieces _ _ K.2.2.1 _ h1 h2
theorem gen42' (x0 : Vec Ideal S1x162x4 .i32) (x1 : Vec Ideal S1x162x4 .i32) (x2 : Vec Ideal S1620x81 .f32) (x3 : Vec Ideal S81x9 .f32) (x4 : Vec Ideal S81x9 .f32) (x5 : Vec Ideal S9x16 .f32) (x6 : Vec Ideal S9x16 .f32) (x7 : Vec Ideal S16x32 .f32) (x8 : Vec Ideal S16x32 .f32) (x9 : Vec Ideal S1x32 .f32) (x10 : Vec Ideal S40x64 .f32) (x11 : Vec Ideal S64x128 .f32) (x12 : Vec Ideal S128x128 .f32) (x13 : Vec Ideal S1x128 .f32) (x14 : Vec Ideal S128x128 .f32) (x15 : Vec Ideal S1x128 .f32) (x16 : Vec Ideal S128x128 .f32) (x17 : Vec Ideal S1x128 .f32) (x18 : Vec Ideal S128x128 .f32) (x19 : Vec Ideal S128x128 .f32) (x20 : Vec Ideal S128x128 .f32) (x21 : Vec Ideal S128x128 .f32) (x22 : Vec Ideal S128x128 .f32) (x23 : Vec Ideal S128x128 .f32) (x24 : Vec Ideal S128x128 .f32) (x25 : Vec Ideal S128x128 .f32) (x26 : Vec Ideal S128x128 .f32) (x27 : Vec Ideal S128x128 .f32) (x28 : Vec Ideal S128x128 .f32) (x29 : Vec Ideal S128x128 .f32) (x30 : Vec Ideal S128x128 .f32) (x31 : Vec Ideal S128x128 .f32) (x32 : Vec Ideal S1x128 .f32) (x33 : Vec Ideal S128x128 .f32) (x34 : Vec Ideal S1x128 .f32) (x35 : Vec Ideal S128x128 .f32) (x36 : Vec Ideal S1x128 .f32) (x37 : Vec Ideal S128x128 .f32) (x38 : Vec Ideal S1x128 .f32) (x39 : Vec Ideal S128x40 .f32) (x40 : Vec Ideal S1x40 .f32) : out0_A_41 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40 = G42 ⟨x0, x1, x2, x3, x4, x5, x6, x7, x8, x9, x10, x11, x12, x13, x14, x15, x16, x17, x18, x19, x20, x21, x22, x23, x24, x25, x26, x27, x28, x29, x30, x31, x32, x33, x34, x35, x36, x37, x38, x39, x40⟩ :=
  gen42 ⟨x0, x1, x2, x3, x4, x5, x6, x7, x8, x9, x10, x11, x12, x13, x14, x15, x16, x17, x18, x19, x20, x21, x22, x23, x24, x25, x26, x27, x28, x29, x30, x31, x32, x33, x34, x35, x36, x37, x38, x39, x40⟩ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44
theorem gen43' (x0 : Vec Ideal S1x162x4 .i32) (x1 : Vec Ideal S1x162x4 .i32) (x2 : Vec Ideal S1620x81 .f32) (x3 : Vec Ideal S81x9 .f32) (x4 : Vec Ideal S81x9 .f32) (x5 : Vec Ideal S9x16 .f32) (x6 : Vec Ideal S9x16 .f32) (x7 : Vec Ideal S16x32 .f32) (x8 : Vec Ideal S16x32 .f32) (x9 : Vec Ideal S1x32 .f32) (x10 : Vec Ideal S40x64 .f32) (x11 : Vec Ideal S64x128 .f32) (x12 : Vec Ideal S128x128 .f32) (x13 : Vec Ideal S1x128 .f32) (x14 : Vec Ideal S128x128 .f32) (x15 : Vec Ideal S1x128 .f32) (x16 : Vec Ideal S128x128 .f32) (x17 : Vec Ideal S1x128 .f32) (x18 : Vec Ideal S128x128 .f32) (x19 : Vec Ideal S128x128 .f32) (x20 : Vec Ideal S128x128 .f32) (x21 : Vec Ideal S128x128 .f32) (x22 : Vec Ideal S128x128 .f32) (x23 : Vec Ideal S128x128 .f32) (x24 : Vec Ideal S128x128 .f32) (x25 : Vec Ideal S128x128 .f32) (x26 : Vec Ideal S128x128 .f32) (x27 : Vec Ideal S128x128 .f32) (x28 : Vec Ideal S128x128 .f32) (x29 : Vec Ideal S128x128 .f32) (x30 : Vec Ideal S128x128 .f32) (x31 : Vec Ideal S128x128 .f32) (x32 : Vec Ideal S1x128 .f32) (x33 : Vec Ideal S128x128 .f32) (x34 : Vec Ideal S1x128 .f32) (x35 : Vec Ideal S128x128 .f32) (x36 : Vec Ideal S1x128 .f32) (x37 : Vec Ideal S128x128 .f32) (x38 : Vec Ideal S1x128 .f32) (x39 : Vec Ideal S128x40 .f32) (x40 : Vec Ideal S1x40 .f32) : out0_A_42 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40 = G43 ⟨x0, x1, x2, x3, x4, x5, x6, x7, x8, x9, x10, x11, x12, x13, x14, x15, x16, x17, x18, x19, x20, x21, x22, x23, x24, x25, x26, x27, x28, x29, x30, x31, x32, x33, x34, x35, x36, x37, x38, x39, x40⟩ :=
  gen43 ⟨x0, x1, x2, x3, x4, x5, x6, x7, x8, x9, x10, x11, x12, x13, x14, x15, x16, x17, x18, x19, x20, x21, x22, x23, x24, x25, x26, x27, x28, x29, x30, x31, x32, x33, x34, x35, x36, x37, x38, x39, x40⟩ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44
theorem gen44' (x0 : Vec Ideal S1x162x4 .i32) (x1 : Vec Ideal S1x162x4 .i32) (x2 : Vec Ideal S1620x81 .f32) (x3 : Vec Ideal S81x9 .f32) (x4 : Vec Ideal S81x9 .f32) (x5 : Vec Ideal S9x16 .f32) (x6 : Vec Ideal S9x16 .f32) (x7 : Vec Ideal S16x32 .f32) (x8 : Vec Ideal S16x32 .f32) (x9 : Vec Ideal S1x32 .f32) (x10 : Vec Ideal S40x64 .f32) (x11 : Vec Ideal S64x128 .f32) (x12 : Vec Ideal S128x128 .f32) (x13 : Vec Ideal S1x128 .f32) (x14 : Vec Ideal S128x128 .f32) (x15 : Vec Ideal S1x128 .f32) (x16 : Vec Ideal S128x128 .f32) (x17 : Vec Ideal S1x128 .f32) (x18 : Vec Ideal S128x128 .f32) (x19 : Vec Ideal S128x128 .f32) (x20 : Vec Ideal S128x128 .f32) (x21 : Vec Ideal S128x128 .f32) (x22 : Vec Ideal S128x128 .f32) (x23 : Vec Ideal S128x128 .f32) (x24 : Vec Ideal S128x128 .f32) (x25 : Vec Ideal S128x128 .f32) (x26 : Vec Ideal S128x128 .f32) (x27 : Vec Ideal S128x128 .f32) (x28 : Vec Ideal S128x128 .f32) (x29 : Vec Ideal S128x128 .f32) (x30 : Vec Ideal S128x128 .f32) (x31 : Vec Ideal S128x128 .f32) (x32 : Vec Ideal S1x128 .f32) (x33 : Vec Ideal S128x128 .f32) (x34 : Vec Ideal S1x128 .f32) (x35 : Vec Ideal S128x128 .f32) (x36 : Vec Ideal S1x128 .f32) (x37 : Vec Ideal S128x128 .f32) (x38 : Vec Ideal S1x128 .f32) (x39 : Vec Ideal S128x40 .f32) (x40 : Vec Ideal S1x40 .f32) : out0_A_43 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44 x0 x1 x2 x3 x4 x5 x6 x7 x8 x9 x10 x11 x12 x13 x14 x15 x16 x17 x18 x19 x20 x21 x22 x23 x24 x25 x26 x27 x28 x29 x30 x31 x32 x33 x34 x35 x36 x37 x38 x39 x40 = G44 ⟨x0, x1, x2, x3, x4, x5, x6, x7, x8, x9, x10, x11, x12, x13, x14, x15, x16, x17, x18, x19, x20, x21, x22, x23, x24, x25, x26, x27, x28, x29, x30, x31, x32, x33, x34, x35, x36, x37, x38, x39, x40⟩ :=
  gen44 ⟨x0, x1, x2, x3, x4, x5, x6, x7, x8, x9, x10, x11, x12, x13, x14, x15, x16, x17, x18, x19, x20, x21, x22, x23, x24, x25, x26, x27, x28, x29, x30, x31, x32, x33, x34, x35, x36, x37, x38, x39, x40⟩ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 arg42 harg42 arg43 harg43 arg44 harg44
end

variable (m : (ℓ : Loc nD τ sig) → Buf (Elt Ideal) ℓ) (c : Dev nD) (t : Fin cfg0.N)

theorem outs_eq : outsAt0 (F := Ideal) m c t = (G42 (blk m c t), G43 (blk m c t), G44 (blk m c t)) := by
  unfold outsAt0 blk
  rw [gen42', gen43', gen44']

end Sudoku
-- ==== Proof.Own.Arrays.lean ====
/-
  What the pipeline's output arrays hold after the run: block `t` of each is what point `t` left in its window.
-/
module

public import proofs.«01_k».proof.Proof.Own.Outs

@[expose] public section

set_option maxRecDepth 16384

noncomputable section

namespace Sudoku

open Idealize.ShloMosaic Idealize.ShloMosaic.TcCoe Cert.KernelIdeal Cert.KernelIdeal.Gen
open Idealize.SL Idealize.SL.RA

variable (m : (ℓ : Loc nD τ sig) → Buf (Elt Ideal) ℓ) (c : Dev nD)

/-- Result 0 of the pipeline. -/
def A42 (y : S8x155x162x40.Idx) : EReal := G42 (blk m c (y 1)) (ix4 (y 0) (0 : Fin 1) (y 2) (y 3))

theorem idx41 : ∀ t : Fin cfg0.N, win0_41.index t = ![0, t.val, 0, 0] :=
  (by decide +kernel : ∀ t : Fin grid0.N, win0_41.index t = ![0, t.val, 0, 0])

theorem emb41 (t : Fin cfg0.N) (y : (⟨4, ![8, 1, 162, 40]⟩ : Shape).Idx) :
    (win0_41.rect t).emb y = (ix4 (y 0) t (y 2) (y 3) : S8x155x162x40.Idx) := by
  funext a
  refine Fin.ext ?_
  rw [Pipeline.Window.rect_emb_val win0_41 t y a, idx41]
  match a with
  | ⟨0, _⟩ => exact (congrArg (· + (y 0).val) (Nat.zero_mul _)).trans (Nat.zero_add _)
  | ⟨1, _⟩ =>
    show t.val * 1 + (y 1).val = t.val
    have := (y 1).isLt
    change (y 1).val < 1 at this
    omega
  | ⟨2, _⟩ => exact (congrArg (· + (y 2).val) (Nat.zero_mul _)).trans (Nat.zero_add _)
  | ⟨3, _⟩ => exact (congrArg (· + (y 3).val) (Nat.zero_mul _)).trans (Nat.zero_add _)

theorem cover41 (i : S8x155x162x40.Idx) : i ∈ ((cfg0.win 41).blk (i 1)).view.set := by
  have e : i = (win0_41.rect (i 1)).emb (ix4 (i 0) (0 : Fin 1) (i 2) (i 3)) := by
    refine Eq.trans ?_ (emb41 (i 1) (ix4 (i 0) (0 : Fin 1) (i 2) (i 3))).symm
    funext a
    match a with
    | ⟨0, _⟩ => rfl
    | ⟨1, _⟩ => rfl
    | ⟨2, _⟩ => rfl
    | ⟨3, _⟩ => rfl
  have h := View.emb_mem_set ((cfg0.win 41).blk (i 1)).view (ix4 (i 0) (0 : Fin 1) (i 2) (i 3))
  have e' : ((cfg0.win 41).blk (i 1)).view.emb (ix4 (i 0) (0 : Fin 1) (i 2) (i 3)) = i := e.symm
  rwa [e'] at h

theorem arr41 : (dats (F := Ideal) m 0 c).arrAt 41 cfg0.N = A42 m c := by
  refine Pipeline.Dat.arrAt_eq_of_cover (dats (F := Ideal) m 0 c) 41 (A42 m c) (fun t _ => ?_) (fun i => ⟨i 1, flush0_41 _, cover41 i⟩)
  show (dats (F := Ideal) m 0 c).after 41 t = _
  rw [after0_41, outs_eq]
  funext y
  show G42 (blk m c t) y = A42 m c ((win0_41.rect t).emb y)
  rw [emb41]
  rfl

/-- Result 1 of the pipeline. -/
def A43 (y : S8x155x162x4.Idx) : BitVec 32 := G43 (blk m c (y 1)) (ix4 (y 0) (0 : Fin 1) (y 2) (y 3))

theorem idx42 : ∀ t : Fin cfg0.N, win0_42.index t = ![0, t.val, 0, 0] :=
  (by decide +kernel : ∀ t : Fin grid0.N, win0_42.index t = ![0, t.val, 0, 0])

theorem emb42 (t : Fin cfg0.N) (y : (⟨4, ![8, 1, 162, 4]⟩ : Shape).Idx) :
    (win0_42.rect t).emb y = (ix4 (y 0) t (y 2) (y 3) : S8x155x162x4.Idx) := by
  funext a
  refine Fin.ext ?_
  rw [Pipeline.Window.rect_emb_val win0_42 t y a, idx42]
  match a with
  | ⟨0, _⟩ => exact (congrArg (· + (y 0).val) (Nat.zero_mul _)).trans (Nat.zero_add _)
  | ⟨1, _⟩ =>
    show t.val * 1 + (y 1).val = t.val
    have := (y 1).isLt
    change (y 1).val < 1 at this
    omega
  | ⟨2, _⟩ => exact (congrArg (· + (y 2).val) (Nat.zero_mul _)).trans (Nat.zero_add _)
  | ⟨3, _⟩ => exact (congrArg (· + (y 3).val) (Nat.zero_mul _)).trans (Nat.zero_add _)

theorem cover42 (i : S8x155x162x4.Idx) : i ∈ ((cfg0.win 42).blk (i 1)).view.set := by
  have e : i = (win0_42.rect (i 1)).emb (ix4 (i 0) (0 : Fin 1) (i 2) (i 3)) := by
    refine Eq.trans ?_ (emb42 (i 1) (ix4 (i 0) (0 : Fin 1) (i 2) (i 3))).symm
    funext a
    match a with
    | ⟨0, _⟩ => rfl
    | ⟨1, _⟩ => rfl
    | ⟨2, _⟩ => rfl
    | ⟨3, _⟩ => rfl
  have h := View.emb_mem_set ((cfg0.win 42).blk (i 1)).view (ix4 (i 0) (0 : Fin 1) (i 2) (i 3))
  have e' : ((cfg0.win 42).blk (i 1)).view.emb (ix4 (i 0) (0 : Fin 1) (i 2) (i 3)) = i := e.symm
  rwa [e'] at h

theorem arr42 : (dats (F := Ideal) m 0 c).arrAt 42 cfg0.N = A43 m c := by
  refine Pipeline.Dat.arrAt_eq_of_cover (dats (F := Ideal) m 0 c) 42 (A43 m c) (fun t _ => ?_) (fun i => ⟨i 1, flush0_42 _, cover42 i⟩)
  show (dats (F := Ideal) m 0 c).after 42 t = _
  rw [after0_42, outs_eq]
  funext y
  show G43 (blk m c t) y = A43 m c ((win0_42.rect t).emb y)
  rw [emb42]
  rfl

/-- Result 2 of the pipeline. -/
def A44 (y : S8x155x162x4.Idx) : EReal := G44 (blk m c (y 1)) (ix4 (y 0) (0 : Fin 1) (y 2) (y 3))

theorem idx43 : ∀ t : Fin cfg0.N, win0_43.index t = ![0, t.val, 0, 0] :=
  (by decide +kernel : ∀ t : Fin grid0.N, win0_43.index t = ![0, t.val, 0, 0])

theorem emb43 (t : Fin cfg0.N) (y : (⟨4, ![8, 1, 162, 4]⟩ : Shape).Idx) :
    (win0_43.rect t).emb y = (ix4 (y 0) t (y 2) (y 3) : S8x155x162x4.Idx) := by
  funext a
  refine Fin.ext ?_
  rw [Pipeline.Window.rect_emb_val win0_43 t y a, idx43]
  match a with
  | ⟨0, _⟩ => exact (congrArg (· + (y 0).val) (Nat.zero_mul _)).trans (Nat.zero_add _)
  | ⟨1, _⟩ =>
    show t.val * 1 + (y 1).val = t.val
    have := (y 1).isLt
    change (y 1).val < 1 at this
    omega
  | ⟨2, _⟩ => exact (congrArg (· + (y 2).val) (Nat.zero_mul _)).trans (Nat.zero_add _)
  | ⟨3, _⟩ => exact (congrArg (· + (y 3).val) (Nat.zero_mul _)).trans (Nat.zero_add _)

theorem cover43 (i : S8x155x162x4.Idx) : i ∈ ((cfg0.win 43).blk (i 1)).view.set := by
  have e : i = (win0_43.rect (i 1)).emb (ix4 (i 0) (0 : Fin 1) (i 2) (i 3)) := by
    refine Eq.trans ?_ (emb43 (i 1) (ix4 (i 0) (0 : Fin 1) (i 2) (i 3))).symm
    funext a
    match a with
    | ⟨0, _⟩ => rfl
    | ⟨1, _⟩ => rfl
    | ⟨2, _⟩ => rfl
    | ⟨3, _⟩ => rfl
  have h := View.emb_mem_set ((cfg0.win 43).blk (i 1)).view (ix4 (i 0) (0 : Fin 1) (i 2) (i 3))
  have e' : ((cfg0.win 43).blk (i 1)).view.emb (ix4 (i 0) (0 : Fin 1) (i 2) (i 3)) = i := e.symm
  rwa [e'] at h

theorem arr43 : (dats (F := Ideal) m 0 c).arrAt 43 cfg0.N = A44 m c := by
  refine Pipeline.Dat.arrAt_eq_of_cover (dats (F := Ideal) m 0 c) 43 (A44 m c) (fun t _ => ?_) (fun i => ⟨i 1, flush0_43 _, cover43 i⟩)
  show (dats (F := Ideal) m 0 c).after 43 t = _
  rw [after0_43, outs_eq]
  funext y
  show G44 (blk m c t) y = A44 m c ((win0_43.rect t).emb y)
  rw [emb43]
  rfl

end Sudoku
-- ==== Proof.Own.Dense.lean ====
/-
  What the host's operations do to a row of a matrix: dense layers, rectification, the logistic function written out, the
  gather of a row and the sum of rows sent to a row. Nothing here names a program.
-/
module

public import Idealize.ShloMosaic.Lib.Pointwise
public import Idealize.ShloMosaic.Lib.StackMember
public import Idealize.ShloMosaic.Lib.Routing.Ops
public import Idealize.ShloMosaic.Lib.Routing.OpsPair
public import proofs.«01_k».proof.Proof.Own.Spec

@[expose] public section

noncomputable section

namespace Sudoku

open Idealize.ShloMosaic
open scoped BigOperators

/-- Row `r` of the matrix `V` is `f`. -/
def HRow {M N : ℕ} (V : FVec Ideal ⟨2, ![M, N]⟩ .f32) (r : Fin M) (f : Fin N → EReal) : Prop := ∀ j, V (ix2 r j) = f j

variable {M N K : ℕ} {r : Fin M}

theorem HRow.self (V : FVec Ideal ⟨2, ![M, N]⟩ .f32) (r : Fin M) : HRow V r fun j => V (ix2 r j) := fun _ => rfl

theorem HRow.dot {V : FVec Ideal ⟨2, ![M, K]⟩ .f32} {W : FVec Ideal ⟨2, ![K, N]⟩ .f32} {f : Fin K → EReal} (hV : HRow V r f)
    (p : Option ContractPrecision) :
    HRow (Host.dotGeneral (DotDims.plain M K N) p V W) r (mul f fun i j => W (ix2 i j)) := fun j => by
  refine (StackMember.dotGeneral_plain_apply p V W r j).trans (Finset.sum_congr rfl fun i _ => ?_)
  exact congrArg (· * _) (hV i)

theorem HRow.addf {V U : FVec Ideal ⟨2, ![M, N]⟩ .f32} {f g : Fin N → EReal} (hV : HRow V r f) (hU : HRow U r g) :
    HRow (Idealize.ShloMosaic.addf V U) r fun j => f j + g j := fun j => congrArg₂ (· + ·) (hV j) (hU j)

theorem HRow.mulf {V U : FVec Ideal ⟨2, ![M, N]⟩ .f32} {f g : Fin N → EReal} (hV : HRow V r f) (hU : HRow U r g) :
    HRow (Idealize.ShloMosaic.mulf V U) r fun j => f j * g j := fun j => congrArg₂ (· * ·) (hV j) (hU j)

theorem HRow.tanh {V : FVec Ideal ⟨2, ![M, N]⟩ .f32} {f : Fin N → EReal} (hV : HRow V r f) :
    HRow (Host.tanh V) r fun j => Ideal.tanh (f j) := fun j => congrArg Ideal.tanh (hV j)

theorem bias_apply (h₁ : (⟨1, ![N]⟩ : Shape).BroadcastsInDim ⟨2, ![1, N]⟩ ![1])
    (h₂ : (⟨2, ![1, N]⟩ : Shape).BroadcastsInDim ⟨2, ![M, N]⟩ ![0, 1]) (hN : N ≠ 1) (b : FVec Ideal ⟨1, ![N]⟩ .f32) (j : Fin N) :
    broadcastInDim (⟨2, ![M, N]⟩ : Shape) ![0, 1] h₂ (broadcastInDim (⟨2, ![1, N]⟩ : Shape) ![1] h₁ b) (ix2 r j) = b (ix1 j) := by
  pointwise
  refine congrArg b (funext fun a => Fin.ext ?_)
  match a with
  | ⟨0, _⟩ => simp [Shape.Idx.norm, hN, ix1, ix2]; rfl

theorem zero_apply {α : Type} (h : (⟨0, ![]⟩ : Shape).BroadcastsInDim ⟨2, ![M, N]⟩ ![]) (c : (⟨0, ![]⟩ : Shape).Idx → α) (x : α) (hc : ∀ i, c i = x) (i : (⟨2, ![M, N]⟩ : Shape).Idx) :
    broadcastInDim (⟨2, ![M, N]⟩ : Shape) ![] h c i = x := hc _

/-- A row sent to no place, or to row `r`, of a scatter of whole rows. -/
theorem scatter_row_lands (d : ScatterDims ⟨2, ![M, N]⟩ ⟨2, ![K, 1]⟩ ⟨2, ![K, N]⟩) (huw : d.updateWindowDims = [1])
    (hiw : d.insertedWindowDims = [0]) (hsd : d.scatterDimsToOperandDims = [0]) (hivd : d.indexVectorDim = 1)
    (idx : IVec ⟨2, ![K, 1]⟩ 32) (e : Fin K) (j : Fin N) (r : Fin M) (c : Fin N) :
    d.resultIdx? (ix2 e j) idx = some (ix2 r c) ↔ (idx (ix2 e 0)).toInt = (r.val : ℤ) ∧ j = c := by
  refine (Routing.resultIdx?_ix2 d (ix2 e j) idx r c).trans ?_
  have hm : (0 : Fin 2) ∈ d.scatterDimsToOperandDims := by rw [hsd]; exact List.mem_singleton.2 rfl
  have hn : (1 : Fin 2) ∉ d.scatterDimsToOperandDims := by rw [hsd]; simp
  have w0 : d.window (ix2 e j) 0 = 0 := by
    unfold ScatterDims.window
    rw [dif_neg fun h => (of_decide_eq_true (List.mem_filter.1 h).2) (by rw [hiw]; exact List.mem_singleton.2 rfl)]
  have s1 : d.start (ix2 e j) idx 1 = 0 := by
    unfold ScatterDims.start
    rw [dif_neg hn]
  have w1 : d.window (ix2 e j) 1 = j.val := by
    unfold ScatterDims.window
    have hk : (1 : Fin 2) ∈ d.sKept :=
      List.mem_filter.2 ⟨List.mem_finRange _, decide_eq_true (show (1 : Fin 2) ∉ d.insertedWindowDims by rw [hiw]; simp)⟩
    rw [dif_pos hk]
    have : ∀ X : Fin 2, X ∈ d.updateWindowDims → (ix2 e j X).val = j.val := fun X h => by
      rw [huw] at h; obtain rfl := List.mem_singleton.1 h; rfl
    exact this _ (List.get_mem _ _)
  have s0 : d.start (ix2 e j) idx 0 = (idx (ix2 e 0)).toInt := by
    unfold ScatterDims.start
    rw [dif_pos hm]
    have hsi : d.siIdx (ix2 e j) ⟨d.scatterDimsToOperandDims.idxOf 0, List.idxOf_lt_length_iff.2 hm⟩ = ix2 e (0 : Fin 1) := by
      funext b'
      apply Fin.ext
      match b' with
      | ⟨0, _⟩ =>
        unfold ScatterDims.siIdx
        rw [dif_neg (by rw [hivd]; exact Nat.zero_ne_one)]
        unfold ScatterDims.siCoord
        simp only [Fin.val_cast]
        have : ∀ X : Fin 2, X ∉ d.updateWindowDims → (ix2 e j X).val = e.val := fun X h => by
          rw [huw] at h
          match X with
          | ⟨0, _⟩ => rfl
          | ⟨1, _⟩ => exact absurd (List.mem_singleton.2 rfl) h
        have hu : ∀ X ∈ d.uScatter, X ∉ d.updateWindowDims := fun X h => of_decide_eq_true (List.mem_filter.1 h).2
        exact this _ (hu _ (List.getElem_mem _))
      | ⟨1, _⟩ => exact (Nat.lt_one_iff.1 (Fin.isLt _)).trans (Nat.lt_one_iff.1 (Fin.isLt _)).symm
    rw [hsi]
  rw [s0, s1, w0, w1]
  constructor
  · rintro ⟨h0, h1⟩; exact ⟨by simpa using h0, Fin.ext (by simpa using h1)⟩
  · rintro ⟨h0, rfl⟩; exact ⟨by simpa using h0, by simp⟩

/-- Whole rows added to the rows their indices name. -/
theorem scatter_rows (d : ScatterDims ⟨2, ![M, N]⟩ ⟨2, ![K, 1]⟩ ⟨2, ![K, N]⟩) (huw : d.updateWindowDims = [1])
    (hiw : d.insertedWindowDims = [0]) (hsd : d.scatterDimsToOperandDims = [0]) (hivd : d.indexVectorDim = 1)
    (x : FVec Ideal ⟨2, ![M, N]⟩ .f32) (idx : IVec ⟨2, ![K, 1]⟩ 32) (u : FVec Ideal ⟨2, ![K, N]⟩ .f32) (r : Fin M) (c : Fin N) :
    Host.scatterAdd d x idx u (ix2 r c)
      = x (ix2 r c) + ∑ e : Fin K, if (idx (ix2 e 0)).toInt = (r.val : ℤ) then u (ix2 e c) else 0 := by
  show Ideal.hostScatterAdd d x idx u (ix2 r c) = _
  unfold Ideal.hostScatterAdd
  refine congrArg (x (ix2 r c) + ·) ?_
  rw [Finset.sum_filter]
  refine (ValueIdx.sum_idx2 _).trans (Finset.sum_congr rfl fun e _ => ?_)
  have h : ∀ j : Fin N, (if d.resultIdx? (ix2 e j) idx = some (ix2 r c) then u (ix2 e j) else 0)
      = if j = c then (if (idx (ix2 e 0)).toInt = (r.val : ℤ) then u (ix2 e c) else 0) else 0 := fun j => by
    have hl := scatter_row_lands d huw hiw hsd hivd idx e j r c
    by_cases hj : j = c
    · subst hj
      by_cases hi : (idx (ix2 e 0)).toInt = (r.val : ℤ)
      · rw [if_pos (hl.2 ⟨hi, rfl⟩), if_pos rfl, if_pos hi]
      · rw [if_neg fun h => hi (hl.1 h).1, if_pos rfl, if_neg hi]
    · rw [if_neg fun h => hj (hl.1 h).2, if_neg hj]
  exact (Finset.sum_congr rfl fun j _ => h j).trans (by simp)

/-- The logistic function written out. -/
theorem logistic_eq (x : EReal) : Ideal.div 1 (1 + Ideal.exp (-x)) = Ideal.logistic x := rfl

/-- A sum over `a·b` places. -/
theorem sum_blocks {a b T : ℕ} (h : T = a * b) (F : Fin T → EReal) :
    ∑ e, F e = ∑ p : Fin a, ∑ q : Fin b, F ⟨b * p.val + q.val, by
      subst h; have := p.isLt; have := q.isLt; nlinarith [Nat.mul_le_mul_left b (show p.val + 1 ≤ a from p.isLt)]⟩ := by
  subst h
  rw [← Fintype.sum_prod_type', ← Equiv.sum_comp finProdFinEquiv]
  refine Finset.sum_congr rfl fun x _ => congrArg F (Fin.ext ?_)
  simp [finProdFinEquiv]; ring

end Sudoku
-- ==== Proof.Own.Ref.lean ====
/-
  The reference program, one step of message passing at a time: its terms with the hidden rows left as parameters, and
  what each of its rows holds for the graph of Sudoku puzzles.
-/
module

public import proofs.«01_k».proof.Proof.Gen.ReferenceIdeal.Read
public import proofs.«01_k».proof.Proof.Own.Dense

@[expose] public section

noncomputable section

namespace Sudoku.Ref

open Cert.ReferenceIdeal Cert.ReferenceIdeal.Gen Cert.ReferenceIdeal.Read Idealize.ShloMosaic Sudoku
open scoped BigOperators

/-- The arguments. -/
structure Args where
  q : IVec S100035 32
  row : IVec S100035 32
  col : IVec S100035 32
  a : IVec S100035 32
  src : IVec S2000700 32
  dst : IVec S2000700 32
  dE : FVec Ideal S10x16 .f32
  rE : FVec Ideal S9x16 .f32
  cE : FVec Ideal S9x16 .f32
  w1 : FVec Ideal S48x32 .f32
  b1 : FVec Ideal S32 .f32
  w2 : FVec Ideal S32x32 .f32
  b2 : FVec Ideal S32 .f32
  w3 : FVec Ideal S32x32 .f32
  b3 : FVec Ideal S32 .f32
  w4 : FVec Ideal S32x32 .f32
  b4 : FVec Ideal S32 .f32
  wih : FVec Ideal S128x64 .f32
  whh : FVec Ideal S128x32 .f32
  m1 : FVec Ideal S64x32 .f32
  n1 : FVec Ideal S32 .f32
  m2 : FVec Ideal S32x32 .f32
  n2 : FVec Ideal S32 .f32
  m3 : FVec Ideal S32x32 .f32
  n3 : FVec Ideal S32 .f32
  m4 : FVec Ideal S32x32 .f32
  n4 : FVec Ideal S32 .f32
  ow : FVec Ideal S32x10 .f32
  ob : FVec Ideal S10 .f32

/-- A matrix by its entries. -/
abbrev mat {m n : ℕ} (W : FVec Ideal ⟨2, ![m, n]⟩ .f32) (i : Fin m) (j : Fin n) : EReal := W (ix2 i j)
/-- A vector by its entries. -/
abbrev vec {n : ℕ} (b : FVec Ideal ⟨1, ![n]⟩ .f32) (j : Fin n) : EReal := b (ix1 j)

/-- The weights. -/
def Args.w (A : Args) : Wt where
  dE := mat A.dE
  rE := mat A.rE
  cE := mat A.cE
  w1 := mat A.w1
  b1 := vec A.b1
  w2 := mat A.w2
  b2 := vec A.b2
  w3 := mat A.w3
  b3 := vec A.b3
  w4 := mat A.w4
  b4 := vec A.b4
  wih := mat A.wih
  whh := mat A.whh
  m1 := mat A.m1
  n1 := vec A.n1
  m2 := mat A.m2
  n2 := vec A.n2
  m3 := mat A.m3
  n3 := vec A.n3
  m4 := mat A.m4
  n4 := vec A.n4
  ow := mat A.ow
  ob := vec A.ob

/-- Cell `n` of puzzle `P`. -/
def nd (P : Fin 1235) (n : Fin 81) : Fin 100035 := ⟨81 * P.val + n.val, by omega⟩
/-- The edge of puzzle `P` from cell `b` to its `k`-th neighbour. -/
def ed (P : Fin 1235) (b : Fin 81) (k : Fin 20) : Fin 2000700 := ⟨1620 * P.val + (20 * b.val + k.val), by omega⟩

/-- The graph and the digits are those of the puzzles. -/
structure Args.Good (A : Args) (d a : Fin 1235 → Fin 81 → Fin 10) : Prop where
  q : ∀ P n, A.q (ix1 (nd P n)) = BitVec.ofNat 32 (d P n).val
  row : ∀ P n, A.row (ix1 (nd P n)) = BitVec.ofNat 32 (n.val / 9)
  col : ∀ P n, A.col (ix1 (nd P n)) = BitVec.ofNat 32 (n.val % 9)
  a : ∀ P n, A.a (ix1 (nd P n)) = BitVec.ofNat 32 (a P n).val
  src : ∀ P b k, A.src (ix1 (ed P b k)) = BitVec.ofNat 32 (nd P b).val
  dst : ∀ P b k, A.dst (ix1 (ed P b k)) = BitVec.ofNat 32 (nd P (nb b k)).val

/-! ## The terms -/

variable (A : Args)

/-- A cell's number, counted from the end if negative. -/
def wrap (x : IVec S2000700 32) : IVec S2000700x1 32 :=
  broadcastInDim S2000700x1 ![0] bcast_S2000700_S2000700x1_0
    (select (cmpi .slt x (broadcastInDim S2000700 ![] bcast_S_S2000700 (constantI S_ 32 0#32)))
      (addi x (broadcastInDim S2000700 ![] bcast_S_S2000700 (constantI S_ 32 100035#32))) x)

def zerosE : FVec Ideal S2000700x32 .f32 := broadcastInDim S2000700x32 ![] bcast_S_S2000700x32 (constant S_ .f32 0x00000000#32)
def zerosN : FVec Ideal S100035x32 .f32 := broadcastInDim S100035x32 ![] bcast_S_S100035x32 (constant S_ .f32 0x00000000#32)
def onesN : FVec Ideal S100035x32 .f32 := broadcastInDim S100035x32 ![] bcast_S_S100035x32 (constant S_ .f32 0x3F800000#32)
def biasE (b : FVec Ideal S32 .f32) : FVec Ideal S2000700x32 .f32 :=
  broadcastInDim S2000700x32 ![0, 1] bcast_S1x32_S2000700x32_0_1 (broadcastInDim S1x32 ![1] bcast_S32_S1x32_1 b)
def biasN (b : FVec Ideal S32 .f32) : FVec Ideal S100035x32 .f32 :=
  broadcastInDim S100035x32 ![0, 1] bcast_S1x32_S100035x32_0_1 (broadcastInDim S1x32 ![1] bcast_S32_S1x32_1 b)

/-- Dense layers over the edges and over the cells. -/
def layE (W : FVec Ideal S32x32 .f32) (b : FVec Ideal S32 .f32) (V : FVec Ideal S2000700x32 .f32) : FVec Ideal S2000700x32 .f32 :=
  addf (Host.dotGeneral dot_S2000700x32_S32x32_S2000700x32_1_0_0_1_n_n (some .fp32) V W) (biasE b)
def layN (W : FVec Ideal S32x32 .f32) (b : FVec Ideal S32 .f32) (V : FVec Ideal S100035x32 .f32) : FVec Ideal S100035x32 .f32 :=
  addf (Host.dotGeneral dot_S100035x32_S32x32_S100035x32_1_0_0_1_n_n (some .fp32) V W) (biasN b)

/-- The hidden rows at the ends named by `x`. -/
def ends (h : FVec Ideal S100035x32 .f32) (x : IVec S2000700 32) : FVec Ideal S2000700x32 .f32 :=
  Host.gather gather_S100035x32_S2000700x1_S2000700x32_1_0_n_n_0_1_132 h (wrap x)

/-- The messages. -/
def msg (h : FVec Ideal S100035x32 .f32) : FVec Ideal S2000700x32 .f32 :=
  layE A.m4 A.n4 (maximumf (layE A.m3 A.n3 (maximumf (layE A.m2 A.n2 (maximumf
    (addf (Host.dotGeneral dot_S2000700x64_S64x32_S2000700x32_1_0_0_1_n_n (some .fp32)
      (concatenate S2000700x64 1 [⟨S2000700x32, ends h A.src⟩, ⟨S2000700x32, ends h A.dst⟩]
        concatenates_S2000700x32_S2000700x32_S2000700x64_d1) A.m1) (biasE A.n1)) zerosE)) zerosE)) zerosE)

/-- What each cell hears. -/
def agg (h : FVec Ideal S100035x32 .f32) : FVec Ideal S100035x32 .f32 :=
  Host.scatterAdd scatter_S100035x32_S2000700x1_S2000700x32_1_0_0_1 zerosN
    (broadcastInDim S2000700x1 ![0] bcast_S2000700_S2000700x1_0 A.dst) (msg A h)

/-- The four gates side by side. -/
def gates (x h : FVec Ideal S100035x32 .f32) : FVec Ideal S100035x128 .f32 :=
  addf (Host.dotGeneral dot_S100035x64_S64x128_S100035x128_1_0_0_1_n_n (some .fp32)
      (concatenate S100035x64 1 [⟨S100035x32, x⟩, ⟨S100035x32, agg A h⟩] concatenates_S100035x32_S100035x32_S100035x64_d1)
      (transpose S64x128 [1, 0] A.wih transposes_S128x64_S64x128_1_0))
    (Host.dotGeneral dot_S100035x32_S32x128_S100035x128_1_0_0_1_n_n (some .fp32) h
      (transpose S32x128 [1, 0] A.whh transposes_S128x32_S32x128_1_0))

/-- The logistic function written out. -/
def sig (V : FVec Ideal S100035x32 .f32) : FVec Ideal S100035x32 .f32 :=
  Host.divf onesN (addf onesN (Host.exp (Host.negf V)))

/-- The next memory. -/
def rC (x h c : FVec Ideal S100035x32 .f32) : FVec Ideal S100035x32 .f32 :=
  addf (mulf (sig (extractStridedSlice S100035x32 ![0, 32] (gates A x h) slices_S100035x128_S100035x32_0_32)) c)
    (mulf (sig (extractStridedSlice S100035x32 ![0, 0] (gates A x h) slices_S100035x128_S100035x32_0_0))
      (Host.tanh (extractStridedSlice S100035x32 ![0, 64] (gates A x h) slices_S100035x128_S100035x32_0_64)))

/-- The next hidden rows. -/
def rH (x h c : FVec Ideal S100035x32 .f32) : FVec Ideal S100035x32 .f32 :=
  mulf (sig (extractStridedSlice S100035x32 ![0, 96] (gates A x h) slices_S100035x128_S100035x32_0_96)) (Host.tanh (rC A x h c))

/-- The input rows. -/
def rX : FVec Ideal S100035x32 .f32 :=
  val_main_v40 (F := Ideal) A.q A.row A.col A.dE A.rE A.cE A.w1 A.b1 A.w2 A.b2 A.w3 A.b3 A.w4 A.b4

/-- The hidden rows and the memory after `k` steps. -/
def rState : ℕ → FVec Ideal S100035x32 .f32 × FVec Ideal S100035x32 .f32
  | 0 => (rX A, zerosN)
  | k + 1 => (rH A (rX A) (rState k).1 (rState k).2, rC A (rX A) (rState k).1 (rState k).2)

/-- The hidden rows after `k + 1` steps with a leading axis. -/
def lay (k : ℕ) : FVec Ideal S1x100035x32 .f32 := broadcastInDim S1x100035x32 ![1, 2] bcast_S100035x32_S1x100035x32_1_2 (rState A (k + 1)).1

/-- The scores. -/
def rL : FVec Ideal S8x100035x10 .f32 :=
  addf (Host.dotGeneral dot_S8x100035x32_S32x10_S8x100035x10_2_0_01_1_n_n (some .fp32)
      (concatenate S8x100035x32 0 [⟨S1x100035x32, lay A 0⟩, ⟨S1x100035x32, lay A 1⟩, ⟨S1x100035x32, lay A 2⟩,
        ⟨S1x100035x32, lay A 3⟩, ⟨S1x100035x32, lay A 4⟩, ⟨S1x100035x32, lay A 5⟩, ⟨S1x100035x32, lay A 6⟩,
        ⟨S1x100035x32, lay A 7⟩] concatenates_S1x100035x32_S1x100035x32_S1x100035x32_S1x100035x32_S1x100035x32_S1x100035x32_S1x100035x32_S1x100035x32_S8x100035x32_d0)
      A.ow)
    (broadcastInDim S8x100035x10 ![0, 1, 2] bcast_S1x1x10_S8x100035x10_0_1_2 (broadcastInDim S1x1x10 ![2] bcast_S10_S1x1x10_2 A.ob))

set_option maxRecDepth 100000 in
/-- They are the reference program's. -/
theorem rL_eq : val_main_v622 (F := Ideal) A.q A.row A.col A.src A.dst A.dE A.rE A.cE A.w1 A.b1 A.w2 A.b2 A.w3 A.b3 A.w4 A.b4
    A.wih A.whh A.m1 A.n1 A.m2 A.n2 A.m3 A.n3 A.m4 A.n4 A.ow A.ob = rL A := rfl

/-! ## Rows -/

variable {A} {d a : Fin 1235 → Fin 81 → Fin 10}

/-- The rows of a matrix over the cells, puzzle by puzzle. -/
def Cells (V : FVec Ideal S100035x32 .f32) (H : Fin 1235 → Rows) : Prop := ∀ P n, HRow V (nd P n) (H P n)

theorem toNat_nd (P : Fin 1235) (n : Fin 81) : (BitVec.ofNat 32 (nd P n).val).toNat = (nd P n).val :=
  (BitVec.toNat_ofNat _ _).trans (Nat.mod_eq_of_lt (lt_trans (nd P n).isLt (by norm_num)))

theorem wrap_apply (x : IVec S2000700 32) (e : Fin 2000700) (r : Fin 100035) (h : x (ix1 e) = BitVec.ofNat 32 r.val) :
    wrap x (ix2 e 0) = BitVec.ofNat 32 r.val := by
  have hr : (BitVec.ofNat 32 r.val).toNat = r.val := (BitVec.toNat_ofNat _ _).trans (Nat.mod_eq_of_lt (lt_trans r.isLt (by norm_num)))
  unfold wrap
  pointwise
  rw [show x _ = BitVec.ofNat 32 r.val from h]
  exact Routing.wrap_of_lt _ _ (by rw [hr]; exact lt_trans r.isLt (by norm_num))

theorem ends_row {h : FVec Ideal S100035x32 .f32} {H : Fin 1235 → Rows} (hh : Cells h H) (x : IVec S2000700 32) (e : Fin 2000700)
    (P : Fin 1235) (n : Fin 81) (hx : x (ix1 e) = BitVec.ofNat 32 (nd P n).val) : HRow (ends h x) e (H P n) := fun j =>
  (Routing.gather_row gather_S100035x32_S2000700x1_S2000700x32_1_0_n_n_0_1_132 rfl rfl rfl rfl rfl h (wrap x) e j (nd P n)
    (wrap_apply x e _ hx) (by norm_num)).trans (hh P n j)

/-- Two halves side by side times a matrix. -/
theorem mul_cat {m : ℕ} (h : Shape.Concatenates [⟨2, ![m, 32]⟩, ⟨2, ![m, 32]⟩] ⟨2, ![m, 64]⟩ (1 : Fin 2))
    {U V : FVec Ideal ⟨2, ![m, 32]⟩ .f32} {r : Fin m} {f g : Fin 32 → EReal} (hU : HRow U r f) (hV : HRow V r g) {k : ℕ}
    (W : Fin 64 → Fin k → EReal) (j : Fin k) :
    mul (fun i => concatenate (⟨2, ![m, 64]⟩ : Shape) 1 [⟨⟨2, ![m, 32]⟩, U⟩, ⟨⟨2, ![m, 32]⟩, V⟩] h (ix2 r i)) W j
      = mul f (rows 64 0 W (by decide)) j + mul g (rows 64 32 W (by decide)) j := by
  unfold mul
  refine (Fin.sum_univ_add (a := 32) (b := 32) _).trans (congrArg₂ (· + ·) (Finset.sum_congr rfl fun i _ => ?_)
    (Finset.sum_congr rfl fun i _ => ?_))
  · refine congrArg₂ (· * ·) ((concatenate_pair_apply_left 1 U V h _ rfl (ix2 r i) fun b => ?_).trans (hU i))
      (congrArg (fun i => W i j) (Fin.ext (by simp)))
    match b with
    | ⟨0, _⟩ => rfl
    | ⟨1, _⟩ => rfl
  · refine congrArg₂ (· * ·) ((concatenate_pair_apply_right 1 U V h _ rfl rfl (ix2 r i) (fun b hb => ?_) ?_).trans (hV i))
      (congrArg (fun i => W i j) (Fin.ext (by simp; omega)))
    · match b, hb with
      | ⟨0, _⟩, _ => rfl
      | ⟨1, _⟩, hb => exact absurd rfl hb
    · show i.val + 32 = 32 + i.val
      omega

theorem biasE_row (b : FVec Ideal S32 .f32) (e : Fin 2000700) : HRow (biasE b) e (vec b) := fun j =>
  bias_apply _ _ (by decide) b j
theorem biasN_row (b : FVec Ideal S32 .f32) (e : Fin 100035) : HRow (biasN b) e (vec b) := fun j =>
  bias_apply _ _ (by decide) b j
theorem relE {V : FVec Ideal S2000700x32 .f32} {e : Fin 2000700} {f : Fin 32 → EReal} (h : HRow V e f) :
    HRow (maximumf V zerosE) e fun j => max (f j) 0 := fun j =>
  congrArg₂ max (h j) Ideal.ofBits_zero_f32
theorem relN {V : FVec Ideal S100035x32 .f32} {e : Fin 100035} {f : Fin 32 → EReal} (h : HRow V e f) :
    HRow (maximumf V zerosN) e fun j => max (f j) 0 := fun j =>
  congrArg₂ max (h j) Ideal.ofBits_zero_f32
theorem layE_row {V : FVec Ideal S2000700x32 .f32} {e : Fin 2000700} {f : Fin 32 → EReal} (h : HRow V e f)
    (W : FVec Ideal S32x32 .f32) (b : FVec Ideal S32 .f32) : HRow (layE W b V) e (lin (mat W) (vec b) f) :=
  (h.dot (W := W) (some .fp32)).addf (biasE_row b e)
theorem layN_row {V : FVec Ideal S100035x32 .f32} {e : Fin 100035} {f : Fin 32 → EReal} (h : HRow V e f)
    (W : FVec Ideal S32x32 .f32) (b : FVec Ideal S32 .f32) : HRow (layN W b V) e (lin (mat W) (vec b) f) :=
  (h.dot (W := W) (some .fp32)).addf (biasN_row b e)

theorem msg_row (G : A.Good d a) {h : FVec Ideal S100035x32 .f32} {H : Fin 1235 → Rows} (hh : Cells h H) (P : Fin 1235) (b : Fin 81)
    (k : Fin 20) : HRow (msg A h) (ed P b k) (lin A.w.m4 A.w.n4 (e3 A.w (H P b) (H P (nb b k)))) := by
  refine layE_row (relE (layE_row (relE (layE_row (relE (?_ : HRow _ _ fun j =>
    mul (H P b) (rows 64 0 A.w.m1 (by decide)) j + (mul (H P (nb b k)) (rows 64 32 A.w.m1 (by decide)) j + A.w.n1 j))) _ _)) _ _)) _ _
  intro j
  refine (((HRow.self _ _).dot (W := A.m1) (some .fp32)).addf (biasE_row A.n1 _) j).trans ?_
  refine Eq.trans ?_ (add_assoc _ _ _)
  exact congrArg (· + _) (mul_cat _ (ends_row hh A.src _ P b (G.src P b k)) (ends_row hh A.dst _ P _ (G.dst P b k)) _ j)

theorem nd_inj {P P' : Fin 1235} {n n' : Fin 81} (h : (nd P n).val = (nd P' n').val) : P = P' ∧ n = n' := by
  simp only [nd] at h
  exact ⟨Fin.ext (by omega), Fin.ext (by omega)⟩

theorem agg_row (G : A.Good d a) {h : FVec Ideal S100035x32 .f32} {H : Fin 1235 → Rows} (hh : Cells h H) :
    Cells (agg A h) fun P n => heard A.w (H P) n := by
  intro P n l
  have hd : ∀ P' b k, (broadcastInDim S2000700x1 ![0] bcast_S2000700_S2000700x1_0 A.dst (ix2 (ed P' b k) 0)).toInt
      = ((nd P' (nb b k)).val : ℤ) := fun P' b k => by
    have e : broadcastInDim S2000700x1 ![0] bcast_S2000700_S2000700x1_0 A.dst (ix2 (ed P' b k) 0)
        = BitVec.ofNat 32 (nd P' (nb b k)).val := by
      pointwise
      exact G.dst P' b k
    rw [e]
    exact StableHlo.Predicate.toInt_ofNat_small _ (lt_trans (nd P' (nb b k)).isLt (by norm_num))
  refine (?_ : _ = _).trans (heard_eq A.w (H P) n l).symm
  refine (scatter_rows scatter_S100035x32_S2000700x1_S2000700x32_1_0_0_1 rfl rfl rfl rfl zerosN _ (msg A h) (nd P n) l).trans ?_
  rw [show zerosN (ix2 (nd P n) l) = 0 from Ideal.ofBits_zero_f32, zero_add]
  rw [sum_blocks (a := 1235) (b := 1620) (by norm_num)]
  rw [Finset.sum_eq_single P]
  · rw [sum_blocks (a := 81) (b := 20) (by norm_num), ← sum_edges n fun b => lin A.w.m4 A.w.n4 (e3 A.w (H P b) (H P n)) l]
    refine Finset.sum_congr rfl fun b _ => Finset.sum_congr rfl fun k _ => ?_
    show (if (broadcastInDim S2000700x1 ![0] bcast_S2000700_S2000700x1_0 A.dst (ix2 (ed P b k) 0)).toInt = _
      then msg A h (ix2 (ed P b k) l) else 0) = _
    rw [hd, msg_row G hh P b k l]
    by_cases hk : nb b k = n
    · rw [if_pos hk, if_pos (by rw [hk]), hk]
    · rw [if_neg hk, if_neg fun e => hk (nd_inj (Int.ofNat_inj.1 e)).2]
  · intro P' _ hP
    rw [sum_blocks (a := 81) (b := 20) (by norm_num)]
    refine Finset.sum_eq_zero fun b _ => Finset.sum_eq_zero fun k _ => ?_
    refine if_neg ?_
    show ¬ (broadcastInDim S2000700x1 ![0] bcast_S2000700_S2000700x1_0 A.dst (ix2 (ed P' b k) 0)).toInt = _
    rw [hd]
    exact fun e => hP (nd_inj (Int.ofNat_inj.1 e)).1
  · intro h; exact absurd (Finset.mem_univ _) h

/-- Lane `j` of gate `g`. -/
def gl (g : Fin 4) (j : Fin 32) : Fin 128 := ⟨32 * g.val + j.val, by omega⟩

theorem gates_row (G : A.Good d a) {x h : FVec Ideal S100035x32 .f32} {X H : Fin 1235 → Rows} (hx : Cells x X) (hh : Cells h H)
    (P : Fin 1235) (n : Fin 81) (g : Fin 4) (j : Fin 32) :
    gates A x h (ix2 (nd P n) (gl g j)) = gate A.w g (X P n) (heard A.w (H P) n) (H P n) j := by
  refine (((HRow.self _ _).dot (some .fp32)).addf ((hh P n).dot (some .fp32)) (gl g j)).trans ?_
  refine congrArg₂ (· + ·) ((mul_cat _ (hx P n) (agg_row G hh P n) _ _).trans ?_) ?_
  · refine congrArg₂ (· + ·) (Finset.sum_congr rfl fun i _ => congrArg (X P n i * ·) ?_)
      (Finset.sum_congr rfl fun i _ => congrArg (heard A.w (H P) n i * ·) ?_)
    · unfold rows wihT; pointwise; rfl
    · unfold rows wihT; pointwise; rfl
  · refine Finset.sum_congr rfl fun i _ => congrArg (H P n i * ·) ?_
    unfold whhT; pointwise; rfl

theorem sig_row {V : FVec Ideal S100035x32 .f32} {r : Fin 100035} {f : Fin 32 → EReal} (h : HRow V r f) :
    HRow (sig V) r fun j => Ideal.logistic (f j) := fun j => by
  have o : onesN (ix2 r j) = 1 := Ideal.ofBits_one_f32
  show Ideal.div (onesN (ix2 r j)) (onesN (ix2 r j) + Ideal.exp (-(V (ix2 r j)))) = _
  rw [o, h j]; rfl

theorem slice_row {V : FVec Ideal S100035x128 .f32} {r : Fin 100035} {f : Fin 4 → Fin 32 → EReal}
    (h : ∀ g j, V (ix2 r (gl g j)) = f g j) (g : Fin 4) (o : ℕ) (ho : o = 32 * g.val)
    (hs : S100035x128.Slices ![0, o] S100035x32) : HRow (extractStridedSlice S100035x32 ![0, o] V hs) r (f g) := fun j => by
  subst ho
  pointwise
  refine (congrArg V ?_).trans (h g j)
  refine (ix2_inj _ _ _ _).mpr ⟨Fin.ext ?_, Fin.ext ?_⟩
  · simp
  · simp [gl]

theorem rC_row (G : A.Good d a) {x h c : FVec Ideal S100035x32 .f32} {X : Fin 1235 → Rows} {S : Fin 1235 → Rows × Rows}
    (hx : Cells x X) (hh : Cells h fun P => (S P).1) (hc : Cells c fun P => (S P).2) :
    Cells (rC A x h c) fun P => nextC A.w (X P) (S P) := fun P n => by
  have hg := gates_row G hx hh P n
  exact ((sig_row (slice_row hg 1 32 rfl _)).mulf (hc P n)).addf
    ((sig_row (slice_row hg 0 0 rfl _)).mulf (slice_row hg 2 64 rfl _).tanh)

theorem rH_row (G : A.Good d a) {x h c : FVec Ideal S100035x32 .f32} {X : Fin 1235 → Rows} {S : Fin 1235 → Rows × Rows}
    (hx : Cells x X) (hh : Cells h fun P => (S P).1) (hc : Cells c fun P => (S P).2) :
    Cells (rH A x h c) fun P => nextH A.w (X P) (S P) := fun P n =>
  (sig_row (slice_row (gates_row G hx hh P n) 3 96 rfl _)).mulf (rC_row G hx hh hc P n).tanh

end Sudoku.Ref
-- ==== Proof.Own.RefOut.lean ====
/-
  What the reference program returns for the graph of Sudoku puzzles: the scores, the chosen digits and the loss.
-/
module

public import proofs.«01_k».proof.Proof.Own.Ref

@[expose] public section

noncomputable section

namespace Sudoku.Ref

open Cert.ReferenceIdeal Cert.ReferenceIdeal.Gen Cert.ReferenceIdeal.Read Idealize.ShloMosaic Sudoku
open scoped BigOperators

variable {A : Args} {d a : Fin 1235 → Fin 81 → Fin 10}

/-! ## The input rows -/

theorem toNat_small (k n : ℕ) (h : k < n) (hn : n ≤ 2 ^ 31) : (BitVec.ofNat 32 k).toNat = k :=
  (BitVec.toNat_ofNat _ _).trans (Nat.mod_eq_of_lt (by omega))

/-- A table's row at a number that counts from the end if negative, but is not negative. -/
theorem table_row {K : ℕ} (D : GatherDims ⟨2, ![K, 16]⟩ S100035x1 S100035x16) (h1 : D.offsetDims = [1])
    (h2 : D.collapsedSliceDims = [0]) (h3 : D.operandBatchingDims = []) (h4 : D.startIndexMap = [0]) (h5 : D.indexVectorDim = 1)
    (hK : K ≤ 100) (T : FVec Ideal ⟨2, ![K, 16]⟩ .f32) (x : IVec S100035 32) (c : BitVec 32) (r : Fin 100035) (k : Fin K)
    (hx : x (ix1 r) = BitVec.ofNat 32 k.val) :
    HRow (Host.gather D T (broadcastInDim S100035x1 ![0] bcast_S100035_S100035x1_0
      (select (cmpi .slt x (broadcastInDim S100035 ![] bcast_S_S100035 (constantI S_ 32 0#32)))
        (addi x (broadcastInDim S100035 ![] bcast_S_S100035 (constantI S_ 32 c))) x))) r fun j => T (ix2 k j) := fun j => by
  refine Routing.gather_row D h1 h2 h3 h4 h5 T _ r j k ?_ (by omega)
  have hr := toNat_small k.val K k.isLt (by omega)
  pointwise
  rw [show x _ = BitVec.ofNat 32 k.val from hx]
  exact Routing.wrap_of_lt _ _ (by rw [hr]; have := k.isLt; norm_num; omega)

/-- Three pieces of sixteen side by side times a matrix. -/
theorem mul_cat3 {m : ℕ} (h : Shape.Concatenates [⟨2, ![m, 16]⟩, ⟨2, ![m, 16]⟩, ⟨2, ![m, 16]⟩] ⟨2, ![m, 48]⟩ (1 : Fin 2))
    {U V T : FVec Ideal ⟨2, ![m, 16]⟩ .f32} {r : Fin m} {f g e : Fin 16 → EReal} (hU : HRow U r f) (hV : HRow V r g) (hT : HRow T r e)
    {k : ℕ} (W : Fin 48 → Fin k → EReal) (j : Fin k) :
    mul (fun i => concatenate (⟨2, ![m, 48]⟩ : Shape) 1 [⟨⟨2, ![m, 16]⟩, U⟩, ⟨⟨2, ![m, 16]⟩, V⟩, ⟨⟨2, ![m, 16]⟩, T⟩] h (ix2 r i)) W j
      = mul f (rows 48 0 W (by decide)) j + (mul g (rows 48 16 W (by decide)) j + mul e (rows 48 32 W (by decide)) j) := by
  unfold mul
  refine (Fin.sum_univ_add (a := 16) (b := 32) _).trans (congrArg₂ (· + ·) (Finset.sum_congr rfl fun i _ => ?_)
    ((Fin.sum_univ_add (a := 16) (b := 16) _).trans (congrArg₂ (· + ·) (Finset.sum_congr rfl fun i _ => ?_)
      (Finset.sum_congr rfl fun i _ => ?_))))
  · refine congrArg₂ (· * ·) ((concatenate_apply_piece (t := ⟨2, ![m, 48]⟩) 1
      [⟨⟨2, ![m, 16]⟩, U⟩, ⟨⟨2, ![m, 16]⟩, V⟩, ⟨⟨2, ![m, 16]⟩, T⟩] h _ 0 (by simp) _ U rfl rfl 0 rfl (ix2 r i) (fun b hb => ?_) ?_).trans (hU i))
      (congrArg (fun i => W i j) (Fin.ext (by simp)))
    · match b, hb with
      | ⟨0, _⟩, _ => rfl
      | ⟨1, _⟩, hb => exact absurd rfl hb
    · show 0 + i.val = i.val
      omega
  · refine congrArg₂ (· * ·) ((concatenate_apply_piece (t := ⟨2, ![m, 48]⟩) 1
      [⟨⟨2, ![m, 16]⟩, U⟩, ⟨⟨2, ![m, 16]⟩, V⟩, ⟨⟨2, ![m, 16]⟩, T⟩] h _ 1 (by simp) _ V rfl rfl 16 rfl (ix2 r i) (fun b hb => ?_) ?_).trans (hV i))
      (congrArg (fun i => W i j) (Fin.ext (by simp)))
    · match b, hb with
      | ⟨0, _⟩, _ => rfl
      | ⟨1, _⟩, hb => exact absurd rfl hb
    · show 16 + i.val = 16 + i.val
      omega
  · refine congrArg₂ (· * ·) ((concatenate_apply_piece (t := ⟨2, ![m, 48]⟩) 1
      [⟨⟨2, ![m, 16]⟩, U⟩, ⟨⟨2, ![m, 16]⟩, V⟩, ⟨⟨2, ![m, 16]⟩, T⟩] h _ 2 (by simp) _ T rfl rfl 32 rfl (ix2 r i) (fun b hb => ?_) ?_).trans (hT i))
      (congrArg (fun i => W i j) (Fin.ext (by simp; omega)))
    · match b, hb with
      | ⟨0, _⟩, _ => rfl
      | ⟨1, _⟩, hb => exact absurd rfl hb
    · show 32 + i.val = 16 + (16 + i.val)
      omega

theorem rX_row (G : A.Good d a) : Cells (rX A) fun P => xin A.w (d P) := fun P n => by
  refine layN_row (relN (layN_row (relN (layN_row (relN (?_ : HRow _ _ fun j => mul (A.w.dE (d P n)) (rows 48 0 A.w.w1 (by decide)) j
    + (mul (A.w.rE ⟨n.val / 9, by omega⟩) (rows 48 16 A.w.w1 (by decide)) j
      + mul (A.w.cE ⟨n.val % 9, by omega⟩) (rows 48 32 A.w.w1 (by decide)) j + A.w.b1 j))) A.w2 A.b2)) A.w3 A.b3)) A.w4 A.b4
  intro j
  refine (((HRow.self _ _).dot (W := A.w1) (some .fp32)).addf (biasN_row A.b1 _) j).trans ?_
  refine Eq.trans ?_ (add_assoc _ _ _)
  refine congrArg (· + A.w.b1 j) (mul_cat3 _ (table_row _ rfl rfl rfl rfl rfl (by norm_num) A.dE A.q 10#32 (nd P n) (d P n) (G.q P n))
    (table_row _ rfl rfl rfl rfl rfl (by norm_num) A.rE A.row 9#32 (nd P n) ⟨n.val / 9, by omega⟩ (G.row P n))
    (table_row _ rfl rfl rfl rfl rfl (by norm_num) A.cE A.col 9#32 (nd P n) ⟨n.val % 9, by omega⟩ (G.col P n)) _ j)

theorem rState_row (G : A.Good d a) (k : ℕ) :
    Cells (rState A k).1 (fun P => (state A.w (xin A.w (d P)) k).1) ∧ Cells (rState A k).2 (fun P => (state A.w (xin A.w (d P)) k).2) := by
  induction k with
  | zero => exact ⟨rX_row G, fun P n j => Ideal.ofBits_zero_f32⟩
  | succ k ih => exact ⟨rH_row G (rX_row G) ih.1 ih.2, rC_row G (rX_row G) ih.1 ih.2⟩

/-! ## The scores -/

theorem lay_apply (G : A.Good d a) (s : ℕ) (P : Fin 1235) (n : Fin 81) (j : Fin 32) :
    lay A s (ix3 0 (nd P n) j) = (state A.w (xin A.w (d P)) (s + 1)).1 n j := by
  unfold lay
  pointwise
  exact (rState_row G (s + 1)).1 P n j

theorem rL_apply (G : A.Good d a) (s : Fin 8) (P : Fin 1235) (n : Fin 81) (v : Fin 10) :
    rL A (ix3 s (nd P n) v) = out A.w (d P) s.val n v := by
  unfold rL
  pointwise
  refine congrArg₂ (· + ·) (Finset.sum_congr rfl fun j _ => congrArg (· * _) ?_) rfl
  refine (?_ : _ = lay A s.val (ix3 0 (nd P n) j)).trans (lay_apply G s.val P n j)
  fin_cases s <;> rfl

/-! ## The digits -/

theorem ofBits_negInf : Ideal.ofBits .f32 4286578688#32 = ⊥ := by
  simp [Ideal.ofBits, Ideal.ieee]

/-- The digits chosen. -/
def rP (L : FVec Ideal S8x100035x10 .f32) : IVec S8x100035 32 :=
  Host.reduce IntOp.minsi
    (select (cmpf .oeq L (broadcastInDim S8x100035x10 ![0, 1, 2] bcast_S8x100035x1_S8x100035x10_0_1_2
        (broadcastInDim S8x100035x1 ![0, 1] bcast_S8x100035_S8x100035x1_0_1
          (Host.reduce FloatOps.maximumf L (constant S_ .f32 0xFF800000#32) reducesTo_S8x100035x10_S8x100035_d2 h_S_))))
      (iotaInDim S8x100035x10 32 2) (broadcastInDim S8x100035x10 ![] bcast_S_S8x100035x10 (id (constantI S_ 32 10#32))))
    (constantI S_ 32 2147483647#32) reducesTo_S8x100035x10_S8x100035_d2 h_S_

theorem rP_eq : val_main_v629 (F := Ideal) A.q A.row A.col A.src A.dst A.dE A.rE A.cE A.w1 A.b1 A.w2 A.b2 A.w3 A.b3 A.w4 A.b4
    A.wih A.whh A.m1 A.n1 A.m2 A.n2 A.m3 A.n3 A.m4 A.n4 A.ow A.ob = rP (rL A) := by
  rw [← rL_eq]; rfl

theorem rP_apply (L : FVec Ideal S8x100035x10 .f32) (s : Fin 8) (r : Fin 100035) :
    rP L (ix2 s r) = pick fun v => L (ix3 s r v) := by
  unfold rP
  pointwise
  unfold pick top
  rw [ofBits_negInf]
  rfl

end Sudoku.Ref
-- ==== Proof.Own.RefLoss.lean ====
/-
  The reference program's loss for the graph of Sudoku puzzles.
-/
module

public import proofs.«01_k».proof.Proof.Own.RefOut

@[expose] public section

noncomputable section

namespace Sudoku.Ref

open Cert.ReferenceIdeal Cert.ReferenceIdeal.Gen Cert.ReferenceIdeal.Read Idealize.ShloMosaic Sudoku
open scoped BigOperators

variable {A : Args} {d a : Fin 1235 → Fin 81 → Fin 10}

/-! ## The loss -/

abbrev takeRow (R C : ℕ) (wf : GatherDims.WF ⟨2, ![R, C]⟩ ⟨3, ![R, 1, 1]⟩ ⟨2, ![R, 1]⟩ [] [1] [0] [1] [0] 2 ![1, 1]) :
    GatherDims ⟨2, ![R, C]⟩ ⟨3, ![R, 1, 1]⟩ ⟨2, ![R, 1]⟩ where
  offsetDims := []
  collapsedSliceDims := [1]
  operandBatchingDims := [0]
  startIndicesBatchingDims := [0]
  startIndexMap := [1]
  indexVectorDim := 2
  sliceSizes := ![1, 1]
  wf := wf

/-- One entry of each row, at the index of that row. -/
theorem takeRow_apply {α : Type} {R C w : ℕ} (wf : GatherDims.WF ⟨2, ![R, C]⟩ ⟨3, ![R, 1, 1]⟩ ⟨2, ![R, 1]⟩ [] [1] [0] [1] [0] 2 ![1, 1])
    (x : (⟨2, ![R, C]⟩ : Shape).Idx → α) (idx : IVec ⟨3, ![R, 1, 1]⟩ w) (r : Fin R) (k : Fin C)
    (hk : (idx (ix3 r 0 0)).toInt = (k.val : ℤ)) : Host.gather (takeRow R C wf) x idx (ix2 r 0) = x (ix2 r k) := by
  unfold Host.gather
  congr 1
  funext a
  refine Fin.ext ?_
  show (takeRow R C wf).start (ix2 r 0) idx a + (takeRow R C wf).batchCoord (ix2 r 0) a
      + (takeRow R C wf).offCoord (ix2 r 0) a = _
  have h01 : a = 1 ∨ a = 0 := by
    match a with
    | ⟨0, _⟩ => exact Or.inr rfl
    | ⟨1, _⟩ => exact Or.inl rfl
  rcases h01 with rfl | rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ (takeRow R C wf).startIndexMap from List.mem_singleton.mpr rfl)]
    have hsi : (takeRow R C wf).siIdx (ix2 r 0) ⟨List.idxOf (1 : Fin 2) (takeRow R C wf).startIndexMap,
        List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, hk]
    show min (k.val : ℤ).toNat (C - 1) = k.val
    have := k.isLt
    rw [Int.toNat_natCast]; omega
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl

section
variable {M : ℕ} (b0 : (⟨0, ![]⟩ : Shape).BroadcastsInDim ⟨1, ![M]⟩ ![]) (b1 : (⟨2, ![M, 1]⟩ : Shape).BroadcastsInDim ⟨2, ![M, 10]⟩ ![0, 1])
    (b2 : (⟨1, ![M]⟩ : Shape).BroadcastsInDim ⟨2, ![M, 1]⟩ ![0]) (hr : (⟨2, ![M, 10]⟩ : Shape).ReducesTo [1] ⟨1, ![M]⟩)
    (h0 : 0 < (⟨0, ![]⟩ : Shape).numel)

theorem max_apply (L : FVec Ideal ⟨2, ![M, 10]⟩ .f32) (r : Fin M) :
    Host.reduce FloatOps.maximumf L (constant ⟨0, ![]⟩ .f32 0xFF800000#32) hr h0 (ix1 r) = top fun v => L (ix2 r v) := by
  pointwise
  unfold top
  rw [ofBits_negInf]

theorem sum_apply (L : FVec Ideal ⟨2, ![M, 10]⟩ .f32) (r : Fin M) :
    Host.reduceAdd L (constant ⟨0, ![]⟩ .f32 0x00000000#32) hr h0 (ix1 r) = ∑ v, L (ix2 r v) := by
  pointwise

theorem col_apply (C : FVec Ideal ⟨1, ![M]⟩ .f32) (hM : M ≠ 1) (r : Fin M) :
    broadcastInDim ⟨2, ![M, 1]⟩ ![0] b2 C (ix2 r 0) = C (ix1 r) := by
  pointwise
  refine congrArg C (funext fun a => Fin.ext ?_)
  match a with
  | ⟨0, _⟩ => simp [Shape.Idx.norm, hM, ix1, ix2]; rfl

theorem wide_apply (C : FVec Ideal ⟨2, ![M, 1]⟩ .f32) (hM : M ≠ 1) (r : Fin M) (v : Fin 10) :
    broadcastInDim ⟨2, ![M, 10]⟩ ![0, 1] b1 C (ix2 r v) = C (ix2 r 0) := by
  pointwise
  refine congrArg C (funext fun a => Fin.ext ?_)
  match a with
  | ⟨0, _⟩ => simp [Shape.Idx.norm, hM, ix2]; rfl
  | ⟨1, _⟩ => simp [Shape.Idx.norm, ix2]

/-- The scores less their row's largest. -/
def less (L : FVec Ideal ⟨2, ![M, 10]⟩ .f32) : FVec Ideal ⟨2, ![M, 10]⟩ .f32 :=
  subf L (broadcastInDim ⟨2, ![M, 10]⟩ ![0, 1] b1 (broadcastInDim ⟨2, ![M, 1]⟩ ![0] b2
    (maximumf (broadcastInDim ⟨1, ![M]⟩ ![] b0 (constant ⟨0, ![]⟩ .f32 0xFF800000#32))
      (Host.reduce FloatOps.maximumf L (constant ⟨0, ![]⟩ .f32 0xFF800000#32) hr h0))))

/-- The logarithm of the softmax of the rows. -/
def logp (L : FVec Ideal ⟨2, ![M, 10]⟩ .f32) : FVec Ideal ⟨2, ![M, 10]⟩ .f32 :=
  subf (less b0 b1 b2 hr h0 L) (broadcastInDim ⟨2, ![M, 10]⟩ ![0, 1] b1 (Host.log
    (broadcastInDim ⟨2, ![M, 1]⟩ ![0] b2
      (Host.reduceAdd (Host.exp (less b0 b1 b2 hr h0 L)) (constant ⟨0, ![]⟩ .f32 0x00000000#32) hr h0))))

theorem less_apply (L : FVec Ideal ⟨2, ![M, 10]⟩ .f32) (hM : M ≠ 1) (r : Fin M) (v : Fin 10) :
    less b0 b1 b2 hr h0 L (ix2 r v) = L (ix2 r v) - top fun v => L (ix2 r v) := by
  refine congrArg (L (ix2 r v) - ·) ?_
  rw [wide_apply b1 _ hM, col_apply b2 _ hM]
  refine (congrArg (max _) (max_apply hr h0 L r)).trans ?_
  exact (congrArg (max · _) (ofBits_negInf)).trans (max_eq_right bot_le)

theorem logp_apply (L : FVec Ideal ⟨2, ![M, 10]⟩ .f32) (hM : M ≠ 1) (r : Fin M) (v : Fin 10) :
    logp b0 b1 b2 hr h0 L (ix2 r v) = (L (ix2 r v) - top fun v => L (ix2 r v))
      - Ideal.log (∑ u, Ideal.exp (L (ix2 r u) - top fun v => L (ix2 r v))) := by
  refine congrArg₂ (· - ·) (less_apply b0 b1 b2 hr h0 L hM r v) ?_
  rw [wide_apply b1 _ hM]
  refine congrArg Ideal.log ?_
  rw [col_apply b2 _ hM, sum_apply hr h0]
  exact Finset.sum_congr rfl fun u _ => congrArg Ideal.exp (less_apply b0 b1 b2 hr h0 L hM r u)

end

section
variable {M : ℕ} (c0 : (⟨0, ![]⟩ : Shape).BroadcastsInDim ⟨2, ![M, 1]⟩ ![]) (c1 : (⟨0, ![]⟩ : Shape).BroadcastsInDim ⟨3, ![M, 1, 1]⟩ ![])
    (c2 : (⟨1, ![1]⟩ : Shape).BroadcastsInDim ⟨3, ![1, 1, 1]⟩ ![2]) (c3 : (⟨3, ![1, 1, 1]⟩ : Shape).BroadcastsInDim ⟨3, ![M, 1, 1]⟩ ![0, 1, 2])
    (hc : (⟨2, ![M, 1]⟩ : Shape).ShapeCasts ⟨3, ![M, 1, 1]⟩) (hr : (⟨3, ![M, 1, 1]⟩ : Shape).ReducesTo [2] ⟨2, ![M, 1]⟩)
    (h0 : 0 < (⟨0, ![]⟩ : Shape).numel)
    (wf : GatherDims.WF ⟨2, ![M, 10]⟩ ⟨3, ![M, 1, 1]⟩ ⟨2, ![M, 1]⟩ [] [1] [0] [1] [0] 2 ![1, 1])

theorem all_ok (k : Fin 10) : (Finset.univ : Finset (Fin 1)).fold IntOp.andi 1#1 (fun _ => IntOp.andi
      (IntOp.cmpi CmpIPredicate.sge (BitVec.ofNat 32 k.val) 0#32) (IntOp.cmpi CmpIPredicate.sle (BitVec.ofNat 32 k.val) 9#32)) = 1#1 := by
  revert k; decide

/-- The entry of each row that the label names. -/
def take (V : FVec Ideal ⟨2, ![M, 10]⟩ .f32) (l : IVec ⟨2, ![M, 1]⟩ 32) : FVec Ideal ⟨2, ![M, 1]⟩ .f32 :=
  let i : IVec ⟨3, ![M, 1, 1]⟩ 32 := shapeCast _ (select (cmpi .slt l (broadcastInDim ⟨2, ![M, 1]⟩ ![] c0 (constantI ⟨0, ![]⟩ 32 0#32)))
    (addi l (broadcastInDim ⟨2, ![M, 1]⟩ ![] c0 (constantI ⟨0, ![]⟩ 32 10#32))) l) hc
  select (Host.reduce IntOp.andi (andi (cmpi .sge i (broadcastInDim ⟨3, ![M, 1, 1]⟩ ![] c1 (constantI ⟨0, ![]⟩ 32 0#32)))
      (cmpi .sle i (broadcastInDim ⟨3, ![M, 1, 1]⟩ ![0, 1, 2] c3
        (broadcastInDim ⟨3, ![1, 1, 1]⟩ ![2] c2 (constantI ⟨1, ![1]⟩ 32 9#32))))) (constantI ⟨0, ![]⟩ 1 1#1) hr h0)
    (Host.gather (takeRow M 10 wf) V i)
    (broadcastInDim ⟨2, ![M, 1]⟩ ![] c0 (constant ⟨0, ![]⟩ .f32 0x7FC00000#32))

theorem take_apply (V : FVec Ideal ⟨2, ![M, 10]⟩ .f32) (l : IVec ⟨2, ![M, 1]⟩ 32) (r : Fin M) (k : Fin 10)
    (hl : l (ix2 r 0) = BitVec.ofNat 32 k.val) : take c0 c1 c2 c3 hc hr h0 wf V l (ix2 r 0) = V (ix2 r k) := by
  have hw : Scalar.select (IntOp.cmpi CmpIPredicate.slt (l (ix2 r 0)) 0#32) (IntOp.addi (l (ix2 r 0)) 10#32) (l (ix2 r 0))
      = BitVec.ofNat 32 k.val := by
    rw [hl]
    exact Routing.wrap_of_lt _ _ (by rw [toNat_small k.val 10 k.isLt (by norm_num)]; have := k.isLt; norm_num; omega)
  unfold take
  have hi : shapeCast ⟨3, ![M, 1, 1]⟩ (select (cmpi .slt l (broadcastInDim ⟨2, ![M, 1]⟩ ![] c0 (constantI ⟨0, ![]⟩ 32 0#32)))
    (addi l (broadcastInDim ⟨2, ![M, 1]⟩ ![] c0 (constantI ⟨0, ![]⟩ 32 10#32))) l) hc (ix3 r 0 0) = BitVec.ofNat 32 k.val := by
    refine (shapeCast_apply _ hc _ (ix2 r 0) (by simp [Shape.rowMajor_val_two, Shape.rowMajor_val_three, ix2, ix3]; rfl)).trans ?_
    exact hw
  generalize (shapeCast ⟨3, ![M, 1, 1]⟩ (select (cmpi .slt l (broadcastInDim ⟨2, ![M, 1]⟩ ![] c0 (constantI ⟨0, ![]⟩ 32 0#32)))
    (addi l (broadcastInDim ⟨2, ![M, 1]⟩ ![] c0 (constantI ⟨0, ![]⟩ 32 10#32))) l) hc : IVec ⟨3, ![M, 1, 1]⟩ 32) = i at hi ⊢
  dsimp only
  have hg := takeRow_apply wf V i r k (by rw [hi]; exact StableHlo.Predicate.toInt_ofNat_small _ (lt_trans k.isLt (by norm_num)))
  pointwise
  simp only [show ∀ x : Fin 1, i (ix3 r 0 x) = BitVec.ofNat 32 k.val from fun x => by rw [Subsingleton.elim x 0]; exact hi]
  have hand : (Finset.univ : Finset (Fin 1)).fold IntOp.andi 1#1 (fun _ => IntOp.andi
      (IntOp.cmpi CmpIPredicate.sge (BitVec.ofNat 32 k.val) 0#32) (IntOp.cmpi CmpIPredicate.sle (BitVec.ofNat 32 k.val) 9#32)) = 1#1 := by
    exact all_ok k
  rw [hand]
  exact hg
end

/-! ## The labels -/

/-- A table of `A` rows of `B`, as one row. -/
theorem flat2 {α : Type} {A B T : ℕ} (h : (⟨2, ![A, B]⟩ : Shape).ShapeCasts ⟨1, ![T]⟩) (x : (⟨2, ![A, B]⟩ : Shape).Idx → α)
    (s : Fin A) (r : Fin B) (e : Fin T) (he : e.val = B * s.val + r.val) : shapeCast ⟨1, ![T]⟩ x h (ix1 e) = x (ix2 s r) := by
  refine shapeCast_apply _ h _ (ix2 s r) ?_
  rw [Shape.rowMajor_val_two, Shape.rowMajor_val_one]
  show s.val * B + r.val = e.val
  rw [he, Nat.mul_comm]

/-- `A` tables of `B` rows of `C`, as one table. -/
theorem flat3 {α : Type} {A B C T : ℕ} (h : (⟨3, ![A, B, C]⟩ : Shape).ShapeCasts ⟨2, ![T, C]⟩) (x : (⟨3, ![A, B, C]⟩ : Shape).Idx → α)
    (s : Fin A) (r : Fin B) (v : Fin C) (e : Fin T) (he : e.val = B * s.val + r.val) : shapeCast ⟨2, ![T, C]⟩ x h (ix2 e v) = x (ix3 s r v) := by
  refine shapeCast_apply _ h _ (ix3 s r v) ?_
  rw [Shape.rowMajor_val_two, Shape.rowMajor_val_three]
  show (s.val * B + r.val) * C + v.val = e.val * C + v.val
  rw [he, Nat.mul_comm s.val B]

/-- The labels with a leading axis. -/
def lab (a : IVec S100035 32) : IVec S1x100035 32 := broadcastInDim S1x100035 ![1] bcast_S100035_S1x100035_1 a

/-- The labels, once per step. -/
def labs8 (a : IVec S100035 32) : IVec S8x100035 32 :=
  concatenate S8x100035 0 [⟨S1x100035, lab a⟩, ⟨S1x100035, lab a⟩, ⟨S1x100035, lab a⟩, ⟨S1x100035, lab a⟩, ⟨S1x100035, lab a⟩, ⟨S1x100035, lab a⟩, ⟨S1x100035, lab a⟩, ⟨S1x100035, lab a⟩]
      concatenates_S1x100035_S1x100035_S1x100035_S1x100035_S1x100035_S1x100035_S1x100035_S1x100035_S8x100035_d0

theorem lab_apply (a : IVec S100035 32) (r : Fin 100035) : lab a (ix2 0 r) = a (ix1 r) := by
  unfold lab
  pointwise

theorem labs8_apply (a : IVec S100035 32) (s : Fin 8) (r : Fin 100035) : labs8 a (ix2 s r) = a (ix1 r) := by
  refine Eq.trans ?_ (lab_apply a r)
  unfold labs8
  pointwise
  fin_cases s <;> rfl

/-- The labels, one per score row. -/
def labs (a : IVec S100035 32) : IVec S800280x1 32 :=
  broadcastInDim S800280x1 ![0] bcast_S800280_S800280x1_0 (shapeCast S800280 (labs8 a) shapeCasts_S8x100035_S800280)

theorem labs_apply (a : IVec S100035 32) (s : Fin 8) (r : Fin 100035) (e : Fin 800280) (he : e.val = 100035 * s.val + r.val) :
    labs a (ix2 e 0) = a (ix1 r) :=
  (broadcastInDim_apply _ _ _ _ (ix1 e) (fun a => by match a with | ⟨0, _⟩ => rfl)).trans
    ((flat2 shapeCasts_S8x100035_S800280 (labs8 a) s r e he).trans (labs8_apply a s r))

/-- The log probabilities of the labels. -/
def picked (L : FVec Ideal S8x100035x10 .f32) (a : IVec S100035 32) : FVec Ideal S800280x1 .f32 :=
  take bcast_S_S800280x1 bcast_S_S800280x1x1 bcast_S1_S1x1x1_2 bcast_S1x1x1_S800280x1x1_0_1_2 shapeCasts_S800280x1_S800280x1x1
    reducesTo_S800280x1x1_S800280x1_d2 h_S_ gather_S800280x10_S800280x1x1_S800280x1_n_1_0_0_1_2_11_wf
    (logp bcast_S_S800280 bcast_S800280x1_S800280x10_0_1 bcast_S800280_S800280x1_0 reducesTo_S800280x10_S800280_d1 h_S_
      (shapeCast S800280x10 L shapeCasts_S8x100035x10_S800280x10)) (labs a)

/-- The loss. -/
def rLoss (L : FVec Ideal S8x100035x10 .f32) (a : IVec S100035 32) : FVec Ideal S_ .f32 :=
  Host.negf (Host.divf (Host.reduceAdd (picked L a)
    (constant S_ .f32 0x00000000#32) reducesTo_S800280x1_S_d0_1 h_S_) (constant S_ .f32 0x49436180#32))

theorem picked_apply (L : FVec Ideal S8x100035x10 .f32) (a : IVec S100035 32) (s : Fin 8) (r : Fin 100035) (k : Fin 10)
    (hk : a (ix1 r) = BitVec.ofNat 32 k.val) (e : Fin 800280) (he : e.val = 100035 * s.val + r.val) :
    picked L a (ix2 e 0) = (L (ix3 s r k) - top fun v => L (ix3 s r v))
      - Ideal.log (∑ u, Ideal.exp (L (ix3 s r u) - top fun v => L (ix3 s r v))) := by
  have hL : ∀ v, shapeCast S800280x10 L shapeCasts_S8x100035x10_S800280x10 (ix2 e v) = L (ix3 s r v) := fun v =>
    flat3 shapeCasts_S8x100035x10_S800280x10 L s r v e he
  refine (take_apply _ _ _ _ _ _ _ _ _ _ e k ((labs_apply a s r e he).trans hk)).trans ?_
  refine (logp_apply _ _ _ _ _ _ (by norm_num) e k).trans ?_
  simp only [hL]

theorem rLoss_eq : val_main_v646 (F := Ideal) A.q A.row A.col A.a A.src A.dst A.dE A.rE A.cE A.w1 A.b1 A.w2 A.b2 A.w3 A.b3 A.w4 A.b4
    A.wih A.whh A.m1 A.n1 A.m2 A.n2 A.m3 A.n3 A.m4 A.n4 A.ow A.ob = rLoss (rL A) A.a := by
  rw [← rL_eq]; rfl

theorem total_apply {M : ℕ} (hr : (⟨2, ![M, 1]⟩ : Shape).ReducesTo [0, 1] ⟨0, ![]⟩) (h0 : 0 < (⟨0, ![]⟩ : Shape).numel)
    (V : FVec Ideal ⟨2, ![M, 1]⟩ .f32) (i : (⟨0, ![]⟩ : Shape).Idx) :
    Host.reduceAdd V (constant ⟨0, ![]⟩ .f32 0x00000000#32) hr h0 i = ∑ e, V (ix2 e 0) := by
  show (Ideal.ofBits .f32 0x00000000#32) + _ = _
  rw [Ideal.ofBits_zero_f32, zero_add]
  refine (Finset.sum_congr (Finset.filter_true_of_mem fun j _ => ?_) fun _ _ => rfl).trans ?_
  · exact Subsingleton.elim _ _
  · rw [ValueIdx.sum_idx2]
    exact Finset.sum_congr rfl fun e _ => Fin.sum_univ_one _

/-- The mean of the costs. -/
def mean (f : Fin 8 → Fin 100035 → EReal) : EReal := Ideal.div (∑ s, ∑ r, f s r) (Ideal.ofBits .f32 0x49436180#32)

theorem ofBits_count : Ideal.ofBits .f32 0x49436180#32 = ((800280 : ℝ) : EReal) := by
  simp [Ideal.ofBits, Ideal.ieee]
  rw [← EReal.coe_mul]
  norm_num

theorem neg_div_count (x : EReal) : -Ideal.div x (Ideal.ofBits .f32 0x49436180#32) = Ideal.div (-x) (Ideal.ofBits .f32 0x49436180#32) := by
  have h : ∀ y : ℝ, y ≠ 0 → -Ideal.div x y = Ideal.div (-x) y := fun y hy => by
    rw [Ideal.div_coe hy, Ideal.div_coe hy, EReal.neg_mul]
  rw [ofBits_count]
  exact h _ (by norm_num)

/-- The row of step `s`, node `r`. -/
def at8 (s : Fin 8) (r : Fin 100035) : Fin 800280 := ⟨100035 * s.val + r.val, by have := s.isLt; have := r.isLt; omega⟩

theorem total8 (F : Fin 800280 → EReal) : ∑ e, F e = ∑ s, ∑ r, F (at8 s r) := sum_blocks (by norm_num) F

theorem neg_total {A B : ℕ} (P c : Fin A → Fin B → EReal) (h : ∀ s r, IsReal (P s r) ∧ -P s r = c s r) :
    -(∑ s, ∑ r, P s r) = ∑ s, ∑ r, c s r := by
  choose x hx using fun s r => (h s r).1
  have hc : ∀ s r, c s r = ((-x s r : ℝ) : EReal) := fun s r => by rw [← (h s r).2, hx, EReal.coe_neg]
  simp only [hx, hc, ← coe_sum, ← EReal.coe_neg, Finset.sum_neg_distrib]

theorem rLoss_apply (L : FVec Ideal S8x100035x10 .f32) (a : IVec S100035 32) (k : Fin 100035 → Fin 10)
    (hk : ∀ r, a (ix1 r) = BitVec.ofNat 32 (k r).val) (hL : ∀ s r v, IsReal (L (ix3 s r v))) (i : S_.Idx) :
    rLoss L a i = mean fun s r => cost (fun v => L (ix3 s r v)) (k r) := by
  have hp : ∀ (s : Fin 8) (r : Fin 100035) (e : Fin 800280), e.val = 100035 * s.val + r.val →
      IsReal (picked L a (ix2 e 0)) ∧ -picked L a (ix2 e 0) = cost (fun v => L (ix3 s r v)) (k r) := fun s r e he => by
    rw [picked_apply L a s r (k r) (hk r) e he]
    exact neg_logp _ (hL s r) (k r)
  have hsum : Host.reduceAdd (picked L a) (constant S_ .f32 0x00000000#32) reducesTo_S800280x1_S_d0_1 h_S_ i
      = ∑ s, ∑ r, picked L a (ix2 (at8 s r) 0) := (total_apply _ _ _ i).trans (total8 fun e => picked L a (ix2 e 0))
  refine (congrArg (fun z => -Ideal.div z (Ideal.ofBits .f32 0x49436180#32)) hsum).trans ?_
  unfold mean
  exact (neg_div_count _).trans (congrArg (fun z => Ideal.div z (Ideal.ofBits .f32 0x49436180#32))
    (neg_total _ _ fun s r => hp s r (at8 s r) rfl))

end Sudoku.Ref
-- ==== Proof.Own.Tail.lean ====
/-
  The layout steps around the pipeline: packing the puzzles' digits into blocks, and taking the three results out of
  the blocks. Puzzle `8t + 4u + p` sits in block `t`, half `u`, lane group `p`.
-/
module

public import proofs.«01_k».proof.Proof.Own.Pack
public import proofs.«01_k».proof.Proof.Own.RefLoss
public import Idealize.ShloMosaic.Lib.ValueIdxRank6
public import Idealize.ShloMosaic.Lib.KernelVsHost

@[expose] public section

set_option maxRecDepth 16384

noncomputable section

namespace Sudoku

open Idealize.ShloMosaic Idealize.ShloMosaic.TcCoe Cert.KernelIdeal

variable {α : Type}

/-- Lane-packed rows out of the blocks, before the padding is dropped: position `81 P + n` of `M` packed cells. -/
theorem unpack_apply {K N L W : Nat} (A : (⟨4, ![8, 155, 162, W]⟩ : Shape).Idx → α)
    (h1 : (⟨6, ![8, 155, 2, 81, 4, L]⟩ : Shape).numel = (⟨4, ![8, 155, 162, W]⟩ : Shape).numel)
    (h2 : (⟨6, ![8, 155, 2, 81, 4, L]⟩ : Shape).Transposes [0, 1, 2, 4, 3, 5] (⟨6, ![8, 155, 2, 4, 81, L]⟩ : Shape))
    (h3 : (⟨3, ![8, N, L]⟩ : Shape).numel = (⟨6, ![8, 155, 2, 4, 81, L]⟩ : Shape).numel)
    (hW : W = 4 * L) (hN : N = 100440)
    (s : Fin 8) (t : Fin 155) (u : Fin 2) (n : Fin 81) (p : Fin 4) (v : Fin L) (i : Fin N)
    (hi : i.val = 81 * (8 * t.val + 4 * u.val + p.val) + n.val) (r : Fin 162) (hr : r.val = 81 * u.val + n.val)
    (l : Fin W) (hl : l.val = L * p.val + v.val) :
    shapeCast (⟨3, ![8, N, L]⟩ : Shape) (transpose (⟨6, ![8, 155, 2, 4, 81, L]⟩ : Shape) [0, 1, 2, 4, 3, 5]
      (shapeCast (⟨6, ![8, 155, 2, 81, 4, L]⟩ : Shape) A h1) h2) h3 (ix3 s i v) = A (ix4 s t r l) := by
  subst hW hN
  rw [shapeCast_apply _ h3 (ix3 s i v) (ix6 s t u p n v) ?_,
    transpose_apply _ _ h2 (ix6 s t u p n v) (ix6 s t u n p v) ?_,
    shapeCast_apply _ h1 (ix6 s t u n p v) (ix4 s t r l) ?_]
  · rw [Shape.rowMajor_val_four, Shape.rowMajor_val_six]
    show ((s.val * 155 + t.val) * 162 + r.val) * (4 * L) + l.val
      = ((((s.val * 155 + t.val) * 2 + u.val) * 81 + n.val) * 4 + p.val) * L + v.val
    rw [hr, hl]; ring
  · intro b
    match b with
    | ⟨0, _⟩ => rfl
    | ⟨1, _⟩ => rfl
    | ⟨2, _⟩ => rfl
    | ⟨3, _⟩ => rfl
    | ⟨4, _⟩ => rfl
    | ⟨5, _⟩ => rfl
  · rw [Shape.rowMajor_val_three, Shape.rowMajor_val_six]
    show ((((s.val * 155 + t.val) * 2 + u.val) * 4 + p.val) * 81 + n.val) * L + v.val
      = (s.val * 100440 + i.val) * L + v.val
    rw [hi]; ring

/-- The first `b` of `a` cells along the middle axis. -/
theorem front_apply {a b k : Nat} (x : (⟨3, ![8, a, k]⟩ : Shape).Idx → α)
    (h : (⟨3, ![8, a, k]⟩ : Shape).Slices ![0, 0, 0] (⟨3, ![8, b, k]⟩ : Shape)) (s : Fin 8) (i : Fin b) (v : Fin k)
    (j : Fin a) (hj : j.val = i.val) :
    extractStridedSlice (⟨3, ![8, b, k]⟩ : Shape) ![0, 0, 0] x h (ix3 s i v) = x (ix3 s j v) := by
  refine congrArg x (funext fun e => Fin.ext ?_)
  match e with
  | ⟨0, _⟩ => exact Nat.zero_add _
  | ⟨1, _⟩ => exact (Nat.zero_add _).trans hj.symm
  | ⟨2, _⟩ => exact Nat.zero_add _

/-- Dropping a trailing axis of one cell. -/
theorem drop_apply {b : Nat} (x : (⟨3, ![8, b, 1]⟩ : Shape).Idx → α)
    (h : (⟨2, ![8, b]⟩ : Shape).numel = (⟨3, ![8, b, 1]⟩ : Shape).numel) (s : Fin 8) (i : Fin b) :
    shapeCast (⟨2, ![8, b]⟩ : Shape) x h (ix2 s i) = x (ix3 s i (0 : Fin 1)) := by
  refine shapeCast_apply _ h _ _ ?_
  rw [Shape.rowMajor_val_three, Shape.rowMajor_val_two]
  show (s.val * b + i.val) * 1 + 0 = s.val * b + i.val
  omega

/-- A puzzle's digits in the blocks: node `n` of puzzle `8t + 4u + p` at row `81u + n`, lane group `p`. -/
theorem pack_apply (x : (⟨2, ![1240, 81]⟩ : Shape).Idx → α)
    (h1 : (⟨4, ![155, 2, 4, 81]⟩ : Shape).numel = (⟨2, ![1240, 81]⟩ : Shape).numel)
    (h2 : (⟨4, ![155, 2, 4, 81]⟩ : Shape).Transposes [0, 1, 3, 2] (⟨4, ![155, 2, 81, 4]⟩ : Shape))
    (h3 : (⟨3, ![155, 162, 4]⟩ : Shape).numel = (⟨4, ![155, 2, 81, 4]⟩ : Shape).numel)
    (t : Fin 155) (u : Fin 2) (n : Fin 81) (p : Fin 4) (r : Fin 162) (hr : r.val = 81 * u.val + n.val)
    (P : Fin 1240) (hP : P.val = 8 * t.val + 4 * u.val + p.val) :
    shapeCast (⟨3, ![155, 162, 4]⟩ : Shape) (transpose (⟨4, ![155, 2, 81, 4]⟩ : Shape) [0, 1, 3, 2]
      (shapeCast (⟨4, ![155, 2, 4, 81]⟩ : Shape) x h1) h2) h3 (ix3 t r p) = x (ix2 P n) := by
  rw [shapeCast_apply _ h3 (ix3 t r p) (ix4 t u n p) ?_,
    transpose_apply _ _ h2 (ix4 t u n p) (ix4 t u p n) ?_,
    shapeCast_apply _ h1 (ix4 t u p n) (ix2 P n) ?_]
  · rw [Shape.rowMajor_val_two, Shape.rowMajor_val_four]
    show P.val * 81 + n.val = ((t.val * 2 + u.val) * 4 + p.val) * 81 + n.val
    omega
  · intro b
    match b with
    | ⟨0, _⟩ => rfl
    | ⟨1, _⟩ => rfl
    | ⟨2, _⟩ => rfl
    | ⟨3, _⟩ => rfl
  · rw [Shape.rowMajor_val_four, Shape.rowMajor_val_three]
    show ((t.val * 2 + u.val) * 81 + n.val) * 4 + p.val = (t.val * 162 + r.val) * 4 + p.val
    omega

/-- Puzzles cut out of the node list. -/
theorem cut_apply {N : Nat} (x : (⟨1, ![N]⟩ : Shape).Idx → α)
    (h : (⟨2, ![1235, 81]⟩ : Shape).numel = (⟨1, ![N]⟩ : Shape).numel) (P : Fin 1235) (n : Fin 81) (i : Fin N)
    (hi : i.val = 81 * P.val + n.val) :
    shapeCast (⟨2, ![1235, 81]⟩ : Shape) x h (ix2 P n) = x (ix1 i) := by
  refine shapeCast_apply _ h _ _ ?_
  rw [Shape.rowMajor_val_one, Shape.rowMajor_val_two]
  show i.val = P.val * 81 + n.val
  omega

/-- The first `a` rows of the padded table hold the table. -/
theorem pad_in {a b k n : Nat} (x : (⟨2, ![a, n]⟩ : Shape).Idx → α) (z : (⟨0, ![]⟩ : Shape).Idx → α)
    (h : (⟨2, ![a, n]⟩ : Shape).Pads ![0, 0] ![k, 0] ![0, 0] (⟨2, ![b, n]⟩ : Shape)) (hu) (P : Fin b) (i : Fin n)
    (Q : Fin a) (hQ : P.val = Q.val) :
    pad (⟨2, ![b, n]⟩ : Shape) ![0, 0] ![k, 0] ![0, 0] x z h hu (ix2 P i) = x (ix2 Q i) := by
  refine pad_apply_of_inside _ _ _ _ _ _ _ _ _ fun e => ?_
  match e with
  | ⟨0, _⟩ => exact hQ.trans (by show Q.val = 0 + Q.val * (0 + 1); omega)
  | ⟨1, _⟩ => exact (by show i.val = 0 + i.val * (0 + 1); omega)

/-- The appended rows hold the pad value. -/
theorem pad_out {a b k n : Nat} (x : (⟨2, ![a, n]⟩ : Shape).Idx → α) (z : (⟨0, ![]⟩ : Shape).Idx → α)
    (h : (⟨2, ![a, n]⟩ : Shape).Pads ![0, 0] ![k, 0] ![0, 0] (⟨2, ![b, n]⟩ : Shape)) (hu) (P : Fin b) (i : Fin n)
    (hP : a ≤ P.val) :
    pad (⟨2, ![b, n]⟩ : Shape) ![0, 0] ![k, 0] ![0, 0] x z h hu (ix2 P i) = z (Shape.Idx.first hu) := by
  refine pad_apply_of_not_inside _ _ _ _ _ _ _ _ 0 fun e => ?_
  have h2 : (P.val - 0) / (0 + 1) < a := e.2.2
  rw [Nat.sub_zero, Nat.zero_add, Nat.div_one] at h2
  omega

end Sudoku
-- ==== Proof.Own.KRun.lean ====
/-
  The kernel's three results, read off the pipeline's output arrays.
-/
module

public import proofs.«01_k».proof.Proof.Own.Arrays
public import proofs.«01_k».proof.Proof.Own.Tail

@[expose] public section

set_option maxRecDepth 16384

noncomputable section

namespace Sudoku

open Idealize.ShloMosaic Idealize.ShloMosaic.TcCoe Cert.KernelIdeal Cert.KernelIdeal.Gen
open Idealize.SL Idealize.SL.RA

/-- The node list's cells of lane-packed blocks with `L` lanes each. -/
def unL (A : FVec Ideal S8x155x162x40 .f32) : FVec Ideal S8x100035x10 .f32 :=
  extractStridedSlice S8x100035x10 ![0, 0, 0] (shapeCast S8x100440x10 (transpose S8x155x2x4x81x10 [0, 1, 2, 4, 3, 5]
    (shapeCast S8x155x2x81x4x10 A shapeCasts_S8x155x162x40_S8x155x2x81x4x10) transposes_S8x155x2x81x4x10_S8x155x2x4x81x10_0_1_2_4_3_5)
    shapeCasts_S8x155x2x4x81x10_S8x100440x10) slices_S8x100440x10_S8x100035x10_0_0_0

def un1 {α : Type} (A : S8x155x162x4.Idx → α) : S8x100035.Idx → α :=
  shapeCast S8x100035 (extractStridedSlice S8x100035x1 ![0, 0, 0] (shapeCast S8x100440x1 (transpose S8x155x2x4x81x1 [0, 1, 2, 4, 3, 5]
    (shapeCast S8x155x2x81x4x1 A shapeCasts_S8x155x162x4_S8x155x2x81x4x1) transposes_S8x155x2x81x4x1_S8x155x2x4x81x1_0_1_2_4_3_5)
    shapeCasts_S8x155x2x4x81x1_S8x100440x1) slices_S8x100440x1_S8x100035x1_0_0_0) shapeCasts_S8x100035x1_S8x100035

variable (m : (ℓ : Loc nD τ sig) → Buf (Elt Ideal) ℓ) (c : Dev nD)

theorem arrs_inj : Function.Injective (Pipeline.arrRef spec0) := by decide +kernel

abbrev W' (c : Dev nD) := Pipeline.withArrays spec0 c (V0 (F := Ideal) m c) fun w => (dats (F := Ideal) m 0 c).arrAt w cfg0.N

theorem w41 : W' m c (Proc.devRef .tc main_v111_0) = A42 m c := (Pipeline.withArrays_arr spec0 arrs_inj c _ _ 41).trans (arr41 m c)
theorem w42 : W' m c (Proc.devRef .tc main_v111_1) = A43 m c := (Pipeline.withArrays_arr spec0 arrs_inj c _ _ 42).trans (arr42 m c)
theorem w43 : W' m c (Proc.devRef .tc main_v111_2) = A44 m c := (Pipeline.withArrays_arr spec0 arrs_inj c _ _ 43).trans (arr43 m c)

theorem tailL : Pipeline.afterTail₀ cfgs (dats (F := Ideal) m) 0 (V0 m) [hostOps1] c main_v115 = unL (A42 m c) := by
  rw [← w41]
  unfold Pipeline.afterTail₀
  show StableHlo.after [hostOps1].flatten (W' m c) (Proc.devRef .tc main_v115) = _
  generalize W' m c = W
  simp only [hostOps1, List.flatten_cons, List.flatten_nil, List.append_nil]
  after_results_simp
  rfl

theorem tailP : Pipeline.afterTail₀ cfgs (dats (F := Ideal) m) 0 (V0 m) [hostOps1] c main_v120 = un1 (A43 m c) := by
  rw [← w42]
  unfold Pipeline.afterTail₀
  show StableHlo.after [hostOps1].flatten (W' m c) (Proc.devRef .tc main_v120) = _
  generalize W' m c = W
  simp only [hostOps1, List.flatten_cons, List.flatten_nil, List.append_nil]
  after_results_simp
  rfl

def kLoss (A : FVec Ideal S8x155x162x4 .f32) : FVec Ideal S_ .f32 :=
  Host.divf (Host.reduceAdd (un1 A : FVec Ideal S8x100035 .f32) (constant S_ .f32 0x00000000#32) reducesTo_S8x100035_S_d0_1 h_S_)
    (constant S_ .f32 0x49436180#32)

theorem tailLoss : Pipeline.afterTail₀ cfgs (dats (F := Ideal) m) 0 (V0 m) [hostOps1] c main_v127 = kLoss (A44 m c) := by
  rw [← w43]
  unfold Pipeline.afterTail₀
  show StableHlo.after [hostOps1].flatten (W' m c) (Proc.devRef .tc main_v127) = _
  generalize W' m c = W
  simp only [hostOps1, List.flatten_cons, List.flatten_nil, List.append_nil]
  after_results_simp
  rfl

end Sudoku
-- ==== Proof.Own.Digits.lean ====
/-
  The digits the body reads: node `n` of puzzle `8t + 4u + p` at row `81u + n`, lane group `p` of block `t`.
-/
module

public import proofs.«01_k».proof.Proof.Own.Blk
public import proofs.«01_k».proof.Proof.Own.Tail
public import Idealize.ShloMosaic.Lib.Claim

@[expose] public section

set_option maxRecDepth 100000

noncomputable section

namespace Sudoku

open Idealize.ShloMosaic Idealize.ShloMosaic.TcCoe Cert.KernelIdeal Cert.KernelIdeal.Gen

/-- The host's packing of a node list. -/
def packed (x : IVec S100035 32) : IVec S155x162x4 32 :=
  shapeCast S155x162x4 (transpose S155x2x81x4 [0, 1, 3, 2] (shapeCast S155x2x4x81 (pad S1240x81 ![0, 0] ![5, 0] ![0, 0]
    (shapeCast S1235x81 x shapeCasts_S100035_S1235x81) (constantI S_ 32 0#32) pads_S1235x81_S1240x81_050_000 h_S_)
    shapeCasts_S1240x81_S155x2x4x81) transposes_S155x2x4x81_S155x2x81x4_0_1_3_2) shapeCasts_S155x2x81x4_S155x162x4

theorem packed_apply (x : IVec S100035 32) (d : Fin 1235 → Fin 81 → Fin 10)
    (hd : ∀ P n, x (ix1 (Ref.nd P n)) = BitVec.ofNat 32 (d P n).val) (t : Fin 155) (u : Fin 2) (p : Fin 4) (n : Fin 81) :
    packed x (ix3 t (rw2 u n) p)
      = BitVec.ofNat 32 (if h : 8 * t.val + 4 * u.val + p.val < 1235 then d ⟨_, h⟩ n else 0 : Fin 10).val := by
  refine (pack_apply _ _ _ _ t u n p (rw2 u n) rfl ⟨8 * t.val + 4 * u.val + p.val, by omega⟩ rfl).trans ?_
  split
  · rename_i h
    refine Eq.trans (pad_in _ _ _ _ _ n (⟨_, h⟩ : Fin 1235) ?_) ?_
    · rfl
    exact (cut_apply x _ ⟨_, h⟩ n (Ref.nd ⟨_, h⟩ n) rfl).trans (hd _ n)
  · rename_i h
    exact pad_out _ _ _ _ _ n (Nat.le_of_not_lt h)

variable (m : (ℓ : Loc nD τ sig) → Buf (Elt Ideal) ℓ) (c : Dev nD)

set_option maxHeartbeats 0 in
theorem V10 : V m c main_v10 = packed (m ((c : Thread nD τ).loc main_arg0)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51,
    List.flatten_cons, List.flatten_nil, List.cons_append, List.nil_append, List.append_nil]
  after_results_simp
  rfl

set_option maxHeartbeats 0 in
theorem V15 : V m c main_v15 = packed (m ((c : Thread nD τ).loc main_arg3)) := by
  dsimp only [V, V0]
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51,
    List.flatten_cons, List.flatten_nil, List.cons_append, List.nil_append, List.append_nil]
  after_results_simp
  rfl

theorem idx0 : ∀ t : Fin cfg0.N, win0_0.index t = ![t.val, 0, 0] :=
  (by decide +kernel : ∀ t : Fin grid0.N, win0_0.index t = ![t.val, 0, 0])
theorem idx1 : ∀ t : Fin cfg0.N, win0_1.index t = ![t.val, 0, 0] :=
  (by decide +kernel : ∀ t : Fin grid0.N, win0_1.index t = ![t.val, 0, 0])

theorem emb0 (t : Fin cfg0.N) (r : Fin 162) (p : Fin 4) :
    (win0_0.rect t).emb (ix3 (0 : Fin 1) r p) = (ix3 t r p : S155x162x4.Idx) := by
  funext a
  refine Fin.ext ?_
  rw [Pipeline.Window.rect_emb_val win0_0 t _ a, idx0]
  match a with
  | ⟨0, _⟩ => exact (show t.val * 1 + 0 = t.val by omega)
  | ⟨1, _⟩ => exact (congrArg (· + r.val) (Nat.zero_mul _)).trans (Nat.zero_add _)
  | ⟨2, _⟩ => exact (congrArg (· + p.val) (Nat.zero_mul _)).trans (Nat.zero_add _)
theorem emb1 (t : Fin cfg0.N) (r : Fin 162) (p : Fin 4) :
    (win0_1.rect t).emb (ix3 (0 : Fin 1) r p) = (ix3 t r p : S155x162x4.Idx) := by
  funext a
  refine Fin.ext ?_
  rw [Pipeline.Window.rect_emb_val win0_1 t _ a, idx1]
  match a with
  | ⟨0, _⟩ => exact (show t.val * 1 + 0 = t.val by omega)
  | ⟨1, _⟩ => exact (congrArg (· + r.val) (Nat.zero_mul _)).trans (Nat.zero_add _)
  | ⟨2, _⟩ => exact (congrArg (· + p.val) (Nat.zero_mul _)).trans (Nat.zero_add _)

theorem blk_q (t : Fin cfg0.N) (r : Fin 162) (p : Fin 4) :
    (blk m c t).q (ix3 (0 : Fin 1) r p) = packed (m ((c : Thread nD τ).loc main_arg0)) (ix3 t r p) := by
  rw [← V10]
  show V m c main_v10 ((win0_0.rect t).emb (ix3 (0 : Fin 1) r p)) = _
  rw [emb0]
theorem blk_a (t : Fin cfg0.N) (r : Fin 162) (p : Fin 4) :
    (blk m c t).a (ix3 (0 : Fin 1) r p) = packed (m ((c : Thread nD τ).loc main_arg3)) (ix3 t r p) := by
  rw [← V15]
  show V m c main_v15 ((win0_1.rect t).emb (ix3 (0 : Fin 1) r p)) = _
  rw [emb1]

end Sudoku
-- ==== Proof.Own.Value.lean ====
/-
  The kernel's three results are the reference's.
-/
module

public import proofs.«01_k».proof.Proof.Own.KRun
public import proofs.«01_k».proof.Proof.Own.Digits
public import proofs.«01_k».proof.Proof.Own.RefLoss

@[expose] public section

set_option maxRecDepth 16384

noncomputable section

namespace Sudoku

open Idealize.ShloMosaic Idealize.ShloMosaic.TcCoe Cert.KernelIdeal Cert.KernelIdeal.Gen
open scoped BigOperators

/-! ## Cells -/

/-- Every node is a cell of a puzzle, and every puzzle has a lane group of a block. -/
theorem cell (P : Fin 1235) : ∃ (t : Fin 155) (u : Fin 2) (p : Fin 4), P.val = 8 * t.val + 4 * u.val + p.val :=
  ⟨⟨P.val / 8, by omega⟩, ⟨P.val % 8 / 4, by omega⟩, ⟨P.val % 4, by omega⟩, by
    show P.val = 8 * (P.val / 8) + 4 * (P.val % 8 / 4) + P.val % 4
    omega⟩

theorem node (r : Fin 100035) : ∃ P n, r = Ref.nd P n :=
  ⟨⟨r.val / 81, by omega⟩, ⟨r.val % 81, by omega⟩, Fin.ext (by
    show r.val = 81 * (r.val / 81) + r.val % 81
    omega)⟩

theorem ext3 {α : Type} {f g : S8x100035x10.Idx → α} (h : ∀ s P n v, f (ix3 s (Ref.nd P n) v) = g (ix3 s (Ref.nd P n) v)) : f = g := by
  funext i
  have e : i = ix3 (i 0) (i 1) (i 2) := by
    funext a
    match a with
    | ⟨0, _⟩ => rfl
    | ⟨1, _⟩ => rfl
    | ⟨2, _⟩ => rfl
  obtain ⟨P, n, hr⟩ := node (i 1)
  rw [hr] at e
  rw [e]
  exact h _ _ _ _

theorem ext2 {α : Type} {f g : S8x100035.Idx → α} (h : ∀ s P n, f (ix2 s (Ref.nd P n)) = g (ix2 s (Ref.nd P n))) : f = g := by
  funext i
  have e : i = ix2 (i 0) (i 1) := by
    funext a
    match a with
    | ⟨0, _⟩ => rfl
    | ⟨1, _⟩ => rfl
  obtain ⟨P, n, hr⟩ := node (i 1)
  rw [hr] at e
  rw [e]
  exact h _ _ _

section
variable (s : Fin 8) (t : Fin 155) (u : Fin 2) (p : Fin 4) (P : Fin 1235) (hP : P.val = 8 * t.val + 4 * u.val + p.val) (n : Fin 81)
include hP

theorem unL_apply (A : FVec Ideal S8x155x162x40 .f32) (v : Fin 10) :
    unL A (ix3 s (Ref.nd P n) v) = A (ix4 s t (rw2 u n) (ln h40 p v)) := by
  have hi : (Ref.nd P n).val < 100440 := lt_trans (Ref.nd P n).isLt (by norm_num)
  unfold unL
  refine (front_apply _ _ s (Ref.nd P n) v ⟨(Ref.nd P n).val, hi⟩ rfl).trans ?_
  exact unpack_apply (K := 0) A _ _ _ rfl rfl s t u n p v _ (by
    show 81 * P.val + n.val = _
    rw [hP]) (rw2 u n) rfl (ln h40 p v) rfl

theorem un1_apply {α : Type} (A : S8x155x162x4.Idx → α) :
    un1 A (ix2 s (Ref.nd P n)) = A (ix4 s t (rw2 u n) p) := by
  have hi : (Ref.nd P n).val < 100440 := lt_trans (Ref.nd P n).isLt (by norm_num)
  unfold un1
  refine (drop_apply _ _ s (Ref.nd P n)).trans ?_
  refine (front_apply _ _ s (Ref.nd P n) (0 : Fin 1) ⟨(Ref.nd P n).val, hi⟩ rfl).trans ?_
  exact unpack_apply (K := 0) A _ _ _ rfl rfl s t u n p (0 : Fin 1) _ (by
    show 81 * P.val + n.val = _
    rw [hP]) (rw2 u n) rfl p (by
    show p.val = 1 * p.val + 0
    omega)

end

theorem pay15_apply (V : FVec Ideal S162x40 .f32) (b : FVec Ideal S1x40 .f32) (r : Fin 162) (l : Fin 40) :
    k0_pay15 V b (ix4 (0 : Fin 1) (0 : Fin 1) r l) = k0_pay14 V b (ix2 r l) := by
  unfold k0_pay15
  refine shapeCast_apply _ _ _ (ix2 r l) ?_
  rw [Shape.rowMajor_val_two, Shape.rowMajor_val_four]
  show r.val * 40 + l.val = ((0 * 1 + 0) * 162 + r.val) * 40 + l.val
  omega

theorem sum2_apply {A B : ℕ} (hr : (⟨2, ![A, B]⟩ : Shape).ReducesTo [0, 1] ⟨0, ![]⟩) (h0 : 0 < (⟨0, ![]⟩ : Shape).numel)
    (V : FVec Ideal ⟨2, ![A, B]⟩ .f32) (i : (⟨0, ![]⟩ : Shape).Idx) :
    Host.reduceAdd V (constant ⟨0, ![]⟩ .f32 0x00000000#32) hr h0 i = ∑ s, ∑ r, V (ix2 s r) := by
  show (Ideal.ofBits .f32 0x00000000#32) + _ = _
  rw [Ideal.ofBits_zero_f32, zero_add]
  refine (Finset.sum_congr (Finset.filter_true_of_mem fun j _ => ?_) fun _ _ => rfl).trans ?_
  · exact Subsingleton.elim _ _
  · exact ValueIdx.sum_idx2 _

theorem kLoss_apply (A : FVec Ideal S8x155x162x4 .f32) (i : S_.Idx) : kLoss A i = Ref.mean fun s r => un1 A (ix2 s r) :=
  congrArg (fun z => Ideal.div z (Ideal.ofBits .f32 0x49436180#32)) (sum2_apply _ _ (un1 A) i)

/-! ## The results -/

variable (m : (ℓ : Loc nD τ sig) → Buf (Elt Ideal) ℓ) (c : Dev nD)

/-- The arguments. -/
def args : Ref.Args :=
  ⟨m ((c : Thread nD τ).loc main_arg0), m ((c : Thread nD τ).loc main_arg1), m ((c : Thread nD τ).loc main_arg2),
    m ((c : Thread nD τ).loc main_arg3), m ((c : Thread nD τ).loc main_arg4), m ((c : Thread nD τ).loc main_arg5),
    m ((c : Thread nD τ).loc main_arg6), m ((c : Thread nD τ).loc main_arg7), m ((c : Thread nD τ).loc main_arg8),
    m ((c : Thread nD τ).loc main_arg9), m ((c : Thread nD τ).loc main_arg10), m ((c : Thread nD τ).loc main_arg11),
    m ((c : Thread nD τ).loc main_arg12), m ((c : Thread nD τ).loc main_arg13), m ((c : Thread nD τ).loc main_arg14),
    m ((c : Thread nD τ).loc main_arg15), m ((c : Thread nD τ).loc main_arg16), m ((c : Thread nD τ).loc main_arg17),
    m ((c : Thread nD τ).loc main_arg18), m ((c : Thread nD τ).loc main_arg19), m ((c : Thread nD τ).loc main_arg20),
    m ((c : Thread nD τ).loc main_arg21), m ((c : Thread nD τ).loc main_arg22), m ((c : Thread nD τ).loc main_arg23),
    m ((c : Thread nD τ).loc main_arg24), m ((c : Thread nD τ).loc main_arg25), m ((c : Thread nD τ).loc main_arg26),
    m ((c : Thread nD τ).loc main_arg27), m ((c : Thread nD τ).loc main_arg28)⟩

theorem args_w : (args m c).w = wts m c := rfl

/-- The digits of the puzzle in lane group `p` of half `u` of block `t`. -/
def dig (d : Fin 1235 → Fin 81 → Fin 10) (t : Fin 155) (u : Fin 2) (p : Fin 4) (n : Fin 81) : Fin 10 :=
  if h : 8 * t.val + 4 * u.val + p.val < 1235 then d ⟨_, h⟩ n else 0

theorem dig_eq (d : Fin 1235 → Fin 81 → Fin 10) (t : Fin 155) (u : Fin 2) (p : Fin 4) (P : Fin 1235)
    (hP : P.val = 8 * t.val + 4 * u.val + p.val) : dig d t u p = d P := by
  funext n
  have h : 8 * t.val + 4 * u.val + p.val < 1235 := hP ▸ P.isLt
  have e : (⟨_, h⟩ : Fin 1235) = P := Fin.ext hP.symm
  unfold dig
  rw [dif_pos h, e]

variable {m c} {d a : Fin 1235 → Fin 81 → Fin 10}

section
variable (w : Wt) (B : Fin 155 → Blocks) (G : ∀ t, Good (B t) w)
  (hq : ∀ t u p n, (B t).q (ix3 (0 : Fin 1) (rw2 u n) p) = BitVec.ofNat 32 (dig d t u p n).val)
include G hq

theorem logit (s : Fin 8) (t : Fin 155) (u : Fin 2) (p : Fin 4) (n : Fin 81) (v : Fin 10) :
    k0_pay15 (kL (B t) (kState (B t) s.val)) (B t).ob (ix4 (0 : Fin 1) (0 : Fin 1) (rw2 u n) (ln h40 p v)) = out w (dig d t u p) s.val n v :=
  (pay15_apply _ _ _ _).trans (kL_row (G t) (dig d t) (hq t) s.val u n p v)

theorem pred (s : Fin 8) (t : Fin 155) (u : Fin 2) (p : Fin 4) (n : Fin 81) :
    G43 (B t) (ix4 s (0 : Fin 1) (rw2 u n) p) = pick (out w (dig d t u p) s.val n) :=
  preds _ _ (rw2 u n) _ (kL_row (G t) (dig d t) (hq t) s.val u n) p

theorem costOf (ha : ∀ t u p n, (B t).a (ix3 (0 : Fin 1) (rw2 u n) p) = BitVec.ofNat 32 (dig a t u p n).val)
    (s : Fin 8) (t : Fin 155) (u : Fin 2) (p : Fin 4) (n : Fin 81) :
    G44 (B t) (ix4 s (0 : Fin 1) (rw2 u n) p) = cost (out w (dig d t u p) s.val n) (dig a t u p n) :=
  costs _ _ _ (rw2 u n) _ (kL_row (G t) (dig d t) (hq t) s.val u n) (fun p => dig a t u p n)
    (onehot (B t).a (rw2 u n) (fun p => dig a t u p n) fun p => ha t u p n) p

end

variable (G : ∀ t, Good (blk m c t) (wts m c)) (hA : (args m c).Good d a)
include G hA

omit G in
theorem blk_dig (t : Fin 155) (u : Fin 2) (p : Fin 4) (n : Fin 81) :
    (blk m c t).q (ix3 (0 : Fin 1) (rw2 u n) p) = BitVec.ofNat 32 (dig d t u p n).val :=
  (blk_q m c t (rw2 u n) p).trans (packed_apply _ d hA.q t u p n)

omit G in
theorem blk_lab (t : Fin 155) (u : Fin 2) (p : Fin 4) (n : Fin 81) :
    (blk m c t).a (ix3 (0 : Fin 1) (rw2 u n) p) = BitVec.ofNat 32 (dig a t u p n).val :=
  (blk_a m c t (rw2 u n) p).trans (packed_apply _ a hA.a t u p n)

theorem logits_eq : unL (A42 m c) = Ref.rL (args m c) := ext3 fun s P n v => by
  obtain ⟨t, u, p, hP⟩ := cell P
  refine (unL_apply s t u p P hP n _ v).trans ?_
  refine (logit (wts m c) (fun t => blk m c t) G (blk_dig hA) s t u p n v).trans ?_
  rw [dig_eq d t u p P hP]
  exact (Ref.rL_apply hA s P n v).symm

theorem preds_eq : un1 (A43 m c) = Ref.rP (Ref.rL (args m c)) := ext2 fun s P n => by
  obtain ⟨t, u, p, hP⟩ := cell P
  refine (un1_apply s t u p P hP n _).trans ?_
  refine (pred (wts m c) (fun t => blk m c t) G (blk_dig hA) s t u p n).trans ?_
  rw [dig_eq d t u p P hP, Ref.rP_apply]
  exact congrArg pick (funext fun v => (Ref.rL_apply hA s P n v).symm)

theorem costs_eq (s : Fin 8) (P : Fin 1235) (n : Fin 81) :
    un1 (A44 m c) (ix2 s (Ref.nd P n)) = cost (fun v => Ref.rL (args m c) (ix3 s (Ref.nd P n) v)) (a P n) := by
  obtain ⟨t, u, p, hP⟩ := cell P
  refine (un1_apply s t u p P hP n _).trans ?_
  refine (costOf (wts m c) (fun t => blk m c t) G (blk_dig hA) (blk_lab hA) s t u p n).trans ?_
  rw [dig_eq d t u p P hP, dig_eq a t u p P hP]
  exact congrArg (cost · (a P n)) (funext fun v => (Ref.rL_apply hA s P n v).symm)

theorem loss_eq (hw : ∀ i j, IsReal ((args m c).w.ow i j)) (hb : ∀ j, IsReal ((args m c).w.ob j)) :
    kLoss (A44 m c) = Ref.rLoss (Ref.rL (args m c)) (args m c).a := by
  have hk : ∀ r, ∃ k : Fin 10, (args m c).a (ix1 r) = BitVec.ofNat 32 k.val ∧ ∀ s,
      un1 (A44 m c) (ix2 s r) = cost (fun v => Ref.rL (args m c) (ix3 s r v)) k := fun r => by
    obtain ⟨P, n, rfl⟩ := node r
    exact ⟨a P n, hA.a P n, fun s => costs_eq G hA s P n⟩
  have hL : ∀ s r v, IsReal (Ref.rL (args m c) (ix3 s r v)) := fun s r v => by
    obtain ⟨P, n, rfl⟩ := node r
    rw [Ref.rL_apply hA s P n v]
    exact isReal_out _ hw hb _ _ _ _
  choose k hk hc using hk
  funext i
  refine (kLoss_apply _ i).trans ?_
  refine Eq.trans ?_ (Ref.rLoss_apply _ _ k hk hL i).symm
  exact congrArg Ref.mean (funext fun s => funext fun r => hc r s)

end Sudoku
-- ==== Proof.Own.BlkEq.lean ====
/-
  All buffers of the body but the first two hold a whole array.
-/
module

public import proofs.«01_k».proof.Proof.Own.Blk
public import proofs.«01_k».proof.Proof.Gen.KernelIdeal.Frame.Runs
public import Idealize.ShloMosaic.Lib.Claim

@[expose] public section

set_option maxRecDepth 100000

noncomputable section

namespace Sudoku

open Idealize.ShloMosaic Idealize.ShloMosaic.TcCoe Cert.KernelIdeal Cert.KernelIdeal.Gen
open scoped BigOperators

variable (m : (ℓ : Loc nD τ sig) → Buf (Elt Ideal) ℓ) (c : Dev nD)

set_option maxHeartbeats 0 in
/-- Every buffer but the first two holds a whole array. -/
theorem blk_eq (t : Fin cfg0.N) : blk m c t =
  ⟨iblk m c 0 t, iblk m c 1 t, V m c main_v21, V m c main_cst, V m c main_cst_0, V m c main_arg7, V m c main_arg8,
    V m c main_v62, V m c main_v63, V m c main_v64, V m c main_v65, V m c main_v67, V m c main_v68, V m c main_v72,
    V m c main_v73, V m c main_v77, V m c main_v78, V m c main_v82, V m c main_v25, V m c main_v28, V m c main_v31,
    V m c main_v35, V m c main_v38, V m c main_v41, V m c main_v45, V m c main_v48, V m c main_v51, V m c main_v55,
    V m c main_v58, V m c main_v61, V m c main_v84, V m c main_v86, V m c main_v90, V m c main_v91, V m c main_v95,
    V m c main_v96, V m c main_v100, V m c main_v101, V m c main_v105, V m c main_v106, V m c main_v110⟩ := by
  unfold blk iblk
  generalize V (F := Ideal) m c = f
  rw [Blocks.mk.injEq]
  refine ⟨rfl, rfl, ?_⟩
  repeat' apply And.intro
  all_goals
    funext y
    refine congrArg (f _) (funext fun a => Fin.ext ?_)
    exact Pipeline.Window.rect_emb_val_of_index_zero _ t a (by revert a; exact Fin.forall_fin_two.mpr ⟨rfl, rfl⟩) y

end Sudoku
-- ==== Proof.Own.Packed.lean ====
/-
  The body's buffers hold the weights, packed by the host.
-/
module

public import proofs.«01_k».proof.Proof.Own.BlkEq
public import proofs.«01_k».proof.Proof.Gen.KernelIdeal.Frame.Runs
public import Idealize.ShloMosaic.Lib.Claim

@[expose] public section

set_option maxRecDepth 100000

noncomputable section

namespace Sudoku

open Idealize.ShloMosaic Idealize.ShloMosaic.TcCoe Cert.KernelIdeal Cert.KernelIdeal.Gen
open scoped BigOperators

/-- A gate's packed weights. -/
theorem gate_bd (X : FVec Ideal S128x64 .f32) (g : Fin 4) (o : ℕ) (ho : o + 32 ≤ 64) (h1 : S128x64.Slices ![32 * g.val, 0] S32x64)
    (h2 : S32x64.Slices ![0, o] S32x32) :
    BD h128 h128 (kron (transpose S32x32 [1, 0] (extractStridedSlice S32x32 ![0, o] (extractStridedSlice S32x64 ![32 * g.val, 0] X h1) h2)
      transposes_S32x32_S32x32_1_0) bcast_S4x4_S4x1x4x1_0_2 bcast_S32x32_S1x32x1x32_1_3 bcast_S4x1x4x1_S4x32x4x32_0_1_2_3
      bcast_S1x32x1x32_S4x32x4x32_0_1_2_3 shapeCasts_S4x32x4x32_S128x128)
      fun i j => X (ix2 (⟨32 * g.val + j.val, by omega⟩ : Fin 128) (⟨o + i.val, by omega⟩ : Fin 64)) :=
  kron32 _ fun i j => gate_part X g o ho h1 h2 i j

theorem hid_bd (X : FVec Ideal S128x32 .f32) (g : Fin 4) (h1 : S128x32.Slices ![32 * g.val, 0] S32x32) :
    BD h128 h128 (kron (transpose S32x32 [1, 0] (extractStridedSlice S32x32 ![32 * g.val, 0] X h1)
      transposes_S32x32_S32x32_1_0) bcast_S4x4_S4x1x4x1_0_2 bcast_S32x32_S1x32x1x32_1_3 bcast_S4x1x4x1_S4x32x4x32_0_1_2_3
      bcast_S1x32x1x32_S4x32x4x32_0_1_2_3 shapeCasts_S4x32x4x32_S128x128)
      fun i j => X (ix2 (⟨32 * g.val + j.val, by omega⟩ : Fin 128) i) :=
  kron32 _ fun i j => hid_part X g h1 i j

theorem half_bd (X : FVec Ideal S64x32 .f32) (o : ℕ) (ho : o + 32 ≤ 64) (h1 : S64x32.Slices ![o, 0] S32x32) :
    BD h128 h128 (kron (extractStridedSlice S32x32 ![o, 0] X h1) bcast_S4x4_S4x1x4x1_0_2 bcast_S32x32_S1x32x1x32_1_3
      bcast_S4x1x4x1_S4x32x4x32_0_1_2_3 bcast_S1x32x1x32_S4x32x4x32_0_1_2_3 shapeCasts_S4x32x4x32_S128x128)
      fun i j => X (ix2 (⟨o + i.val, by omega⟩ : Fin 64) j) :=
  kron32 _ fun i j => part_apply X o 0 h1 i j _ _ rfl (by simp)

variable (m : (ℓ : Loc nD τ sig) → Buf (Elt Ideal) ℓ) (c : Dev nD)

set_option maxHeartbeats 0 in
/-- They hold the weights, packed. -/
theorem blk_good (t : Fin cfg0.N) : Good (blk m c t) (wts m c) := by
  rw [blk_eq]
  constructor
  all_goals dsimp only [V, V0]
  all_goals simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, hostOps0_21, hostOps0_22, hostOps0_23, hostOps0_24, hostOps0_25, hostOps0_26, hostOps0_27, hostOps0_28, hostOps0_29, hostOps0_30, hostOps0_31, hostOps0_32, hostOps0_33, hostOps0_34, hostOps0_35, hostOps0_36, hostOps0_37, hostOps0_38, hostOps0_39, hostOps0_40, hostOps0_41, hostOps0_42, hostOps0_43, hostOps0_44, hostOps0_45, hostOps0_46, hostOps0_47, hostOps0_48, hostOps0_49, hostOps0_50, hostOps0_51,
    List.flatten_cons, List.flatten_nil, List.cons_append, List.nil_append, List.append_nil]
  all_goals after_results_simp
  case g => exact G_apply
  case roh => exact roh_apply
  case coh => exact coh_apply
  case re => exact fun _ _ => rfl
  case ce => exact fun _ _ => rfl
  case w1r => exact fun n i => part_apply _ 16 0 _ n i _ _ rfl (by simp)
  case w1c => exact fun n i => part_apply _ 32 0 _ n i _ _ rfl (by simp)
  case b1 => exact lane_bias_apply _ _
  case de => exact kron10x16 _ fun _ _ => rfl
  case w1d =>
    refine kron16x32 (extractStridedSlice S16x32 ![0, 0] (m ((c : Thread nD τ).loc main_arg9) : FVec Ideal S48x32 .f32) slices_S48x32_S16x32_0_0) ?_
    exact fun i j => part_apply _ 0 0 slices_S48x32_S16x32_0_0 i j _ _ rfl (by simp)
  case w2 => exact kron32 _ fun _ _ => rfl
  case b2 => exact tile32 _ fun _ => rfl
  case w3 => exact kron32 _ fun _ _ => rfl
  case b3 => exact tile32 _ fun _ => rfl
  case w4 => exact kron32 _ fun _ _ => rfl
  case b4 => exact tile32 _ fun _ => rfl
  case ix => exact gate_bd (m ((c : Thread nD τ).loc main_arg17)) 0 0 (by decide) slices_S128x64_S32x64_0_0 slices_S32x64_S32x32_0_0
  case im => exact gate_bd (m ((c : Thread nD τ).loc main_arg17)) 0 32 (by decide) slices_S128x64_S32x64_0_0 slices_S32x64_S32x32_0_32
  case ih => exact hid_bd (m ((c : Thread nD τ).loc main_arg18)) 0 slices_S128x32_S32x32_0_0
  case fx => exact gate_bd (m ((c : Thread nD τ).loc main_arg17)) 1 0 (by decide) slices_S128x64_S32x64_32_0 slices_S32x64_S32x32_0_0
  case fm => exact gate_bd (m ((c : Thread nD τ).loc main_arg17)) 1 32 (by decide) slices_S128x64_S32x64_32_0 slices_S32x64_S32x32_0_32
  case fh => exact hid_bd (m ((c : Thread nD τ).loc main_arg18)) 1 slices_S128x32_S32x32_32_0
  case gx => exact gate_bd (m ((c : Thread nD τ).loc main_arg17)) 2 0 (by decide) slices_S128x64_S32x64_64_0 slices_S32x64_S32x32_0_0
  case gm => exact gate_bd (m ((c : Thread nD τ).loc main_arg17)) 2 32 (by decide) slices_S128x64_S32x64_64_0 slices_S32x64_S32x32_0_32
  case gh => exact hid_bd (m ((c : Thread nD τ).loc main_arg18)) 2 slices_S128x32_S32x32_64_0
  case ox => exact gate_bd (m ((c : Thread nD τ).loc main_arg17)) 3 0 (by decide) slices_S128x64_S32x64_96_0 slices_S32x64_S32x32_0_0
  case om => exact gate_bd (m ((c : Thread nD τ).loc main_arg17)) 3 32 (by decide) slices_S128x64_S32x64_96_0 slices_S32x64_S32x32_0_32
  case oh => exact hid_bd (m ((c : Thread nD τ).loc main_arg18)) 3 slices_S128x32_S32x32_96_0
  case ms => exact half_bd (m ((c : Thread nD τ).loc main_arg19)) 0 (by decide) slices_S64x32_S32x32_0_0
  case md => exact half_bd (m ((c : Thread nD τ).loc main_arg19)) 32 (by decide) slices_S64x32_S32x32_32_0
  case n1 => exact tile32 _ fun _ => rfl
  case m2 => exact kron32 _ fun _ _ => rfl
  case n2 => exact tile32 _ fun _ => rfl
  case m3 => exact kron32 _ fun _ _ => rfl
  case n3 => exact tile32 _ fun _ => rfl
  case m4 => exact kron32 _ fun _ _ => rfl
  case n4 => exact tile32 _ fun _ => rfl
  case ow => exact kron32x10 _ fun _ _ => rfl
  case ob => exact tile10 _ fun _ => rfl

end Sudoku
-- ==== Proof.Own.Pre.lean ====
/-
  What the precondition says of the argument arrays.
-/
module

public import proofs.«01_k».proof.Pre_sudoku
public import proofs.«01_k».proof.Proof.Own.RefLoss
public import Idealize.ShloMosaic.Lib.ReduceAll
public import Idealize.ShloMosaic.Lib.Affine

@[expose] public section

set_option maxRecDepth 16384

noncomputable section

namespace Cert.Pre_sudoku.Gen

/-- The precondition's shape relations. -/
theorem facts : Cert.Pre_sudoku.Facts where
  bcast_S_S100035 := by decide
  bcast_S_S1235x1620 := by decide
  bcast_S1620_S1x1620_1 := by decide
  bcast_S1x1620_S1235x1620_0_1 := by decide
  shapeCasts_S1235x1620_S2000700 := by decide
  bcast_S_S32x10 := by decide
  reducesTo_S32x10_S_d0_1 := by decide
  h_S_ := by decide
  bcast_S_S10 := by decide
  reducesTo_S10_S_d0 := by decide
  reducesTo_S100035_S_d0 := by decide
  reducesTo_S2000700_S_d0 := by decide

end Cert.Pre_sudoku.Gen

namespace Sudoku.Pre

open Idealize.ShloMosaic Cert.Pre_sudoku

theorem and_one {x y : BitVec 1} (h : IntOp.andi x y = 1#1) : x = 1#1 ∧ y = 1#1 := by
  revert x y; decide

/-- A word from 0 to 9. -/
theorem digit_of (x : BitVec 32) (h0 : IntOp.cmpi .sge x 0#32 = 1#1) (h1 : IntOp.cmpi .slt x 10#32 = 1#1) :
    ∃ d : Fin 10, x = BitVec.ofNat 32 d.val := by
  have a0 : (0#32).sle x = true := by
    have : BitVec.ofBool ((0#32).sle x) = 1#1 := h0
    revert this; cases (0#32).sle x <;> decide
  have a1 : x.slt 10#32 = true := by
    have : BitVec.ofBool (x.slt 10#32) = 1#1 := h1
    revert this; cases x.slt 10#32 <;> decide
  rw [BitVec.sle_eq_decide, decide_eq_true_eq] at a0
  rw [BitVec.slt_eq_decide, decide_eq_true_eq] at a1
  have e0 : (0#32).toInt = 0 := rfl
  have e1 : (10#32).toInt = 10 := rfl
  rw [e0] at a0; rw [e1] at a1
  have hx := BitVec.toInt_eq_toNat_cond x
  have hl := x.isLt
  have hlt : x.toNat < 10 := by split at hx <;> omega
  exact ⟨⟨x.toNat, hlt⟩, by simp⟩

theorem eq_of_cmpi {w : ℕ} {x y : BitVec w} (h : IntOp.cmpi .eq x y = 1#1) : x = y := by
  have h' : BitVec.ofBool (x == y) = 1#1 := h
  by_contra hne
  rw [beq_eq_false_iff_ne.mpr hne] at h'
  exact absurd h' (by decide)

/-- A value whose magnitude is below infinity is a real. -/
theorem isReal_of (x : EReal) (h : FloatOps.cmpf (F := Ideal) (φ := .f32) .olt (FloatOps.absf (F := Ideal) (φ := .f32) x) (Ideal.ofBits .f32 0x7F800000#32) = 1#1) : IsReal x := by
  have hb : Ideal.ofBits .f32 0x7F800000#32 = ⊤ := by simp [Ideal.ofBits, Ideal.ieee]
  rw [hb] at h
  have h' : max x (-x) < ⊤ := by
    by_contra hn
    have : BitVec.ofBool (decide (max x (-x) < ⊤)) = 1#1 := h
    rw [decide_eq_false hn] at this
    exact absurd this (by decide)
  induction x with
  | bot => simp at h'
  | top => simp at h'
  | coe r => exact ⟨r, rfl⟩

theorem senders : ∀ (b : Fin 81) (k : Fin 20), lit0 ⟨20 * b.val + k.val, by omega⟩ = BitVec.ofNat 32 b.val := by
  decide +kernel
theorem receivers : ∀ (b : Fin 81) (k : Fin 20), lit1 ⟨20 * b.val + k.val, by omega⟩ = BitVec.ofNat 32 (nb b k).val := by
  decide +kernel

end Sudoku.Pre
-- ==== Proof.Own.PreOf.lean ====
/-
  The precondition gives the graph, the digits and the finite output layer.
-/
module

public import proofs.«01_k».proof.Proof.Own.Pre
public import Idealize.ShloMosaic.Lib.Routing.BitFacts

@[expose] public section

set_option maxRecDepth 16384

noncomputable section

namespace Sudoku.Pre

open Idealize.ShloMosaic Cert.Pre_sudoku Sudoku.Ref

theorem rem81 (a : ℕ) (ha : a < 2 ^ 31) : IntOp.remsi .host (BitVec.ofNat 32 a) 81#32 = BitVec.ofNat 32 (a % 81) :=
  (IntOp.remsi_of_pos .host (by decide)).trans (Routing.srem_ofNat32 ha (by decide))
theorem rem9 (a : ℕ) (ha : a < 2 ^ 31) : IntOp.remsi .host (BitVec.ofNat 32 a) 9#32 = BitVec.ofNat 32 (a % 9) :=
  (IntOp.remsi_of_pos .host (by decide)).trans (Routing.srem_ofNat32 ha (by decide))
theorem div9 (a : ℕ) (ha : a < 2 ^ 31) : IntOp.divsi .host (BitVec.ofNat 32 a) 9#32 = BitVec.ofNat 32 (a / 9) :=
  (if_neg (IntOp.not_corner_of_pos (by decide))).trans (Routing.sdiv_ofNat32 ha (by decide))

/-- A table by rows read as one list. -/
theorem flat_apply {α : Type} {N M K : ℕ} (x : (⟨2, ![M, K]⟩ : Shape).Idx → α)
    (h : (⟨1, ![N]⟩ : Shape).numel = (⟨2, ![M, K]⟩ : Shape).numel) (P : Fin M) (e : Fin K) (i : Fin N)
    (hi : i.val = P.val * K + e.val) : shapeCast (⟨1, ![N]⟩ : Shape) x h (ix1 i) = x (ix2 P e) := by
  refine shapeCast_apply _ h _ _ ?_
  rw [Shape.rowMajor_val_one, Shape.rowMajor_val_two]
  exact hi.symm

/-- A list repeated down the rows of a table. -/
theorem down_apply {α : Type} {M K : ℕ} (x : (⟨1, ![K]⟩ : Shape).Idx → α)
    (h1 : (⟨1, ![K]⟩ : Shape).BroadcastsInDim (⟨2, ![1, K]⟩ : Shape) (![1] : Fin 1 → Fin 2))
    (h2 : (⟨2, ![1, K]⟩ : Shape).BroadcastsInDim (⟨2, ![M, K]⟩ : Shape) (![0, 1] : Fin 2 → Fin 2)) (hK : K ≠ 1)
    (P : Fin M) (e : Fin K) :
    broadcastInDim (⟨2, ![M, K]⟩ : Shape) ![0, 1] h2 (broadcastInDim (⟨2, ![1, K]⟩ : Shape) ![1] h1 x) (ix2 P e) = x (ix1 e) := by
  rw [broadcastInDim_apply _ h2 _ (ix2 P e) (ix2 (0 : Fin 1) e) (Fin.forall_fin_two.mpr ⟨by simp, by simp [hK]⟩),
    broadcastInDim_apply _ h1 _ (ix2 (0 : Fin 1) e) (ix1 e) (fun a => by fin_cases a; simp [hK])]

instance : Subsingleton S_.Idx := ⟨fun a b => funext fun x => x.elim0⟩

section
variable [Facts] (A : Args)

abbrev cellsOk : IVec S100035 1 := fun i =>
  IntOp.andi (IntOp.andi (IntOp.andi (IntOp.andi (IntOp.andi (IntOp.cmpi .sge (A.q i) 0#32) (IntOp.cmpi .slt (A.q i) 10#32))
    (IntOp.cmpi .sge (A.a i) 0#32)) (IntOp.cmpi .slt (A.a i) 10#32))
    (IntOp.cmpi .eq (A.row i) (IntOp.divsi .host (IntOp.remsi .host (BitVec.ofNat 32 (i 0).val) 81#32) 9#32)))
    (IntOp.cmpi .eq (A.col i) (IntOp.remsi .host (IntOp.remsi .host (BitVec.ofNat 32 (i 0).val) 81#32) 9#32))

abbrev listed (l : Fin 1620 → BitVec 32) : IVec S1235x1620 32 :=
  addi (broadcastInDim S1235x1620 ![0, 1] Facts.bcast_S1x1620_S1235x1620_0_1
    (broadcastInDim S1x1620 ![1] Facts.bcast_S1620_S1x1620_1 fun i => l (S1620.rowMajor i)))
    (fun i => IntOp.muli 81#32 (BitVec.ofNat 32 (i 0).val))

theorem listed_apply (l : Fin 1620 → BitVec 32) (P : Fin 1235) (e : Fin 1620) :
    listed l (ix2 P e) = l e + 81#32 * BitVec.ofNat 32 P.val := by
  refine congrArg (· + _) ((down_apply _ _ _ (by decide) P e).trans (congrArg l (Fin.ext ?_)))
  exact Shape.rowMajor_val_one _

theorem split (h : fn (F := Ideal) A.q A.row A.col A.a A.src A.dst A.dE A.rE A.cE A.w1 A.b1 A.w2 A.b2 A.w3 A.b3 A.w4 A.b4
    A.wih A.whh A.m1 A.n1 A.m2 A.n2 A.m3 A.n3 A.m4 A.n4 A.ow A.ob = fun _ => 1#1) :
    (∀ i, cellsOk A i = 1#1)
    ∧ (∀ i, A.src i = shapeCast S2000700 (listed lit0) Facts.shapeCasts_S1235x1620_S2000700 i)
    ∧ (∀ i, A.dst i = shapeCast S2000700 (listed lit1) Facts.shapeCasts_S1235x1620_S2000700 i)
    ∧ (∀ i, IsReal (A.ow i)) ∧ ∀ i, IsReal (A.ob i) := by
  have h0 := congrFun h ix0
  unfold fn fn_part1 fn_part2 at h0
  obtain ⟨h47, h44⟩ := and_one h0
  obtain ⟨hn, he⟩ := and_one h47
  obtain ⟨hw, hb⟩ := and_one h44
  refine ⟨fun i => Host.reduce_andi_all _ _ _ _ _ hn i, fun i => ?_, fun i => ?_, fun i => ?_, fun i => ?_⟩
  · exact eq_of_cmpi (and_one (Host.reduce_andi_all _ _ _ _ _ he i)).1
  · exact eq_of_cmpi (and_one (Host.reduce_andi_all _ _ _ _ _ he i)).2
  · exact isReal_of _ (Host.reduce_andi_all _ _ _ _ _ hw i)
  · exact isReal_of _ (Host.reduce_andi_all _ _ _ _ _ hb i)

theorem nd_mod (P : Fin 1235) (n : Fin 81) : (nd P n).val % 81 = n.val := by
  show (81 * P.val + n.val) % 81 = n.val
  omega

theorem edge (l : Fin 1620 → BitVec 32) (P : Fin 1235) (b : Fin 81) (k : Fin 20) (x : Fin 81)
    (hl : l ⟨20 * b.val + k.val, by omega⟩ = BitVec.ofNat 32 x.val) :
    shapeCast S2000700 (listed l) Facts.shapeCasts_S1235x1620_S2000700 (ix1 (ed P b k)) = BitVec.ofNat 32 (nd P x).val := by
  refine (flat_apply _ _ P ⟨20 * b.val + k.val, by omega⟩ (ed P b k) ?_).trans ((listed_apply l P _).trans ?_)
  · show 1620 * P.val + (20 * b.val + k.val) = P.val * 1620 + (20 * b.val + k.val)
    omega
  · rw [hl, show (81#32 : BitVec 32) = BitVec.ofNat 32 81 from rfl, ← BitVec.ofNat_mul, ← BitVec.ofNat_add]
    exact congrArg (BitVec.ofNat 32) (Nat.add_comm _ _)

theorem pre_of (h : fn (F := Ideal) A.q A.row A.col A.a A.src A.dst A.dE A.rE A.cE A.w1 A.b1 A.w2 A.b2 A.w3 A.b3 A.w4 A.b4
    A.wih A.whh A.m1 A.n1 A.m2 A.n2 A.m3 A.n3 A.m4 A.n4 A.ow A.ob = fun _ => 1#1) :
    ∃ d a, A.Good d a ∧ (∀ i j, IsReal (A.w.ow i j)) ∧ ∀ j, IsReal (A.w.ob j) := by
  obtain ⟨hc, hs, hd, hw, hb⟩ := split A h
  have hq : ∀ P n, ∃ d : Fin 10, A.q (ix1 (nd P n)) = BitVec.ofNat 32 d.val := fun P n =>
    have h := (and_one (and_one (and_one (and_one (and_one (hc (ix1 (nd P n)))).1).1).1).1)
    digit_of _ h.1 h.2
  have ha : ∀ P n, ∃ d : Fin 10, A.a (ix1 (nd P n)) = BitVec.ofNat 32 d.val := fun P n =>
    have h := (and_one (and_one (and_one (hc (ix1 (nd P n)))).1).1)
    digit_of _ (and_one h.1).2 h.2
  choose d hd' using hq
  choose a ha' using ha
  refine ⟨d, a, ⟨hd', fun P n => ?_, fun P n => ?_, ha', fun P b k => ?_, fun P b k => ?_⟩, fun i j => hw _, fun j => hb _⟩
  · refine (eq_of_cmpi (and_one (and_one (hc (ix1 (nd P n)))).1).2).trans ?_
    show IntOp.divsi .host (IntOp.remsi .host (BitVec.ofNat 32 (nd P n).val) 81#32) 9#32 = _
    rw [rem81 _ (lt_trans (nd P n).isLt (by decide)), nd_mod, div9 _ (lt_trans n.isLt (by decide))]
  · refine (eq_of_cmpi (and_one (hc (ix1 (nd P n)))).2).trans ?_
    show IntOp.remsi .host (IntOp.remsi .host (BitVec.ofNat 32 (nd P n).val) 81#32) 9#32 = _
    rw [rem81 _ (lt_trans (nd P n).isLt (by decide)), nd_mod, rem9 _ (lt_trans n.isLt (by decide))]
  · exact (hs _).trans (edge lit0 P b k b (senders b k))
  · exact (hd _).trans (edge lit1 P b k (nb b k) (receivers b k))

end

end Sudoku.Pre
-- ==== Proof.lean ====
module

public import proofs.«01_k».proof.Defs
public import proofs.«01_k».proof.Proof.Own.Kernel.Frame
public import proofs.«01_k».proof.Proof.Own.KernelIdeal.Frame
public import proofs.«01_k».proof.Proof.Own.Value
public import proofs.«01_k».proof.Proof.Own.Packed
public import proofs.«01_k».proof.Proof.Own.PreOf
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- The reference's run, read at its arguments; it declares no counter. -/
theorem frame_reference : Cert.quiescent_ReferenceIdeal (hReferenceIdeal := Cert.ReferenceIdeal.Gen.facts) := by
  intro m ρ _
  exact (θ_run Cert.ReferenceIdeal.defs _ _).mono
    (fun r h => ⟨fun c => (h c).2.2.2, sem_eq_zero_of_no_sems (by decide) r.2⟩)
    (Cert.ReferenceIdeal.Value.run (F := Ideal) m ρ)

/-- The reference's arguments. -/
def rargs (m' : (ℓ : Loc Cert.ReferenceIdeal.nD Cert.ReferenceIdeal.τ Cert.ReferenceIdeal.sig) → Buf (Elt Ideal) ℓ)
    (c : Dev Cert.ReferenceIdeal.nD) : Sudoku.Ref.Args :=
  ⟨m' ((c.tc : Thread Cert.ReferenceIdeal.nD Cert.ReferenceIdeal.τ).loc Cert.ReferenceIdeal.main_arg0), m' ((c.tc : Thread Cert.ReferenceIdeal.nD Cert.ReferenceIdeal.τ).loc Cert.ReferenceIdeal.main_arg1),
    m' ((c.tc : Thread Cert.ReferenceIdeal.nD Cert.ReferenceIdeal.τ).loc Cert.ReferenceIdeal.main_arg2), m' ((c.tc : Thread Cert.ReferenceIdeal.nD Cert.ReferenceIdeal.τ).loc Cert.ReferenceIdeal.main_arg3),
    m' ((c.tc : Thread Cert.ReferenceIdeal.nD Cert.ReferenceIdeal.τ).loc Cert.ReferenceIdeal.main_arg4), m' ((c.tc : Thread Cert.ReferenceIdeal.nD Cert.ReferenceIdeal.τ).loc Cert.ReferenceIdeal.main_arg5),
    m' ((c.tc : Thread Cert.ReferenceIdeal.nD Cert.ReferenceIdeal.τ).loc Cert.ReferenceIdeal.main_arg6), m' ((c.tc : Thread Cert.ReferenceIdeal.nD Cert.ReferenceIdeal.τ).loc Cert.ReferenceIdeal.main_arg7),
    m' ((c.tc : Thread Cert.ReferenceIdeal.nD Cert.ReferenceIdeal.τ).loc Cert.ReferenceIdeal.main_arg8), m' ((c.tc : Thread Cert.ReferenceIdeal.nD Cert.ReferenceIdeal.τ).loc Cert.ReferenceIdeal.main_arg9),
    m' ((c.tc : Thread Cert.ReferenceIdeal.nD Cert.ReferenceIdeal.τ).loc Cert.ReferenceIdeal.main_arg10), m' ((c.tc : Thread Cert.ReferenceIdeal.nD Cert.ReferenceIdeal.τ).loc Cert.ReferenceIdeal.main_arg11),
    m' ((c.tc : Thread Cert.ReferenceIdeal.nD Cert.ReferenceIdeal.τ).loc Cert.ReferenceIdeal.main_arg12), m' ((c.tc : Thread Cert.ReferenceIdeal.nD Cert.ReferenceIdeal.τ).loc Cert.ReferenceIdeal.main_arg13),
    m' ((c.tc : Thread Cert.ReferenceIdeal.nD Cert.ReferenceIdeal.τ).loc Cert.ReferenceIdeal.main_arg14), m' ((c.tc : Thread Cert.ReferenceIdeal.nD Cert.ReferenceIdeal.τ).loc Cert.ReferenceIdeal.main_arg15),
    m' ((c.tc : Thread Cert.ReferenceIdeal.nD Cert.ReferenceIdeal.τ).loc Cert.ReferenceIdeal.main_arg16), m' ((c.tc : Thread Cert.ReferenceIdeal.nD Cert.ReferenceIdeal.τ).loc Cert.ReferenceIdeal.main_arg17),
    m' ((c.tc : Thread Cert.ReferenceIdeal.nD Cert.ReferenceIdeal.τ).loc Cert.ReferenceIdeal.main_arg18), m' ((c.tc : Thread Cert.ReferenceIdeal.nD Cert.ReferenceIdeal.τ).loc Cert.ReferenceIdeal.main_arg19),
    m' ((c.tc : Thread Cert.ReferenceIdeal.nD Cert.ReferenceIdeal.τ).loc Cert.ReferenceIdeal.main_arg20), m' ((c.tc : Thread Cert.ReferenceIdeal.nD Cert.ReferenceIdeal.τ).loc Cert.ReferenceIdeal.main_arg21),
    m' ((c.tc : Thread Cert.ReferenceIdeal.nD Cert.ReferenceIdeal.τ).loc Cert.ReferenceIdeal.main_arg22), m' ((c.tc : Thread Cert.ReferenceIdeal.nD Cert.ReferenceIdeal.τ).loc Cert.ReferenceIdeal.main_arg23),
    m' ((c.tc : Thread Cert.ReferenceIdeal.nD Cert.ReferenceIdeal.τ).loc Cert.ReferenceIdeal.main_arg24), m' ((c.tc : Thread Cert.ReferenceIdeal.nD Cert.ReferenceIdeal.τ).loc Cert.ReferenceIdeal.main_arg25),
    m' ((c.tc : Thread Cert.ReferenceIdeal.nD Cert.ReferenceIdeal.τ).loc Cert.ReferenceIdeal.main_arg26), m' ((c.tc : Thread Cert.ReferenceIdeal.nD Cert.ReferenceIdeal.τ).loc Cert.ReferenceIdeal.main_arg27),
    m' ((c.tc : Thread Cert.ReferenceIdeal.nD Cert.ReferenceIdeal.τ).loc Cert.ReferenceIdeal.main_arg28)⟩

/-- The reference's three results, as functions of its arguments. -/
theorem run_reference (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal)))
      ⟨m', fun _ => 0, g'⟩ (fun r => ∀ c : Dev Cert.ReferenceIdeal.nD,
        r.2.mem ((c.tc : Thread Cert.ReferenceIdeal.nD Cert.ReferenceIdeal.τ).loc Cert.ReferenceIdeal.main_v629)
            = Sudoku.Ref.rP (Sudoku.Ref.rL (rargs m' c))
          ∧ r.2.mem ((c.tc : Thread Cert.ReferenceIdeal.nD Cert.ReferenceIdeal.τ).loc Cert.ReferenceIdeal.main_v646)
            = Sudoku.Ref.rLoss (Sudoku.Ref.rL (rargs m' c)) (rargs m' c).a
          ∧ r.2.mem ((c.tc : Thread Cert.ReferenceIdeal.nD Cert.ReferenceIdeal.τ).loc Cert.ReferenceIdeal.main_v622)
            = Sudoku.Ref.rL (rargs m' c)) :=
  (θ_run Cert.ReferenceIdeal.defs _ _).mono
    (fun _ h c => ⟨((h c).1.trans (Cert.ReferenceIdeal.Read.val_main_v629_eq _)).trans (Sudoku.Ref.rP_eq (A := rargs m' c)),
      ((h c).2.1.trans (Cert.ReferenceIdeal.Read.val_main_v646_eq _)).trans (Sudoku.Ref.rLoss_eq (A := rargs m' c)),
      ((h c).2.2.1.trans (Cert.ReferenceIdeal.Read.val_main_v622_eq _)).trans (Sudoku.Ref.rL_eq (rargs m' c))⟩)
    (Cert.ReferenceIdeal.Value.run (F := Ideal) m' g')

/-- The kernel's three results, as what its pipeline's arrays hold. -/
theorem run_kernel (m : (ℓ : Loc Cert.KernelIdeal.nD Cert.KernelIdeal.τ Cert.KernelIdeal.sig) → Buf (Elt Ideal) ℓ)
    (g : Dev Cert.KernelIdeal.nD → PrngReg) :
    θ_run (Cert.KernelIdeal.defs (F := Ideal)) (onTc (τ := Cert.KernelIdeal.τ) (Cert.KernelIdeal.main (F := Ideal)))
      ⟨m, fun _ => 0, g⟩ (fun r => ∀ c : Dev Cert.KernelIdeal.nD,
        r.2.mem ((c.tc : Thread Cert.KernelIdeal.nD Cert.KernelIdeal.τ).loc Cert.KernelIdeal.main_v120) = Sudoku.un1 (Sudoku.A43 m c)
          ∧ r.2.mem ((c.tc : Thread Cert.KernelIdeal.nD Cert.KernelIdeal.τ).loc Cert.KernelIdeal.main_v127) = Sudoku.kLoss (Sudoku.A44 m c)
          ∧ r.2.mem ((c.tc : Thread Cert.KernelIdeal.nD Cert.KernelIdeal.τ).loc Cert.KernelIdeal.main_v115) = Sudoku.unL (Sudoku.A42 m c)) :=
  (θ_run Cert.KernelIdeal.defs _ _).mono
    (fun r h c => ⟨((h c).2 Cert.KernelIdeal.main_v120 (Pipeline.mem_restRefs_of _ (by decide) (by decide))).trans (Sudoku.tailP m c),
      ((h c).2 Cert.KernelIdeal.main_v127 (Pipeline.mem_restRefs_of _ (by decide) (by decide))).trans (Sudoku.tailLoss m c),
      ((h c).2 Cert.KernelIdeal.main_v115 (Pipeline.mem_restRefs_of _ (by decide) (by decide))).trans (Sudoku.tailL m c)⟩)
    (Cert.KernelIdeal.Gen.run_main (F := Ideal) m g)

/-- On Sudoku puzzles the two programs end with equal results. -/
theorem results : Cert.algebraic_KernelIdeal_ReferenceIdeal_pre_sudoku (hKernelIdeal := Cert.KernelIdeal.Gen.facts)
    (hReferenceIdeal := Cert.ReferenceIdeal.Gen.facts) (hPre_sudoku := Cert.Pre_sudoku.Gen.facts) := by
  intro m g m' g' hpre hargs
  have hA : ∀ c : Dev Cert.KernelIdeal.nD, rargs m' c = Sudoku.args m c := fun c => by
    obtain ⟨h0, h1, h2, h3, h4, h5, h6, h7, h8, h9, h10, h11, h12, h13, h14, h15, h16, h17, h18, h19, h20, h21, h22, h23, h24, h25, h26, h27, h28⟩ := hargs c
    unfold rargs Sudoku.args
    rw [h0, h1, h2, h3, h4, h5, h6, h7, h8, h9, h10, h11, h12, h13, h14, h15, h16, h17, h18, h19, h20, h21, h22, h23, h24, h25, h26, h27, h28]
  refine ⟨fun c => Sudoku.un1 (Sudoku.A43 m c), fun c => Sudoku.kLoss (Sudoku.A44 m c), fun c => Sudoku.unL (Sudoku.A42 m c), ?_, ?_⟩
  · exact (θ_run Cert.KernelIdeal.defs _ _).mono
      (fun r h c => ⟨(h.1 c).1, (h.1 c).2.1, (h.1 c).2.2, h.2 c⟩)
      (θ_run_and (run_kernel m g) (Cert.KernelIdeal.Gen.unchanged (F := Ideal) m g))
  · refine (θ_run Cert.ReferenceIdeal.defs _ _).mono (fun r h c => ?_)
      (θ_run_and (run_reference m' g') (Cert.ReferenceIdeal.Value.run (F := Ideal) m' g'))
    obtain ⟨d, a, hG, hw, hb⟩ := @Sudoku.Pre.pre_of Cert.Pre_sudoku.Gen.facts (Sudoku.args m c) (hpre c)
    have hB := fun t => Sudoku.blk_good m c t
    have e := hA c
    refine ⟨(h.1 c).1.trans ?_, (h.1 c).2.1.trans ?_, (h.1 c).2.2.trans ?_, (h.2 c).2.2.2⟩
    · exact (congrArg (fun A => Sudoku.Ref.rP (Sudoku.Ref.rL A)) e).trans (Sudoku.preds_eq hB hG).symm
    · exact (congrArg (fun A => Sudoku.Ref.rLoss (Sudoku.Ref.rL A) A.a) e).trans (Sudoku.loss_eq hB hG hw hb).symm
    · exact (congrArg (fun A => Sudoku.Ref.rL A) e).trans (Sudoku.logits_eq hB hG).symm

theorem claim : Cert.Claim := ⟨Cert.Kernel.Gen.facts, Cert.KernelIdeal.Gen.facts, Cert.ReferenceIdeal.Gen.facts, Cert.Pre_sudoku.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, results⟩

end Cert.Proof

end
